-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_tables_ok : Cert.Pre_tables_ok.Facts] (m : (ℓ : Loc Cert.Kernel3.nD Cert.Kernel3.τ Cert.Kernel3.sig) → Buf (Elt Bits) ℓ) : Prop :=
  ∀ c : Dev Cert.Kernel3.nD,
    (Cert.Pre_tables_ok.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))).1 = (fun _ => 1#1)
    ∧ (Cert.Pre_tables_ok.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))).2.1 = (fun _ => 1#1)
    ∧ (Cert.Pre_tables_ok.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))).2.2.1 = (fun _ => 1#1)
    ∧ (Cert.Pre_tables_ok.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))).2.2.2.1 = (fun _ => 1#1)
    ∧ (Cert.Pre_tables_ok.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))).2.2.2.2 = (fun _ => 1#1)

def Pre_Kernel3Ideal [hPre_tables_ok : Cert.Pre_tables_ok.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tables_ok.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_tables_ok.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 = (fun _ => 1#1)
    ∧ (Cert.Pre_tables_ok.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.1 = (fun _ => 1#1)
    ∧ (Cert.Pre_tables_ok.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.1 = (fun _ => 1#1)
    ∧ (Cert.Pre_tables_ok.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_tables_ok [hPre_tables_ok : Cert.Pre_tables_ok.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tables_ok.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).1 = (fun _ => 1#1)
    ∧ (Cert.Pre_tables_ok.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.1 = (fun _ => 1#1)
    ∧ (Cert.Pre_tables_ok.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.1 = (fun _ => 1#1)
    ∧ (Cert.Pre_tables_ok.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.1 = (fun _ => 1#1)
    ∧ (Cert.Pre_tables_ok.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_tables_ok : Cert.Pre_tables_ok.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] [hPre_tables_ok : Cert.Pre_tables_ok.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_tables_ok [hReference3Ideal : Cert.Reference3Ideal.Facts] [hPre_tables_ok : Cert.Pre_tables_ok.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_tables_ok m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)) (v3 : (c : Dev Cert.Kernel2Ideal.nD) → Buf (Elt Ideal) ((c.tc : Thread Cert.Kernel2Ideal.nD Cert.Kernel2Ideal.τ).loc Cert.Kernel2Ideal.main_v5_3)) (v4 : (c : Dev Cert.Kernel2Ideal.nD) → Buf (Elt Ideal) ((c.tc : Thread Cert.Kernel2Ideal.nD Cert.Kernel2Ideal.τ).loc Cert.Kernel2Ideal.main_v5_4)) (v5 : (c : Dev Cert.Kernel2Ideal.nD) → Buf (Elt Ideal) ((c.tc : Thread Cert.Kernel2Ideal.nD Cert.Kernel2Ideal.τ).loc Cert.Kernel2Ideal.main_v5_5)) (v6 : (c : Dev Cert.Kernel2Ideal.nD) → Buf (Elt Ideal) ((c.tc : Thread Cert.Kernel2Ideal.nD Cert.Kernel2Ideal.τ).loc Cert.Kernel2Ideal.main_v5_6)) (v7 : (c : Dev Cert.Kernel2Ideal.nD) → Buf (Elt Ideal) ((c.tc : Thread Cert.Kernel2Ideal.nD Cert.Kernel2Ideal.τ).loc Cert.Kernel2Ideal.main_v5_7)) (v8 : (c : Dev Cert.Kernel2Ideal.nD) → Buf (Elt Ideal) ((c.tc : Thread Cert.Kernel2Ideal.nD Cert.Kernel2Ideal.τ).loc Cert.Kernel2Ideal.main_v5_8)) (v9 : (c : Dev Cert.Kernel2Ideal.nD) → Buf (Elt Ideal) ((c.tc : Thread Cert.Kernel2Ideal.nD Cert.Kernel2Ideal.τ).loc Cert.Kernel2Ideal.main_v5_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_v5_3) = v3 c
          ∧ r.2.mem ((c.tc : Thread Cert.Kernel2Ideal.nD Cert.Kernel2Ideal.τ).loc Cert.Kernel2Ideal.main_v5_4) = v4 c
          ∧ r.2.mem ((c.tc : Thread Cert.Kernel2Ideal.nD Cert.Kernel2Ideal.τ).loc Cert.Kernel2Ideal.main_v5_5) = v5 c
          ∧ r.2.mem ((c.tc : Thread Cert.Kernel2Ideal.nD Cert.Kernel2Ideal.τ).loc Cert.Kernel2Ideal.main_v5_6) = v6 c
          ∧ r.2.mem ((c.tc : Thread Cert.Kernel2Ideal.nD Cert.Kernel2Ideal.τ).loc Cert.Kernel2Ideal.main_v5_7) = v7 c
          ∧ r.2.mem ((c.tc : Thread Cert.Kernel2Ideal.nD Cert.Kernel2Ideal.τ).loc Cert.Kernel2Ideal.main_v5_8) = v8 c
          ∧ r.2.mem ((c.tc : Thread Cert.Kernel2Ideal.nD Cert.Kernel2Ideal.τ).loc Cert.Kernel2Ideal.main_v5_9) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_v57) = v1 c
          ∧ r.2.mem ((c.tc : Thread Cert.Reference2Ideal.nD Cert.Reference2Ideal.τ).loc Cert.Reference2Ideal.main_v58) = v2 c
          ∧ r.2.mem ((c.tc : Thread Cert.Reference2Ideal.nD Cert.Reference2Ideal.τ).loc Cert.Reference2Ideal.main_v59) = v3 c
          ∧ r.2.mem ((c.tc : Thread Cert.Reference2Ideal.nD Cert.Reference2Ideal.τ).loc Cert.Reference2Ideal.main_v61) = v4 c
          ∧ r.2.mem ((c.tc : Thread Cert.Reference2Ideal.nD Cert.Reference2Ideal.τ).loc Cert.Reference2Ideal.main_v62) = v5 c
          ∧ r.2.mem ((c.tc : Thread Cert.Reference2Ideal.nD Cert.Reference2Ideal.τ).loc Cert.Reference2Ideal.main_v63) = v6 c
          ∧ r.2.mem ((c.tc : Thread Cert.Reference2Ideal.nD Cert.Reference2Ideal.τ).loc Cert.Reference2Ideal.main_v65) = v7 c
          ∧ r.2.mem ((c.tc : Thread Cert.Reference2Ideal.nD Cert.Reference2Ideal.τ).loc Cert.Reference2Ideal.main_v66) = v8 c
          ∧ r.2.mem ((c.tc : Thread Cert.Reference2Ideal.nD Cert.Reference2Ideal.τ).loc Cert.Reference2Ideal.main_v67) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_tables_ok : Cert.Pre_tables_ok.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v15_0)) (v1 : (c : Dev Cert.Kernel4Ideal.nD) → Buf (Elt Ideal) ((c.tc : Thread Cert.Kernel4Ideal.nD Cert.Kernel4Ideal.τ).loc Cert.Kernel4Ideal.main_v15_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15_0) = v0 c
          ∧ r.2.mem ((c.tc : Thread Cert.Kernel4Ideal.nD Cert.Kernel4Ideal.τ).loc Cert.Kernel4Ideal.main_v15_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_v30) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_tables_ok : Cert.Pre_tables_ok.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_tables_ok := hPre_tables_ok)
    ∧ quiescent_Kernel3Ideal (hKernel3Ideal := hKernel3Ideal) (hPre_tables_ok := hPre_tables_ok)
    ∧ quiescent_Reference3Ideal (hReference3Ideal := hReference3Ideal)
    ∧ quiescent_Reference3Ideal_pre_tables_ok (hReference3Ideal := hReference3Ideal) (hPre_tables_ok := hPre_tables_ok)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_tables_ok := hPre_tables_ok)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_tables_ok.lean ====
abbrev S1179648x128 : Shape := ⟨2, ![1179648, 128]⟩
abbrev S288 : Shape := ⟨1, ![288]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S287 : Shape := ⟨1, ![287]⟩
abbrev S_ : Shape := ⟨0, ![]⟩

class Facts : Prop where
  bcast_S1_S288_0 : S1.BroadcastsInDim S288 (![0] : Fin 1 → Fin S288.rank)
  slices_S288_S287_0 : S288.Slices ![0] S287
  slices_S288_S287_1 : S288.Slices ![1] S287
  bcast_S_S288 : S_.BroadcastsInDim S288 (![] : Fin 0 → Fin S288.rank)

variable [Facts]

def fn_part1 {F : FTy → Type} [FloatOps F] (main_arg1 : IVec S288 32) (main_arg3 : IVec S288 32) (main_v0 : IVec S288 32) (main_v1 : IVec S288 32) (main_v16 : IVec S287 1) (main_v21 : IVec S288 1) : IVec S288 1 × IVec S288 1 × IVec S288 1 × IVec S287 1 × IVec S288 1 :=
  let main_c_1 : IVec S_ 32 := constantI S_ 32 0#32
  let main_v22 : IVec S288 32 := broadcastInDim S288 ![] bcast_S_S288 main_c_1
  let main_v23 : IVec S288 1 := cmpi .sge main_arg1 main_v22
  let main_c_2 : IVec S_ 32 := constantI S_ 32 31#32
  let main_v24 : IVec S288 32 := broadcastInDim S288 ![] bcast_S_S288 main_c_2
  let main_v25 : IVec S288 1 := cmpi .sle main_arg1 main_v24
  let main_v26 : IVec S288 1 := andi main_v23 main_v25
  let main_c_3 : IVec S_ 32 := constantI S_ 32 31#32
  let main_v27 : IVec S288 32 := broadcastInDim S288 ![] bcast_S_S288 main_c_3
  let main_v28 : IVec S288 1 := cmpi .sle main_arg3 main_v27
  let main_c_4 : IVec S_ 32 := constantI S_ 32 1#32
  let main_v29 : IVec S288 32 := broadcastInDim S288 ![] bcast_S_S288 main_c_4
  let main_v30 : IVec S288 32 := subi main_v1 main_v29
  let main_v31 : IVec S288 1 := cmpi .ne main_v0 main_v30
  let main_c_5 : IVec S_ 32 := constantI S_ 32 0#32
  let main_v32 : IVec S288 32 := broadcastInDim S288 ![] bcast_S_S288 main_c_5
  let main_v33 : IVec S288 1 := cmpi .slt main_arg3 main_v32
  let main_v34 : IVec S288 1 := ori main_v31 main_v33
  (main_v21, main_v26, main_v28, main_v16, main_v34)

def fn {F : FTy → Type} [FloatOps F] (main_arg0 : FVec F S1179648x128 .f32) (main_arg1 : IVec S288 32) (main_arg2 : IVec S1 32) (main_arg3 : IVec S288 32) (main_arg4 : FVec F S32x1024x2048 .f32) (main_arg5 : FVec F S32x2048 .f32) (main_arg6 : FVec F S32x1024x1024 .f32) (main_arg7 : FVec F S32x1024 .f32) : IVec S288 1 × IVec S288 1 × IVec S288 1 × IVec S287 1 × IVec S288 1 :=
  let main_v0 : IVec S288 32 := iotaInDim S288 32 0
  let main_v1 : IVec S288 32 := broadcastInDim S288 ![0] bcast_S1_S288_0 main_arg2
  let main_v2 : IVec S287 32 := (extractStridedSlice S287 ![0] · slices_S288_S287_0) main_arg1
  let main_v3 : IVec S287 32 := (extractStridedSlice S287 ![1] · slices_S288_S287_1) main_arg1
  let main_v4 : IVec S287 32 := (extractStridedSlice S287 ![0] · slices_S288_S287_0) main_arg3
  let main_v5 : IVec S287 32 := (extractStridedSlice S287 ![1] · slices_S288_S287_1) main_arg3
  let main_v6 : IVec S287 32 := (extractStridedSlice S287 ![1] · slices_S288_S287_1) main_v0
  let main_v7 : IVec S287 32 := (extractStridedSlice S287 ![1] · slices_S288_S287_1) main_v1
  let main_v8 : IVec S287 1 := cmpi .sge main_v6 main_v7
  let main_v9 : IVec S287 1 := cmpi .ne main_v2 main_v3
  let main_v10 : IVec S287 1 := cmpi .eq main_v4 main_v3
  let main_v11 : IVec S287 1 := andi main_v9 main_v10
  let main_v12 : IVec S287 1 := ori main_v8 main_v11
  let main_v13 : IVec S287 1 := cmpi .eq main_v2 main_v3
  let main_v14 : IVec S287 1 := cmpi .eq main_v4 main_v5
  let main_v15 : IVec S287 1 := andi main_v13 main_v14
  let main_v16 : IVec S287 1 := ori main_v12 main_v15
  let main_c : IVec S_ 32 := constantI S_ 32 1#32
  let main_v17 : IVec S288 32 := broadcastInDim S288 ![] bcast_S_S288 main_c
  let main_v18 : IVec S288 1 := cmpi .sge main_v1 main_v17
  let main_c_0 : IVec S_ 32 := constantI S_ 32 288#32
  let main_v19 : IVec S288 32 := broadcastInDim S288 ![] bcast_S_S288 main_c_0
  let main_v20 : IVec S288 1 := cmpi .sle main_v1 main_v19
  let main_v21 : IVec S288 1 := andi main_v18 main_v20
  fn_part1 (F := F) main_arg1 main_arg3 main_v0 main_v1 main_v16 main_v21
-- ==== Kernel.lean ====
abbrev S4x512x8192 : Shape := ⟨3, ![4, 512, 8192]⟩
abbrev S4x8x8192 : Shape := ⟨3, ![4, 8, 8192]⟩
abbrev S4x8192x64 : Shape := ⟨3, ![4, 8192, 64]⟩
abbrev S4x8192x256 : Shape := ⟨3, ![4, 8192, 256]⟩
abbrev S4x160x8192 : Shape := ⟨3, ![4, 160, 8192]⟩
abbrev S1x512 : Shape := ⟨2, ![1, 512]⟩
abbrev S512x1 : Shape := ⟨2, ![512, 1]⟩
abbrev S512x512 : Shape := ⟨2, ![512, 512]⟩
abbrev S1x512x512 : Shape := ⟨3, ![1, 512, 512]⟩
abbrev S1x8x512 : Shape := ⟨3, ![1, 8, 512]⟩
abbrev S1x8192x64 : Shape := ⟨3, ![1, 8192, 64]⟩
abbrev S1x8192x256 : Shape := ⟨3, ![1, 8192, 256]⟩
abbrev S1x160x8192 : Shape := ⟨3, ![1, 160, 8192]⟩
abbrev S8192x512 : Shape := ⟨2, ![8192, 512]⟩
abbrev S8x128x512 : Shape := ⟨3, ![8, 128, 512]⟩
abbrev S8x256x512 : Shape := ⟨3, ![8, 256, 512]⟩
abbrev S256x512 : Shape := ⟨2, ![256, 512]⟩
abbrev S80x512 : Shape := ⟨2, ![80, 512]⟩
abbrev S128x512 : Shape := ⟨2, ![128, 512]⟩
abbrev S1x1x512 : Shape := ⟨3, ![1, 1, 512]⟩
abbrev S8x512 : Shape := ⟨2, ![8, 512]⟩
abbrev S1x128x64 : Shape := ⟨3, ![1, 128, 64]⟩
abbrev S128x64 : Shape := ⟨2, ![128, 64]⟩
abbrev S1x64x512 : Shape := ⟨3, ![1, 64, 512]⟩
abbrev S64x512 : Shape := ⟨2, ![64, 512]⟩
abbrev S512 : Shape := ⟨1, ![512]⟩
abbrev S16x512 : Shape := ⟨2, ![16, 512]⟩
abbrev S1 : Shape := ⟨1, ![1]⟩
abbrev S1x1x1 : Shape := ⟨3, ![1, 1, 1]⟩
abbrev S128x128 : Shape := ⟨2, ![128, 128]⟩
abbrev S1x256x128 : Shape := ⟨3, ![1, 256, 128]⟩
abbrev S256x128 : Shape := ⟨2, ![256, 128]⟩
abbrev S1x128x512 : Shape := ⟨3, ![1, 128, 512]⟩
abbrev S1x256x512 : Shape := ⟨3, ![1, 256, 512]⟩
abbrev S1x80x256 : Shape := ⟨3, ![1, 80, 256]⟩
abbrev S80x256 : Shape := ⟨2, ![80, 256]⟩

abbrev nBuf : Space → Nat
  | .hbm => 10
  | .vmem => 26
  | .smem => 0
  | _ => 0

abbrev bufTy : (tb : Table) → Fin (tcTables nBuf tb) → BufTy
  | .hbm, ⟨0, _⟩ => ⟨S4x512x8192, .bf16⟩
  | .hbm, ⟨1, _⟩ => ⟨S4x8x8192, .f32⟩
  | .hbm, ⟨2, _⟩ => ⟨S4x512x8192, .bf16⟩
  | .hbm, ⟨3, _⟩ => ⟨S4x8192x64, .bf16⟩
  | .hbm, ⟨4, _⟩ => ⟨S4x8192x256, .bf16⟩
  | .hbm, ⟨5, _⟩ => ⟨S4x160x8192, .bf16⟩
  | .hbm, ⟨6, _⟩ => ⟨S1x512, .f32⟩
  | .hbm, ⟨7, _⟩ => ⟨S512x1, .f32⟩
  | .hbm, ⟨8, _⟩ => ⟨S512x512, .f32⟩
  | .hbm, ⟨9, _⟩ => ⟨S4x512x8192, .bf16⟩
  | .local _ .vmem, ⟨0, _⟩ => ⟨S1x512x512, .bf16⟩
  | .local _ .vmem, ⟨1, _⟩ => ⟨S1x512x512, .bf16⟩
  | .local _ .vmem, ⟨2, _⟩ => ⟨S1x8x512, .f32⟩
  | .local _ .vmem, ⟨3, _⟩ => ⟨S1x8x512, .f32⟩
  | .local _ .vmem, ⟨4, _⟩ => ⟨S1x512x512, .bf16⟩
  | .local _ .vmem, ⟨5, _⟩ => ⟨S1x512x512, .bf16⟩
  | .local _ .vmem, ⟨6, _⟩ => ⟨S1x8192x64, .bf16⟩
  | .local _ .vmem, ⟨7, _⟩ => ⟨S1x8192x256, .bf16⟩
  | .local _ .vmem, ⟨8, _⟩ => ⟨S1x160x8192, .bf16⟩
  | .local _ .vmem, ⟨9, _⟩ => ⟨S512x512, .f32⟩
  | .local _ .vmem, ⟨10, _⟩ => ⟨S1x512x512, .bf16⟩
  | .local _ .vmem, ⟨11, _⟩ => ⟨S1x512x512, .bf16⟩
  | .local _ .vmem, ⟨12, _⟩ => ⟨S8192x512, .f32⟩
  | .local _ .vmem, ⟨13, _⟩ => ⟨S8192x512, .bf16⟩
  | .local _ .vmem, ⟨14, _⟩ => ⟨S8x128x512, .bf16⟩
  | .local _ .vmem, ⟨15, _⟩ => ⟨S8x256x512, .f32⟩
  | .local _ .vmem, ⟨16, _⟩ => ⟨S8x256x512, .f32⟩
  | .local _ .vmem, ⟨17, _⟩ => ⟨S256x512, .f32⟩
  | .local _ .vmem, ⟨18, _⟩ => ⟨S80x512, .f32⟩
  | .local _ .vmem, ⟨19, _⟩ => ⟨S80x512, .f32⟩
  | .local _ .vmem, ⟨20, _⟩ => ⟨S80x512, .f32⟩
  | .local _ .vmem, ⟨21, _⟩ => ⟨S80x512, .f32⟩
  | .local _ .vmem, ⟨22, _⟩ => ⟨S80x512, .f32⟩
  | .local _ .vmem, ⟨23, _⟩ => ⟨S80x512, .f32⟩
  | .local _ .vmem, ⟨24, _⟩ => ⟨S80x512, .f32⟩
  | .local _ .vmem, ⟨25, _⟩ => ⟨S80x512, .f32⟩
  | _, _ => ⟨S4x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_scratch10 : Ref sig .tc := ⟨.vmem, 22, rfl⟩
abbrev cc0_scratch11 : Ref sig .tc := ⟨.vmem, 23, rfl⟩
abbrev cc0_scratch12 : Ref sig .tc := ⟨.vmem, 24, rfl⟩
abbrev cc0_scratch13 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [BitOps F]

abbrev grid0 : Pipeline.Grid := ⟨2, ![4, 16], ![false, false]⟩

@[reducible] def k0_t1_loop (i : grid0.Coords) : Scf.Loop 32 :=
  let c0_i32_46 : BitVec 32 := 0#32
  let arg1 : BitVec 32 := BitVec.ofNat 32 (i 1).val
  let c512_i32 : BitVec 32 := 512#32
  let v0 : BitVec 32 := Scalar.muli arg1 c512_i32
  let c1_i32_38 : BitVec 32 := 1#32
  let v79 : BitVec 32 := Scalar.addi v0 c1_i32_38
  let c0_i32_40 : BitVec 32 := 0#32
  let v81 : BitVec 1 := Scalar.cmpi .sgt v79 c0_i32_40
  let v82 : BitVec 32 := Scalar.extui v81
  let c0_i32_41 : BitVec 32 := 0#32
  let v83 : BitVec 1 := Scalar.cmpi .slt v79 c0_i32_41
  let v84 : BitVec 32 := Scalar.extui v83
  let v85 : BitVec 32 := Scalar.subi v82 v84
  let c512_i32_39 : BitVec 32 := 512#32
  let c0_i32_42 : BitVec 32 := 0#32
  let v86 : BitVec 1 := Scalar.cmpi .sgt c512_i32_39 c0_i32_42
  let v87 : BitVec 32 := Scalar.extui v86
  let c0_i32_43 : BitVec 32 := 0#32
  let v88 : BitVec 1 := Scalar.cmpi .slt c512_i32_39 c0_i32_43
  let v89 : BitVec 32 := Scalar.extui v88
  let v90 : BitVec 32 := Scalar.subi v87 v89
  let v91 : BitVec 1 := Scalar.cmpi .ne v85 v90
  let v92 : BitVec 32 := Scalar.remsi v79 c512_i32_39
  let c0_i32_44 : BitVec 32 := 0#32
  let v93 : BitVec 1 := Scalar.cmpi .ne v92 c0_i32_44
  let v94 : BitVec 1 := Scalar.andi v91 v93
  let v80 : BitVec 32 := Scalar.divsi v79 c512_i32_39
  let c1_i32_45 : BitVec 32 := 1#32
  let v95 : BitVec 32 := Scalar.subi v80 c1_i32_45
  let v96 : BitVec 32 := Scalar.select v94 v95 v80
  let v97 : BitVec 32 := Scalar.subi v96 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_48 : BitVec 32 := 1#32
  ⟨c0_i32_46, v101, c1_i32_48⟩
def k0_mult1 (i : grid0.Coords) (k0_t1 : Fin (k0_t1_loop i).trips) : BitVec 32 :=
  let c0_i32_46 : BitVec 32 := 0#32
  let c1_i32_48 : BitVec 32 := 1#32
  let arg24 : BitVec 32 := Scf.iv c0_i32_46 c1_i32_48 k0_t1
  let c2_i32_429 : BitVec 32 := 2#32
  let v710 : BitVec 32 := Scalar.muli arg24 c2_i32_429
  let c256_i32_430 : BitVec 32 := 256#32
  let v711 : BitVec 32 := Scalar.muli v710 c256_i32_430
  let c0_i32_431 : BitVec 32 := 0#32
  let v712 : BitVec 32 := Scalar.addi v711 c0_i32_431
  v712
def k0_off1 (i : grid0.Coords) (k0_t1 : Fin (k0_t1_loop i).trips) (c0_i32_431 : BitVec 32) : Fin 3 → Nat :=
  let c0_432 : Index := 0#32
  let c0_i32_46 : BitVec 32 := 0#32
  let c1_i32_48 : BitVec 32 := 1#32
  let arg24 : BitVec 32 := Scf.iv c0_i32_46 c1_i32_48 k0_t1
  let c2_i32_429 : BitVec 32 := 2#32
  let v710 : BitVec 32 := Scalar.muli arg24 c2_i32_429
  let c256_i32_430 : BitVec 32 := 256#32
  let v711 : BitVec 32 := Scalar.muli v710 c256_i32_430
  let v712 : BitVec 32 := Scalar.addi v711 c0_i32_431
  let v713 : BitVec 32 := v712
  let v714 : Index := Scalar.indexCast v713
  let c0_433 : Index := 0#32
  ![0, v714.toNat, 0]
def k0_off2 (i : grid0.Coords) (k0_t1 : Fin (k0_t1_loop i).trips) (c0_i32_431 : BitVec 32) : Fin 2 → Nat :=
  let c0_i32_46 : BitVec 32 := 0#32
  let c1_i32_48 : BitVec 32 := 1#32
  let arg24 : BitVec 32 := Scf.iv c0_i32_46 c1_i32_48 k0_t1
  let c2_i32_429 : BitVec 32 := 2#32
  let v710 : BitVec 32 := Scalar.muli arg24 c2_i32_429
  let c256_i32_430 : BitVec 32 := 256#32
  let v711 : BitVec 32 := Scalar.muli v710 c256_i32_430
  let v712 : BitVec 32 := Scalar.addi v711 c0_i32_431
  let v713 : BitVec 32 := v712
  let v782 : Index := Scalar.indexCast v713
  let c0_475 : Index := 0#32
  ![v782.toNat, 0]
def k0_mult2 (i : grid0.Coords) (k0_t1 : Fin (k0_t1_loop i).trips) : BitVec 32 :=
  let c0_i32_46 : BitVec 32 := 0#32
  let c1_i32_48 : BitVec 32 := 1#32
  let arg24 : BitVec 32 := Scf.iv c0_i32_46 c1_i32_48 k0_t1
  let c2_i32_483 : BitVec 32 := 2#32
  let v933 : BitVec 32 := Scalar.muli arg24 c2_i32_483
  let c256_i32_484 : BitVec 32 := 256#32
  let v934 : BitVec 32 := Scalar.muli v933 c256_i32_484
  let c128_i32_485 : BitVec 32 := 128#32
  let v935 : BitVec 32 := Scalar.addi v934 c128_i32_485
  v935
def k0_mult3 (i : grid0.Coords) (k0_t1 : Fin (k0_t1_loop i).trips) : BitVec 32 :=
  let c0_i32_46 : BitVec 32 := 0#32
  let c1_i32_48 : BitVec 32 := 1#32
  let arg24 : BitVec 32 := Scf.iv c0_i32_46 c1_i32_48 k0_t1
  let c2_i32_538 : BitVec 32 := 2#32
  let v1156 : BitVec 32 := Scalar.muli arg24 c2_i32_538
  let c256_i32_539 : BitVec 32 := 256#32
  let v1157 : BitVec 32 := Scalar.muli v1156 c256_i32_539
  let c256_i32_540 : BitVec 32 := 256#32
  let v1158 : BitVec 32 := Scalar.addi v1157 c256_i32_540
  v1158
def k0_mult4 (i : grid0.Coords) (k0_t1 : Fin (k0_t1_loop i).trips) : BitVec 32 :=
  let c0_i32_46 : BitVec 32 := 0#32
  let c1_i32_48 : BitVec 32 := 1#32
  let arg24 : BitVec 32 := Scf.iv c0_i32_46 c1_i32_48 k0_t1
  let c2_i32_593 : BitVec 32 := 2#32
  let v1379 : BitVec 32 := Scalar.muli arg24 c2_i32_593
  let c256_i32_594 : BitVec 32 := 256#32
  let v1380 : BitVec 32 := Scalar.muli v1379 c256_i32_594
  let c384_i32 : BitVec 32 := 384#32
  let v1381 : BitVec 32 := Scalar.addi v1380 c384_i32
  v1381
@[reducible] def k0_t2_loop (i : grid0.Coords) : Scf.Loop 32 :=
  let c0_i32_46 : BitVec 32 := 0#32
  let arg1 : BitVec 32 := BitVec.ofNat 32 (i 1).val
  let c512_i32 : BitVec 32 := 512#32
  let v0 : BitVec 32 := Scalar.muli arg1 c512_i32
  let c1_i32_38 : BitVec 32 := 1#32
  let v79 : BitVec 32 := Scalar.addi v0 c1_i32_38
  let c0_i32_40 : BitVec 32 := 0#32
  let v81 : BitVec 1 := Scalar.cmpi .sgt v79 c0_i32_40
  let v82 : BitVec 32 := Scalar.extui v81
  let c0_i32_41 : BitVec 32 := 0#32
  let v83 : BitVec 1 := Scalar.cmpi .slt v79 c0_i32_41
  let v84 : BitVec 32 := Scalar.extui v83
  let v85 : BitVec 32 := Scalar.subi v82 v84
  let c512_i32_39 : BitVec 32 := 512#32
  let c0_i32_42 : BitVec 32 := 0#32
  let v86 : BitVec 1 := Scalar.cmpi .sgt c512_i32_39 c0_i32_42
  let v87 : BitVec 32 := Scalar.extui v86
  let c0_i32_43 : BitVec 32 := 0#32
  let v88 : BitVec 1 := Scalar.cmpi .slt c512_i32_39 c0_i32_43
  let v89 : BitVec 32 := Scalar.extui v88
  let v90 : BitVec 32 := Scalar.subi v87 v89
  let v91 : BitVec 1 := Scalar.cmpi .ne v85 v90
  let v92 : BitVec 32 := Scalar.remsi v79 c512_i32_39
  let c0_i32_44 : BitVec 32 := 0#32
  let v93 : BitVec 1 := Scalar.cmpi .ne v92 c0_i32_44
  let v94 : BitVec 1 := Scalar.andi v91 v93
  let v80 : BitVec 32 := Scalar.divsi v79 c512_i32_39
  let c1_i32_45 : BitVec 32 := 1#32
  let v95 : BitVec 32 := Scalar.subi v80 c1_i32_45
  let v96 : BitVec 32 := Scalar.select v94 v95 v80
  let v97 : BitVec 32 := Scalar.subi v96 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let v98 : BitVec 32 := Scalar.addi c0_i32_46 v97
  let c1_i32_49 : BitVec 32 := 1#32
  ⟨v101, v98, c1_i32_49⟩
def k0_mult5 (i : grid0.Coords) (k0_t2 : Fin (k0_t2_loop i).trips) : BitVec 32 :=
  let c0_i32_46 : BitVec 32 := 0#32
  let arg1 : BitVec 32 := BitVec.ofNat 32 (i 1).val
  let c512_i32 : BitVec 32 := 512#32
  let v0 : BitVec 32 := Scalar.muli arg1 c512_i32
  let c1_i32_38 : BitVec 32 := 1#32
  let v79 : BitVec 32 := Scalar.addi v0 c1_i32_38
  let c0_i32_40 : BitVec 32 := 0#32
  let v81 : BitVec 1 := Scalar.cmpi .sgt v79 c0_i32_40
  let v82 : BitVec 32 := Scalar.extui v81
  let c0_i32_41 : BitVec 32 := 0#32
  let v83 : BitVec 1 := Scalar.cmpi .slt v79 c0_i32_41
  let v84 : BitVec 32 := Scalar.extui v83
  let v85 : BitVec 32 := Scalar.subi v82 v84
  let c512_i32_39 : BitVec 32 := 512#32
  let c0_i32_42 : BitVec 32 := 0#32
  let v86 : BitVec 1 := Scalar.cmpi .sgt c512_i32_39 c0_i32_42
  let v87 : BitVec 32 := Scalar.extui v86
  let c0_i32_43 : BitVec 32 := 0#32
  let v88 : BitVec 1 := Scalar.cmpi .slt c512_i32_39 c0_i32_43
  let v89 : BitVec 32 := Scalar.extui v88
  let v90 : BitVec 32 := Scalar.subi v87 v89
  let v91 : BitVec 1 := Scalar.cmpi .ne v85 v90
  let v92 : BitVec 32 := Scalar.remsi v79 c512_i32_39
  let c0_i32_44 : BitVec 32 := 0#32
  let v93 : BitVec 1 := Scalar.cmpi .ne v92 c0_i32_44
  let v94 : BitVec 1 := Scalar.andi v91 v93
  let v80 : BitVec 32 := Scalar.divsi v79 c512_i32_39
  let c1_i32_45 : BitVec 32 := 1#32
  let v95 : BitVec 32 := Scalar.subi v80 c1_i32_45
  let v96 : BitVec 32 := Scalar.select v94 v95 v80
  let v97 : BitVec 32 := Scalar.subi v96 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg24 : BitVec 32 := Scf.iv v101 c1_i32_49 k0_t2
  let c2_i32_429 : BitVec 32 := 2#32
  let v710 : BitVec 32 := Scalar.muli arg24 c2_i32_429
  let c256_i32_430 : BitVec 32 := 256#32
  let v711 : BitVec 32 := Scalar.muli v710 c256_i32_430
  let c0_i32_431 : BitVec 32 := 0#32
  let v712 : BitVec 32 := Scalar.addi v711 c0_i32_431
  v712
def k0_off3 (i : grid0.Coords) (k0_t2 : Fin (k0_t2_loop i).trips) (c0_i32_431 : BitVec 32) : Fin 3 → Nat :=
  let c0_432 : Index := 0#32
  let c0_i32_46 : BitVec 32 := 0#32
  let arg1 : BitVec 32 := BitVec.ofNat 32 (i 1).val
  let c512_i32 : BitVec 32 := 512#32
  let v0 : BitVec 32 := Scalar.muli arg1 c512_i32
  let c1_i32_38 : BitVec 32 := 1#32
  let v79 : BitVec 32 := Scalar.addi v0 c1_i32_38
  let c0_i32_40 : BitVec 32 := 0#32
  let v81 : BitVec 1 := Scalar.cmpi .sgt v79 c0_i32_40
  let v82 : BitVec 32 := Scalar.extui v81
  let c0_i32_41 : BitVec 32 := 0#32
  let v83 : BitVec 1 := Scalar.cmpi .slt v79 c0_i32_41
  let v84 : BitVec 32 := Scalar.extui v83
  let v85 : BitVec 32 := Scalar.subi v82 v84
  let c512_i32_39 : BitVec 32 := 512#32
  let c0_i32_42 : BitVec 32 := 0#32
  let v86 : BitVec 1 := Scalar.cmpi .sgt c512_i32_39 c0_i32_42
  let v87 : BitVec 32 := Scalar.extui v86
  let c0_i32_43 : BitVec 32 := 0#32
  let v88 : BitVec 1 := Scalar.cmpi .slt c512_i32_39 c0_i32_43
  let v89 : BitVec 32 := Scalar.extui v88
  let v90 : BitVec 32 := Scalar.subi v87 v89
  let v91 : BitVec 1 := Scalar.cmpi .ne v85 v90
  let v92 : BitVec 32 := Scalar.remsi v79 c512_i32_39
  let c0_i32_44 : BitVec 32 := 0#32
  let v93 : BitVec 1 := Scalar.cmpi .ne v92 c0_i32_44
  let v94 : BitVec 1 := Scalar.andi v91 v93
  let v80 : BitVec 32 := Scalar.divsi v79 c512_i32_39
  let c1_i32_45 : BitVec 32 := 1#32
  let v95 : BitVec 32 := Scalar.subi v80 c1_i32_45
  let v96 : BitVec 32 := Scalar.select v94 v95 v80
  let v97 : BitVec 32 := Scalar.subi v96 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg24 : BitVec 32 := Scf.iv v101 c1_i32_49 k0_t2
  let c2_i32_429 : BitVec 32 := 2#32
  let v710 : BitVec 32 := Scalar.muli arg24 c2_i32_429
  let c256_i32_430 : BitVec 32 := 256#32
  let v711 : BitVec 32 := Scalar.muli v710 c256_i32_430
  let v712 : BitVec 32 := Scalar.addi v711 c0_i32_431
  let v713 : BitVec 32 := v712
  let v714 : Index := Scalar.indexCast v713
  let c0_433 : Index := 0#32
  ![0, v714.toNat, 0]
def k0_off4 (i : grid0.Coords) (k0_t2 : Fin (k0_t2_loop i).trips) (c0_i32_431 : BitVec 32) : Fin 2 → Nat :=
  let c0_i32_46 : BitVec 32 := 0#32
  let arg1 : BitVec 32 := BitVec.ofNat 32 (i 1).val
  let c512_i32 : BitVec 32 := 512#32
  let v0 : BitVec 32 := Scalar.muli arg1 c512_i32
  let c1_i32_38 : BitVec 32 := 1#32
  let v79 : BitVec 32 := Scalar.addi v0 c1_i32_38
  let c0_i32_40 : BitVec 32 := 0#32
  let v81 : BitVec 1 := Scalar.cmpi .sgt v79 c0_i32_40
  let v82 : BitVec 32 := Scalar.extui v81
  let c0_i32_41 : BitVec 32 := 0#32
  let v83 : BitVec 1 := Scalar.cmpi .slt v79 c0_i32_41
  let v84 : BitVec 32 := Scalar.extui v83
  let v85 : BitVec 32 := Scalar.subi v82 v84
  let c512_i32_39 : BitVec 32 := 512#32
  let c0_i32_42 : BitVec 32 := 0#32
  let v86 : BitVec 1 := Scalar.cmpi .sgt c512_i32_39 c0_i32_42
  let v87 : BitVec 32 := Scalar.extui v86
  let c0_i32_43 : BitVec 32 := 0#32
  let v88 : BitVec 1 := Scalar.cmpi .slt c512_i32_39 c0_i32_43
  let v89 : BitVec 32 := Scalar.extui v88
  let v90 : BitVec 32 := Scalar.subi v87 v89
  let v91 : BitVec 1 := Scalar.cmpi .ne v85 v90
  let v92 : BitVec 32 := Scalar.remsi v79 c512_i32_39
  let c0_i32_44 : BitVec 32 := 0#32
  let v93 : BitVec 1 := Scalar.cmpi .ne v92 c0_i32_44
  let v94 : BitVec 1 := Scalar.andi v91 v93
  let v80 : BitVec 32 := Scalar.divsi v79 c512_i32_39
  let c1_i32_45 : BitVec 32 := 1#32
  let v95 : BitVec 32 := Scalar.subi v80 c1_i32_45
  let v96 : BitVec 32 := Scalar.select v94 v95 v80
  let v97 : BitVec 32 := Scalar.subi v96 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg24 : BitVec 32 := Scf.iv v101 c1_i32_49 k0_t2
  let c2_i32_429 : BitVec 32 := 2#32
  let v710 : BitVec 32 := Scalar.muli arg24 c2_i32_429
  let c256_i32_430 : BitVec 32 := 256#32
  let v711 : BitVec 32 := Scalar.muli v710 c256_i32_430
  let v712 : BitVec 32 := Scalar.addi v711 c0_i32_431
  let v713 : BitVec 32 := v712
  let v782 : Index := Scalar.indexCast v713
  let c0_475 : Index := 0#32
  ![v782.toNat, 0]
def k0_mult6 (i : grid0.Coords) (k0_t2 : Fin (k0_t2_loop i).trips) : BitVec 32 :=
  let c0_i32_46 : BitVec 32 := 0#32
  let arg1 : BitVec 32 := BitVec.ofNat 32 (i 1).val
  let c512_i32 : BitVec 32 := 512#32
  let v0 : BitVec 32 := Scalar.muli arg1 c512_i32
  let c1_i32_38 : BitVec 32 := 1#32
  let v79 : BitVec 32 := Scalar.addi v0 c1_i32_38
  let c0_i32_40 : BitVec 32 := 0#32
  let v81 : BitVec 1 := Scalar.cmpi .sgt v79 c0_i32_40
  let v82 : BitVec 32 := Scalar.extui v81
  let c0_i32_41 : BitVec 32 := 0#32
  let v83 : BitVec 1 := Scalar.cmpi .slt v79 c0_i32_41
  let v84 : BitVec 32 := Scalar.extui v83
  let v85 : BitVec 32 := Scalar.subi v82 v84
  let c512_i32_39 : BitVec 32 := 512#32
  let c0_i32_42 : BitVec 32 := 0#32
  let v86 : BitVec 1 := Scalar.cmpi .sgt c512_i32_39 c0_i32_42
  let v87 : BitVec 32 := Scalar.extui v86
  let c0_i32_43 : BitVec 32 := 0#32
  let v88 : BitVec 1 := Scalar.cmpi .slt c512_i32_39 c0_i32_43
  let v89 : BitVec 32 := Scalar.extui v88
  let v90 : BitVec 32 := Scalar.subi v87 v89
  let v91 : BitVec 1 := Scalar.cmpi .ne v85 v90
  let v92 : BitVec 32 := Scalar.remsi v79 c512_i32_39
  let c0_i32_44 : BitVec 32 := 0#32
  let v93 : BitVec 1 := Scalar.cmpi .ne v92 c0_i32_44
  let v94 : BitVec 1 := Scalar.andi v91 v93
  let v80 : BitVec 32 := Scalar.divsi v79 c512_i32_39
  let c1_i32_45 : BitVec 32 := 1#32
  let v95 : BitVec 32 := Scalar.subi v80 c1_i32_45
  let v96 : BitVec 32 := Scalar.select v94 v95 v80
  let v97 : BitVec 32 := Scalar.subi v96 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg24 : BitVec 32 := Scf.iv v101 c1_i32_49 k0_t2
  let c2_i32_483 : BitVec 32 := 2#32
  let v933 : BitVec 32 := Scalar.muli arg24 c2_i32_483
  let c256_i32_484 : BitVec 32 := 256#32
  let v934 : BitVec 32 := Scalar.muli v933 c256_i32_484
  let c128_i32_485 : BitVec 32 := 128#32
  let v935 : BitVec 32 := Scalar.addi v934 c128_i32_485
  v935
def k0_mult7 (i : grid0.Coords) (k0_t2 : Fin (k0_t2_loop i).trips) : BitVec 32 :=
  let c0_i32_46 : BitVec 32 := 0#32
  let arg1 : BitVec 32 := BitVec.ofNat 32 (i 1).val
  let c512_i32 : BitVec 32 := 512#32
  let v0 : BitVec 32 := Scalar.muli arg1 c512_i32
  let c1_i32_38 : BitVec 32 := 1#32
  let v79 : BitVec 32 := Scalar.addi v0 c1_i32_38
  let c0_i32_40 : BitVec 32 := 0#32
  let v81 : BitVec 1 := Scalar.cmpi .sgt v79 c0_i32_40
  let v82 : BitVec 32 := Scalar.extui v81
  let c0_i32_41 : BitVec 32 := 0#32
  let v83 : BitVec 1 := Scalar.cmpi .slt v79 c0_i32_41
  let v84 : BitVec 32 := Scalar.extui v83
  let v85 : BitVec 32 := Scalar.subi v82 v84
  let c512_i32_39 : BitVec 32 := 512#32
  let c0_i32_42 : BitVec 32 := 0#32
  let v86 : BitVec 1 := Scalar.cmpi .sgt c512_i32_39 c0_i32_42
  let v87 : BitVec 32 := Scalar.extui v86
  let c0_i32_43 : BitVec 32 := 0#32
  let v88 : BitVec 1 := Scalar.cmpi .slt c512_i32_39 c0_i32_43
  let v89 : BitVec 32 := Scalar.extui v88
  let v90 : BitVec 32 := Scalar.subi v87 v89
  let v91 : BitVec 1 := Scalar.cmpi .ne v85 v90
  let v92 : BitVec 32 := Scalar.remsi v79 c512_i32_39
  let c0_i32_44 : BitVec 32 := 0#32
  let v93 : BitVec 1 := Scalar.cmpi .ne v92 c0_i32_44
  let v94 : BitVec 1 := Scalar.andi v91 v93
  let v80 : BitVec 32 := Scalar.divsi v79 c512_i32_39
  let c1_i32_45 : BitVec 32 := 1#32
  let v95 : BitVec 32 := Scalar.subi v80 c1_i32_45
  let v96 : BitVec 32 := Scalar.select v94 v95 v80
  let v97 : BitVec 32 := Scalar.subi v96 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg24 : BitVec 32 := Scf.iv v101 c1_i32_49 k0_t2
  let c2_i32_538 : BitVec 32 := 2#32
  let v1156 : BitVec 32 := Scalar.muli arg24 c2_i32_538
  let c256_i32_539 : BitVec 32 := 256#32
  let v1157 : BitVec 32 := Scalar.muli v1156 c256_i32_539
  let c256_i32_540 : BitVec 32 := 256#32
  let v1158 : BitVec 32 := Scalar.addi v1157 c256_i32_540
  v1158
def k0_mult8 (i : grid0.Coords) (k0_t2 : Fin (k0_t2_loop i).trips) : BitVec 32 :=
  let c0_i32_46 : BitVec 32 := 0#32
  let arg1 : BitVec 32 := BitVec.ofNat 32 (i 1).val
  let c512_i32 : BitVec 32 := 512#32
  let v0 : BitVec 32 := Scalar.muli arg1 c512_i32
  let c1_i32_38 : BitVec 32 := 1#32
  let v79 : BitVec 32 := Scalar.addi v0 c1_i32_38
  let c0_i32_40 : BitVec 32 := 0#32
  let v81 : BitVec 1 := Scalar.cmpi .sgt v79 c0_i32_40
  let v82 : BitVec 32 := Scalar.extui v81
  let c0_i32_41 : BitVec 32 := 0#32
  let v83 : BitVec 1 := Scalar.cmpi .slt v79 c0_i32_41
  let v84 : BitVec 32 := Scalar.extui v83
  let v85 : BitVec 32 := Scalar.subi v82 v84
  let c512_i32_39 : BitVec 32 := 512#32
  let c0_i32_42 : BitVec 32 := 0#32
  let v86 : BitVec 1 := Scalar.cmpi .sgt c512_i32_39 c0_i32_42
  let v87 : BitVec 32 := Scalar.extui v86
  let c0_i32_43 : BitVec 32 := 0#32
  let v88 : BitVec 1 := Scalar.cmpi .slt c512_i32_39 c0_i32_43
  let v89 : BitVec 32 := Scalar.extui v88
  let v90 : BitVec 32 := Scalar.subi v87 v89
  let v91 : BitVec 1 := Scalar.cmpi .ne v85 v90
  let v92 : BitVec 32 := Scalar.remsi v79 c512_i32_39
  let c0_i32_44 : BitVec 32 := 0#32
  let v93 : BitVec 1 := Scalar.cmpi .ne v92 c0_i32_44
  let v94 : BitVec 1 := Scalar.andi v91 v93
  let v80 : BitVec 32 := Scalar.divsi v79 c512_i32_39
  let c1_i32_45 : BitVec 32 := 1#32
  let v95 : BitVec 32 := Scalar.subi v80 c1_i32_45
  let v96 : BitVec 32 := Scalar.select v94 v95 v80
  let v97 : BitVec 32 := Scalar.subi v96 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg24 : BitVec 32 := Scf.iv v101 c1_i32_49 k0_t2
  let c2_i32_593 : BitVec 32 := 2#32
  let v1379 : BitVec 32 := Scalar.muli arg24 c2_i32_593
  let c256_i32_594 : BitVec 32 := 256#32
  let v1380 : BitVec 32 := Scalar.muli v1379 c256_i32_594
  let c384_i32 : BitVec 32 := 384#32
  let v1381 : BitVec 32 := Scalar.addi v1380 c384_i32
  v1381
@[reducible] def k0_t3_loop (i : grid0.Coords) : Scf.Loop 32 :=
  let arg1 : BitVec 32 := BitVec.ofNat 32 (i 1).val
  let c512_i32 : BitVec 32 := 512#32
  let v0 : BitVec 32 := Scalar.muli arg1 c512_i32
  let c1_i32_38 : BitVec 32 := 1#32
  let v79 : BitVec 32 := Scalar.addi v0 c1_i32_38
  let c0_i32_40 : BitVec 32 := 0#32
  let v81 : BitVec 1 := Scalar.cmpi .sgt v79 c0_i32_40
  let v82 : BitVec 32 := Scalar.extui v81
  let c0_i32_41 : BitVec 32 := 0#32
  let v83 : BitVec 1 := Scalar.cmpi .slt v79 c0_i32_41
  let v84 : BitVec 32 := Scalar.extui v83
  let v85 : BitVec 32 := Scalar.subi v82 v84
  let c512_i32_39 : BitVec 32 := 512#32
  let c0_i32_42 : BitVec 32 := 0#32
  let v86 : BitVec 1 := Scalar.cmpi .sgt c512_i32_39 c0_i32_42
  let v87 : BitVec 32 := Scalar.extui v86
  let c0_i32_43 : BitVec 32 := 0#32
  let v88 : BitVec 1 := Scalar.cmpi .slt c512_i32_39 c0_i32_43
  let v89 : BitVec 32 := Scalar.extui v88
  let v90 : BitVec 32 := Scalar.subi v87 v89
  let v91 : BitVec 1 := Scalar.cmpi .ne v85 v90
  let v92 : BitVec 32 := Scalar.remsi v79 c512_i32_39
  let c0_i32_44 : BitVec 32 := 0#32
  let v93 : BitVec 1 := Scalar.cmpi .ne v92 c0_i32_44
  let v94 : BitVec 1 := Scalar.andi v91 v93
  let v80 : BitVec 32 := Scalar.divsi v79 c512_i32_39
  let c1_i32_45 : BitVec 32 := 1#32
  let v95 : BitVec 32 := Scalar.subi v80 c1_i32_45
  let v96 : BitVec 32 := Scalar.select v94 v95 v80
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v104 : BitVec 32 := Scalar.subi v54 v96
  let c1_i32_50 : BitVec 32 := 1#32
  let v106 : BitVec 32 := Scalar.divsi v104 c1_i32_50
  let v107 : BitVec 32 := Scalar.muli v106 c1_i32_50
  let v108 : BitVec 32 := Scalar.addi v96 v107
  let c1_i32_51 : BitVec 32 := 1#32
  ⟨v96, v108, c1_i32_51⟩
def k0_mult9 (i : grid0.Coords) (k0_t3 : Fin (k0_t3_loop i).trips) : BitVec 32 :=
  let arg1 : BitVec 32 := BitVec.ofNat 32 (i 1).val
  let c512_i32 : BitVec 32 := 512#32
  let v0 : BitVec 32 := Scalar.muli arg1 c512_i32
  let c1_i32_38 : BitVec 32 := 1#32
  let v79 : BitVec 32 := Scalar.addi v0 c1_i32_38
  let c0_i32_40 : BitVec 32 := 0#32
  let v81 : BitVec 1 := Scalar.cmpi .sgt v79 c0_i32_40
  let v82 : BitVec 32 := Scalar.extui v81
  let c0_i32_41 : BitVec 32 := 0#32
  let v83 : BitVec 1 := Scalar.cmpi .slt v79 c0_i32_41
  let v84 : BitVec 32 := Scalar.extui v83
  let v85 : BitVec 32 := Scalar.subi v82 v84
  let c512_i32_39 : BitVec 32 := 512#32
  let c0_i32_42 : BitVec 32 := 0#32
  let v86 : BitVec 1 := Scalar.cmpi .sgt c512_i32_39 c0_i32_42
  let v87 : BitVec 32 := Scalar.extui v86
  let c0_i32_43 : BitVec 32 := 0#32
  let v88 : BitVec 1 := Scalar.cmpi .slt c512_i32_39 c0_i32_43
  let v89 : BitVec 32 := Scalar.extui v88
  let v90 : BitVec 32 := Scalar.subi v87 v89
  let v91 : BitVec 1 := Scalar.cmpi .ne v85 v90
  let v92 : BitVec 32 := Scalar.remsi v79 c512_i32_39
  let c0_i32_44 : BitVec 32 := 0#32
  let v93 : BitVec 1 := Scalar.cmpi .ne v92 c0_i32_44
  let v94 : BitVec 1 := Scalar.andi v91 v93
  let v80 : BitVec 32 := Scalar.divsi v79 c512_i32_39
  let c1_i32_45 : BitVec 32 := 1#32
  let v95 : BitVec 32 := Scalar.subi v80 c1_i32_45
  let v96 : BitVec 32 := Scalar.select v94 v95 v80
  let c1_i32_51 : BitVec 32 := 1#32
  let arg24 : BitVec 32 := Scf.iv v96 c1_i32_51 k0_t3
  let c2_i32_429 : BitVec 32 := 2#32
  let v710 : BitVec 32 := Scalar.muli arg24 c2_i32_429
  let c256_i32_430 : BitVec 32 := 256#32
  let v711 : BitVec 32 := Scalar.muli v710 c256_i32_430
  let c0_i32_431 : BitVec 32 := 0#32
  let v712 : BitVec 32 := Scalar.addi v711 c0_i32_431
  v712
def k0_off5 (i : grid0.Coords) (k0_t3 : Fin (k0_t3_loop i).trips) (c0_i32_431 : BitVec 32) : Fin 3 → Nat :=
  let c0_432 : Index := 0#32
  let arg1 : BitVec 32 := BitVec.ofNat 32 (i 1).val
  let c512_i32 : BitVec 32 := 512#32
  let v0 : BitVec 32 := Scalar.muli arg1 c512_i32
  let c1_i32_38 : BitVec 32 := 1#32
  let v79 : BitVec 32 := Scalar.addi v0 c1_i32_38
  let c0_i32_40 : BitVec 32 := 0#32
  let v81 : BitVec 1 := Scalar.cmpi .sgt v79 c0_i32_40
  let v82 : BitVec 32 := Scalar.extui v81
  let c0_i32_41 : BitVec 32 := 0#32
  let v83 : BitVec 1 := Scalar.cmpi .slt v79 c0_i32_41
  let v84 : BitVec 32 := Scalar.extui v83
  let v85 : BitVec 32 := Scalar.subi v82 v84
  let c512_i32_39 : BitVec 32 := 512#32
  let c0_i32_42 : BitVec 32 := 0#32
  let v86 : BitVec 1 := Scalar.cmpi .sgt c512_i32_39 c0_i32_42
  let v87 : BitVec 32 := Scalar.extui v86
  let c0_i32_43 : BitVec 32 := 0#32
  let v88 : BitVec 1 := Scalar.cmpi .slt c512_i32_39 c0_i32_43
  let v89 : BitVec 32 := Scalar.extui v88
  let v90 : BitVec 32 := Scalar.subi v87 v89
  let v91 : BitVec 1 := Scalar.cmpi .ne v85 v90
  let v92 : BitVec 32 := Scalar.remsi v79 c512_i32_39
  let c0_i32_44 : BitVec 32 := 0#32
  let v93 : BitVec 1 := Scalar.cmpi .ne v92 c0_i32_44
  let v94 : BitVec 1 := Scalar.andi v91 v93
  let v80 : BitVec 32 := Scalar.divsi v79 c512_i32_39
  let c1_i32_45 : BitVec 32 := 1#32
  let v95 : BitVec 32 := Scalar.subi v80 c1_i32_45
  let v96 : BitVec 32 := Scalar.select v94 v95 v80
  let c1_i32_51 : BitVec 32 := 1#32
  let arg24 : BitVec 32 := Scf.iv v96 c1_i32_51 k0_t3
  let c2_i32_429 : BitVec 32 := 2#32
  let v710 : BitVec 32 := Scalar.muli arg24 c2_i32_429
  let c256_i32_430 : BitVec 32 := 256#32
  let v711 : BitVec 32 := Scalar.muli v710 c256_i32_430
  let v712 : BitVec 32 := Scalar.addi v711 c0_i32_431
  let v713 : BitVec 32 := v712
  let v714 : Index := Scalar.indexCast v713
  let c0_433 : Index := 0#32
  ![0, v714.toNat, 0]
def k0_off6 (i : grid0.Coords) (k0_t3 : Fin (k0_t3_loop i).trips) (c0_i32_431 : BitVec 32) : Fin 2 → Nat :=
  let arg1 : BitVec 32 := BitVec.ofNat 32 (i 1).val
  let c512_i32 : BitVec 32 := 512#32
  let v0 : BitVec 32 := Scalar.muli arg1 c512_i32
  let c1_i32_38 : BitVec 32 := 1#32
  let v79 : BitVec 32 := Scalar.addi v0 c1_i32_38
  let c0_i32_40 : BitVec 32 := 0#32
  let v81 : BitVec 1 := Scalar.cmpi .sgt v79 c0_i32_40
  let v82 : BitVec 32 := Scalar.extui v81
  let c0_i32_41 : BitVec 32 := 0#32
  let v83 : BitVec 1 := Scalar.cmpi .slt v79 c0_i32_41
  let v84 : BitVec 32 := Scalar.extui v83
  let v85 : BitVec 32 := Scalar.subi v82 v84
  let c512_i32_39 : BitVec 32 := 512#32
  let c0_i32_42 : BitVec 32 := 0#32
  let v86 : BitVec 1 := Scalar.cmpi .sgt c512_i32_39 c0_i32_42
  let v87 : BitVec 32 := Scalar.extui v86
  let c0_i32_43 : BitVec 32 := 0#32
  let v88 : BitVec 1 := Scalar.cmpi .slt c512_i32_39 c0_i32_43
  let v89 : BitVec 32 := Scalar.extui v88
  let v90 : BitVec 32 := Scalar.subi v87 v89
  let v91 : BitVec 1 := Scalar.cmpi .ne v85 v90
  let v92 : BitVec 32 := Scalar.remsi v79 c512_i32_39
  let c0_i32_44 : BitVec 32 := 0#32
  let v93 : BitVec 1 := Scalar.cmpi .ne v92 c0_i32_44
  let v94 : BitVec 1 := Scalar.andi v91 v93
  let v80 : BitVec 32 := Scalar.divsi v79 c512_i32_39
  let c1_i32_45 : BitVec 32 := 1#32
  let v95 : BitVec 32 := Scalar.subi v80 c1_i32_45
  let v96 : BitVec 32 := Scalar.select v94 v95 v80
  let c1_i32_51 : BitVec 32 := 1#32
  let arg24 : BitVec 32 := Scf.iv v96 c1_i32_51 k0_t3
  let c2_i32_429 : BitVec 32 := 2#32
  let v710 : BitVec 32 := Scalar.muli arg24 c2_i32_429
  let c256_i32_430 : BitVec 32 := 256#32
  let v711 : BitVec 32 := Scalar.muli v710 c256_i32_430
  let v712 : BitVec 32 := Scalar.addi v711 c0_i32_431
  let v713 : BitVec 32 := v712
  let v790 : Index := Scalar.indexCast v713
  let c0_477 : Index := 0#32
  ![v790.toNat, 0]
def k0_mult10 (i : grid0.Coords) (k0_t3 : Fin (k0_t3_loop i).trips) : BitVec 32 :=
  let arg1 : BitVec 32 := BitVec.ofNat 32 (i 1).val
  let c512_i32 : BitVec 32 := 512#32
  let v0 : BitVec 32 := Scalar.muli arg1 c512_i32
  let c1_i32_38 : BitVec 32 := 1#32
  let v79 : BitVec 32 := Scalar.addi v0 c1_i32_38
  let c0_i32_40 : BitVec 32 := 0#32
  let v81 : BitVec 1 := Scalar.cmpi .sgt v79 c0_i32_40
  let v82 : BitVec 32 := Scalar.extui v81
  let c0_i32_41 : BitVec 32 := 0#32
  let v83 : BitVec 1 := Scalar.cmpi .slt v79 c0_i32_41
  let v84 : BitVec 32 := Scalar.extui v83
  let v85 : BitVec 32 := Scalar.subi v82 v84
  let c512_i32_39 : BitVec 32 := 512#32
  let c0_i32_42 : BitVec 32 := 0#32
  let v86 : BitVec 1 := Scalar.cmpi .sgt c512_i32_39 c0_i32_42
  let v87 : BitVec 32 := Scalar.extui v86
  let c0_i32_43 : BitVec 32 := 0#32
  let v88 : BitVec 1 := Scalar.cmpi .slt c512_i32_39 c0_i32_43
  let v89 : BitVec 32 := Scalar.extui v88
  let v90 : BitVec 32 := Scalar.subi v87 v89
  let v91 : BitVec 1 := Scalar.cmpi .ne v85 v90
  let v92 : BitVec 32 := Scalar.remsi v79 c512_i32_39
  let c0_i32_44 : BitVec 32 := 0#32
  let v93 : BitVec 1 := Scalar.cmpi .ne v92 c0_i32_44
  let v94 : BitVec 1 := Scalar.andi v91 v93
  let v80 : BitVec 32 := Scalar.divsi v79 c512_i32_39
  let c1_i32_45 : BitVec 32 := 1#32
  let v95 : BitVec 32 := Scalar.subi v80 c1_i32_45
  let v96 : BitVec 32 := Scalar.select v94 v95 v80
  let c1_i32_51 : BitVec 32 := 1#32
  let arg24 : BitVec 32 := Scf.iv v96 c1_i32_51 k0_t3
  let c2_i32_485 : BitVec 32 := 2#32
  let v941 : BitVec 32 := Scalar.muli arg24 c2_i32_485
  let c256_i32_486 : BitVec 32 := 256#32
  let v942 : BitVec 32 := Scalar.muli v941 c256_i32_486
  let c128_i32_487 : BitVec 32 := 128#32
  let v943 : BitVec 32 := Scalar.addi v942 c128_i32_487
  v943
def k0_mult11 (i : grid0.Coords) (k0_t3 : Fin (k0_t3_loop i).trips) : BitVec 32 :=
  let arg1 : BitVec 32 := BitVec.ofNat 32 (i 1).val
  let c512_i32 : BitVec 32 := 512#32
  let v0 : BitVec 32 := Scalar.muli arg1 c512_i32
  let c1_i32_38 : BitVec 32 := 1#32
  let v79 : BitVec 32 := Scalar.addi v0 c1_i32_38
  let c0_i32_40 : BitVec 32 := 0#32
  let v81 : BitVec 1 := Scalar.cmpi .sgt v79 c0_i32_40
  let v82 : BitVec 32 := Scalar.extui v81
  let c0_i32_41 : BitVec 32 := 0#32
  let v83 : BitVec 1 := Scalar.cmpi .slt v79 c0_i32_41
  let v84 : BitVec 32 := Scalar.extui v83
  let v85 : BitVec 32 := Scalar.subi v82 v84
  let c512_i32_39 : BitVec 32 := 512#32
  let c0_i32_42 : BitVec 32 := 0#32
  let v86 : BitVec 1 := Scalar.cmpi .sgt c512_i32_39 c0_i32_42
  let v87 : BitVec 32 := Scalar.extui v86
  let c0_i32_43 : BitVec 32 := 0#32
  let v88 : BitVec 1 := Scalar.cmpi .slt c512_i32_39 c0_i32_43
  let v89 : BitVec 32 := Scalar.extui v88
  let v90 : BitVec 32 := Scalar.subi v87 v89
  let v91 : BitVec 1 := Scalar.cmpi .ne v85 v90
  let v92 : BitVec 32 := Scalar.remsi v79 c512_i32_39
  let c0_i32_44 : BitVec 32 := 0#32
  let v93 : BitVec 1 := Scalar.cmpi .ne v92 c0_i32_44
  let v94 : BitVec 1 := Scalar.andi v91 v93
  let v80 : BitVec 32 := Scalar.divsi v79 c512_i32_39
  let c1_i32_45 : BitVec 32 := 1#32
  let v95 : BitVec 32 := Scalar.subi v80 c1_i32_45
  let v96 : BitVec 32 := Scalar.select v94 v95 v80
  let c1_i32_51 : BitVec 32 := 1#32
  let arg24 : BitVec 32 := Scf.iv v96 c1_i32_51 k0_t3
  let c2_i32_542 : BitVec 32 := 2#32
  let v1172 : BitVec 32 := Scalar.muli arg24 c2_i32_542
  let c256_i32_543 : BitVec 32 := 256#32
  let v1173 : BitVec 32 := Scalar.muli v1172 c256_i32_543
  let c256_i32_544 : BitVec 32 := 256#32
  let v1174 : BitVec 32 := Scalar.addi v1173 c256_i32_544
  v1174
def k0_mult12 (i : grid0.Coords) (k0_t3 : Fin (k0_t3_loop i).trips) : BitVec 32 :=
  let arg1 : BitVec 32 := BitVec.ofNat 32 (i 1).val
  let c512_i32 : BitVec 32 := 512#32
  let v0 : BitVec 32 := Scalar.muli arg1 c512_i32
  let c1_i32_38 : BitVec 32 := 1#32
  let v79 : BitVec 32 := Scalar.addi v0 c1_i32_38
  let c0_i32_40 : BitVec 32 := 0#32
  let v81 : BitVec 1 := Scalar.cmpi .sgt v79 c0_i32_40
  let v82 : BitVec 32 := Scalar.extui v81
  let c0_i32_41 : BitVec 32 := 0#32
  let v83 : BitVec 1 := Scalar.cmpi .slt v79 c0_i32_41
  let v84 : BitVec 32 := Scalar.extui v83
  let v85 : BitVec 32 := Scalar.subi v82 v84
  let c512_i32_39 : BitVec 32 := 512#32
  let c0_i32_42 : BitVec 32 := 0#32
  let v86 : BitVec 1 := Scalar.cmpi .sgt c512_i32_39 c0_i32_42
  let v87 : BitVec 32 := Scalar.extui v86
  let c0_i32_43 : BitVec 32 := 0#32
  let v88 : BitVec 1 := Scalar.cmpi .slt c512_i32_39 c0_i32_43
  let v89 : BitVec 32 := Scalar.extui v88
  let v90 : BitVec 32 := Scalar.subi v87 v89
  let v91 : BitVec 1 := Scalar.cmpi .ne v85 v90
  let v92 : BitVec 32 := Scalar.remsi v79 c512_i32_39
  let c0_i32_44 : BitVec 32 := 0#32
  let v93 : BitVec 1 := Scalar.cmpi .ne v92 c0_i32_44
  let v94 : BitVec 1 := Scalar.andi v91 v93
  let v80 : BitVec 32 := Scalar.divsi v79 c512_i32_39
  let c1_i32_45 : BitVec 32 := 1#32
  let v95 : BitVec 32 := Scalar.subi v80 c1_i32_45
  let v96 : BitVec 32 := Scalar.select v94 v95 v80
  let c1_i32_51 : BitVec 32 := 1#32
  let arg24 : BitVec 32 := Scf.iv v96 c1_i32_51 k0_t3
  let c2_i32_599 : BitVec 32 := 2#32
  let v1403 : BitVec 32 := Scalar.muli arg24 c2_i32_599
  let c256_i32_600 : BitVec 32 := 256#32
  let v1404 : BitVec 32 := Scalar.muli v1403 c256_i32_600
  let c384_i32 : BitVec 32 := 384#32
  let v1405 : BitVec 32 := Scalar.addi v1404 c384_i32
  v1405
@[reducible] def k0_t4_loop (i : grid0.Coords) : Scf.Loop 32 :=
  let arg1 : BitVec 32 := BitVec.ofNat 32 (i 1).val
  let c512_i32 : BitVec 32 := 512#32
  let v0 : BitVec 32 := Scalar.muli arg1 c512_i32
  let c1_i32_38 : BitVec 32 := 1#32
  let v79 : BitVec 32 := Scalar.addi v0 c1_i32_38
  let c0_i32_40 : BitVec 32 := 0#32
  let v81 : BitVec 1 := Scalar.cmpi .sgt v79 c0_i32_40
  let v82 : BitVec 32 := Scalar.extui v81
  let c0_i32_41 : BitVec 32 := 0#32
  let v83 : BitVec 1 := Scalar.cmpi .slt v79 c0_i32_41
  let v84 : BitVec 32 := Scalar.extui v83
  let v85 : BitVec 32 := Scalar.subi v82 v84
  let c512_i32_39 : BitVec 32 := 512#32
  let c0_i32_42 : BitVec 32 := 0#32
  let v86 : BitVec 1 := Scalar.cmpi .sgt c512_i32_39 c0_i32_42
  let v87 : BitVec 32 := Scalar.extui v86
  let c0_i32_43 : BitVec 32 := 0#32
  let v88 : BitVec 1 := Scalar.cmpi .slt c512_i32_39 c0_i32_43
  let v89 : BitVec 32 := Scalar.extui v88
  let v90 : BitVec 32 := Scalar.subi v87 v89
  let v91 : BitVec 1 := Scalar.cmpi .ne v85 v90
  let v92 : BitVec 32 := Scalar.remsi v79 c512_i32_39
  let c0_i32_44 : BitVec 32 := 0#32
  let v93 : BitVec 1 := Scalar.cmpi .ne v92 c0_i32_44
  let v94 : BitVec 1 := Scalar.andi v91 v93
  let v80 : BitVec 32 := Scalar.divsi v79 c512_i32_39
  let c1_i32_45 : BitVec 32 := 1#32
  let v95 : BitVec 32 := Scalar.subi v80 c1_i32_45
  let v96 : BitVec 32 := Scalar.select v94 v95 v80
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v104 : BitVec 32 := Scalar.subi v54 v96
  let c1_i32_50 : BitVec 32 := 1#32
  let v106 : BitVec 32 := Scalar.divsi v104 c1_i32_50
  let v107 : BitVec 32 := Scalar.muli v106 c1_i32_50
  let v108 : BitVec 32 := Scalar.addi v96 v107
  let v105 : BitVec 32 := Scalar.addi v96 v104
  let c1_i32_52 : BitVec 32 := 1#32
  ⟨v108, v105, c1_i32_52⟩
def k0_mult13 (i : grid0.Coords) (k0_t4 : Fin (k0_t4_loop i).trips) : BitVec 32 :=
  let arg1 : BitVec 32 := BitVec.ofNat 32 (i 1).val
  let c512_i32 : BitVec 32 := 512#32
  let v0 : BitVec 32 := Scalar.muli arg1 c512_i32
  let c1_i32_38 : BitVec 32 := 1#32
  let v79 : BitVec 32 := Scalar.addi v0 c1_i32_38
  let c0_i32_40 : BitVec 32 := 0#32
  let v81 : BitVec 1 := Scalar.cmpi .sgt v79 c0_i32_40
  let v82 : BitVec 32 := Scalar.extui v81
  let c0_i32_41 : BitVec 32 := 0#32
  let v83 : BitVec 1 := Scalar.cmpi .slt v79 c0_i32_41
  let v84 : BitVec 32 := Scalar.extui v83
  let v85 : BitVec 32 := Scalar.subi v82 v84
  let c512_i32_39 : BitVec 32 := 512#32
  let c0_i32_42 : BitVec 32 := 0#32
  let v86 : BitVec 1 := Scalar.cmpi .sgt c512_i32_39 c0_i32_42
  let v87 : BitVec 32 := Scalar.extui v86
  let c0_i32_43 : BitVec 32 := 0#32
  let v88 : BitVec 1 := Scalar.cmpi .slt c512_i32_39 c0_i32_43
  let v89 : BitVec 32 := Scalar.extui v88
  let v90 : BitVec 32 := Scalar.subi v87 v89
  let v91 : BitVec 1 := Scalar.cmpi .ne v85 v90
  let v92 : BitVec 32 := Scalar.remsi v79 c512_i32_39
  let c0_i32_44 : BitVec 32 := 0#32
  let v93 : BitVec 1 := Scalar.cmpi .ne v92 c0_i32_44
  let v94 : BitVec 1 := Scalar.andi v91 v93
  let v80 : BitVec 32 := Scalar.divsi v79 c512_i32_39
  let c1_i32_45 : BitVec 32 := 1#32
  let v95 : BitVec 32 := Scalar.subi v80 c1_i32_45
  let v96 : BitVec 32 := Scalar.select v94 v95 v80
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v104 : BitVec 32 := Scalar.subi v54 v96
  let c1_i32_50 : BitVec 32 := 1#32
  let v106 : BitVec 32 := Scalar.divsi v104 c1_i32_50
  let v107 : BitVec 32 := Scalar.muli v106 c1_i32_50
  let v108 : BitVec 32 := Scalar.addi v96 v107
  let c1_i32_52 : BitVec 32 := 1#32
  let arg24 : BitVec 32 := Scf.iv v108 c1_i32_52 k0_t4
  let c2_i32_429 : BitVec 32 := 2#32
  let v710 : BitVec 32 := Scalar.muli arg24 c2_i32_429
  let c256_i32_430 : BitVec 32 := 256#32
  let v711 : BitVec 32 := Scalar.muli v710 c256_i32_430
  let c0_i32_431 : BitVec 32 := 0#32
  let v712 : BitVec 32 := Scalar.addi v711 c0_i32_431
  v712
def k0_off7 (i : grid0.Coords) (k0_t4 : Fin (k0_t4_loop i).trips) (c0_i32_431 : BitVec 32) : Fin 3 → Nat :=
  let c0_432 : Index := 0#32
  let arg1 : BitVec 32 := BitVec.ofNat 32 (i 1).val
  let c512_i32 : BitVec 32 := 512#32
  let v0 : BitVec 32 := Scalar.muli arg1 c512_i32
  let c1_i32_38 : BitVec 32 := 1#32
  let v79 : BitVec 32 := Scalar.addi v0 c1_i32_38
  let c0_i32_40 : BitVec 32 := 0#32
  let v81 : BitVec 1 := Scalar.cmpi .sgt v79 c0_i32_40
  let v82 : BitVec 32 := Scalar.extui v81
  let c0_i32_41 : BitVec 32 := 0#32
  let v83 : BitVec 1 := Scalar.cmpi .slt v79 c0_i32_41
  let v84 : BitVec 32 := Scalar.extui v83
  let v85 : BitVec 32 := Scalar.subi v82 v84
  let c512_i32_39 : BitVec 32 := 512#32
  let c0_i32_42 : BitVec 32 := 0#32
  let v86 : BitVec 1 := Scalar.cmpi .sgt c512_i32_39 c0_i32_42
  let v87 : BitVec 32 := Scalar.extui v86
  let c0_i32_43 : BitVec 32 := 0#32
  let v88 : BitVec 1 := Scalar.cmpi .slt c512_i32_39 c0_i32_43
  let v89 : BitVec 32 := Scalar.extui v88
  let v90 : BitVec 32 := Scalar.subi v87 v89
  let v91 : BitVec 1 := Scalar.cmpi .ne v85 v90
  let v92 : BitVec 32 := Scalar.remsi v79 c512_i32_39
  let c0_i32_44 : BitVec 32 := 0#32
  let v93 : BitVec 1 := Scalar.cmpi .ne v92 c0_i32_44
  let v94 : BitVec 1 := Scalar.andi v91 v93
  let v80 : BitVec 32 := Scalar.divsi v79 c512_i32_39
  let c1_i32_45 : BitVec 32 := 1#32
  let v95 : BitVec 32 := Scalar.subi v80 c1_i32_45
  let v96 : BitVec 32 := Scalar.select v94 v95 v80
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v104 : BitVec 32 := Scalar.subi v54 v96
  let c1_i32_50 : BitVec 32 := 1#32
  let v106 : BitVec 32 := Scalar.divsi v104 c1_i32_50
  let v107 : BitVec 32 := Scalar.muli v106 c1_i32_50
  let v108 : BitVec 32 := Scalar.addi v96 v107
  let c1_i32_52 : BitVec 32 := 1#32
  let arg24 : BitVec 32 := Scf.iv v108 c1_i32_52 k0_t4
  let c2_i32_429 : BitVec 32 := 2#32
  let v710 : BitVec 32 := Scalar.muli arg24 c2_i32_429
  let c256_i32_430 : BitVec 32 := 256#32
  let v711 : BitVec 32 := Scalar.muli v710 c256_i32_430
  let v712 : BitVec 32 := Scalar.addi v711 c0_i32_431
  let v713 : BitVec 32 := v712
  let v714 : Index := Scalar.indexCast v713
  let c0_433 : Index := 0#32
  ![0, v714.toNat, 0]
def k0_off8 (i : grid0.Coords) (k0_t4 : Fin (k0_t4_loop i).trips) (c0_i32_431 : BitVec 32) : Fin 2 → Nat :=
  let arg1 : BitVec 32 := BitVec.ofNat 32 (i 1).val
  let c512_i32 : BitVec 32 := 512#32
  let v0 : BitVec 32 := Scalar.muli arg1 c512_i32
  let c1_i32_38 : BitVec 32 := 1#32
  let v79 : BitVec 32 := Scalar.addi v0 c1_i32_38
  let c0_i32_40 : BitVec 32 := 0#32
  let v81 : BitVec 1 := Scalar.cmpi .sgt v79 c0_i32_40
  let v82 : BitVec 32 := Scalar.extui v81
  let c0_i32_41 : BitVec 32 := 0#32
  let v83 : BitVec 1 := Scalar.cmpi .slt v79 c0_i32_41
  let v84 : BitVec 32 := Scalar.extui v83
  let v85 : BitVec 32 := Scalar.subi v82 v84
  let c512_i32_39 : BitVec 32 := 512#32
  let c0_i32_42 : BitVec 32 := 0#32
  let v86 : BitVec 1 := Scalar.cmpi .sgt c512_i32_39 c0_i32_42
  let v87 : BitVec 32 := Scalar.extui v86
  let c0_i32_43 : BitVec 32 := 0#32
  let v88 : BitVec 1 := Scalar.cmpi .slt c512_i32_39 c0_i32_43
  let v89 : BitVec 32 := Scalar.extui v88
  let v90 : BitVec 32 := Scalar.subi v87 v89
  let v91 : BitVec 1 := Scalar.cmpi .ne v85 v90
  let v92 : BitVec 32 := Scalar.remsi v79 c512_i32_39
  let c0_i32_44 : BitVec 32 := 0#32
  let v93 : BitVec 1 := Scalar.cmpi .ne v92 c0_i32_44
  let v94 : BitVec 1 := Scalar.andi v91 v93
  let v80 : BitVec 32 := Scalar.divsi v79 c512_i32_39
  let c1_i32_45 : BitVec 32 := 1#32
  let v95 : BitVec 32 := Scalar.subi v80 c1_i32_45
  let v96 : BitVec 32 := Scalar.select v94 v95 v80
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v104 : BitVec 32 := Scalar.subi v54 v96
  let c1_i32_50 : BitVec 32 := 1#32
  let v106 : BitVec 32 := Scalar.divsi v104 c1_i32_50
  let v107 : BitVec 32 := Scalar.muli v106 c1_i32_50
  let v108 : BitVec 32 := Scalar.addi v96 v107
  let c1_i32_52 : BitVec 32 := 1#32
  let arg24 : BitVec 32 := Scf.iv v108 c1_i32_52 k0_t4
  let c2_i32_429 : BitVec 32 := 2#32
  let v710 : BitVec 32 := Scalar.muli arg24 c2_i32_429
  let c256_i32_430 : BitVec 32 := 256#32
  let v711 : BitVec 32 := Scalar.muli v710 c256_i32_430
  let v712 : BitVec 32 := Scalar.addi v711 c0_i32_431
  let v713 : BitVec 32 := v712
  let v790 : Index := Scalar.indexCast v713
  let c0_477 : Index := 0#32
  ![v790.toNat, 0]
def k0_mult14 (i : grid0.Coords) (k0_t4 : Fin (k0_t4_loop i).trips) : BitVec 32 :=
  let arg1 : BitVec 32 := BitVec.ofNat 32 (i 1).val
  let c512_i32 : BitVec 32 := 512#32
  let v0 : BitVec 32 := Scalar.muli arg1 c512_i32
  let c1_i32_38 : BitVec 32 := 1#32
  let v79 : BitVec 32 := Scalar.addi v0 c1_i32_38
  let c0_i32_40 : BitVec 32 := 0#32
  let v81 : BitVec 1 := Scalar.cmpi .sgt v79 c0_i32_40
  let v82 : BitVec 32 := Scalar.extui v81
  let c0_i32_41 : BitVec 32 := 0#32
  let v83 : BitVec 1 := Scalar.cmpi .slt v79 c0_i32_41
  let v84 : BitVec 32 := Scalar.extui v83
  let v85 : BitVec 32 := Scalar.subi v82 v84
  let c512_i32_39 : BitVec 32 := 512#32
  let c0_i32_42 : BitVec 32 := 0#32
  let v86 : BitVec 1 := Scalar.cmpi .sgt c512_i32_39 c0_i32_42
  let v87 : BitVec 32 := Scalar.extui v86
  let c0_i32_43 : BitVec 32 := 0#32
  let v88 : BitVec 1 := Scalar.cmpi .slt c512_i32_39 c0_i32_43
  let v89 : BitVec 32 := Scalar.extui v88
  let v90 : BitVec 32 := Scalar.subi v87 v89
  let v91 : BitVec 1 := Scalar.cmpi .ne v85 v90
  let v92 : BitVec 32 := Scalar.remsi v79 c512_i32_39
  let c0_i32_44 : BitVec 32 := 0#32
  let v93 : BitVec 1 := Scalar.cmpi .ne v92 c0_i32_44
  let v94 : BitVec 1 := Scalar.andi v91 v93
  let v80 : BitVec 32 := Scalar.divsi v79 c512_i32_39
  let c1_i32_45 : BitVec 32 := 1#32
  let v95 : BitVec 32 := Scalar.subi v80 c1_i32_45
  let v96 : BitVec 32 := Scalar.select v94 v95 v80
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v104 : BitVec 32 := Scalar.subi v54 v96
  let c1_i32_50 : BitVec 32 := 1#32
  let v106 : BitVec 32 := Scalar.divsi v104 c1_i32_50
  let v107 : BitVec 32 := Scalar.muli v106 c1_i32_50
  let v108 : BitVec 32 := Scalar.addi v96 v107
  let c1_i32_52 : BitVec 32 := 1#32
  let arg24 : BitVec 32 := Scf.iv v108 c1_i32_52 k0_t4
  let c2_i32_485 : BitVec 32 := 2#32
  let v941 : BitVec 32 := Scalar.muli arg24 c2_i32_485
  let c256_i32_486 : BitVec 32 := 256#32
  let v942 : BitVec 32 := Scalar.muli v941 c256_i32_486
  let c128_i32_487 : BitVec 32 := 128#32
  let v943 : BitVec 32 := Scalar.addi v942 c128_i32_487
  v943
def k0_mult15 (i : grid0.Coords) (k0_t4 : Fin (k0_t4_loop i).trips) : BitVec 32 :=
  let arg1 : BitVec 32 := BitVec.ofNat 32 (i 1).val
  let c512_i32 : BitVec 32 := 512#32
  let v0 : BitVec 32 := Scalar.muli arg1 c512_i32
  let c1_i32_38 : BitVec 32 := 1#32
  let v79 : BitVec 32 := Scalar.addi v0 c1_i32_38
  let c0_i32_40 : BitVec 32 := 0#32
  let v81 : BitVec 1 := Scalar.cmpi .sgt v79 c0_i32_40
  let v82 : BitVec 32 := Scalar.extui v81
  let c0_i32_41 : BitVec 32 := 0#32
  let v83 : BitVec 1 := Scalar.cmpi .slt v79 c0_i32_41
  let v84 : BitVec 32 := Scalar.extui v83
  let v85 : BitVec 32 := Scalar.subi v82 v84
  let c512_i32_39 : BitVec 32 := 512#32
  let c0_i32_42 : BitVec 32 := 0#32
  let v86 : BitVec 1 := Scalar.cmpi .sgt c512_i32_39 c0_i32_42
  let v87 : BitVec 32 := Scalar.extui v86
  let c0_i32_43 : BitVec 32 := 0#32
  let v88 : BitVec 1 := Scalar.cmpi .slt c512_i32_39 c0_i32_43
  let v89 : BitVec 32 := Scalar.extui v88
  let v90 : BitVec 32 := Scalar.subi v87 v89
  let v91 : BitVec 1 := Scalar.cmpi .ne v85 v90
  let v92 : BitVec 32 := Scalar.remsi v79 c512_i32_39
  let c0_i32_44 : BitVec 32 := 0#32
  let v93 : BitVec 1 := Scalar.cmpi .ne v92 c0_i32_44
  let v94 : BitVec 1 := Scalar.andi v91 v93
  let v80 : BitVec 32 := Scalar.divsi v79 c512_i32_39
  let c1_i32_45 : BitVec 32 := 1#32
  let v95 : BitVec 32 := Scalar.subi v80 c1_i32_45
  let v96 : BitVec 32 := Scalar.select v94 v95 v80
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v104 : BitVec 32 := Scalar.subi v54 v96
  let c1_i32_50 : BitVec 32 := 1#32
  let v106 : BitVec 32 := Scalar.divsi v104 c1_i32_50
  let v107 : BitVec 32 := Scalar.muli v106 c1_i32_50
  let v108 : BitVec 32 := Scalar.addi v96 v107
  let c1_i32_52 : BitVec 32 := 1#32
  let arg24 : BitVec 32 := Scf.iv v108 c1_i32_52 k0_t4
  let c2_i32_542 : BitVec 32 := 2#32
  let v1172 : BitVec 32 := Scalar.muli arg24 c2_i32_542
  let c256_i32_543 : BitVec 32 := 256#32
  let v1173 : BitVec 32 := Scalar.muli v1172 c256_i32_543
  let c256_i32_544 : BitVec 32 := 256#32
  let v1174 : BitVec 32 := Scalar.addi v1173 c256_i32_544
  v1174
def k0_mult16 (i : grid0.Coords) (k0_t4 : Fin (k0_t4_loop i).trips) : BitVec 32 :=
  let arg1 : BitVec 32 := BitVec.ofNat 32 (i 1).val
  let c512_i32 : BitVec 32 := 512#32
  let v0 : BitVec 32 := Scalar.muli arg1 c512_i32
  let c1_i32_38 : BitVec 32 := 1#32
  let v79 : BitVec 32 := Scalar.addi v0 c1_i32_38
  let c0_i32_40 : BitVec 32 := 0#32
  let v81 : BitVec 1 := Scalar.cmpi .sgt v79 c0_i32_40
  let v82 : BitVec 32 := Scalar.extui v81
  let c0_i32_41 : BitVec 32 := 0#32
  let v83 : BitVec 1 := Scalar.cmpi .slt v79 c0_i32_41
  let v84 : BitVec 32 := Scalar.extui v83
  let v85 : BitVec 32 := Scalar.subi v82 v84
  let c512_i32_39 : BitVec 32 := 512#32
  let c0_i32_42 : BitVec 32 := 0#32
  let v86 : BitVec 1 := Scalar.cmpi .sgt c512_i32_39 c0_i32_42
  let v87 : BitVec 32 := Scalar.extui v86
  let c0_i32_43 : BitVec 32 := 0#32
  let v88 : BitVec 1 := Scalar.cmpi .slt c512_i32_39 c0_i32_43
  let v89 : BitVec 32 := Scalar.extui v88
  let v90 : BitVec 32 := Scalar.subi v87 v89
  let v91 : BitVec 1 := Scalar.cmpi .ne v85 v90
  let v92 : BitVec 32 := Scalar.remsi v79 c512_i32_39
  let c0_i32_44 : BitVec 32 := 0#32
  let v93 : BitVec 1 := Scalar.cmpi .ne v92 c0_i32_44
  let v94 : BitVec 1 := Scalar.andi v91 v93
  let v80 : BitVec 32 := Scalar.divsi v79 c512_i32_39
  let c1_i32_45 : BitVec 32 := 1#32
  let v95 : BitVec 32 := Scalar.subi v80 c1_i32_45
  let v96 : BitVec 32 := Scalar.select v94 v95 v80
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v104 : BitVec 32 := Scalar.subi v54 v96
  let c1_i32_50 : BitVec 32 := 1#32
  let v106 : BitVec 32 := Scalar.divsi v104 c1_i32_50
  let v107 : BitVec 32 := Scalar.muli v106 c1_i32_50
  let v108 : BitVec 32 := Scalar.addi v96 v107
  let c1_i32_52 : BitVec 32 := 1#32
  let arg24 : BitVec 32 := Scf.iv v108 c1_i32_52 k0_t4
  let c2_i32_599 : BitVec 32 := 2#32
  let v1403 : BitVec 32 := Scalar.muli arg24 c2_i32_599
  let c256_i32_600 : BitVec 32 := 256#32
  let v1404 : BitVec 32 := Scalar.muli v1403 c256_i32_600
  let c384_i32 : BitVec 32 := 384#32
  let v1405 : BitVec 32 := Scalar.addi v1404 c384_i32
  v1405
@[reducible] def k0_t5_loop : Scf.Loop 32 :=
  let c0_i32_69 : BitVec 32 := 0#32
  let c8_i32 : BitVec 32 := 8#32
  let v159 : BitVec 32 := Scalar.addi c0_i32_69 c8_i32
  let c1_i32_70 : BitVec 32 := 1#32
  ⟨c0_i32_69, v159, c1_i32_70⟩
@[reducible] def k0_t6_loop (i : grid0.Coords) : Scf.Loop 32 :=
  let c0_i32_450 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c128_i32 : BitVec 32 := 128#32
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi v1 c128_i32
  let c0_i32_4 : BitVec 32 := 0#32
  let v15 : BitVec 1 := Scalar.cmpi .ne v14 c0_i32_4
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_443 : BitVec 32 := 0#32
  let v763 : BitVec 1 := Scalar.cmpi .sgt v18 c0_i32_443
  let v764 : BitVec 32 := Scalar.extui v763
  let c0_i32_444 : BitVec 32 := 0#32
  let v765 : BitVec 1 := Scalar.cmpi .slt v18 c0_i32_444
  let v766 : BitVec 32 := Scalar.extui v765
  let v767 : BitVec 32 := Scalar.subi v764 v766
  let c2_i32_442 : BitVec 32 := 2#32
  let c0_i32_445 : BitVec 32 := 0#32
  let v768 : BitVec 1 := Scalar.cmpi .sgt c2_i32_442 c0_i32_445
  let v769 : BitVec 32 := Scalar.extui v768
  let c0_i32_446 : BitVec 32 := 0#32
  let v770 : BitVec 1 := Scalar.cmpi .slt c2_i32_442 c0_i32_446
  let v771 : BitVec 32 := Scalar.extui v770
  let v772 : BitVec 32 := Scalar.subi v769 v771
  let v773 : BitVec 1 := Scalar.cmpi .ne v767 v772
  let v774 : BitVec 32 := Scalar.remsi v18 c2_i32_442
  let c0_i32_447 : BitVec 32 := 0#32
  let v775 : BitVec 1 := Scalar.cmpi .ne v774 c0_i32_447
  let v776 : BitVec 1 := Scalar.andi v773 v775
  let v762 : BitVec 32 := Scalar.divsi v18 c2_i32_442
  let c1_i32_448 : BitVec 32 := 1#32
  let v777 : BitVec 32 := Scalar.subi v762 c1_i32_448
  let v778 : BitVec 32 := Scalar.select v776 v777 v762
  let v780 : BitVec 32 := Scalar.subi v778 c0_i32_450
  let c1_i32_451 : BitVec 32 := 1#32
  let v782 : BitVec 32 := Scalar.divsi v780 c1_i32_451
  let v783 : BitVec 32 := Scalar.muli v782 c1_i32_451
  let v784 : BitVec 32 := Scalar.addi c0_i32_450 v783
  let c1_i32_452 : BitVec 32 := 1#32
  ⟨c0_i32_450, v784, c1_i32_452⟩
def k0_mult17 (i : grid0.Coords) (k0_t6 : Fin (k0_t6_loop i).trips) : BitVec 32 :=
  let c2_i32_458 : BitVec 32 := 2#32
  let c0_i32_450 : BitVec 32 := 0#32
  let c1_i32_452 : BitVec 32 := 1#32
  let arg29 : BitVec 32 := Scf.iv c0_i32_450 c1_i32_452 k0_t6
  let v801 : BitVec 32 := Scalar.muli c2_i32_458 arg29
  let c0_i32_459 : BitVec 32 := 0#32
  let v802 : BitVec 32 := Scalar.addi v801 c0_i32_459
  let c128_i32_460 : BitVec 32 := 128#32
  let v803 : BitVec 32 := Scalar.muli v802 c128_i32_460
  v803
def k0_off9 (i : grid0.Coords) (k0_t6 : Fin (k0_t6_loop i).trips) (c0_i32_459 : BitVec 32) : Fin 2 → Nat :=
  let c2_i32_458 : BitVec 32 := 2#32
  let c0_i32_450 : BitVec 32 := 0#32
  let c1_i32_452 : BitVec 32 := 1#32
  let arg29 : BitVec 32 := Scf.iv c0_i32_450 c1_i32_452 k0_t6
  let v801 : BitVec 32 := Scalar.muli c2_i32_458 arg29
  let v802 : BitVec 32 := Scalar.addi v801 c0_i32_459
  let c128_i32_460 : BitVec 32 := 128#32
  let v803 : BitVec 32 := Scalar.muli v802 c128_i32_460
  let v804 : BitVec 32 := v803
  let v805 : Index := Scalar.indexCast v804
  let c0_461 : Index := 0#32
  ![v805.toNat, 0]
def k0_mult18 (i : grid0.Coords) (k0_t6 : Fin (k0_t6_loop i).trips) : BitVec 32 :=
  let c2_i32_464 : BitVec 32 := 2#32
  let c0_i32_450 : BitVec 32 := 0#32
  let c1_i32_452 : BitVec 32 := 1#32
  let arg29 : BitVec 32 := Scf.iv c0_i32_450 c1_i32_452 k0_t6
  let v829 : BitVec 32 := Scalar.muli c2_i32_464 arg29
  let c1_i32_465 : BitVec 32 := 1#32
  let v830 : BitVec 32 := Scalar.addi v829 c1_i32_465
  let c128_i32_466 : BitVec 32 := 128#32
  let v831 : BitVec 32 := Scalar.muli v830 c128_i32_466
  v831
@[reducible] def k0_t7_loop (i : grid0.Coords) : Scf.Loop 32 :=
  let c0_i32_450 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c128_i32 : BitVec 32 := 128#32
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi v1 c128_i32
  let c0_i32_4 : BitVec 32 := 0#32
  let v15 : BitVec 1 := Scalar.cmpi .ne v14 c0_i32_4
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_443 : BitVec 32 := 0#32
  let v763 : BitVec 1 := Scalar.cmpi .sgt v18 c0_i32_443
  let v764 : BitVec 32 := Scalar.extui v763
  let c0_i32_444 : BitVec 32 := 0#32
  let v765 : BitVec 1 := Scalar.cmpi .slt v18 c0_i32_444
  let v766 : BitVec 32 := Scalar.extui v765
  let v767 : BitVec 32 := Scalar.subi v764 v766
  let c2_i32_442 : BitVec 32 := 2#32
  let c0_i32_445 : BitVec 32 := 0#32
  let v768 : BitVec 1 := Scalar.cmpi .sgt c2_i32_442 c0_i32_445
  let v769 : BitVec 32 := Scalar.extui v768
  let c0_i32_446 : BitVec 32 := 0#32
  let v770 : BitVec 1 := Scalar.cmpi .slt c2_i32_442 c0_i32_446
  let v771 : BitVec 32 := Scalar.extui v770
  let v772 : BitVec 32 := Scalar.subi v769 v771
  let v773 : BitVec 1 := Scalar.cmpi .ne v767 v772
  let v774 : BitVec 32 := Scalar.remsi v18 c2_i32_442
  let c0_i32_447 : BitVec 32 := 0#32
  let v775 : BitVec 1 := Scalar.cmpi .ne v774 c0_i32_447
  let v776 : BitVec 1 := Scalar.andi v773 v775
  let v762 : BitVec 32 := Scalar.divsi v18 c2_i32_442
  let c1_i32_448 : BitVec 32 := 1#32
  let v777 : BitVec 32 := Scalar.subi v762 c1_i32_448
  let v778 : BitVec 32 := Scalar.select v776 v777 v762
  let v780 : BitVec 32 := Scalar.subi v778 c0_i32_450
  let c1_i32_451 : BitVec 32 := 1#32
  let v782 : BitVec 32 := Scalar.divsi v780 c1_i32_451
  let v783 : BitVec 32 := Scalar.muli v782 c1_i32_451
  let v784 : BitVec 32 := Scalar.addi c0_i32_450 v783
  let v781 : BitVec 32 := Scalar.addi c0_i32_450 v780
  let c1_i32_453 : BitVec 32 := 1#32
  ⟨v784, v781, c1_i32_453⟩
def k0_mult19 (i : grid0.Coords) (k0_t7 : Fin (k0_t7_loop i).trips) : BitVec 32 :=
  let c2_i32_458 : BitVec 32 := 2#32
  let c0_i32_450 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c128_i32 : BitVec 32 := 128#32
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi v1 c128_i32
  let c0_i32_4 : BitVec 32 := 0#32
  let v15 : BitVec 1 := Scalar.cmpi .ne v14 c0_i32_4
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_443 : BitVec 32 := 0#32
  let v763 : BitVec 1 := Scalar.cmpi .sgt v18 c0_i32_443
  let v764 : BitVec 32 := Scalar.extui v763
  let c0_i32_444 : BitVec 32 := 0#32
  let v765 : BitVec 1 := Scalar.cmpi .slt v18 c0_i32_444
  let v766 : BitVec 32 := Scalar.extui v765
  let v767 : BitVec 32 := Scalar.subi v764 v766
  let c2_i32_442 : BitVec 32 := 2#32
  let c0_i32_445 : BitVec 32 := 0#32
  let v768 : BitVec 1 := Scalar.cmpi .sgt c2_i32_442 c0_i32_445
  let v769 : BitVec 32 := Scalar.extui v768
  let c0_i32_446 : BitVec 32 := 0#32
  let v770 : BitVec 1 := Scalar.cmpi .slt c2_i32_442 c0_i32_446
  let v771 : BitVec 32 := Scalar.extui v770
  let v772 : BitVec 32 := Scalar.subi v769 v771
  let v773 : BitVec 1 := Scalar.cmpi .ne v767 v772
  let v774 : BitVec 32 := Scalar.remsi v18 c2_i32_442
  let c0_i32_447 : BitVec 32 := 0#32
  let v775 : BitVec 1 := Scalar.cmpi .ne v774 c0_i32_447
  let v776 : BitVec 1 := Scalar.andi v773 v775
  let v762 : BitVec 32 := Scalar.divsi v18 c2_i32_442
  let c1_i32_448 : BitVec 32 := 1#32
  let v777 : BitVec 32 := Scalar.subi v762 c1_i32_448
  let v778 : BitVec 32 := Scalar.select v776 v777 v762
  let v780 : BitVec 32 := Scalar.subi v778 c0_i32_450
  let c1_i32_451 : BitVec 32 := 1#32
  let v782 : BitVec 32 := Scalar.divsi v780 c1_i32_451
  let v783 : BitVec 32 := Scalar.muli v782 c1_i32_451
  let v784 : BitVec 32 := Scalar.addi c0_i32_450 v783
  let c1_i32_453 : BitVec 32 := 1#32
  let arg29 : BitVec 32 := Scf.iv v784 c1_i32_453 k0_t7
  let v801 : BitVec 32 := Scalar.muli c2_i32_458 arg29
  let c0_i32_459 : BitVec 32 := 0#32
  let v802 : BitVec 32 := Scalar.addi v801 c0_i32_459
  let c128_i32_460 : BitVec 32 := 128#32
  let v803 : BitVec 32 := Scalar.muli v802 c128_i32_460
  v803
def k0_off10 (i : grid0.Coords) (k0_t7 : Fin (k0_t7_loop i).trips) (c0_i32_459 : BitVec 32) : Fin 2 → Nat :=
  let c2_i32_458 : BitVec 32 := 2#32
  let c0_i32_450 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c128_i32 : BitVec 32 := 128#32
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi v1 c128_i32
  let c0_i32_4 : BitVec 32 := 0#32
  let v15 : BitVec 1 := Scalar.cmpi .ne v14 c0_i32_4
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_443 : BitVec 32 := 0#32
  let v763 : BitVec 1 := Scalar.cmpi .sgt v18 c0_i32_443
  let v764 : BitVec 32 := Scalar.extui v763
  let c0_i32_444 : BitVec 32 := 0#32
  let v765 : BitVec 1 := Scalar.cmpi .slt v18 c0_i32_444
  let v766 : BitVec 32 := Scalar.extui v765
  let v767 : BitVec 32 := Scalar.subi v764 v766
  let c2_i32_442 : BitVec 32 := 2#32
  let c0_i32_445 : BitVec 32 := 0#32
  let v768 : BitVec 1 := Scalar.cmpi .sgt c2_i32_442 c0_i32_445
  let v769 : BitVec 32 := Scalar.extui v768
  let c0_i32_446 : BitVec 32 := 0#32
  let v770 : BitVec 1 := Scalar.cmpi .slt c2_i32_442 c0_i32_446
  let v771 : BitVec 32 := Scalar.extui v770
  let v772 : BitVec 32 := Scalar.subi v769 v771
  let v773 : BitVec 1 := Scalar.cmpi .ne v767 v772
  let v774 : BitVec 32 := Scalar.remsi v18 c2_i32_442
  let c0_i32_447 : BitVec 32 := 0#32
  let v775 : BitVec 1 := Scalar.cmpi .ne v774 c0_i32_447
  let v776 : BitVec 1 := Scalar.andi v773 v775
  let v762 : BitVec 32 := Scalar.divsi v18 c2_i32_442
  let c1_i32_448 : BitVec 32 := 1#32
  let v777 : BitVec 32 := Scalar.subi v762 c1_i32_448
  let v778 : BitVec 32 := Scalar.select v776 v777 v762
  let v780 : BitVec 32 := Scalar.subi v778 c0_i32_450
  let c1_i32_451 : BitVec 32 := 1#32
  let v782 : BitVec 32 := Scalar.divsi v780 c1_i32_451
  let v783 : BitVec 32 := Scalar.muli v782 c1_i32_451
  let v784 : BitVec 32 := Scalar.addi c0_i32_450 v783
  let c1_i32_453 : BitVec 32 := 1#32
  let arg29 : BitVec 32 := Scf.iv v784 c1_i32_453 k0_t7
  let v801 : BitVec 32 := Scalar.muli c2_i32_458 arg29
  let v802 : BitVec 32 := Scalar.addi v801 c0_i32_459
  let c128_i32_460 : BitVec 32 := 128#32
  let v803 : BitVec 32 := Scalar.muli v802 c128_i32_460
  let v804 : BitVec 32 := v803
  let v805 : Index := Scalar.indexCast v804
  let c0_461 : Index := 0#32
  ![v805.toNat, 0]
def k0_mult20 (i : grid0.Coords) (k0_t7 : Fin (k0_t7_loop i).trips) : BitVec 32 :=
  let c2_i32_464 : BitVec 32 := 2#32
  let c0_i32_450 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c128_i32 : BitVec 32 := 128#32
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi v1 c128_i32
  let c0_i32_4 : BitVec 32 := 0#32
  let v15 : BitVec 1 := Scalar.cmpi .ne v14 c0_i32_4
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_443 : BitVec 32 := 0#32
  let v763 : BitVec 1 := Scalar.cmpi .sgt v18 c0_i32_443
  let v764 : BitVec 32 := Scalar.extui v763
  let c0_i32_444 : BitVec 32 := 0#32
  let v765 : BitVec 1 := Scalar.cmpi .slt v18 c0_i32_444
  let v766 : BitVec 32 := Scalar.extui v765
  let v767 : BitVec 32 := Scalar.subi v764 v766
  let c2_i32_442 : BitVec 32 := 2#32
  let c0_i32_445 : BitVec 32 := 0#32
  let v768 : BitVec 1 := Scalar.cmpi .sgt c2_i32_442 c0_i32_445
  let v769 : BitVec 32 := Scalar.extui v768
  let c0_i32_446 : BitVec 32 := 0#32
  let v770 : BitVec 1 := Scalar.cmpi .slt c2_i32_442 c0_i32_446
  let v771 : BitVec 32 := Scalar.extui v770
  let v772 : BitVec 32 := Scalar.subi v769 v771
  let v773 : BitVec 1 := Scalar.cmpi .ne v767 v772
  let v774 : BitVec 32 := Scalar.remsi v18 c2_i32_442
  let c0_i32_447 : BitVec 32 := 0#32
  let v775 : BitVec 1 := Scalar.cmpi .ne v774 c0_i32_447
  let v776 : BitVec 1 := Scalar.andi v773 v775
  let v762 : BitVec 32 := Scalar.divsi v18 c2_i32_442
  let c1_i32_448 : BitVec 32 := 1#32
  let v777 : BitVec 32 := Scalar.subi v762 c1_i32_448
  let v778 : BitVec 32 := Scalar.select v776 v777 v762
  let v780 : BitVec 32 := Scalar.subi v778 c0_i32_450
  let c1_i32_451 : BitVec 32 := 1#32
  let v782 : BitVec 32 := Scalar.divsi v780 c1_i32_451
  let v783 : BitVec 32 := Scalar.muli v782 c1_i32_451
  let v784 : BitVec 32 := Scalar.addi c0_i32_450 v783
  let c1_i32_453 : BitVec 32 := 1#32
  let arg29 : BitVec 32 := Scf.iv v784 c1_i32_453 k0_t7
  let v829 : BitVec 32 := Scalar.muli c2_i32_464 arg29
  let c1_i32_465 : BitVec 32 := 1#32
  let v830 : BitVec 32 := Scalar.addi v829 c1_i32_465
  let c128_i32_466 : BitVec 32 := 128#32
  let v831 : BitVec 32 := Scalar.muli v830 c128_i32_466
  v831
@[reducible] def k0_t8_loop (i : grid0.Coords) : Scf.Loop 32 :=
  let c0_i32_437 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c128_i32 : BitVec 32 := 128#32
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi v1 c128_i32
  let c0_i32_4 : BitVec 32 := 0#32
  let v15 : BitVec 1 := Scalar.cmpi .ne v14 c0_i32_4
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_430 : BitVec 32 := 0#32
  let v711 : BitVec 1 := Scalar.cmpi .sgt v18 c0_i32_430
  let v712 : BitVec 32 := Scalar.extui v711
  let c0_i32_431 : BitVec 32 := 0#32
  let v713 : BitVec 1 := Scalar.cmpi .slt v18 c0_i32_431
  let v714 : BitVec 32 := Scalar.extui v713
  let v715 : BitVec 32 := Scalar.subi v712 v714
  let c2_i32_429 : BitVec 32 := 2#32
  let c0_i32_432 : BitVec 32 := 0#32
  let v716 : BitVec 1 := Scalar.cmpi .sgt c2_i32_429 c0_i32_432
  let v717 : BitVec 32 := Scalar.extui v716
  let c0_i32_433 : BitVec 32 := 0#32
  let v718 : BitVec 1 := Scalar.cmpi .slt c2_i32_429 c0_i32_433
  let v719 : BitVec 32 := Scalar.extui v718
  let v720 : BitVec 32 := Scalar.subi v717 v719
  let v721 : BitVec 1 := Scalar.cmpi .ne v715 v720
  let v722 : BitVec 32 := Scalar.remsi v18 c2_i32_429
  let c0_i32_434 : BitVec 32 := 0#32
  let v723 : BitVec 1 := Scalar.cmpi .ne v722 c0_i32_434
  let v724 : BitVec 1 := Scalar.andi v721 v723
  let v710 : BitVec 32 := Scalar.divsi v18 c2_i32_429
  let c1_i32_435 : BitVec 32 := 1#32
  let v725 : BitVec 32 := Scalar.subi v710 c1_i32_435
  let v726 : BitVec 32 := Scalar.select v724 v725 v710
  let v728 : BitVec 32 := Scalar.subi v726 c0_i32_437
  let c1_i32_438 : BitVec 32 := 1#32
  let v730 : BitVec 32 := Scalar.divsi v728 c1_i32_438
  let v731 : BitVec 32 := Scalar.muli v730 c1_i32_438
  let v732 : BitVec 32 := Scalar.addi c0_i32_437 v731
  let c1_i32_439 : BitVec 32 := 1#32
  ⟨c0_i32_437, v732, c1_i32_439⟩
def k0_mult21 (i : grid0.Coords) (k0_t8 : Fin (k0_t8_loop i).trips) : BitVec 32 :=
  let c2_i32_459 : BitVec 32 := 2#32
  let c0_i32_437 : BitVec 32 := 0#32
  let c1_i32_439 : BitVec 32 := 1#32
  let arg31 : BitVec 32 := Scf.iv c0_i32_437 c1_i32_439 k0_t8
  let v786 : BitVec 32 := Scalar.muli c2_i32_459 arg31
  let c0_i32_460 : BitVec 32 := 0#32
  let v787 : BitVec 32 := Scalar.addi v786 c0_i32_460
  let c128_i32_461 : BitVec 32 := 128#32
  let v788 : BitVec 32 := Scalar.muli v787 c128_i32_461
  v788
def k0_off11 (i : grid0.Coords) (k0_t8 : Fin (k0_t8_loop i).trips) (c0_i32_460 : BitVec 32) : Fin 2 → Nat :=
  let c2_i32_459 : BitVec 32 := 2#32
  let c0_i32_437 : BitVec 32 := 0#32
  let c1_i32_439 : BitVec 32 := 1#32
  let arg31 : BitVec 32 := Scf.iv c0_i32_437 c1_i32_439 k0_t8
  let v786 : BitVec 32 := Scalar.muli c2_i32_459 arg31
  let v787 : BitVec 32 := Scalar.addi v786 c0_i32_460
  let c128_i32_461 : BitVec 32 := 128#32
  let v788 : BitVec 32 := Scalar.muli v787 c128_i32_461
  let v789 : BitVec 32 := v788
  let v790 : Index := Scalar.indexCast v789
  let c0_462 : Index := 0#32
  ![v790.toNat, 0]
def k0_mult22 (i : grid0.Coords) (k0_t8 : Fin (k0_t8_loop i).trips) : BitVec 32 :=
  let c2_i32_465 : BitVec 32 := 2#32
  let c0_i32_437 : BitVec 32 := 0#32
  let c1_i32_439 : BitVec 32 := 1#32
  let arg31 : BitVec 32 := Scf.iv c0_i32_437 c1_i32_439 k0_t8
  let v829 : BitVec 32 := Scalar.muli c2_i32_465 arg31
  let c1_i32_466 : BitVec 32 := 1#32
  let v830 : BitVec 32 := Scalar.addi v829 c1_i32_466
  let c128_i32_467 : BitVec 32 := 128#32
  let v831 : BitVec 32 := Scalar.muli v830 c128_i32_467
  v831
@[reducible] def k0_t9_loop (i : grid0.Coords) : Scf.Loop 32 :=
  let c0_i32_437 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c128_i32 : BitVec 32 := 128#32
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi v1 c128_i32
  let c0_i32_4 : BitVec 32 := 0#32
  let v15 : BitVec 1 := Scalar.cmpi .ne v14 c0_i32_4
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_430 : BitVec 32 := 0#32
  let v711 : BitVec 1 := Scalar.cmpi .sgt v18 c0_i32_430
  let v712 : BitVec 32 := Scalar.extui v711
  let c0_i32_431 : BitVec 32 := 0#32
  let v713 : BitVec 1 := Scalar.cmpi .slt v18 c0_i32_431
  let v714 : BitVec 32 := Scalar.extui v713
  let v715 : BitVec 32 := Scalar.subi v712 v714
  let c2_i32_429 : BitVec 32 := 2#32
  let c0_i32_432 : BitVec 32 := 0#32
  let v716 : BitVec 1 := Scalar.cmpi .sgt c2_i32_429 c0_i32_432
  let v717 : BitVec 32 := Scalar.extui v716
  let c0_i32_433 : BitVec 32 := 0#32
  let v718 : BitVec 1 := Scalar.cmpi .slt c2_i32_429 c0_i32_433
  let v719 : BitVec 32 := Scalar.extui v718
  let v720 : BitVec 32 := Scalar.subi v717 v719
  let v721 : BitVec 1 := Scalar.cmpi .ne v715 v720
  let v722 : BitVec 32 := Scalar.remsi v18 c2_i32_429
  let c0_i32_434 : BitVec 32 := 0#32
  let v723 : BitVec 1 := Scalar.cmpi .ne v722 c0_i32_434
  let v724 : BitVec 1 := Scalar.andi v721 v723
  let v710 : BitVec 32 := Scalar.divsi v18 c2_i32_429
  let c1_i32_435 : BitVec 32 := 1#32
  let v725 : BitVec 32 := Scalar.subi v710 c1_i32_435
  let v726 : BitVec 32 := Scalar.select v724 v725 v710
  let v728 : BitVec 32 := Scalar.subi v726 c0_i32_437
  let c1_i32_438 : BitVec 32 := 1#32
  let v730 : BitVec 32 := Scalar.divsi v728 c1_i32_438
  let v731 : BitVec 32 := Scalar.muli v730 c1_i32_438
  let v732 : BitVec 32 := Scalar.addi c0_i32_437 v731
  let v729 : BitVec 32 := Scalar.addi c0_i32_437 v728
  let c1_i32_440 : BitVec 32 := 1#32
  ⟨v732, v729, c1_i32_440⟩
def k0_mult23 (i : grid0.Coords) (k0_t9 : Fin (k0_t9_loop i).trips) : BitVec 32 :=
  let c2_i32_459 : BitVec 32 := 2#32
  let c0_i32_437 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c128_i32 : BitVec 32 := 128#32
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi v1 c128_i32
  let c0_i32_4 : BitVec 32 := 0#32
  let v15 : BitVec 1 := Scalar.cmpi .ne v14 c0_i32_4
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_430 : BitVec 32 := 0#32
  let v711 : BitVec 1 := Scalar.cmpi .sgt v18 c0_i32_430
  let v712 : BitVec 32 := Scalar.extui v711
  let c0_i32_431 : BitVec 32 := 0#32
  let v713 : BitVec 1 := Scalar.cmpi .slt v18 c0_i32_431
  let v714 : BitVec 32 := Scalar.extui v713
  let v715 : BitVec 32 := Scalar.subi v712 v714
  let c2_i32_429 : BitVec 32 := 2#32
  let c0_i32_432 : BitVec 32 := 0#32
  let v716 : BitVec 1 := Scalar.cmpi .sgt c2_i32_429 c0_i32_432
  let v717 : BitVec 32 := Scalar.extui v716
  let c0_i32_433 : BitVec 32 := 0#32
  let v718 : BitVec 1 := Scalar.cmpi .slt c2_i32_429 c0_i32_433
  let v719 : BitVec 32 := Scalar.extui v718
  let v720 : BitVec 32 := Scalar.subi v717 v719
  let v721 : BitVec 1 := Scalar.cmpi .ne v715 v720
  let v722 : BitVec 32 := Scalar.remsi v18 c2_i32_429
  let c0_i32_434 : BitVec 32 := 0#32
  let v723 : BitVec 1 := Scalar.cmpi .ne v722 c0_i32_434
  let v724 : BitVec 1 := Scalar.andi v721 v723
  let v710 : BitVec 32 := Scalar.divsi v18 c2_i32_429
  let c1_i32_435 : BitVec 32 := 1#32
  let v725 : BitVec 32 := Scalar.subi v710 c1_i32_435
  let v726 : BitVec 32 := Scalar.select v724 v725 v710
  let v728 : BitVec 32 := Scalar.subi v726 c0_i32_437
  let c1_i32_438 : BitVec 32 := 1#32
  let v730 : BitVec 32 := Scalar.divsi v728 c1_i32_438
  let v731 : BitVec 32 := Scalar.muli v730 c1_i32_438
  let v732 : BitVec 32 := Scalar.addi c0_i32_437 v731
  let c1_i32_440 : BitVec 32 := 1#32
  let arg31 : BitVec 32 := Scf.iv v732 c1_i32_440 k0_t9
  let v786 : BitVec 32 := Scalar.muli c2_i32_459 arg31
  let c0_i32_460 : BitVec 32 := 0#32
  let v787 : BitVec 32 := Scalar.addi v786 c0_i32_460
  let c128_i32_461 : BitVec 32 := 128#32
  let v788 : BitVec 32 := Scalar.muli v787 c128_i32_461
  v788
def k0_off12 (i : grid0.Coords) (k0_t9 : Fin (k0_t9_loop i).trips) (c0_i32_460 : BitVec 32) : Fin 2 → Nat :=
  let c2_i32_459 : BitVec 32 := 2#32
  let c0_i32_437 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c128_i32 : BitVec 32 := 128#32
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi v1 c128_i32
  let c0_i32_4 : BitVec 32 := 0#32
  let v15 : BitVec 1 := Scalar.cmpi .ne v14 c0_i32_4
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_430 : BitVec 32 := 0#32
  let v711 : BitVec 1 := Scalar.cmpi .sgt v18 c0_i32_430
  let v712 : BitVec 32 := Scalar.extui v711
  let c0_i32_431 : BitVec 32 := 0#32
  let v713 : BitVec 1 := Scalar.cmpi .slt v18 c0_i32_431
  let v714 : BitVec 32 := Scalar.extui v713
  let v715 : BitVec 32 := Scalar.subi v712 v714
  let c2_i32_429 : BitVec 32 := 2#32
  let c0_i32_432 : BitVec 32 := 0#32
  let v716 : BitVec 1 := Scalar.cmpi .sgt c2_i32_429 c0_i32_432
  let v717 : BitVec 32 := Scalar.extui v716
  let c0_i32_433 : BitVec 32 := 0#32
  let v718 : BitVec 1 := Scalar.cmpi .slt c2_i32_429 c0_i32_433
  let v719 : BitVec 32 := Scalar.extui v718
  let v720 : BitVec 32 := Scalar.subi v717 v719
  let v721 : BitVec 1 := Scalar.cmpi .ne v715 v720
  let v722 : BitVec 32 := Scalar.remsi v18 c2_i32_429
  let c0_i32_434 : BitVec 32 := 0#32
  let v723 : BitVec 1 := Scalar.cmpi .ne v722 c0_i32_434
  let v724 : BitVec 1 := Scalar.andi v721 v723
  let v710 : BitVec 32 := Scalar.divsi v18 c2_i32_429
  let c1_i32_435 : BitVec 32 := 1#32
  let v725 : BitVec 32 := Scalar.subi v710 c1_i32_435
  let v726 : BitVec 32 := Scalar.select v724 v725 v710
  let v728 : BitVec 32 := Scalar.subi v726 c0_i32_437
  let c1_i32_438 : BitVec 32 := 1#32
  let v730 : BitVec 32 := Scalar.divsi v728 c1_i32_438
  let v731 : BitVec 32 := Scalar.muli v730 c1_i32_438
  let v732 : BitVec 32 := Scalar.addi c0_i32_437 v731
  let c1_i32_440 : BitVec 32 := 1#32
  let arg31 : BitVec 32 := Scf.iv v732 c1_i32_440 k0_t9
  let v786 : BitVec 32 := Scalar.muli c2_i32_459 arg31
  let v787 : BitVec 32 := Scalar.addi v786 c0_i32_460
  let c128_i32_461 : BitVec 32 := 128#32
  let v788 : BitVec 32 := Scalar.muli v787 c128_i32_461
  let v789 : BitVec 32 := v788
  let v790 : Index := Scalar.indexCast v789
  let c0_462 : Index := 0#32
  ![v790.toNat, 0]
def k0_mult24 (i : grid0.Coords) (k0_t9 : Fin (k0_t9_loop i).trips) : BitVec 32 :=
  let c2_i32_465 : BitVec 32 := 2#32
  let c0_i32_437 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c128_i32 : BitVec 32 := 128#32
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi v1 c128_i32
  let c0_i32_4 : BitVec 32 := 0#32
  let v15 : BitVec 1 := Scalar.cmpi .ne v14 c0_i32_4
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_430 : BitVec 32 := 0#32
  let v711 : BitVec 1 := Scalar.cmpi .sgt v18 c0_i32_430
  let v712 : BitVec 32 := Scalar.extui v711
  let c0_i32_431 : BitVec 32 := 0#32
  let v713 : BitVec 1 := Scalar.cmpi .slt v18 c0_i32_431
  let v714 : BitVec 32 := Scalar.extui v713
  let v715 : BitVec 32 := Scalar.subi v712 v714
  let c2_i32_429 : BitVec 32 := 2#32
  let c0_i32_432 : BitVec 32 := 0#32
  let v716 : BitVec 1 := Scalar.cmpi .sgt c2_i32_429 c0_i32_432
  let v717 : BitVec 32 := Scalar.extui v716
  let c0_i32_433 : BitVec 32 := 0#32
  let v718 : BitVec 1 := Scalar.cmpi .slt c2_i32_429 c0_i32_433
  let v719 : BitVec 32 := Scalar.extui v718
  let v720 : BitVec 32 := Scalar.subi v717 v719
  let v721 : BitVec 1 := Scalar.cmpi .ne v715 v720
  let v722 : BitVec 32 := Scalar.remsi v18 c2_i32_429
  let c0_i32_434 : BitVec 32 := 0#32
  let v723 : BitVec 1 := Scalar.cmpi .ne v722 c0_i32_434
  let v724 : BitVec 1 := Scalar.andi v721 v723
  let v710 : BitVec 32 := Scalar.divsi v18 c2_i32_429
  let c1_i32_435 : BitVec 32 := 1#32
  let v725 : BitVec 32 := Scalar.subi v710 c1_i32_435
  let v726 : BitVec 32 := Scalar.select v724 v725 v710
  let v728 : BitVec 32 := Scalar.subi v726 c0_i32_437
  let c1_i32_438 : BitVec 32 := 1#32
  let v730 : BitVec 32 := Scalar.divsi v728 c1_i32_438
  let v731 : BitVec 32 := Scalar.muli v730 c1_i32_438
  let v732 : BitVec 32 := Scalar.addi c0_i32_437 v731
  let c1_i32_440 : BitVec 32 := 1#32
  let arg31 : BitVec 32 := Scf.iv v732 c1_i32_440 k0_t9
  let v829 : BitVec 32 := Scalar.muli c2_i32_465 arg31
  let c1_i32_466 : BitVec 32 := 1#32
  let v830 : BitVec 32 := Scalar.addi v829 c1_i32_466
  let c128_i32_467 : BitVec 32 := 128#32
  let v831 : BitVec 32 := Scalar.muli v830 c128_i32_467
  v831
@[reducible] def k0_t10_loop (i : grid0.Coords) : Scf.Loop 32 :=
  let c0_i32_462 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c128_i32 : BitVec 32 := 128#32
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi v1 c128_i32
  let c0_i32_4 : BitVec 32 := 0#32
  let v15 : BitVec 1 := Scalar.cmpi .ne v14 c0_i32_4
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_455 : BitVec 32 := 0#32
  let v768 : BitVec 1 := Scalar.cmpi .sgt v18 c0_i32_455
  let v769 : BitVec 32 := Scalar.extui v768
  let c0_i32_456 : BitVec 32 := 0#32
  let v770 : BitVec 1 := Scalar.cmpi .slt v18 c0_i32_456
  let v771 : BitVec 32 := Scalar.extui v770
  let v772 : BitVec 32 := Scalar.subi v769 v771
  let c2_i32_454 : BitVec 32 := 2#32
  let c0_i32_457 : BitVec 32 := 0#32
  let v773 : BitVec 1 := Scalar.cmpi .sgt c2_i32_454 c0_i32_457
  let v774 : BitVec 32 := Scalar.extui v773
  let c0_i32_458 : BitVec 32 := 0#32
  let v775 : BitVec 1 := Scalar.cmpi .slt c2_i32_454 c0_i32_458
  let v776 : BitVec 32 := Scalar.extui v775
  let v777 : BitVec 32 := Scalar.subi v774 v776
  let v778 : BitVec 1 := Scalar.cmpi .ne v772 v777
  let v779 : BitVec 32 := Scalar.remsi v18 c2_i32_454
  let c0_i32_459 : BitVec 32 := 0#32
  let v780 : BitVec 1 := Scalar.cmpi .ne v779 c0_i32_459
  let v781 : BitVec 1 := Scalar.andi v778 v780
  let v767 : BitVec 32 := Scalar.divsi v18 c2_i32_454
  let c1_i32_460 : BitVec 32 := 1#32
  let v782 : BitVec 32 := Scalar.subi v767 c1_i32_460
  let v783 : BitVec 32 := Scalar.select v781 v782 v767
  let v785 : BitVec 32 := Scalar.subi v783 c0_i32_462
  let c1_i32_463 : BitVec 32 := 1#32
  let v787 : BitVec 32 := Scalar.divsi v785 c1_i32_463
  let v788 : BitVec 32 := Scalar.muli v787 c1_i32_463
  let v789 : BitVec 32 := Scalar.addi c0_i32_462 v788
  let c1_i32_464 : BitVec 32 := 1#32
  ⟨c0_i32_462, v789, c1_i32_464⟩
def k0_mult25 (i : grid0.Coords) (k0_t10 : Fin (k0_t10_loop i).trips) : BitVec 32 :=
  let c2_i32_467 : BitVec 32 := 2#32
  let c0_i32_462 : BitVec 32 := 0#32
  let c1_i32_464 : BitVec 32 := 1#32
  let arg24 : BitVec 32 := Scf.iv c0_i32_462 c1_i32_464 k0_t10
  let v794 : BitVec 32 := Scalar.muli c2_i32_467 arg24
  let c0_i32_468 : BitVec 32 := 0#32
  let v795 : BitVec 32 := Scalar.addi v794 c0_i32_468
  let c128_i32_469 : BitVec 32 := 128#32
  let v796 : BitVec 32 := Scalar.muli v795 c128_i32_469
  v796
def k0_off13 (i : grid0.Coords) (k0_t10 : Fin (k0_t10_loop i).trips) (c0_i32_468 : BitVec 32) : Fin 2 → Nat :=
  let c2_i32_467 : BitVec 32 := 2#32
  let c0_i32_462 : BitVec 32 := 0#32
  let c1_i32_464 : BitVec 32 := 1#32
  let arg24 : BitVec 32 := Scf.iv c0_i32_462 c1_i32_464 k0_t10
  let v794 : BitVec 32 := Scalar.muli c2_i32_467 arg24
  let v795 : BitVec 32 := Scalar.addi v794 c0_i32_468
  let c128_i32_469 : BitVec 32 := 128#32
  let v796 : BitVec 32 := Scalar.muli v795 c128_i32_469
  let v797 : BitVec 32 := v796
  let v798 : Index := Scalar.indexCast v797
  let c0_470 : Index := 0#32
  ![v798.toNat, 0]
def k0_mult26 (i : grid0.Coords) (k0_t10 : Fin (k0_t10_loop i).trips) : BitVec 32 :=
  let c2_i32_473 : BitVec 32 := 2#32
  let c0_i32_462 : BitVec 32 := 0#32
  let c1_i32_464 : BitVec 32 := 1#32
  let arg24 : BitVec 32 := Scf.iv c0_i32_462 c1_i32_464 k0_t10
  let v837 : BitVec 32 := Scalar.muli c2_i32_473 arg24
  let c1_i32_474 : BitVec 32 := 1#32
  let v838 : BitVec 32 := Scalar.addi v837 c1_i32_474
  let c128_i32_475 : BitVec 32 := 128#32
  let v839 : BitVec 32 := Scalar.muli v838 c128_i32_475
  v839
@[reducible] def k0_t11_loop (i : grid0.Coords) : Scf.Loop 32 :=
  let c0_i32_462 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c128_i32 : BitVec 32 := 128#32
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi v1 c128_i32
  let c0_i32_4 : BitVec 32 := 0#32
  let v15 : BitVec 1 := Scalar.cmpi .ne v14 c0_i32_4
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_455 : BitVec 32 := 0#32
  let v768 : BitVec 1 := Scalar.cmpi .sgt v18 c0_i32_455
  let v769 : BitVec 32 := Scalar.extui v768
  let c0_i32_456 : BitVec 32 := 0#32
  let v770 : BitVec 1 := Scalar.cmpi .slt v18 c0_i32_456
  let v771 : BitVec 32 := Scalar.extui v770
  let v772 : BitVec 32 := Scalar.subi v769 v771
  let c2_i32_454 : BitVec 32 := 2#32
  let c0_i32_457 : BitVec 32 := 0#32
  let v773 : BitVec 1 := Scalar.cmpi .sgt c2_i32_454 c0_i32_457
  let v774 : BitVec 32 := Scalar.extui v773
  let c0_i32_458 : BitVec 32 := 0#32
  let v775 : BitVec 1 := Scalar.cmpi .slt c2_i32_454 c0_i32_458
  let v776 : BitVec 32 := Scalar.extui v775
  let v777 : BitVec 32 := Scalar.subi v774 v776
  let v778 : BitVec 1 := Scalar.cmpi .ne v772 v777
  let v779 : BitVec 32 := Scalar.remsi v18 c2_i32_454
  let c0_i32_459 : BitVec 32 := 0#32
  let v780 : BitVec 1 := Scalar.cmpi .ne v779 c0_i32_459
  let v781 : BitVec 1 := Scalar.andi v778 v780
  let v767 : BitVec 32 := Scalar.divsi v18 c2_i32_454
  let c1_i32_460 : BitVec 32 := 1#32
  let v782 : BitVec 32 := Scalar.subi v767 c1_i32_460
  let v783 : BitVec 32 := Scalar.select v781 v782 v767
  let v785 : BitVec 32 := Scalar.subi v783 c0_i32_462
  let c1_i32_463 : BitVec 32 := 1#32
  let v787 : BitVec 32 := Scalar.divsi v785 c1_i32_463
  let v788 : BitVec 32 := Scalar.muli v787 c1_i32_463
  let v789 : BitVec 32 := Scalar.addi c0_i32_462 v788
  let v786 : BitVec 32 := Scalar.addi c0_i32_462 v785
  let c1_i32_465 : BitVec 32 := 1#32
  ⟨v789, v786, c1_i32_465⟩
def k0_mult27 (i : grid0.Coords) (k0_t11 : Fin (k0_t11_loop i).trips) : BitVec 32 :=
  let c2_i32_467 : BitVec 32 := 2#32
  let c0_i32_462 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c128_i32 : BitVec 32 := 128#32
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi v1 c128_i32
  let c0_i32_4 : BitVec 32 := 0#32
  let v15 : BitVec 1 := Scalar.cmpi .ne v14 c0_i32_4
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_455 : BitVec 32 := 0#32
  let v768 : BitVec 1 := Scalar.cmpi .sgt v18 c0_i32_455
  let v769 : BitVec 32 := Scalar.extui v768
  let c0_i32_456 : BitVec 32 := 0#32
  let v770 : BitVec 1 := Scalar.cmpi .slt v18 c0_i32_456
  let v771 : BitVec 32 := Scalar.extui v770
  let v772 : BitVec 32 := Scalar.subi v769 v771
  let c2_i32_454 : BitVec 32 := 2#32
  let c0_i32_457 : BitVec 32 := 0#32
  let v773 : BitVec 1 := Scalar.cmpi .sgt c2_i32_454 c0_i32_457
  let v774 : BitVec 32 := Scalar.extui v773
  let c0_i32_458 : BitVec 32 := 0#32
  let v775 : BitVec 1 := Scalar.cmpi .slt c2_i32_454 c0_i32_458
  let v776 : BitVec 32 := Scalar.extui v775
  let v777 : BitVec 32 := Scalar.subi v774 v776
  let v778 : BitVec 1 := Scalar.cmpi .ne v772 v777
  let v779 : BitVec 32 := Scalar.remsi v18 c2_i32_454
  let c0_i32_459 : BitVec 32 := 0#32
  let v780 : BitVec 1 := Scalar.cmpi .ne v779 c0_i32_459
  let v781 : BitVec 1 := Scalar.andi v778 v780
  let v767 : BitVec 32 := Scalar.divsi v18 c2_i32_454
  let c1_i32_460 : BitVec 32 := 1#32
  let v782 : BitVec 32 := Scalar.subi v767 c1_i32_460
  let v783 : BitVec 32 := Scalar.select v781 v782 v767
  let v785 : BitVec 32 := Scalar.subi v783 c0_i32_462
  let c1_i32_463 : BitVec 32 := 1#32
  let v787 : BitVec 32 := Scalar.divsi v785 c1_i32_463
  let v788 : BitVec 32 := Scalar.muli v787 c1_i32_463
  let v789 : BitVec 32 := Scalar.addi c0_i32_462 v788
  let c1_i32_465 : BitVec 32 := 1#32
  let arg24 : BitVec 32 := Scf.iv v789 c1_i32_465 k0_t11
  let v794 : BitVec 32 := Scalar.muli c2_i32_467 arg24
  let c0_i32_468 : BitVec 32 := 0#32
  let v795 : BitVec 32 := Scalar.addi v794 c0_i32_468
  let c128_i32_469 : BitVec 32 := 128#32
  let v796 : BitVec 32 := Scalar.muli v795 c128_i32_469
  v796
def k0_off14 (i : grid0.Coords) (k0_t11 : Fin (k0_t11_loop i).trips) (c0_i32_468 : BitVec 32) : Fin 2 → Nat :=
  let c2_i32_467 : BitVec 32 := 2#32
  let c0_i32_462 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c128_i32 : BitVec 32 := 128#32
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi v1 c128_i32
  let c0_i32_4 : BitVec 32 := 0#32
  let v15 : BitVec 1 := Scalar.cmpi .ne v14 c0_i32_4
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_455 : BitVec 32 := 0#32
  let v768 : BitVec 1 := Scalar.cmpi .sgt v18 c0_i32_455
  let v769 : BitVec 32 := Scalar.extui v768
  let c0_i32_456 : BitVec 32 := 0#32
  let v770 : BitVec 1 := Scalar.cmpi .slt v18 c0_i32_456
  let v771 : BitVec 32 := Scalar.extui v770
  let v772 : BitVec 32 := Scalar.subi v769 v771
  let c2_i32_454 : BitVec 32 := 2#32
  let c0_i32_457 : BitVec 32 := 0#32
  let v773 : BitVec 1 := Scalar.cmpi .sgt c2_i32_454 c0_i32_457
  let v774 : BitVec 32 := Scalar.extui v773
  let c0_i32_458 : BitVec 32 := 0#32
  let v775 : BitVec 1 := Scalar.cmpi .slt c2_i32_454 c0_i32_458
  let v776 : BitVec 32 := Scalar.extui v775
  let v777 : BitVec 32 := Scalar.subi v774 v776
  let v778 : BitVec 1 := Scalar.cmpi .ne v772 v777
  let v779 : BitVec 32 := Scalar.remsi v18 c2_i32_454
  let c0_i32_459 : BitVec 32 := 0#32
  let v780 : BitVec 1 := Scalar.cmpi .ne v779 c0_i32_459
  let v781 : BitVec 1 := Scalar.andi v778 v780
  let v767 : BitVec 32 := Scalar.divsi v18 c2_i32_454
  let c1_i32_460 : BitVec 32 := 1#32
  let v782 : BitVec 32 := Scalar.subi v767 c1_i32_460
  let v783 : BitVec 32 := Scalar.select v781 v782 v767
  let v785 : BitVec 32 := Scalar.subi v783 c0_i32_462
  let c1_i32_463 : BitVec 32 := 1#32
  let v787 : BitVec 32 := Scalar.divsi v785 c1_i32_463
  let v788 : BitVec 32 := Scalar.muli v787 c1_i32_463
  let v789 : BitVec 32 := Scalar.addi c0_i32_462 v788
  let c1_i32_465 : BitVec 32 := 1#32
  let arg24 : BitVec 32 := Scf.iv v789 c1_i32_465 k0_t11
  let v794 : BitVec 32 := Scalar.muli c2_i32_467 arg24
  let v795 : BitVec 32 := Scalar.addi v794 c0_i32_468
  let c128_i32_469 : BitVec 32 := 128#32
  let v796 : BitVec 32 := Scalar.muli v795 c128_i32_469
  let v797 : BitVec 32 := v796
  let v798 : Index := Scalar.indexCast v797
  let c0_470 : Index := 0#32
  ![v798.toNat, 0]
def k0_mult28 (i : grid0.Coords) (k0_t11 : Fin (k0_t11_loop i).trips) : BitVec 32 :=
  let c2_i32_473 : BitVec 32 := 2#32
  let c0_i32_462 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c128_i32 : BitVec 32 := 128#32
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi v1 c128_i32
  let c0_i32_4 : BitVec 32 := 0#32
  let v15 : BitVec 1 := Scalar.cmpi .ne v14 c0_i32_4
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_455 : BitVec 32 := 0#32
  let v768 : BitVec 1 := Scalar.cmpi .sgt v18 c0_i32_455
  let v769 : BitVec 32 := Scalar.extui v768
  let c0_i32_456 : BitVec 32 := 0#32
  let v770 : BitVec 1 := Scalar.cmpi .slt v18 c0_i32_456
  let v771 : BitVec 32 := Scalar.extui v770
  let v772 : BitVec 32 := Scalar.subi v769 v771
  let c2_i32_454 : BitVec 32 := 2#32
  let c0_i32_457 : BitVec 32 := 0#32
  let v773 : BitVec 1 := Scalar.cmpi .sgt c2_i32_454 c0_i32_457
  let v774 : BitVec 32 := Scalar.extui v773
  let c0_i32_458 : BitVec 32 := 0#32
  let v775 : BitVec 1 := Scalar.cmpi .slt c2_i32_454 c0_i32_458
  let v776 : BitVec 32 := Scalar.extui v775
  let v777 : BitVec 32 := Scalar.subi v774 v776
  let v778 : BitVec 1 := Scalar.cmpi .ne v772 v777
  let v779 : BitVec 32 := Scalar.remsi v18 c2_i32_454
  let c0_i32_459 : BitVec 32 := 0#32
  let v780 : BitVec 1 := Scalar.cmpi .ne v779 c0_i32_459
  let v781 : BitVec 1 := Scalar.andi v778 v780
  let v767 : BitVec 32 := Scalar.divsi v18 c2_i32_454
  let c1_i32_460 : BitVec 32 := 1#32
  let v782 : BitVec 32 := Scalar.subi v767 c1_i32_460
  let v783 : BitVec 32 := Scalar.select v781 v782 v767
  let v785 : BitVec 32 := Scalar.subi v783 c0_i32_462
  let c1_i32_463 : BitVec 32 := 1#32
  let v787 : BitVec 32 := Scalar.divsi v785 c1_i32_463
  let v788 : BitVec 32 := Scalar.muli v787 c1_i32_463
  let v789 : BitVec 32 := Scalar.addi c0_i32_462 v788
  let c1_i32_465 : BitVec 32 := 1#32
  let arg24 : BitVec 32 := Scf.iv v789 c1_i32_465 k0_t11
  let v837 : BitVec 32 := Scalar.muli c2_i32_473 arg24
  let c1_i32_474 : BitVec 32 := 1#32
  let v838 : BitVec 32 := Scalar.addi v837 c1_i32_474
  let c128_i32_475 : BitVec 32 := 128#32
  let v839 : BitVec 32 := Scalar.muli v838 c128_i32_475
  v839
@[reducible] def k0_t12_loop (i : grid0.Coords) : Scf.Loop 32 :=
  let c0_i32_450 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c128_i32 : BitVec 32 := 128#32
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi v1 c128_i32
  let c0_i32_4 : BitVec 32 := 0#32
  let v15 : BitVec 1 := Scalar.cmpi .ne v14 c0_i32_4
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_443 : BitVec 32 := 0#32
  let v743 : BitVec 1 := Scalar.cmpi .sgt v18 c0_i32_443
  let v744 : BitVec 32 := Scalar.extui v743
  let c0_i32_444 : BitVec 32 := 0#32
  let v745 : BitVec 1 := Scalar.cmpi .slt v18 c0_i32_444
  let v746 : BitVec 32 := Scalar.extui v745
  let v747 : BitVec 32 := Scalar.subi v744 v746
  let c4_i32_442 : BitVec 32 := 4#32
  let c0_i32_445 : BitVec 32 := 0#32
  let v748 : BitVec 1 := Scalar.cmpi .sgt c4_i32_442 c0_i32_445
  let v749 : BitVec 32 := Scalar.extui v748
  let c0_i32_446 : BitVec 32 := 0#32
  let v750 : BitVec 1 := Scalar.cmpi .slt c4_i32_442 c0_i32_446
  let v751 : BitVec 32 := Scalar.extui v750
  let v752 : BitVec 32 := Scalar.subi v749 v751
  let v753 : BitVec 1 := Scalar.cmpi .ne v747 v752
  let v754 : BitVec 32 := Scalar.remsi v18 c4_i32_442
  let c0_i32_447 : BitVec 32 := 0#32
  let v755 : BitVec 1 := Scalar.cmpi .ne v754 c0_i32_447
  let v756 : BitVec 1 := Scalar.andi v753 v755
  let v742 : BitVec 32 := Scalar.divsi v18 c4_i32_442
  let c1_i32_448 : BitVec 32 := 1#32
  let v757 : BitVec 32 := Scalar.subi v742 c1_i32_448
  let v758 : BitVec 32 := Scalar.select v756 v757 v742
  let v760 : BitVec 32 := Scalar.subi v758 c0_i32_450
  let c1_i32_451 : BitVec 32 := 1#32
  let v762 : BitVec 32 := Scalar.divsi v760 c1_i32_451
  let v763 : BitVec 32 := Scalar.muli v762 c1_i32_451
  let v764 : BitVec 32 := Scalar.addi c0_i32_450 v763
  let c1_i32_452 : BitVec 32 := 1#32
  ⟨c0_i32_450, v764, c1_i32_452⟩
def k0_mult29 (i : grid0.Coords) (k0_t12 : Fin (k0_t12_loop i).trips) : BitVec 32 :=
  let c4_i32_454 : BitVec 32 := 4#32
  let c0_i32_450 : BitVec 32 := 0#32
  let c1_i32_452 : BitVec 32 := 1#32
  let arg24 : BitVec 32 := Scf.iv c0_i32_450 c1_i32_452 k0_t12
  let v767 : BitVec 32 := Scalar.muli c4_i32_454 arg24
  let c0_i32_455 : BitVec 32 := 0#32
  let v768 : BitVec 32 := Scalar.addi v767 c0_i32_455
  let c128_i32_456 : BitVec 32 := 128#32
  let v769 : BitVec 32 := Scalar.muli v768 c128_i32_456
  v769
def k0_off15 (i : grid0.Coords) (k0_t12 : Fin (k0_t12_loop i).trips) (c0_i32_455 : BitVec 32) : Fin 2 → Nat :=
  let c4_i32_454 : BitVec 32 := 4#32
  let c0_i32_450 : BitVec 32 := 0#32
  let c1_i32_452 : BitVec 32 := 1#32
  let arg24 : BitVec 32 := Scf.iv c0_i32_450 c1_i32_452 k0_t12
  let v767 : BitVec 32 := Scalar.muli c4_i32_454 arg24
  let v768 : BitVec 32 := Scalar.addi v767 c0_i32_455
  let c128_i32_456 : BitVec 32 := 128#32
  let v769 : BitVec 32 := Scalar.muli v768 c128_i32_456
  let v770 : BitVec 32 := v769
  let v771 : Index := Scalar.indexCast v770
  let c0_457 : Index := 0#32
  ![v771.toNat, 0]
def k0_mult30 (i : grid0.Coords) (k0_t12 : Fin (k0_t12_loop i).trips) : BitVec 32 :=
  let c4_i32_462 : BitVec 32 := 4#32
  let c0_i32_450 : BitVec 32 := 0#32
  let c1_i32_452 : BitVec 32 := 1#32
  let arg24 : BitVec 32 := Scf.iv c0_i32_450 c1_i32_452 k0_t12
  let v782 : BitVec 32 := Scalar.muli c4_i32_462 arg24
  let c1_i32_463 : BitVec 32 := 1#32
  let v783 : BitVec 32 := Scalar.addi v782 c1_i32_463
  let c128_i32_464 : BitVec 32 := 128#32
  let v784 : BitVec 32 := Scalar.muli v783 c128_i32_464
  v784
def k0_mult31 (i : grid0.Coords) (k0_t12 : Fin (k0_t12_loop i).trips) : BitVec 32 :=
  let c4_i32_470 : BitVec 32 := 4#32
  let c0_i32_450 : BitVec 32 := 0#32
  let c1_i32_452 : BitVec 32 := 1#32
  let arg24 : BitVec 32 := Scf.iv c0_i32_450 c1_i32_452 k0_t12
  let v797 : BitVec 32 := Scalar.muli c4_i32_470 arg24
  let c2_i32_471 : BitVec 32 := 2#32
  let v798 : BitVec 32 := Scalar.addi v797 c2_i32_471
  let c128_i32_472 : BitVec 32 := 128#32
  let v799 : BitVec 32 := Scalar.muli v798 c128_i32_472
  v799
def k0_mult32 (i : grid0.Coords) (k0_t12 : Fin (k0_t12_loop i).trips) : BitVec 32 :=
  let c4_i32_478 : BitVec 32 := 4#32
  let c0_i32_450 : BitVec 32 := 0#32
  let c1_i32_452 : BitVec 32 := 1#32
  let arg24 : BitVec 32 := Scf.iv c0_i32_450 c1_i32_452 k0_t12
  let v812 : BitVec 32 := Scalar.muli c4_i32_478 arg24
  let c3_i32_479 : BitVec 32 := 3#32
  let v813 : BitVec 32 := Scalar.addi v812 c3_i32_479
  let c128_i32_480 : BitVec 32 := 128#32
  let v814 : BitVec 32 := Scalar.muli v813 c128_i32_480
  v814
@[reducible] def k0_t13_loop (i : grid0.Coords) : Scf.Loop 32 :=
  let c0_i32_450 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c128_i32 : BitVec 32 := 128#32
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi v1 c128_i32
  let c0_i32_4 : BitVec 32 := 0#32
  let v15 : BitVec 1 := Scalar.cmpi .ne v14 c0_i32_4
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_443 : BitVec 32 := 0#32
  let v743 : BitVec 1 := Scalar.cmpi .sgt v18 c0_i32_443
  let v744 : BitVec 32 := Scalar.extui v743
  let c0_i32_444 : BitVec 32 := 0#32
  let v745 : BitVec 1 := Scalar.cmpi .slt v18 c0_i32_444
  let v746 : BitVec 32 := Scalar.extui v745
  let v747 : BitVec 32 := Scalar.subi v744 v746
  let c4_i32_442 : BitVec 32 := 4#32
  let c0_i32_445 : BitVec 32 := 0#32
  let v748 : BitVec 1 := Scalar.cmpi .sgt c4_i32_442 c0_i32_445
  let v749 : BitVec 32 := Scalar.extui v748
  let c0_i32_446 : BitVec 32 := 0#32
  let v750 : BitVec 1 := Scalar.cmpi .slt c4_i32_442 c0_i32_446
  let v751 : BitVec 32 := Scalar.extui v750
  let v752 : BitVec 32 := Scalar.subi v749 v751
  let v753 : BitVec 1 := Scalar.cmpi .ne v747 v752
  let v754 : BitVec 32 := Scalar.remsi v18 c4_i32_442
  let c0_i32_447 : BitVec 32 := 0#32
  let v755 : BitVec 1 := Scalar.cmpi .ne v754 c0_i32_447
  let v756 : BitVec 1 := Scalar.andi v753 v755
  let v742 : BitVec 32 := Scalar.divsi v18 c4_i32_442
  let c1_i32_448 : BitVec 32 := 1#32
  let v757 : BitVec 32 := Scalar.subi v742 c1_i32_448
  let v758 : BitVec 32 := Scalar.select v756 v757 v742
  let v760 : BitVec 32 := Scalar.subi v758 c0_i32_450
  let c1_i32_451 : BitVec 32 := 1#32
  let v762 : BitVec 32 := Scalar.divsi v760 c1_i32_451
  let v763 : BitVec 32 := Scalar.muli v762 c1_i32_451
  let v764 : BitVec 32 := Scalar.addi c0_i32_450 v763
  let v761 : BitVec 32 := Scalar.addi c0_i32_450 v760
  let c1_i32_453 : BitVec 32 := 1#32
  ⟨v764, v761, c1_i32_453⟩
def k0_mult33 (i : grid0.Coords) (k0_t13 : Fin (k0_t13_loop i).trips) : BitVec 32 :=
  let c4_i32_454 : BitVec 32 := 4#32
  let c0_i32_450 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c128_i32 : BitVec 32 := 128#32
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi v1 c128_i32
  let c0_i32_4 : BitVec 32 := 0#32
  let v15 : BitVec 1 := Scalar.cmpi .ne v14 c0_i32_4
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_443 : BitVec 32 := 0#32
  let v743 : BitVec 1 := Scalar.cmpi .sgt v18 c0_i32_443
  let v744 : BitVec 32 := Scalar.extui v743
  let c0_i32_444 : BitVec 32 := 0#32
  let v745 : BitVec 1 := Scalar.cmpi .slt v18 c0_i32_444
  let v746 : BitVec 32 := Scalar.extui v745
  let v747 : BitVec 32 := Scalar.subi v744 v746
  let c4_i32_442 : BitVec 32 := 4#32
  let c0_i32_445 : BitVec 32 := 0#32
  let v748 : BitVec 1 := Scalar.cmpi .sgt c4_i32_442 c0_i32_445
  let v749 : BitVec 32 := Scalar.extui v748
  let c0_i32_446 : BitVec 32 := 0#32
  let v750 : BitVec 1 := Scalar.cmpi .slt c4_i32_442 c0_i32_446
  let v751 : BitVec 32 := Scalar.extui v750
  let v752 : BitVec 32 := Scalar.subi v749 v751
  let v753 : BitVec 1 := Scalar.cmpi .ne v747 v752
  let v754 : BitVec 32 := Scalar.remsi v18 c4_i32_442
  let c0_i32_447 : BitVec 32 := 0#32
  let v755 : BitVec 1 := Scalar.cmpi .ne v754 c0_i32_447
  let v756 : BitVec 1 := Scalar.andi v753 v755
  let v742 : BitVec 32 := Scalar.divsi v18 c4_i32_442
  let c1_i32_448 : BitVec 32 := 1#32
  let v757 : BitVec 32 := Scalar.subi v742 c1_i32_448
  let v758 : BitVec 32 := Scalar.select v756 v757 v742
  let v760 : BitVec 32 := Scalar.subi v758 c0_i32_450
  let c1_i32_451 : BitVec 32 := 1#32
  let v762 : BitVec 32 := Scalar.divsi v760 c1_i32_451
  let v763 : BitVec 32 := Scalar.muli v762 c1_i32_451
  let v764 : BitVec 32 := Scalar.addi c0_i32_450 v763
  let c1_i32_453 : BitVec 32 := 1#32
  let arg24 : BitVec 32 := Scf.iv v764 c1_i32_453 k0_t13
  let v767 : BitVec 32 := Scalar.muli c4_i32_454 arg24
  let c0_i32_455 : BitVec 32 := 0#32
  let v768 : BitVec 32 := Scalar.addi v767 c0_i32_455
  let c128_i32_456 : BitVec 32 := 128#32
  let v769 : BitVec 32 := Scalar.muli v768 c128_i32_456
  v769
def k0_off16 (i : grid0.Coords) (k0_t13 : Fin (k0_t13_loop i).trips) (c0_i32_455 : BitVec 32) : Fin 2 → Nat :=
  let c4_i32_454 : BitVec 32 := 4#32
  let c0_i32_450 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c128_i32 : BitVec 32 := 128#32
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi v1 c128_i32
  let c0_i32_4 : BitVec 32 := 0#32
  let v15 : BitVec 1 := Scalar.cmpi .ne v14 c0_i32_4
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_443 : BitVec 32 := 0#32
  let v743 : BitVec 1 := Scalar.cmpi .sgt v18 c0_i32_443
  let v744 : BitVec 32 := Scalar.extui v743
  let c0_i32_444 : BitVec 32 := 0#32
  let v745 : BitVec 1 := Scalar.cmpi .slt v18 c0_i32_444
  let v746 : BitVec 32 := Scalar.extui v745
  let v747 : BitVec 32 := Scalar.subi v744 v746
  let c4_i32_442 : BitVec 32 := 4#32
  let c0_i32_445 : BitVec 32 := 0#32
  let v748 : BitVec 1 := Scalar.cmpi .sgt c4_i32_442 c0_i32_445
  let v749 : BitVec 32 := Scalar.extui v748
  let c0_i32_446 : BitVec 32 := 0#32
  let v750 : BitVec 1 := Scalar.cmpi .slt c4_i32_442 c0_i32_446
  let v751 : BitVec 32 := Scalar.extui v750
  let v752 : BitVec 32 := Scalar.subi v749 v751
  let v753 : BitVec 1 := Scalar.cmpi .ne v747 v752
  let v754 : BitVec 32 := Scalar.remsi v18 c4_i32_442
  let c0_i32_447 : BitVec 32 := 0#32
  let v755 : BitVec 1 := Scalar.cmpi .ne v754 c0_i32_447
  let v756 : BitVec 1 := Scalar.andi v753 v755
  let v742 : BitVec 32 := Scalar.divsi v18 c4_i32_442
  let c1_i32_448 : BitVec 32 := 1#32
  let v757 : BitVec 32 := Scalar.subi v742 c1_i32_448
  let v758 : BitVec 32 := Scalar.select v756 v757 v742
  let v760 : BitVec 32 := Scalar.subi v758 c0_i32_450
  let c1_i32_451 : BitVec 32 := 1#32
  let v762 : BitVec 32 := Scalar.divsi v760 c1_i32_451
  let v763 : BitVec 32 := Scalar.muli v762 c1_i32_451
  let v764 : BitVec 32 := Scalar.addi c0_i32_450 v763
  let c1_i32_453 : BitVec 32 := 1#32
  let arg24 : BitVec 32 := Scf.iv v764 c1_i32_453 k0_t13
  let v767 : BitVec 32 := Scalar.muli c4_i32_454 arg24
  let v768 : BitVec 32 := Scalar.addi v767 c0_i32_455
  let c128_i32_456 : BitVec 32 := 128#32
  let v769 : BitVec 32 := Scalar.muli v768 c128_i32_456
  let v770 : BitVec 32 := v769
  let v771 : Index := Scalar.indexCast v770
  let c0_457 : Index := 0#32
  ![v771.toNat, 0]
def k0_mult34 (i : grid0.Coords) (k0_t13 : Fin (k0_t13_loop i).trips) : BitVec 32 :=
  let c4_i32_462 : BitVec 32 := 4#32
  let c0_i32_450 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c128_i32 : BitVec 32 := 128#32
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi v1 c128_i32
  let c0_i32_4 : BitVec 32 := 0#32
  let v15 : BitVec 1 := Scalar.cmpi .ne v14 c0_i32_4
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_443 : BitVec 32 := 0#32
  let v743 : BitVec 1 := Scalar.cmpi .sgt v18 c0_i32_443
  let v744 : BitVec 32 := Scalar.extui v743
  let c0_i32_444 : BitVec 32 := 0#32
  let v745 : BitVec 1 := Scalar.cmpi .slt v18 c0_i32_444
  let v746 : BitVec 32 := Scalar.extui v745
  let v747 : BitVec 32 := Scalar.subi v744 v746
  let c4_i32_442 : BitVec 32 := 4#32
  let c0_i32_445 : BitVec 32 := 0#32
  let v748 : BitVec 1 := Scalar.cmpi .sgt c4_i32_442 c0_i32_445
  let v749 : BitVec 32 := Scalar.extui v748
  let c0_i32_446 : BitVec 32 := 0#32
  let v750 : BitVec 1 := Scalar.cmpi .slt c4_i32_442 c0_i32_446
  let v751 : BitVec 32 := Scalar.extui v750
  let v752 : BitVec 32 := Scalar.subi v749 v751
  let v753 : BitVec 1 := Scalar.cmpi .ne v747 v752
  let v754 : BitVec 32 := Scalar.remsi v18 c4_i32_442
  let c0_i32_447 : BitVec 32 := 0#32
  let v755 : BitVec 1 := Scalar.cmpi .ne v754 c0_i32_447
  let v756 : BitVec 1 := Scalar.andi v753 v755
  let v742 : BitVec 32 := Scalar.divsi v18 c4_i32_442
  let c1_i32_448 : BitVec 32 := 1#32
  let v757 : BitVec 32 := Scalar.subi v742 c1_i32_448
  let v758 : BitVec 32 := Scalar.select v756 v757 v742
  let v760 : BitVec 32 := Scalar.subi v758 c0_i32_450
  let c1_i32_451 : BitVec 32 := 1#32
  let v762 : BitVec 32 := Scalar.divsi v760 c1_i32_451
  let v763 : BitVec 32 := Scalar.muli v762 c1_i32_451
  let v764 : BitVec 32 := Scalar.addi c0_i32_450 v763
  let c1_i32_453 : BitVec 32 := 1#32
  let arg24 : BitVec 32 := Scf.iv v764 c1_i32_453 k0_t13
  let v782 : BitVec 32 := Scalar.muli c4_i32_462 arg24
  let c1_i32_463 : BitVec 32 := 1#32
  let v783 : BitVec 32 := Scalar.addi v782 c1_i32_463
  let c128_i32_464 : BitVec 32 := 128#32
  let v784 : BitVec 32 := Scalar.muli v783 c128_i32_464
  v784
def k0_mult35 (i : grid0.Coords) (k0_t13 : Fin (k0_t13_loop i).trips) : BitVec 32 :=
  let c4_i32_470 : BitVec 32 := 4#32
  let c0_i32_450 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c128_i32 : BitVec 32 := 128#32
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi v1 c128_i32
  let c0_i32_4 : BitVec 32 := 0#32
  let v15 : BitVec 1 := Scalar.cmpi .ne v14 c0_i32_4
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_443 : BitVec 32 := 0#32
  let v743 : BitVec 1 := Scalar.cmpi .sgt v18 c0_i32_443
  let v744 : BitVec 32 := Scalar.extui v743
  let c0_i32_444 : BitVec 32 := 0#32
  let v745 : BitVec 1 := Scalar.cmpi .slt v18 c0_i32_444
  let v746 : BitVec 32 := Scalar.extui v745
  let v747 : BitVec 32 := Scalar.subi v744 v746
  let c4_i32_442 : BitVec 32 := 4#32
  let c0_i32_445 : BitVec 32 := 0#32
  let v748 : BitVec 1 := Scalar.cmpi .sgt c4_i32_442 c0_i32_445
  let v749 : BitVec 32 := Scalar.extui v748
  let c0_i32_446 : BitVec 32 := 0#32
  let v750 : BitVec 1 := Scalar.cmpi .slt c4_i32_442 c0_i32_446
  let v751 : BitVec 32 := Scalar.extui v750
  let v752 : BitVec 32 := Scalar.subi v749 v751
  let v753 : BitVec 1 := Scalar.cmpi .ne v747 v752
  let v754 : BitVec 32 := Scalar.remsi v18 c4_i32_442
  let c0_i32_447 : BitVec 32 := 0#32
  let v755 : BitVec 1 := Scalar.cmpi .ne v754 c0_i32_447
  let v756 : BitVec 1 := Scalar.andi v753 v755
  let v742 : BitVec 32 := Scalar.divsi v18 c4_i32_442
  let c1_i32_448 : BitVec 32 := 1#32
  let v757 : BitVec 32 := Scalar.subi v742 c1_i32_448
  let v758 : BitVec 32 := Scalar.select v756 v757 v742
  let v760 : BitVec 32 := Scalar.subi v758 c0_i32_450
  let c1_i32_451 : BitVec 32 := 1#32
  let v762 : BitVec 32 := Scalar.divsi v760 c1_i32_451
  let v763 : BitVec 32 := Scalar.muli v762 c1_i32_451
  let v764 : BitVec 32 := Scalar.addi c0_i32_450 v763
  let c1_i32_453 : BitVec 32 := 1#32
  let arg24 : BitVec 32 := Scf.iv v764 c1_i32_453 k0_t13
  let v797 : BitVec 32 := Scalar.muli c4_i32_470 arg24
  let c2_i32_471 : BitVec 32 := 2#32
  let v798 : BitVec 32 := Scalar.addi v797 c2_i32_471
  let c128_i32_472 : BitVec 32 := 128#32
  let v799 : BitVec 32 := Scalar.muli v798 c128_i32_472
  v799
def k0_mult36 (i : grid0.Coords) (k0_t13 : Fin (k0_t13_loop i).trips) : BitVec 32 :=
  let c4_i32_478 : BitVec 32 := 4#32
  let c0_i32_450 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c128_i32 : BitVec 32 := 128#32
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi v1 c128_i32
  let c0_i32_4 : BitVec 32 := 0#32
  let v15 : BitVec 1 := Scalar.cmpi .ne v14 c0_i32_4
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_443 : BitVec 32 := 0#32
  let v743 : BitVec 1 := Scalar.cmpi .sgt v18 c0_i32_443
  let v744 : BitVec 32 := Scalar.extui v743
  let c0_i32_444 : BitVec 32 := 0#32
  let v745 : BitVec 1 := Scalar.cmpi .slt v18 c0_i32_444
  let v746 : BitVec 32 := Scalar.extui v745
  let v747 : BitVec 32 := Scalar.subi v744 v746
  let c4_i32_442 : BitVec 32 := 4#32
  let c0_i32_445 : BitVec 32 := 0#32
  let v748 : BitVec 1 := Scalar.cmpi .sgt c4_i32_442 c0_i32_445
  let v749 : BitVec 32 := Scalar.extui v748
  let c0_i32_446 : BitVec 32 := 0#32
  let v750 : BitVec 1 := Scalar.cmpi .slt c4_i32_442 c0_i32_446
  let v751 : BitVec 32 := Scalar.extui v750
  let v752 : BitVec 32 := Scalar.subi v749 v751
  let v753 : BitVec 1 := Scalar.cmpi .ne v747 v752
  let v754 : BitVec 32 := Scalar.remsi v18 c4_i32_442
  let c0_i32_447 : BitVec 32 := 0#32
  let v755 : BitVec 1 := Scalar.cmpi .ne v754 c0_i32_447
  let v756 : BitVec 1 := Scalar.andi v753 v755
  let v742 : BitVec 32 := Scalar.divsi v18 c4_i32_442
  let c1_i32_448 : BitVec 32 := 1#32
  let v757 : BitVec 32 := Scalar.subi v742 c1_i32_448
  let v758 : BitVec 32 := Scalar.select v756 v757 v742
  let v760 : BitVec 32 := Scalar.subi v758 c0_i32_450
  let c1_i32_451 : BitVec 32 := 1#32
  let v762 : BitVec 32 := Scalar.divsi v760 c1_i32_451
  let v763 : BitVec 32 := Scalar.muli v762 c1_i32_451
  let v764 : BitVec 32 := Scalar.addi c0_i32_450 v763
  let c1_i32_453 : BitVec 32 := 1#32
  let arg24 : BitVec 32 := Scf.iv v764 c1_i32_453 k0_t13
  let v812 : BitVec 32 := Scalar.muli c4_i32_478 arg24
  let c3_i32_479 : BitVec 32 := 3#32
  let v813 : BitVec 32 := Scalar.addi v812 c3_i32_479
  let c128_i32_480 : BitVec 32 := 128#32
  let v814 : BitVec 32 := Scalar.muli v813 c128_i32_480
  v814
def k0_mult37 : BitVec 32 :=
  let c0_i32_281 : BitVec 32 := 0#32
  c0_i32_281
def k0_mult38 : BitVec 32 :=
  let c0_i32_291 : BitVec 32 := 0#32
  c0_i32_291
def k0_mult39 : BitVec 32 :=
  let c0_i32_301 : BitVec 32 := 0#32
  c0_i32_301
def k0_mult40 : BitVec 32 :=
  let c0_i32_311 : BitVec 32 := 0#32
  c0_i32_311
def k0_mult41 : BitVec 32 :=
  let c0_i32_321 : BitVec 32 := 0#32
  c0_i32_321
def k0_mult42 : BitVec 32 :=
  let c0_i32_331 : BitVec 32 := 0#32
  c0_i32_331
def k0_mult43 : BitVec 32 :=
  let c0_i32_341 : BitVec 32 := 0#32
  c0_i32_341
def k0_mult44 : BitVec 32 :=
  let c0_i32_351 : BitVec 32 := 0#32
  c0_i32_351
@[reducible] def k0_t14_loop (i : grid0.Coords) : Scf.Loop 32 :=
  let c0_i32_369 : BitVec 32 := 0#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v607 : BitVec 32 := Scalar.subi v54 c0_i32_369
  let c1_i32_370 : BitVec 32 := 1#32
  let v609 : BitVec 32 := Scalar.divsi v607 c1_i32_370
  let v610 : BitVec 32 := Scalar.muli v609 c1_i32_370
  let v611 : BitVec 32 := Scalar.addi c0_i32_369 v610
  let c1_i32_371 : BitVec 32 := 1#32
  ⟨c0_i32_369, v611, c1_i32_371⟩
def k0_mult45 (i : grid0.Coords) (k0_t14 : Fin (k0_t14_loop i).trips) : BitVec 32 :=
  let c2_i32_429 : BitVec 32 := 2#32
  let c0_i32_369 : BitVec 32 := 0#32
  let c1_i32_371 : BitVec 32 := 1#32
  let arg24 : BitVec 32 := Scf.iv c0_i32_369 c1_i32_371 k0_t14
  let v710 : BitVec 32 := Scalar.muli c2_i32_429 arg24
  let c256_i32_432 : BitVec 32 := 256#32
  let v713 : BitVec 32 := Scalar.muli v710 c256_i32_432
  v713
def k0_off17 (i : grid0.Coords) (k0_t14 : Fin (k0_t14_loop i).trips) : Fin 2 → Nat :=
  let c2_i32_429 : BitVec 32 := 2#32
  let c0_i32_369 : BitVec 32 := 0#32
  let c1_i32_371 : BitVec 32 := 1#32
  let arg24 : BitVec 32 := Scf.iv c0_i32_369 c1_i32_371 k0_t14
  let v710 : BitVec 32 := Scalar.muli c2_i32_429 arg24
  let c256_i32_432 : BitVec 32 := 256#32
  let v713 : BitVec 32 := Scalar.muli v710 c256_i32_432
  let v714 : BitVec 32 := v713
  let v715 : Index := Scalar.indexCast v714
  let c0_433 : Index := 0#32
  ![v715.toNat, 0]
def k0_mult46 (i : grid0.Coords) (k0_t14 : Fin (k0_t14_loop i).trips) : BitVec 32 :=
  let c2_i32_430 : BitVec 32 := 2#32
  let c0_i32_369 : BitVec 32 := 0#32
  let c1_i32_371 : BitVec 32 := 1#32
  let arg24 : BitVec 32 := Scf.iv c0_i32_369 c1_i32_371 k0_t14
  let v711 : BitVec 32 := Scalar.muli c2_i32_430 arg24
  let c1_i32_431 : BitVec 32 := 1#32
  let v712 : BitVec 32 := Scalar.addi v711 c1_i32_431
  let c256_i32_438 : BitVec 32 := 256#32
  let v725 : BitVec 32 := Scalar.muli v712 c256_i32_438
  v725
def k0_off18 (i : grid0.Coords) (k0_t14 : Fin (k0_t14_loop i).trips) : Fin 3 → Nat :=
  let c0_439 : Index := 0#32
  let c2_i32_430 : BitVec 32 := 2#32
  let c0_i32_369 : BitVec 32 := 0#32
  let c1_i32_371 : BitVec 32 := 1#32
  let arg24 : BitVec 32 := Scf.iv c0_i32_369 c1_i32_371 k0_t14
  let v711 : BitVec 32 := Scalar.muli c2_i32_430 arg24
  let c1_i32_431 : BitVec 32 := 1#32
  let v712 : BitVec 32 := Scalar.addi v711 c1_i32_431
  let c256_i32_438 : BitVec 32 := 256#32
  let v725 : BitVec 32 := Scalar.muli v712 c256_i32_438
  let v726 : BitVec 32 := v725
  let v727 : Index := Scalar.indexCast v726
  let c0_440 : Index := 0#32
  ![0, v727.toNat, 0]
def k0_mult47 (i : grid0.Coords) (k0_t14 : Fin (k0_t14_loop i).trips) : BitVec 32 :=
  let c2_i32_430 : BitVec 32 := 2#32
  let c0_i32_369 : BitVec 32 := 0#32
  let c1_i32_371 : BitVec 32 := 1#32
  let arg24 : BitVec 32 := Scf.iv c0_i32_369 c1_i32_371 k0_t14
  let v711 : BitVec 32 := Scalar.muli c2_i32_430 arg24
  let c1_i32_431 : BitVec 32 := 1#32
  let v712 : BitVec 32 := Scalar.addi v711 c1_i32_431
  let c256_i32_448 : BitVec 32 := 256#32
  let v736 : BitVec 32 := Scalar.muli v712 c256_i32_448
  v736
def k0_off19 (i : grid0.Coords) (k0_t14 : Fin (k0_t14_loop i).trips) : Fin 3 → Nat :=
  let c0_461 : Index := 0#32
  let c0_462 : Index := 0#32
  let c2_i32_429 : BitVec 32 := 2#32
  let c0_i32_369 : BitVec 32 := 0#32
  let c1_i32_371 : BitVec 32 := 1#32
  let arg24 : BitVec 32 := Scf.iv c0_i32_369 c1_i32_371 k0_t14
  let v710 : BitVec 32 := Scalar.muli c2_i32_429 arg24
  let c256_i32_432 : BitVec 32 := 256#32
  let v713 : BitVec 32 := Scalar.muli v710 c256_i32_432
  let v714 : BitVec 32 := v713
  let v755 : Index := Scalar.indexCast v714
  ![0, 0, v755.toNat]
def k0_mult48 (i : grid0.Coords) (k0_t14 : Fin (k0_t14_loop i).trips) : BitVec 32 :=
  let c2_i32_430 : BitVec 32 := 2#32
  let c0_i32_369 : BitVec 32 := 0#32
  let c1_i32_371 : BitVec 32 := 1#32
  let arg24 : BitVec 32 := Scf.iv c0_i32_369 c1_i32_371 k0_t14
  let v711 : BitVec 32 := Scalar.muli c2_i32_430 arg24
  let c1_i32_431 : BitVec 32 := 1#32
  let v712 : BitVec 32 := Scalar.addi v711 c1_i32_431
  let c256_i32_471 : BitVec 32 := 256#32
  let v771 : BitVec 32 := Scalar.muli v712 c256_i32_471
  v771
def k0_mult49 (i : grid0.Coords) (k0_t14 : Fin (k0_t14_loop i).trips) : BitVec 32 :=
  let c2_i32_430 : BitVec 32 := 2#32
  let c0_i32_369 : BitVec 32 := 0#32
  let c1_i32_371 : BitVec 32 := 1#32
  let arg24 : BitVec 32 := Scf.iv c0_i32_369 c1_i32_371 k0_t14
  let v711 : BitVec 32 := Scalar.muli c2_i32_430 arg24
  let c1_i32_431 : BitVec 32 := 1#32
  let v712 : BitVec 32 := Scalar.addi v711 c1_i32_431
  let c256_i32_494 : BitVec 32 := 256#32
  let v806 : BitVec 32 := Scalar.muli v712 c256_i32_494
  v806
def k0_mult50 (i : grid0.Coords) (k0_t14 : Fin (k0_t14_loop i).trips) : BitVec 32 :=
  let c2_i32_430 : BitVec 32 := 2#32
  let c0_i32_369 : BitVec 32 := 0#32
  let c1_i32_371 : BitVec 32 := 1#32
  let arg24 : BitVec 32 := Scf.iv c0_i32_369 c1_i32_371 k0_t14
  let v711 : BitVec 32 := Scalar.muli c2_i32_430 arg24
  let c1_i32_431 : BitVec 32 := 1#32
  let v712 : BitVec 32 := Scalar.addi v711 c1_i32_431
  let c256_i32_517 : BitVec 32 := 256#32
  let v841 : BitVec 32 := Scalar.muli v712 c256_i32_517
  v841
def k0_off20 (i : grid0.Coords) (k0_t14 : Fin (k0_t14_loop i).trips) : Fin 3 → Nat :=
  let c0_518 : Index := 0#32
  let c2_i32_430 : BitVec 32 := 2#32
  let c0_i32_369 : BitVec 32 := 0#32
  let c1_i32_371 : BitVec 32 := 1#32
  let arg24 : BitVec 32 := Scf.iv c0_i32_369 c1_i32_371 k0_t14
  let v711 : BitVec 32 := Scalar.muli c2_i32_430 arg24
  let c1_i32_431 : BitVec 32 := 1#32
  let v712 : BitVec 32 := Scalar.addi v711 c1_i32_431
  let c256_i32_517 : BitVec 32 := 256#32
  let v841 : BitVec 32 := Scalar.muli v712 c256_i32_517
  let v842 : BitVec 32 := v841
  let v843 : Index := Scalar.indexCast v842
  let c128_519 : Index := 128#32
  ![0, v843.toNat, 128]
def k0_mult51 (i : grid0.Coords) (k0_t14 : Fin (k0_t14_loop i).trips) : BitVec 32 :=
  let c2_i32_430 : BitVec 32 := 2#32
  let c0_i32_369 : BitVec 32 := 0#32
  let c1_i32_371 : BitVec 32 := 1#32
  let arg24 : BitVec 32 := Scf.iv c0_i32_369 c1_i32_371 k0_t14
  let v711 : BitVec 32 := Scalar.muli c2_i32_430 arg24
  let c1_i32_431 : BitVec 32 := 1#32
  let v712 : BitVec 32 := Scalar.addi v711 c1_i32_431
  let c256_i32_540 : BitVec 32 := 256#32
  let v876 : BitVec 32 := Scalar.muli v712 c256_i32_540
  v876
def k0_off21 (i : grid0.Coords) (k0_t14 : Fin (k0_t14_loop i).trips) : Fin 3 → Nat :=
  let c0_553 : Index := 0#32
  let c80 : Index := 80#32
  let c2_i32_429 : BitVec 32 := 2#32
  let c0_i32_369 : BitVec 32 := 0#32
  let c1_i32_371 : BitVec 32 := 1#32
  let arg24 : BitVec 32 := Scf.iv c0_i32_369 c1_i32_371 k0_t14
  let v710 : BitVec 32 := Scalar.muli c2_i32_429 arg24
  let c256_i32_432 : BitVec 32 := 256#32
  let v713 : BitVec 32 := Scalar.muli v710 c256_i32_432
  let v714 : BitVec 32 := v713
  let v895 : Index := Scalar.indexCast v714
  ![0, 80, v895.toNat]
def k0_mult52 (i : grid0.Coords) (k0_t14 : Fin (k0_t14_loop i).trips) : BitVec 32 :=
  let c2_i32_430 : BitVec 32 := 2#32
  let c0_i32_369 : BitVec 32 := 0#32
  let c1_i32_371 : BitVec 32 := 1#32
  let arg24 : BitVec 32 := Scf.iv c0_i32_369 c1_i32_371 k0_t14
  let v711 : BitVec 32 := Scalar.muli c2_i32_430 arg24
  let c1_i32_431 : BitVec 32 := 1#32
  let v712 : BitVec 32 := Scalar.addi v711 c1_i32_431
  let c256_i32_562 : BitVec 32 := 256#32
  let v911 : BitVec 32 := Scalar.muli v712 c256_i32_562
  v911
def k0_mult53 (i : grid0.Coords) (k0_t14 : Fin (k0_t14_loop i).trips) : BitVec 32 :=
  let c2_i32_430 : BitVec 32 := 2#32
  let c0_i32_369 : BitVec 32 := 0#32
  let c1_i32_371 : BitVec 32 := 1#32
  let arg24 : BitVec 32 := Scf.iv c0_i32_369 c1_i32_371 k0_t14
  let v711 : BitVec 32 := Scalar.muli c2_i32_430 arg24
  let c1_i32_431 : BitVec 32 := 1#32
  let v712 : BitVec 32 := Scalar.addi v711 c1_i32_431
  let c256_i32_585 : BitVec 32 := 256#32
  let v946 : BitVec 32 := Scalar.muli v712 c256_i32_585
  v946
def k0_mult54 (i : grid0.Coords) (k0_t14 : Fin (k0_t14_loop i).trips) : BitVec 32 :=
  let c2_i32_621 : BitVec 32 := 2#32
  let c0_i32_369 : BitVec 32 := 0#32
  let c1_i32_371 : BitVec 32 := 1#32
  let arg24 : BitVec 32 := Scf.iv c0_i32_369 c1_i32_371 k0_t14
  let v1005 : BitVec 32 := Scalar.muli c2_i32_621 arg24
  let c1_i32_622 : BitVec 32 := 1#32
  let v1006 : BitVec 32 := Scalar.addi v1005 c1_i32_622
  let c256_i32_627 : BitVec 32 := 256#32
  let v1012 : BitVec 32 := Scalar.muli v1006 c256_i32_627
  v1012
def k0_off22 (i : grid0.Coords) (k0_t14 : Fin (k0_t14_loop i).trips) : Fin 2 → Nat :=
  let c2_i32_621 : BitVec 32 := 2#32
  let c0_i32_369 : BitVec 32 := 0#32
  let c1_i32_371 : BitVec 32 := 1#32
  let arg24 : BitVec 32 := Scf.iv c0_i32_369 c1_i32_371 k0_t14
  let v1005 : BitVec 32 := Scalar.muli c2_i32_621 arg24
  let c1_i32_622 : BitVec 32 := 1#32
  let v1006 : BitVec 32 := Scalar.addi v1005 c1_i32_622
  let c256_i32_627 : BitVec 32 := 256#32
  let v1012 : BitVec 32 := Scalar.muli v1006 c256_i32_627
  let v1013 : BitVec 32 := v1012
  let v1014 : Index := Scalar.indexCast v1013
  let c0_628 : Index := 0#32
  ![v1014.toNat, 0]
def k0_mult55 (i : grid0.Coords) (k0_t14 : Fin (k0_t14_loop i).trips) : BitVec 32 :=
  let c2_i32_623 : BitVec 32 := 2#32
  let c0_i32_369 : BitVec 32 := 0#32
  let c1_i32_371 : BitVec 32 := 1#32
  let arg24 : BitVec 32 := Scf.iv c0_i32_369 c1_i32_371 k0_t14
  let v1007 : BitVec 32 := Scalar.muli c2_i32_623 arg24
  let c2_i32_624 : BitVec 32 := 2#32
  let v1008 : BitVec 32 := Scalar.addi v1007 c2_i32_624
  let c2_i32_625 : BitVec 32 := 2#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v1009 : BitVec 32 := Scalar.muli c2_i32_625 v54
  let c1_i32_626 : BitVec 32 := 1#32
  let v1010 : BitVec 32 := Scalar.subi v1009 c1_i32_626
  let v1011 : BitVec 32 := Scalar.minsi v1008 v1010
  let c256_i32_633 : BitVec 32 := 256#32
  let v1024 : BitVec 32 := Scalar.muli v1011 c256_i32_633
  v1024
def k0_off23 (i : grid0.Coords) (k0_t14 : Fin (k0_t14_loop i).trips) : Fin 3 → Nat :=
  let c0_634 : Index := 0#32
  let c2_i32_623 : BitVec 32 := 2#32
  let c0_i32_369 : BitVec 32 := 0#32
  let c1_i32_371 : BitVec 32 := 1#32
  let arg24 : BitVec 32 := Scf.iv c0_i32_369 c1_i32_371 k0_t14
  let v1007 : BitVec 32 := Scalar.muli c2_i32_623 arg24
  let c2_i32_624 : BitVec 32 := 2#32
  let v1008 : BitVec 32 := Scalar.addi v1007 c2_i32_624
  let c2_i32_625 : BitVec 32 := 2#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v1009 : BitVec 32 := Scalar.muli c2_i32_625 v54
  let c1_i32_626 : BitVec 32 := 1#32
  let v1010 : BitVec 32 := Scalar.subi v1009 c1_i32_626
  let v1011 : BitVec 32 := Scalar.minsi v1008 v1010
  let c256_i32_633 : BitVec 32 := 256#32
  let v1024 : BitVec 32 := Scalar.muli v1011 c256_i32_633
  let v1025 : BitVec 32 := v1024
  let v1026 : Index := Scalar.indexCast v1025
  let c0_635 : Index := 0#32
  ![0, v1026.toNat, 0]
def k0_mult56 (i : grid0.Coords) (k0_t14 : Fin (k0_t14_loop i).trips) : BitVec 32 :=
  let c2_i32_623 : BitVec 32 := 2#32
  let c0_i32_369 : BitVec 32 := 0#32
  let c1_i32_371 : BitVec 32 := 1#32
  let arg24 : BitVec 32 := Scf.iv c0_i32_369 c1_i32_371 k0_t14
  let v1007 : BitVec 32 := Scalar.muli c2_i32_623 arg24
  let c2_i32_624 : BitVec 32 := 2#32
  let v1008 : BitVec 32 := Scalar.addi v1007 c2_i32_624
  let c2_i32_625 : BitVec 32 := 2#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v1009 : BitVec 32 := Scalar.muli c2_i32_625 v54
  let c1_i32_626 : BitVec 32 := 1#32
  let v1010 : BitVec 32 := Scalar.subi v1009 c1_i32_626
  let v1011 : BitVec 32 := Scalar.minsi v1008 v1010
  let c256_i32_643 : BitVec 32 := 256#32
  let v1035 : BitVec 32 := Scalar.muli v1011 c256_i32_643
  v1035
def k0_off24 (i : grid0.Coords) (k0_t14 : Fin (k0_t14_loop i).trips) : Fin 3 → Nat :=
  let c0_656 : Index := 0#32
  let c0_657 : Index := 0#32
  let c2_i32_621 : BitVec 32 := 2#32
  let c0_i32_369 : BitVec 32 := 0#32
  let c1_i32_371 : BitVec 32 := 1#32
  let arg24 : BitVec 32 := Scf.iv c0_i32_369 c1_i32_371 k0_t14
  let v1005 : BitVec 32 := Scalar.muli c2_i32_621 arg24
  let c1_i32_622 : BitVec 32 := 1#32
  let v1006 : BitVec 32 := Scalar.addi v1005 c1_i32_622
  let c256_i32_627 : BitVec 32 := 256#32
  let v1012 : BitVec 32 := Scalar.muli v1006 c256_i32_627
  let v1013 : BitVec 32 := v1012
  let v1054 : Index := Scalar.indexCast v1013
  ![0, 0, v1054.toNat]
def k0_mult57 (i : grid0.Coords) (k0_t14 : Fin (k0_t14_loop i).trips) : BitVec 32 :=
  let c2_i32_623 : BitVec 32 := 2#32
  let c0_i32_369 : BitVec 32 := 0#32
  let c1_i32_371 : BitVec 32 := 1#32
  let arg24 : BitVec 32 := Scf.iv c0_i32_369 c1_i32_371 k0_t14
  let v1007 : BitVec 32 := Scalar.muli c2_i32_623 arg24
  let c2_i32_624 : BitVec 32 := 2#32
  let v1008 : BitVec 32 := Scalar.addi v1007 c2_i32_624
  let c2_i32_625 : BitVec 32 := 2#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v1009 : BitVec 32 := Scalar.muli c2_i32_625 v54
  let c1_i32_626 : BitVec 32 := 1#32
  let v1010 : BitVec 32 := Scalar.subi v1009 c1_i32_626
  let v1011 : BitVec 32 := Scalar.minsi v1008 v1010
  let c256_i32_666 : BitVec 32 := 256#32
  let v1070 : BitVec 32 := Scalar.muli v1011 c256_i32_666
  v1070
def k0_mult58 (i : grid0.Coords) (k0_t14 : Fin (k0_t14_loop i).trips) : BitVec 32 :=
  let c2_i32_623 : BitVec 32 := 2#32
  let c0_i32_369 : BitVec 32 := 0#32
  let c1_i32_371 : BitVec 32 := 1#32
  let arg24 : BitVec 32 := Scf.iv c0_i32_369 c1_i32_371 k0_t14
  let v1007 : BitVec 32 := Scalar.muli c2_i32_623 arg24
  let c2_i32_624 : BitVec 32 := 2#32
  let v1008 : BitVec 32 := Scalar.addi v1007 c2_i32_624
  let c2_i32_625 : BitVec 32 := 2#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v1009 : BitVec 32 := Scalar.muli c2_i32_625 v54
  let c1_i32_626 : BitVec 32 := 1#32
  let v1010 : BitVec 32 := Scalar.subi v1009 c1_i32_626
  let v1011 : BitVec 32 := Scalar.minsi v1008 v1010
  let c256_i32_689 : BitVec 32 := 256#32
  let v1105 : BitVec 32 := Scalar.muli v1011 c256_i32_689
  v1105
def k0_mult59 (i : grid0.Coords) (k0_t14 : Fin (k0_t14_loop i).trips) : BitVec 32 :=
  let c2_i32_623 : BitVec 32 := 2#32
  let c0_i32_369 : BitVec 32 := 0#32
  let c1_i32_371 : BitVec 32 := 1#32
  let arg24 : BitVec 32 := Scf.iv c0_i32_369 c1_i32_371 k0_t14
  let v1007 : BitVec 32 := Scalar.muli c2_i32_623 arg24
  let c2_i32_624 : BitVec 32 := 2#32
  let v1008 : BitVec 32 := Scalar.addi v1007 c2_i32_624
  let c2_i32_625 : BitVec 32 := 2#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v1009 : BitVec 32 := Scalar.muli c2_i32_625 v54
  let c1_i32_626 : BitVec 32 := 1#32
  let v1010 : BitVec 32 := Scalar.subi v1009 c1_i32_626
  let v1011 : BitVec 32 := Scalar.minsi v1008 v1010
  let c256_i32_712 : BitVec 32 := 256#32
  let v1140 : BitVec 32 := Scalar.muli v1011 c256_i32_712
  v1140
def k0_off25 (i : grid0.Coords) (k0_t14 : Fin (k0_t14_loop i).trips) : Fin 3 → Nat :=
  let c0_713 : Index := 0#32
  let c2_i32_623 : BitVec 32 := 2#32
  let c0_i32_369 : BitVec 32 := 0#32
  let c1_i32_371 : BitVec 32 := 1#32
  let arg24 : BitVec 32 := Scf.iv c0_i32_369 c1_i32_371 k0_t14
  let v1007 : BitVec 32 := Scalar.muli c2_i32_623 arg24
  let c2_i32_624 : BitVec 32 := 2#32
  let v1008 : BitVec 32 := Scalar.addi v1007 c2_i32_624
  let c2_i32_625 : BitVec 32 := 2#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v1009 : BitVec 32 := Scalar.muli c2_i32_625 v54
  let c1_i32_626 : BitVec 32 := 1#32
  let v1010 : BitVec 32 := Scalar.subi v1009 c1_i32_626
  let v1011 : BitVec 32 := Scalar.minsi v1008 v1010
  let c256_i32_712 : BitVec 32 := 256#32
  let v1140 : BitVec 32 := Scalar.muli v1011 c256_i32_712
  let v1141 : BitVec 32 := v1140
  let v1142 : Index := Scalar.indexCast v1141
  let c128_714 : Index := 128#32
  ![0, v1142.toNat, 128]
def k0_mult60 (i : grid0.Coords) (k0_t14 : Fin (k0_t14_loop i).trips) : BitVec 32 :=
  let c2_i32_623 : BitVec 32 := 2#32
  let c0_i32_369 : BitVec 32 := 0#32
  let c1_i32_371 : BitVec 32 := 1#32
  let arg24 : BitVec 32 := Scf.iv c0_i32_369 c1_i32_371 k0_t14
  let v1007 : BitVec 32 := Scalar.muli c2_i32_623 arg24
  let c2_i32_624 : BitVec 32 := 2#32
  let v1008 : BitVec 32 := Scalar.addi v1007 c2_i32_624
  let c2_i32_625 : BitVec 32 := 2#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v1009 : BitVec 32 := Scalar.muli c2_i32_625 v54
  let c1_i32_626 : BitVec 32 := 1#32
  let v1010 : BitVec 32 := Scalar.subi v1009 c1_i32_626
  let v1011 : BitVec 32 := Scalar.minsi v1008 v1010
  let c256_i32_735 : BitVec 32 := 256#32
  let v1175 : BitVec 32 := Scalar.muli v1011 c256_i32_735
  v1175
def k0_off26 (i : grid0.Coords) (k0_t14 : Fin (k0_t14_loop i).trips) : Fin 3 → Nat :=
  let c0_748 : Index := 0#32
  let c80_749 : Index := 80#32
  let c2_i32_621 : BitVec 32 := 2#32
  let c0_i32_369 : BitVec 32 := 0#32
  let c1_i32_371 : BitVec 32 := 1#32
  let arg24 : BitVec 32 := Scf.iv c0_i32_369 c1_i32_371 k0_t14
  let v1005 : BitVec 32 := Scalar.muli c2_i32_621 arg24
  let c1_i32_622 : BitVec 32 := 1#32
  let v1006 : BitVec 32 := Scalar.addi v1005 c1_i32_622
  let c256_i32_627 : BitVec 32 := 256#32
  let v1012 : BitVec 32 := Scalar.muli v1006 c256_i32_627
  let v1013 : BitVec 32 := v1012
  let v1194 : Index := Scalar.indexCast v1013
  ![0, 80, v1194.toNat]
def k0_mult61 (i : grid0.Coords) (k0_t14 : Fin (k0_t14_loop i).trips) : BitVec 32 :=
  let c2_i32_623 : BitVec 32 := 2#32
  let c0_i32_369 : BitVec 32 := 0#32
  let c1_i32_371 : BitVec 32 := 1#32
  let arg24 : BitVec 32 := Scf.iv c0_i32_369 c1_i32_371 k0_t14
  let v1007 : BitVec 32 := Scalar.muli c2_i32_623 arg24
  let c2_i32_624 : BitVec 32 := 2#32
  let v1008 : BitVec 32 := Scalar.addi v1007 c2_i32_624
  let c2_i32_625 : BitVec 32 := 2#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v1009 : BitVec 32 := Scalar.muli c2_i32_625 v54
  let c1_i32_626 : BitVec 32 := 1#32
  let v1010 : BitVec 32 := Scalar.subi v1009 c1_i32_626
  let v1011 : BitVec 32 := Scalar.minsi v1008 v1010
  let c256_i32_758 : BitVec 32 := 256#32
  let v1210 : BitVec 32 := Scalar.muli v1011 c256_i32_758
  v1210
def k0_mult62 (i : grid0.Coords) (k0_t14 : Fin (k0_t14_loop i).trips) : BitVec 32 :=
  let c2_i32_623 : BitVec 32 := 2#32
  let c0_i32_369 : BitVec 32 := 0#32
  let c1_i32_371 : BitVec 32 := 1#32
  let arg24 : BitVec 32 := Scf.iv c0_i32_369 c1_i32_371 k0_t14
  let v1007 : BitVec 32 := Scalar.muli c2_i32_623 arg24
  let c2_i32_624 : BitVec 32 := 2#32
  let v1008 : BitVec 32 := Scalar.addi v1007 c2_i32_624
  let c2_i32_625 : BitVec 32 := 2#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v1009 : BitVec 32 := Scalar.muli c2_i32_625 v54
  let c1_i32_626 : BitVec 32 := 1#32
  let v1010 : BitVec 32 := Scalar.subi v1009 c1_i32_626
  let v1011 : BitVec 32 := Scalar.minsi v1008 v1010
  let c256_i32_781 : BitVec 32 := 256#32
  let v1245 : BitVec 32 := Scalar.muli v1011 c256_i32_781
  v1245
@[reducible] def k0_t15_loop (i : grid0.Coords) : Scf.Loop 32 :=
  let c0_i32_369 : BitVec 32 := 0#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v607 : BitVec 32 := Scalar.subi v54 c0_i32_369
  let c1_i32_370 : BitVec 32 := 1#32
  let v609 : BitVec 32 := Scalar.divsi v607 c1_i32_370
  let v610 : BitVec 32 := Scalar.muli v609 c1_i32_370
  let v611 : BitVec 32 := Scalar.addi c0_i32_369 v610
  let v608 : BitVec 32 := Scalar.addi c0_i32_369 v607
  let c1_i32_372 : BitVec 32 := 1#32
  ⟨v611, v608, c1_i32_372⟩
def k0_mult63 (i : grid0.Coords) (k0_t15 : Fin (k0_t15_loop i).trips) : BitVec 32 :=
  let c2_i32_429 : BitVec 32 := 2#32
  let c0_i32_369 : BitVec 32 := 0#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v607 : BitVec 32 := Scalar.subi v54 c0_i32_369
  let c1_i32_370 : BitVec 32 := 1#32
  let v609 : BitVec 32 := Scalar.divsi v607 c1_i32_370
  let v610 : BitVec 32 := Scalar.muli v609 c1_i32_370
  let v611 : BitVec 32 := Scalar.addi c0_i32_369 v610
  let c1_i32_372 : BitVec 32 := 1#32
  let arg24 : BitVec 32 := Scf.iv v611 c1_i32_372 k0_t15
  let v710 : BitVec 32 := Scalar.muli c2_i32_429 arg24
  let c256_i32_432 : BitVec 32 := 256#32
  let v713 : BitVec 32 := Scalar.muli v710 c256_i32_432
  v713
def k0_off27 (i : grid0.Coords) (k0_t15 : Fin (k0_t15_loop i).trips) : Fin 2 → Nat :=
  let c2_i32_429 : BitVec 32 := 2#32
  let c0_i32_369 : BitVec 32 := 0#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v607 : BitVec 32 := Scalar.subi v54 c0_i32_369
  let c1_i32_370 : BitVec 32 := 1#32
  let v609 : BitVec 32 := Scalar.divsi v607 c1_i32_370
  let v610 : BitVec 32 := Scalar.muli v609 c1_i32_370
  let v611 : BitVec 32 := Scalar.addi c0_i32_369 v610
  let c1_i32_372 : BitVec 32 := 1#32
  let arg24 : BitVec 32 := Scf.iv v611 c1_i32_372 k0_t15
  let v710 : BitVec 32 := Scalar.muli c2_i32_429 arg24
  let c256_i32_432 : BitVec 32 := 256#32
  let v713 : BitVec 32 := Scalar.muli v710 c256_i32_432
  let v714 : BitVec 32 := v713
  let v715 : Index := Scalar.indexCast v714
  let c0_433 : Index := 0#32
  ![v715.toNat, 0]
def k0_mult64 (i : grid0.Coords) (k0_t15 : Fin (k0_t15_loop i).trips) : BitVec 32 :=
  let c2_i32_430 : BitVec 32 := 2#32
  let c0_i32_369 : BitVec 32 := 0#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v607 : BitVec 32 := Scalar.subi v54 c0_i32_369
  let c1_i32_370 : BitVec 32 := 1#32
  let v609 : BitVec 32 := Scalar.divsi v607 c1_i32_370
  let v610 : BitVec 32 := Scalar.muli v609 c1_i32_370
  let v611 : BitVec 32 := Scalar.addi c0_i32_369 v610
  let c1_i32_372 : BitVec 32 := 1#32
  let arg24 : BitVec 32 := Scf.iv v611 c1_i32_372 k0_t15
  let v711 : BitVec 32 := Scalar.muli c2_i32_430 arg24
  let c1_i32_431 : BitVec 32 := 1#32
  let v712 : BitVec 32 := Scalar.addi v711 c1_i32_431
  let c256_i32_438 : BitVec 32 := 256#32
  let v725 : BitVec 32 := Scalar.muli v712 c256_i32_438
  v725
def k0_off28 (i : grid0.Coords) (k0_t15 : Fin (k0_t15_loop i).trips) : Fin 3 → Nat :=
  let c0_439 : Index := 0#32
  let c2_i32_430 : BitVec 32 := 2#32
  let c0_i32_369 : BitVec 32 := 0#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v607 : BitVec 32 := Scalar.subi v54 c0_i32_369
  let c1_i32_370 : BitVec 32 := 1#32
  let v609 : BitVec 32 := Scalar.divsi v607 c1_i32_370
  let v610 : BitVec 32 := Scalar.muli v609 c1_i32_370
  let v611 : BitVec 32 := Scalar.addi c0_i32_369 v610
  let c1_i32_372 : BitVec 32 := 1#32
  let arg24 : BitVec 32 := Scf.iv v611 c1_i32_372 k0_t15
  let v711 : BitVec 32 := Scalar.muli c2_i32_430 arg24
  let c1_i32_431 : BitVec 32 := 1#32
  let v712 : BitVec 32 := Scalar.addi v711 c1_i32_431
  let c256_i32_438 : BitVec 32 := 256#32
  let v725 : BitVec 32 := Scalar.muli v712 c256_i32_438
  let v726 : BitVec 32 := v725
  let v727 : Index := Scalar.indexCast v726
  let c0_440 : Index := 0#32
  ![0, v727.toNat, 0]
def k0_mult65 (i : grid0.Coords) (k0_t15 : Fin (k0_t15_loop i).trips) : BitVec 32 :=
  let c2_i32_430 : BitVec 32 := 2#32
  let c0_i32_369 : BitVec 32 := 0#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v607 : BitVec 32 := Scalar.subi v54 c0_i32_369
  let c1_i32_370 : BitVec 32 := 1#32
  let v609 : BitVec 32 := Scalar.divsi v607 c1_i32_370
  let v610 : BitVec 32 := Scalar.muli v609 c1_i32_370
  let v611 : BitVec 32 := Scalar.addi c0_i32_369 v610
  let c1_i32_372 : BitVec 32 := 1#32
  let arg24 : BitVec 32 := Scf.iv v611 c1_i32_372 k0_t15
  let v711 : BitVec 32 := Scalar.muli c2_i32_430 arg24
  let c1_i32_431 : BitVec 32 := 1#32
  let v712 : BitVec 32 := Scalar.addi v711 c1_i32_431
  let c256_i32_448 : BitVec 32 := 256#32
  let v736 : BitVec 32 := Scalar.muli v712 c256_i32_448
  v736
def k0_off29 (i : grid0.Coords) (k0_t15 : Fin (k0_t15_loop i).trips) : Fin 3 → Nat :=
  let c0_461 : Index := 0#32
  let c0_462 : Index := 0#32
  let c2_i32_429 : BitVec 32 := 2#32
  let c0_i32_369 : BitVec 32 := 0#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v607 : BitVec 32 := Scalar.subi v54 c0_i32_369
  let c1_i32_370 : BitVec 32 := 1#32
  let v609 : BitVec 32 := Scalar.divsi v607 c1_i32_370
  let v610 : BitVec 32 := Scalar.muli v609 c1_i32_370
  let v611 : BitVec 32 := Scalar.addi c0_i32_369 v610
  let c1_i32_372 : BitVec 32 := 1#32
  let arg24 : BitVec 32 := Scf.iv v611 c1_i32_372 k0_t15
  let v710 : BitVec 32 := Scalar.muli c2_i32_429 arg24
  let c256_i32_432 : BitVec 32 := 256#32
  let v713 : BitVec 32 := Scalar.muli v710 c256_i32_432
  let v714 : BitVec 32 := v713
  let v755 : Index := Scalar.indexCast v714
  ![0, 0, v755.toNat]
def k0_mult66 (i : grid0.Coords) (k0_t15 : Fin (k0_t15_loop i).trips) : BitVec 32 :=
  let c2_i32_430 : BitVec 32 := 2#32
  let c0_i32_369 : BitVec 32 := 0#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v607 : BitVec 32 := Scalar.subi v54 c0_i32_369
  let c1_i32_370 : BitVec 32 := 1#32
  let v609 : BitVec 32 := Scalar.divsi v607 c1_i32_370
  let v610 : BitVec 32 := Scalar.muli v609 c1_i32_370
  let v611 : BitVec 32 := Scalar.addi c0_i32_369 v610
  let c1_i32_372 : BitVec 32 := 1#32
  let arg24 : BitVec 32 := Scf.iv v611 c1_i32_372 k0_t15
  let v711 : BitVec 32 := Scalar.muli c2_i32_430 arg24
  let c1_i32_431 : BitVec 32 := 1#32
  let v712 : BitVec 32 := Scalar.addi v711 c1_i32_431
  let c256_i32_471 : BitVec 32 := 256#32
  let v771 : BitVec 32 := Scalar.muli v712 c256_i32_471
  v771
def k0_mult67 (i : grid0.Coords) (k0_t15 : Fin (k0_t15_loop i).trips) : BitVec 32 :=
  let c2_i32_430 : BitVec 32 := 2#32
  let c0_i32_369 : BitVec 32 := 0#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v607 : BitVec 32 := Scalar.subi v54 c0_i32_369
  let c1_i32_370 : BitVec 32 := 1#32
  let v609 : BitVec 32 := Scalar.divsi v607 c1_i32_370
  let v610 : BitVec 32 := Scalar.muli v609 c1_i32_370
  let v611 : BitVec 32 := Scalar.addi c0_i32_369 v610
  let c1_i32_372 : BitVec 32 := 1#32
  let arg24 : BitVec 32 := Scf.iv v611 c1_i32_372 k0_t15
  let v711 : BitVec 32 := Scalar.muli c2_i32_430 arg24
  let c1_i32_431 : BitVec 32 := 1#32
  let v712 : BitVec 32 := Scalar.addi v711 c1_i32_431
  let c256_i32_494 : BitVec 32 := 256#32
  let v806 : BitVec 32 := Scalar.muli v712 c256_i32_494
  v806
def k0_mult68 (i : grid0.Coords) (k0_t15 : Fin (k0_t15_loop i).trips) : BitVec 32 :=
  let c2_i32_430 : BitVec 32 := 2#32
  let c0_i32_369 : BitVec 32 := 0#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v607 : BitVec 32 := Scalar.subi v54 c0_i32_369
  let c1_i32_370 : BitVec 32 := 1#32
  let v609 : BitVec 32 := Scalar.divsi v607 c1_i32_370
  let v610 : BitVec 32 := Scalar.muli v609 c1_i32_370
  let v611 : BitVec 32 := Scalar.addi c0_i32_369 v610
  let c1_i32_372 : BitVec 32 := 1#32
  let arg24 : BitVec 32 := Scf.iv v611 c1_i32_372 k0_t15
  let v711 : BitVec 32 := Scalar.muli c2_i32_430 arg24
  let c1_i32_431 : BitVec 32 := 1#32
  let v712 : BitVec 32 := Scalar.addi v711 c1_i32_431
  let c256_i32_517 : BitVec 32 := 256#32
  let v841 : BitVec 32 := Scalar.muli v712 c256_i32_517
  v841
def k0_off30 (i : grid0.Coords) (k0_t15 : Fin (k0_t15_loop i).trips) : Fin 3 → Nat :=
  let c0_518 : Index := 0#32
  let c2_i32_430 : BitVec 32 := 2#32
  let c0_i32_369 : BitVec 32 := 0#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v607 : BitVec 32 := Scalar.subi v54 c0_i32_369
  let c1_i32_370 : BitVec 32 := 1#32
  let v609 : BitVec 32 := Scalar.divsi v607 c1_i32_370
  let v610 : BitVec 32 := Scalar.muli v609 c1_i32_370
  let v611 : BitVec 32 := Scalar.addi c0_i32_369 v610
  let c1_i32_372 : BitVec 32 := 1#32
  let arg24 : BitVec 32 := Scf.iv v611 c1_i32_372 k0_t15
  let v711 : BitVec 32 := Scalar.muli c2_i32_430 arg24
  let c1_i32_431 : BitVec 32 := 1#32
  let v712 : BitVec 32 := Scalar.addi v711 c1_i32_431
  let c256_i32_517 : BitVec 32 := 256#32
  let v841 : BitVec 32 := Scalar.muli v712 c256_i32_517
  let v842 : BitVec 32 := v841
  let v843 : Index := Scalar.indexCast v842
  let c128_519 : Index := 128#32
  ![0, v843.toNat, 128]
def k0_mult69 (i : grid0.Coords) (k0_t15 : Fin (k0_t15_loop i).trips) : BitVec 32 :=
  let c2_i32_430 : BitVec 32 := 2#32
  let c0_i32_369 : BitVec 32 := 0#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v607 : BitVec 32 := Scalar.subi v54 c0_i32_369
  let c1_i32_370 : BitVec 32 := 1#32
  let v609 : BitVec 32 := Scalar.divsi v607 c1_i32_370
  let v610 : BitVec 32 := Scalar.muli v609 c1_i32_370
  let v611 : BitVec 32 := Scalar.addi c0_i32_369 v610
  let c1_i32_372 : BitVec 32 := 1#32
  let arg24 : BitVec 32 := Scf.iv v611 c1_i32_372 k0_t15
  let v711 : BitVec 32 := Scalar.muli c2_i32_430 arg24
  let c1_i32_431 : BitVec 32 := 1#32
  let v712 : BitVec 32 := Scalar.addi v711 c1_i32_431
  let c256_i32_540 : BitVec 32 := 256#32
  let v876 : BitVec 32 := Scalar.muli v712 c256_i32_540
  v876
def k0_off31 (i : grid0.Coords) (k0_t15 : Fin (k0_t15_loop i).trips) : Fin 3 → Nat :=
  let c0_553 : Index := 0#32
  let c80 : Index := 80#32
  let c2_i32_429 : BitVec 32 := 2#32
  let c0_i32_369 : BitVec 32 := 0#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v607 : BitVec 32 := Scalar.subi v54 c0_i32_369
  let c1_i32_370 : BitVec 32 := 1#32
  let v609 : BitVec 32 := Scalar.divsi v607 c1_i32_370
  let v610 : BitVec 32 := Scalar.muli v609 c1_i32_370
  let v611 : BitVec 32 := Scalar.addi c0_i32_369 v610
  let c1_i32_372 : BitVec 32 := 1#32
  let arg24 : BitVec 32 := Scf.iv v611 c1_i32_372 k0_t15
  let v710 : BitVec 32 := Scalar.muli c2_i32_429 arg24
  let c256_i32_432 : BitVec 32 := 256#32
  let v713 : BitVec 32 := Scalar.muli v710 c256_i32_432
  let v714 : BitVec 32 := v713
  let v895 : Index := Scalar.indexCast v714
  ![0, 80, v895.toNat]
def k0_mult70 (i : grid0.Coords) (k0_t15 : Fin (k0_t15_loop i).trips) : BitVec 32 :=
  let c2_i32_430 : BitVec 32 := 2#32
  let c0_i32_369 : BitVec 32 := 0#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v607 : BitVec 32 := Scalar.subi v54 c0_i32_369
  let c1_i32_370 : BitVec 32 := 1#32
  let v609 : BitVec 32 := Scalar.divsi v607 c1_i32_370
  let v610 : BitVec 32 := Scalar.muli v609 c1_i32_370
  let v611 : BitVec 32 := Scalar.addi c0_i32_369 v610
  let c1_i32_372 : BitVec 32 := 1#32
  let arg24 : BitVec 32 := Scf.iv v611 c1_i32_372 k0_t15
  let v711 : BitVec 32 := Scalar.muli c2_i32_430 arg24
  let c1_i32_431 : BitVec 32 := 1#32
  let v712 : BitVec 32 := Scalar.addi v711 c1_i32_431
  let c256_i32_562 : BitVec 32 := 256#32
  let v911 : BitVec 32 := Scalar.muli v712 c256_i32_562
  v911
def k0_mult71 (i : grid0.Coords) (k0_t15 : Fin (k0_t15_loop i).trips) : BitVec 32 :=
  let c2_i32_430 : BitVec 32 := 2#32
  let c0_i32_369 : BitVec 32 := 0#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v607 : BitVec 32 := Scalar.subi v54 c0_i32_369
  let c1_i32_370 : BitVec 32 := 1#32
  let v609 : BitVec 32 := Scalar.divsi v607 c1_i32_370
  let v610 : BitVec 32 := Scalar.muli v609 c1_i32_370
  let v611 : BitVec 32 := Scalar.addi c0_i32_369 v610
  let c1_i32_372 : BitVec 32 := 1#32
  let arg24 : BitVec 32 := Scf.iv v611 c1_i32_372 k0_t15
  let v711 : BitVec 32 := Scalar.muli c2_i32_430 arg24
  let c1_i32_431 : BitVec 32 := 1#32
  let v712 : BitVec 32 := Scalar.addi v711 c1_i32_431
  let c256_i32_585 : BitVec 32 := 256#32
  let v946 : BitVec 32 := Scalar.muli v712 c256_i32_585
  v946
def k0_mult72 (i : grid0.Coords) (k0_t15 : Fin (k0_t15_loop i).trips) : BitVec 32 :=
  let c2_i32_621 : BitVec 32 := 2#32
  let c0_i32_369 : BitVec 32 := 0#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v607 : BitVec 32 := Scalar.subi v54 c0_i32_369
  let c1_i32_370 : BitVec 32 := 1#32
  let v609 : BitVec 32 := Scalar.divsi v607 c1_i32_370
  let v610 : BitVec 32 := Scalar.muli v609 c1_i32_370
  let v611 : BitVec 32 := Scalar.addi c0_i32_369 v610
  let c1_i32_372 : BitVec 32 := 1#32
  let arg24 : BitVec 32 := Scf.iv v611 c1_i32_372 k0_t15
  let v1005 : BitVec 32 := Scalar.muli c2_i32_621 arg24
  let c1_i32_622 : BitVec 32 := 1#32
  let v1006 : BitVec 32 := Scalar.addi v1005 c1_i32_622
  let c256_i32_627 : BitVec 32 := 256#32
  let v1012 : BitVec 32 := Scalar.muli v1006 c256_i32_627
  v1012
def k0_off32 (i : grid0.Coords) (k0_t15 : Fin (k0_t15_loop i).trips) : Fin 2 → Nat :=
  let c2_i32_621 : BitVec 32 := 2#32
  let c0_i32_369 : BitVec 32 := 0#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v607 : BitVec 32 := Scalar.subi v54 c0_i32_369
  let c1_i32_370 : BitVec 32 := 1#32
  let v609 : BitVec 32 := Scalar.divsi v607 c1_i32_370
  let v610 : BitVec 32 := Scalar.muli v609 c1_i32_370
  let v611 : BitVec 32 := Scalar.addi c0_i32_369 v610
  let c1_i32_372 : BitVec 32 := 1#32
  let arg24 : BitVec 32 := Scf.iv v611 c1_i32_372 k0_t15
  let v1005 : BitVec 32 := Scalar.muli c2_i32_621 arg24
  let c1_i32_622 : BitVec 32 := 1#32
  let v1006 : BitVec 32 := Scalar.addi v1005 c1_i32_622
  let c256_i32_627 : BitVec 32 := 256#32
  let v1012 : BitVec 32 := Scalar.muli v1006 c256_i32_627
  let v1013 : BitVec 32 := v1012
  let v1014 : Index := Scalar.indexCast v1013
  let c0_628 : Index := 0#32
  ![v1014.toNat, 0]
def k0_mult73 (i : grid0.Coords) (k0_t15 : Fin (k0_t15_loop i).trips) : BitVec 32 :=
  let c2_i32_623 : BitVec 32 := 2#32
  let c0_i32_369 : BitVec 32 := 0#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v607 : BitVec 32 := Scalar.subi v54 c0_i32_369
  let c1_i32_370 : BitVec 32 := 1#32
  let v609 : BitVec 32 := Scalar.divsi v607 c1_i32_370
  let v610 : BitVec 32 := Scalar.muli v609 c1_i32_370
  let v611 : BitVec 32 := Scalar.addi c0_i32_369 v610
  let c1_i32_372 : BitVec 32 := 1#32
  let arg24 : BitVec 32 := Scf.iv v611 c1_i32_372 k0_t15
  let v1007 : BitVec 32 := Scalar.muli c2_i32_623 arg24
  let c2_i32_624 : BitVec 32 := 2#32
  let v1008 : BitVec 32 := Scalar.addi v1007 c2_i32_624
  let c2_i32_625 : BitVec 32 := 2#32
  let v1009 : BitVec 32 := Scalar.muli c2_i32_625 v54
  let c1_i32_626 : BitVec 32 := 1#32
  let v1010 : BitVec 32 := Scalar.subi v1009 c1_i32_626
  let v1011 : BitVec 32 := Scalar.minsi v1008 v1010
  let c256_i32_633 : BitVec 32 := 256#32
  let v1024 : BitVec 32 := Scalar.muli v1011 c256_i32_633
  v1024
def k0_off33 (i : grid0.Coords) (k0_t15 : Fin (k0_t15_loop i).trips) : Fin 3 → Nat :=
  let c0_634 : Index := 0#32
  let c2_i32_623 : BitVec 32 := 2#32
  let c0_i32_369 : BitVec 32 := 0#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v607 : BitVec 32 := Scalar.subi v54 c0_i32_369
  let c1_i32_370 : BitVec 32 := 1#32
  let v609 : BitVec 32 := Scalar.divsi v607 c1_i32_370
  let v610 : BitVec 32 := Scalar.muli v609 c1_i32_370
  let v611 : BitVec 32 := Scalar.addi c0_i32_369 v610
  let c1_i32_372 : BitVec 32 := 1#32
  let arg24 : BitVec 32 := Scf.iv v611 c1_i32_372 k0_t15
  let v1007 : BitVec 32 := Scalar.muli c2_i32_623 arg24
  let c2_i32_624 : BitVec 32 := 2#32
  let v1008 : BitVec 32 := Scalar.addi v1007 c2_i32_624
  let c2_i32_625 : BitVec 32 := 2#32
  let v1009 : BitVec 32 := Scalar.muli c2_i32_625 v54
  let c1_i32_626 : BitVec 32 := 1#32
  let v1010 : BitVec 32 := Scalar.subi v1009 c1_i32_626
  let v1011 : BitVec 32 := Scalar.minsi v1008 v1010
  let c256_i32_633 : BitVec 32 := 256#32
  let v1024 : BitVec 32 := Scalar.muli v1011 c256_i32_633
  let v1025 : BitVec 32 := v1024
  let v1026 : Index := Scalar.indexCast v1025
  let c0_635 : Index := 0#32
  ![0, v1026.toNat, 0]
def k0_mult74 (i : grid0.Coords) (k0_t15 : Fin (k0_t15_loop i).trips) : BitVec 32 :=
  let c2_i32_623 : BitVec 32 := 2#32
  let c0_i32_369 : BitVec 32 := 0#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v607 : BitVec 32 := Scalar.subi v54 c0_i32_369
  let c1_i32_370 : BitVec 32 := 1#32
  let v609 : BitVec 32 := Scalar.divsi v607 c1_i32_370
  let v610 : BitVec 32 := Scalar.muli v609 c1_i32_370
  let v611 : BitVec 32 := Scalar.addi c0_i32_369 v610
  let c1_i32_372 : BitVec 32 := 1#32
  let arg24 : BitVec 32 := Scf.iv v611 c1_i32_372 k0_t15
  let v1007 : BitVec 32 := Scalar.muli c2_i32_623 arg24
  let c2_i32_624 : BitVec 32 := 2#32
  let v1008 : BitVec 32 := Scalar.addi v1007 c2_i32_624
  let c2_i32_625 : BitVec 32 := 2#32
  let v1009 : BitVec 32 := Scalar.muli c2_i32_625 v54
  let c1_i32_626 : BitVec 32 := 1#32
  let v1010 : BitVec 32 := Scalar.subi v1009 c1_i32_626
  let v1011 : BitVec 32 := Scalar.minsi v1008 v1010
  let c256_i32_643 : BitVec 32 := 256#32
  let v1035 : BitVec 32 := Scalar.muli v1011 c256_i32_643
  v1035
def k0_off34 (i : grid0.Coords) (k0_t15 : Fin (k0_t15_loop i).trips) : Fin 3 → Nat :=
  let c0_656 : Index := 0#32
  let c0_657 : Index := 0#32
  let c2_i32_621 : BitVec 32 := 2#32
  let c0_i32_369 : BitVec 32 := 0#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v607 : BitVec 32 := Scalar.subi v54 c0_i32_369
  let c1_i32_370 : BitVec 32 := 1#32
  let v609 : BitVec 32 := Scalar.divsi v607 c1_i32_370
  let v610 : BitVec 32 := Scalar.muli v609 c1_i32_370
  let v611 : BitVec 32 := Scalar.addi c0_i32_369 v610
  let c1_i32_372 : BitVec 32 := 1#32
  let arg24 : BitVec 32 := Scf.iv v611 c1_i32_372 k0_t15
  let v1005 : BitVec 32 := Scalar.muli c2_i32_621 arg24
  let c1_i32_622 : BitVec 32 := 1#32
  let v1006 : BitVec 32 := Scalar.addi v1005 c1_i32_622
  let c256_i32_627 : BitVec 32 := 256#32
  let v1012 : BitVec 32 := Scalar.muli v1006 c256_i32_627
  let v1013 : BitVec 32 := v1012
  let v1054 : Index := Scalar.indexCast v1013
  ![0, 0, v1054.toNat]
def k0_mult75 (i : grid0.Coords) (k0_t15 : Fin (k0_t15_loop i).trips) : BitVec 32 :=
  let c2_i32_623 : BitVec 32 := 2#32
  let c0_i32_369 : BitVec 32 := 0#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v607 : BitVec 32 := Scalar.subi v54 c0_i32_369
  let c1_i32_370 : BitVec 32 := 1#32
  let v609 : BitVec 32 := Scalar.divsi v607 c1_i32_370
  let v610 : BitVec 32 := Scalar.muli v609 c1_i32_370
  let v611 : BitVec 32 := Scalar.addi c0_i32_369 v610
  let c1_i32_372 : BitVec 32 := 1#32
  let arg24 : BitVec 32 := Scf.iv v611 c1_i32_372 k0_t15
  let v1007 : BitVec 32 := Scalar.muli c2_i32_623 arg24
  let c2_i32_624 : BitVec 32 := 2#32
  let v1008 : BitVec 32 := Scalar.addi v1007 c2_i32_624
  let c2_i32_625 : BitVec 32 := 2#32
  let v1009 : BitVec 32 := Scalar.muli c2_i32_625 v54
  let c1_i32_626 : BitVec 32 := 1#32
  let v1010 : BitVec 32 := Scalar.subi v1009 c1_i32_626
  let v1011 : BitVec 32 := Scalar.minsi v1008 v1010
  let c256_i32_666 : BitVec 32 := 256#32
  let v1070 : BitVec 32 := Scalar.muli v1011 c256_i32_666
  v1070
def k0_mult76 (i : grid0.Coords) (k0_t15 : Fin (k0_t15_loop i).trips) : BitVec 32 :=
  let c2_i32_623 : BitVec 32 := 2#32
  let c0_i32_369 : BitVec 32 := 0#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v607 : BitVec 32 := Scalar.subi v54 c0_i32_369
  let c1_i32_370 : BitVec 32 := 1#32
  let v609 : BitVec 32 := Scalar.divsi v607 c1_i32_370
  let v610 : BitVec 32 := Scalar.muli v609 c1_i32_370
  let v611 : BitVec 32 := Scalar.addi c0_i32_369 v610
  let c1_i32_372 : BitVec 32 := 1#32
  let arg24 : BitVec 32 := Scf.iv v611 c1_i32_372 k0_t15
  let v1007 : BitVec 32 := Scalar.muli c2_i32_623 arg24
  let c2_i32_624 : BitVec 32 := 2#32
  let v1008 : BitVec 32 := Scalar.addi v1007 c2_i32_624
  let c2_i32_625 : BitVec 32 := 2#32
  let v1009 : BitVec 32 := Scalar.muli c2_i32_625 v54
  let c1_i32_626 : BitVec 32 := 1#32
  let v1010 : BitVec 32 := Scalar.subi v1009 c1_i32_626
  let v1011 : BitVec 32 := Scalar.minsi v1008 v1010
  let c256_i32_689 : BitVec 32 := 256#32
  let v1105 : BitVec 32 := Scalar.muli v1011 c256_i32_689
  v1105
def k0_mult77 (i : grid0.Coords) (k0_t15 : Fin (k0_t15_loop i).trips) : BitVec 32 :=
  let c2_i32_623 : BitVec 32 := 2#32
  let c0_i32_369 : BitVec 32 := 0#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v607 : BitVec 32 := Scalar.subi v54 c0_i32_369
  let c1_i32_370 : BitVec 32 := 1#32
  let v609 : BitVec 32 := Scalar.divsi v607 c1_i32_370
  let v610 : BitVec 32 := Scalar.muli v609 c1_i32_370
  let v611 : BitVec 32 := Scalar.addi c0_i32_369 v610
  let c1_i32_372 : BitVec 32 := 1#32
  let arg24 : BitVec 32 := Scf.iv v611 c1_i32_372 k0_t15
  let v1007 : BitVec 32 := Scalar.muli c2_i32_623 arg24
  let c2_i32_624 : BitVec 32 := 2#32
  let v1008 : BitVec 32 := Scalar.addi v1007 c2_i32_624
  let c2_i32_625 : BitVec 32 := 2#32
  let v1009 : BitVec 32 := Scalar.muli c2_i32_625 v54
  let c1_i32_626 : BitVec 32 := 1#32
  let v1010 : BitVec 32 := Scalar.subi v1009 c1_i32_626
  let v1011 : BitVec 32 := Scalar.minsi v1008 v1010
  let c256_i32_712 : BitVec 32 := 256#32
  let v1140 : BitVec 32 := Scalar.muli v1011 c256_i32_712
  v1140
def k0_off35 (i : grid0.Coords) (k0_t15 : Fin (k0_t15_loop i).trips) : Fin 3 → Nat :=
  let c0_713 : Index := 0#32
  let c2_i32_623 : BitVec 32 := 2#32
  let c0_i32_369 : BitVec 32 := 0#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v607 : BitVec 32 := Scalar.subi v54 c0_i32_369
  let c1_i32_370 : BitVec 32 := 1#32
  let v609 : BitVec 32 := Scalar.divsi v607 c1_i32_370
  let v610 : BitVec 32 := Scalar.muli v609 c1_i32_370
  let v611 : BitVec 32 := Scalar.addi c0_i32_369 v610
  let c1_i32_372 : BitVec 32 := 1#32
  let arg24 : BitVec 32 := Scf.iv v611 c1_i32_372 k0_t15
  let v1007 : BitVec 32 := Scalar.muli c2_i32_623 arg24
  let c2_i32_624 : BitVec 32 := 2#32
  let v1008 : BitVec 32 := Scalar.addi v1007 c2_i32_624
  let c2_i32_625 : BitVec 32 := 2#32
  let v1009 : BitVec 32 := Scalar.muli c2_i32_625 v54
  let c1_i32_626 : BitVec 32 := 1#32
  let v1010 : BitVec 32 := Scalar.subi v1009 c1_i32_626
  let v1011 : BitVec 32 := Scalar.minsi v1008 v1010
  let c256_i32_712 : BitVec 32 := 256#32
  let v1140 : BitVec 32 := Scalar.muli v1011 c256_i32_712
  let v1141 : BitVec 32 := v1140
  let v1142 : Index := Scalar.indexCast v1141
  let c128_714 : Index := 128#32
  ![0, v1142.toNat, 128]
def k0_mult78 (i : grid0.Coords) (k0_t15 : Fin (k0_t15_loop i).trips) : BitVec 32 :=
  let c2_i32_623 : BitVec 32 := 2#32
  let c0_i32_369 : BitVec 32 := 0#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v607 : BitVec 32 := Scalar.subi v54 c0_i32_369
  let c1_i32_370 : BitVec 32 := 1#32
  let v609 : BitVec 32 := Scalar.divsi v607 c1_i32_370
  let v610 : BitVec 32 := Scalar.muli v609 c1_i32_370
  let v611 : BitVec 32 := Scalar.addi c0_i32_369 v610
  let c1_i32_372 : BitVec 32 := 1#32
  let arg24 : BitVec 32 := Scf.iv v611 c1_i32_372 k0_t15
  let v1007 : BitVec 32 := Scalar.muli c2_i32_623 arg24
  let c2_i32_624 : BitVec 32 := 2#32
  let v1008 : BitVec 32 := Scalar.addi v1007 c2_i32_624
  let c2_i32_625 : BitVec 32 := 2#32
  let v1009 : BitVec 32 := Scalar.muli c2_i32_625 v54
  let c1_i32_626 : BitVec 32 := 1#32
  let v1010 : BitVec 32 := Scalar.subi v1009 c1_i32_626
  let v1011 : BitVec 32 := Scalar.minsi v1008 v1010
  let c256_i32_735 : BitVec 32 := 256#32
  let v1175 : BitVec 32 := Scalar.muli v1011 c256_i32_735
  v1175
def k0_off36 (i : grid0.Coords) (k0_t15 : Fin (k0_t15_loop i).trips) : Fin 3 → Nat :=
  let c0_748 : Index := 0#32
  let c80_749 : Index := 80#32
  let c2_i32_621 : BitVec 32 := 2#32
  let c0_i32_369 : BitVec 32 := 0#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v607 : BitVec 32 := Scalar.subi v54 c0_i32_369
  let c1_i32_370 : BitVec 32 := 1#32
  let v609 : BitVec 32 := Scalar.divsi v607 c1_i32_370
  let v610 : BitVec 32 := Scalar.muli v609 c1_i32_370
  let v611 : BitVec 32 := Scalar.addi c0_i32_369 v610
  let c1_i32_372 : BitVec 32 := 1#32
  let arg24 : BitVec 32 := Scf.iv v611 c1_i32_372 k0_t15
  let v1005 : BitVec 32 := Scalar.muli c2_i32_621 arg24
  let c1_i32_622 : BitVec 32 := 1#32
  let v1006 : BitVec 32 := Scalar.addi v1005 c1_i32_622
  let c256_i32_627 : BitVec 32 := 256#32
  let v1012 : BitVec 32 := Scalar.muli v1006 c256_i32_627
  let v1013 : BitVec 32 := v1012
  let v1194 : Index := Scalar.indexCast v1013
  ![0, 80, v1194.toNat]
def k0_mult79 (i : grid0.Coords) (k0_t15 : Fin (k0_t15_loop i).trips) : BitVec 32 :=
  let c2_i32_623 : BitVec 32 := 2#32
  let c0_i32_369 : BitVec 32 := 0#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v607 : BitVec 32 := Scalar.subi v54 c0_i32_369
  let c1_i32_370 : BitVec 32 := 1#32
  let v609 : BitVec 32 := Scalar.divsi v607 c1_i32_370
  let v610 : BitVec 32 := Scalar.muli v609 c1_i32_370
  let v611 : BitVec 32 := Scalar.addi c0_i32_369 v610
  let c1_i32_372 : BitVec 32 := 1#32
  let arg24 : BitVec 32 := Scf.iv v611 c1_i32_372 k0_t15
  let v1007 : BitVec 32 := Scalar.muli c2_i32_623 arg24
  let c2_i32_624 : BitVec 32 := 2#32
  let v1008 : BitVec 32 := Scalar.addi v1007 c2_i32_624
  let c2_i32_625 : BitVec 32 := 2#32
  let v1009 : BitVec 32 := Scalar.muli c2_i32_625 v54
  let c1_i32_626 : BitVec 32 := 1#32
  let v1010 : BitVec 32 := Scalar.subi v1009 c1_i32_626
  let v1011 : BitVec 32 := Scalar.minsi v1008 v1010
  let c256_i32_758 : BitVec 32 := 256#32
  let v1210 : BitVec 32 := Scalar.muli v1011 c256_i32_758
  v1210
def k0_mult80 (i : grid0.Coords) (k0_t15 : Fin (k0_t15_loop i).trips) : BitVec 32 :=
  let c2_i32_623 : BitVec 32 := 2#32
  let c0_i32_369 : BitVec 32 := 0#32
  let arg1 : BitVec 32 := BitVec.ofNat 32 (i 1).val
  let c512_i32 : BitVec 32 := 512#32
  let v0 : BitVec 32 := Scalar.muli arg1 c512_i32
  let c512_i32_5 : BitVec 32 := 512#32
  let v19 : BitVec 32 := Scalar.addi v0 c512_i32_5
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32 : BitVec 32 := 256#32
  let c0_i32_8 : BitVec 32 := 0#32
  let v26 : BitVec 1 := Scalar.cmpi .sgt c256_i32 c0_i32_8
  let v27 : BitVec 32 := Scalar.extui v26
  let c0_i32_9 : BitVec 32 := 0#32
  let v28 : BitVec 1 := Scalar.cmpi .slt c256_i32 c0_i32_9
  let v29 : BitVec 32 := Scalar.extui v28
  let v30 : BitVec 32 := Scalar.subi v27 v29
  let v31 : BitVec 1 := Scalar.cmpi .ne v25 v30
  let v32 : BitVec 32 := Scalar.remsi v19 c256_i32
  let c0_i32_10 : BitVec 32 := 0#32
  let v33 : BitVec 1 := Scalar.cmpi .ne v32 c0_i32_10
  let v34 : BitVec 1 := Scalar.andi v31 v33
  let v20 : BitVec 32 := Scalar.divsi v19 c256_i32
  let c1_i32_11 : BitVec 32 := 1#32
  let v35 : BitVec 32 := Scalar.subi v20 c1_i32_11
  let v36 : BitVec 32 := Scalar.select v34 v35 v20
  let c1_i32_12 : BitVec 32 := 1#32
  let v37 : BitVec 32 := Scalar.addi v36 c1_i32_12
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c2_i32 : BitVec 32 := 2#32
  let c0_i32_15 : BitVec 32 := 0#32
  let v44 : BitVec 1 := Scalar.cmpi .sgt c2_i32 c0_i32_15
  let v45 : BitVec 32 := Scalar.extui v44
  let c0_i32_16 : BitVec 32 := 0#32
  let v46 : BitVec 1 := Scalar.cmpi .slt c2_i32 c0_i32_16
  let v47 : BitVec 32 := Scalar.extui v46
  let v48 : BitVec 32 := Scalar.subi v45 v47
  let v49 : BitVec 1 := Scalar.cmpi .ne v43 v48
  let v50 : BitVec 32 := Scalar.remsi v37 c2_i32
  let c0_i32_17 : BitVec 32 := 0#32
  let v51 : BitVec 1 := Scalar.cmpi .ne v50 c0_i32_17
  let v52 : BitVec 1 := Scalar.andi v49 v51
  let v38 : BitVec 32 := Scalar.divsi v37 c2_i32
  let c1_i32_18 : BitVec 32 := 1#32
  let v53 : BitVec 32 := Scalar.subi v38 c1_i32_18
  let v54 : BitVec 32 := Scalar.select v52 v53 v38
  let v607 : BitVec 32 := Scalar.subi v54 c0_i32_369
  let c1_i32_370 : BitVec 32 := 1#32
  let v609 : BitVec 32 := Scalar.divsi v607 c1_i32_370
  let v610 : BitVec 32 := Scalar.muli v609 c1_i32_370
  let v611 : BitVec 32 := Scalar.addi c0_i32_369 v610
  let c1_i32_372 : BitVec 32 := 1#32
  let arg24 : BitVec 32 := Scf.iv v611 c1_i32_372 k0_t15
  let v1007 : BitVec 32 := Scalar.muli c2_i32_623 arg24
  let c2_i32_624 : BitVec 32 := 2#32
  let v1008 : BitVec 32 := Scalar.addi v1007 c2_i32_624
  let c2_i32_625 : BitVec 32 := 2#32
  let v1009 : BitVec 32 := Scalar.muli c2_i32_625 v54
  let c1_i32_626 : BitVec 32 := 1#32
  let v1010 : BitVec 32 := Scalar.subi v1009 c1_i32_626
  let v1011 : BitVec 32 := Scalar.minsi v1008 v1010
  let c256_i32_781 : BitVec 32 := 256#32
  let v1245 : BitVec 32 := Scalar.muli v1011 c256_i32_781
  v1245
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x8192x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x8192x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x160x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2.lean ====
abbrev S4x8192x1024 : Shape := ⟨3, ![4, 8192, 1024]⟩
abbrev S1024 : Shape := ⟨1, ![1024]⟩
abbrev S4x1024 : Shape := ⟨2, ![4, 1024]⟩
abbrev S1024x2888 : Shape := ⟨2, ![1024, 2888]⟩
abbrev S_ : Shape := ⟨0, ![]⟩
abbrev S1024x2944 : Shape := ⟨2, ![1024, 2944]⟩
abbrev S4x1x1024 : Shape := ⟨3, ![4, 1, 1024]⟩
abbrev S1x1024 : Shape := ⟨2, ![1, 1024]⟩
abbrev S4x8192x256 : Shape := ⟨3, ![4, 8192, 256]⟩
abbrev S4x8192x512 : Shape := ⟨3, ![4, 8192, 512]⟩
abbrev S4x512x8192 : Shape := ⟨3, ![4, 512, 8192]⟩
abbrev S4x160x8192 : Shape := ⟨3, ![4, 160, 8192]⟩
abbrev S4x8192x64 : Shape := ⟨3, ![4, 8192, 64]⟩
abbrev S4x8x8192 : Shape := ⟨3, ![4, 8, 8192]⟩
abbrev S1x512x1024 : Shape := ⟨3, ![1, 512, 1024]⟩
abbrev S1x1x1024 : Shape := ⟨3, ![1, 1, 1024]⟩
abbrev S1x512x256 : Shape := ⟨3, ![1, 512, 256]⟩
abbrev S1x512x512 : Shape := ⟨3, ![1, 512, 512]⟩
abbrev S1x160x512 : Shape := ⟨3, ![1, 160, 512]⟩
abbrev S1x512x64 : Shape := ⟨3, ![1, 512, 64]⟩
abbrev S1x8x512 : Shape := ⟨3, ![1, 8, 512]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1024x512 : Shape := ⟨2, ![1024, 512]⟩
abbrev S512x512 : Shape := ⟨2, ![512, 512]⟩
abbrev S1024x128 : Shape := ⟨2, ![1024, 128]⟩
abbrev S512x128 : Shape := ⟨2, ![512, 128]⟩
abbrev S512x64 : Shape := ⟨2, ![512, 64]⟩
abbrev S128x512 : Shape := ⟨2, ![128, 512]⟩
abbrev S16x512 : Shape := ⟨2, ![16, 512]⟩
abbrev S64x512 : Shape := ⟨2, ![64, 512]⟩
abbrev S1x64x512 : Shape := ⟨3, ![1, 64, 512]⟩
abbrev S1x16x512 : Shape := ⟨3, ![1, 16, 512]⟩
abbrev S8x512 : Shape := ⟨2, ![8, 512]⟩

abbrev nBuf : Space → Nat
  | .hbm => 22
  | .vmem => 28
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x2888, .f32⟩
  | .hbm, ⟨5, _⟩ => ⟨S_, .i32⟩
  | .hbm, ⟨6, _⟩ => ⟨S_, .f32⟩
  | .hbm, ⟨7, _⟩ => ⟨S1024x2944, .f32⟩
  | .hbm, ⟨8, _⟩ => ⟨S1024x2944, .bf16⟩
  | .hbm, ⟨9, _⟩ => ⟨S4x1x1024, .f32⟩
  | .hbm, ⟨10, _⟩ => ⟨S4x1x1024, .f32⟩
  | .hbm, ⟨11, _⟩ => ⟨S1x1024, .f32⟩
  | .hbm, ⟨12, _⟩ => ⟨S4x8192x256, .bf16⟩
  | .hbm, ⟨13, _⟩ => ⟨S4x8192x256, .bf16⟩
  | .hbm, ⟨14, _⟩ => ⟨S4x8192x512, .bf16⟩
  | .hbm, ⟨15, _⟩ => ⟨S4x8192x512, .bf16⟩
  | .hbm, ⟨16, _⟩ => ⟨S4x512x8192, .bf16⟩
  | .hbm, ⟨17, _⟩ => ⟨S4x8192x256, .bf16⟩
  | .hbm, ⟨18, _⟩ => ⟨S4x160x8192, .bf16⟩
  | .hbm, ⟨19, _⟩ => ⟨S4x512x8192, .bf16⟩
  | .hbm, ⟨20, _⟩ => ⟨S4x8192x64, .bf16⟩
  | .hbm, ⟨21, _⟩ => ⟨S4x8x8192, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2944, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x256, .bf16⟩
  | .local _ .vmem, ⟨19, _⟩ => ⟨S1x512x256, .bf16⟩
  | .local _ .vmem, ⟨20, _⟩ => ⟨S1x160x512, .bf16⟩
  | .local _ .vmem, ⟨21, _⟩ => ⟨S1x160x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x64, .bf16⟩
  | .local _ .vmem, ⟨25, _⟩ => ⟨S1x512x64, .bf16⟩
  | .local _ .vmem, ⟨26, _⟩ => ⟨S1x8x512, .f32⟩
  | .local _ .vmem, ⟨27, _⟩ => ⟨S1x8x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_v5_6 : Ref sig .tc := ⟨.hbm, 18, rfl⟩
abbrev main_v5_7 : Ref sig .tc := ⟨.hbm, 19, rfl⟩
abbrev main_v5_8 : Ref sig .tc := ⟨.hbm, 20, rfl⟩
abbrev main_v5_9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2944 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x160x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference2Ideal.lean ====
abbrev S4x8192x1024 : Shape := ⟨3, ![4, 8192, 1024]⟩
abbrev S1024 : Shape := ⟨1, ![1024]⟩
abbrev S4x1024 : Shape := ⟨2, ![4, 1024]⟩
abbrev S1024x2888 : Shape := ⟨2, ![1024, 2888]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x2888 : Shape := ⟨3, ![4, 8192, 2888]⟩
abbrev S4x8192x256 : Shape := ⟨3, ![4, 8192, 256]⟩
abbrev S4x8192x512 : Shape := ⟨3, ![4, 8192, 512]⟩
abbrev S4x8192x128 : Shape := ⟨3, ![4, 8192, 128]⟩
abbrev S4x8192x64 : Shape := ⟨3, ![4, 8192, 64]⟩
abbrev S4x8192x8 : Shape := ⟨3, ![4, 8192, 8]⟩
abbrev S8192 : Shape := ⟨1, ![8192]⟩
abbrev S1x8192x1 : Shape := ⟨3, ![1, 8192, 1]⟩
abbrev S4x8192x3 : Shape := ⟨3, ![4, 8192, 3]⟩
abbrev S4x8192x58 : Shape := ⟨3, ![4, 8192, 58]⟩
abbrev S4x1x8192 : Shape := ⟨3, ![4, 1, 8192]⟩
abbrev S4x15x8192 : Shape := ⟨3, ![4, 15, 8192]⟩
abbrev S4x16x8192 : Shape := ⟨3, ![4, 16, 8192]⟩
abbrev S4x128x8192 : Shape := ⟨3, ![4, 128, 8192]⟩
abbrev S4x64x8192 : Shape := ⟨3, ![4, 64, 8192]⟩
abbrev S4x160x8192 : Shape := ⟨3, ![4, 160, 8192]⟩
abbrev S4x512x8192 : Shape := ⟨3, ![4, 512, 8192]⟩
abbrev S4x8x8192 : Shape := ⟨3, ![4, 8, 8192]⟩

abbrev nBuf : Space → Nat
  | .hbm => 121
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x2888, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S4x1x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x8192x1024, .f32⟩
  | .hbm, ⟨26, _⟩ => ⟨S4x8192x1024, .f32⟩
  | .hbm, ⟨27, _⟩ => ⟨S4x1x1024, .f32⟩
  | .hbm, ⟨28, _⟩ => ⟨S4x8192x1024, .f32⟩
  | .hbm, ⟨29, _⟩ => ⟨S4x8192x1024, .f32⟩
  | .hbm, ⟨30, _⟩ => ⟨S4x8192x2888, .f32⟩
  | .hbm, ⟨31, _⟩ => ⟨S4x8192x256, .f32⟩
  | .hbm, ⟨32, _⟩ => ⟨S4x8192x256, .f32⟩
  | .hbm, ⟨33, _⟩ => ⟨S4x8192x512, .f32⟩
  | .hbm, ⟨34, _⟩ => ⟨S4x8192x512, .f32⟩
  | .hbm, ⟨35, _⟩ => ⟨S4x8192x512, .f32⟩
  | .hbm, ⟨36, _⟩ => ⟨S4x8192x128, .f32⟩
  | .hbm, ⟨37, _⟩ => ⟨S4x8192x128, .f32⟩
  | .hbm, ⟨38, _⟩ => ⟨S4x8192x512, .f32⟩
  | .hbm, ⟨39, _⟩ => ⟨S4x8192x64, .f32⟩
  | .hbm, ⟨40, _⟩ => ⟨S4x8192x8, .f32⟩
  | .hbm, ⟨41, _⟩ => ⟨S_, .f32⟩
  | .hbm, ⟨42, _⟩ => ⟨S4x8192x256, .f32⟩
  | .hbm, ⟨43, _⟩ => ⟨S4x8192x256, .f32⟩
  | .hbm, ⟨44, _⟩ => ⟨S_, .f32⟩
  | .hbm, ⟨45, _⟩ => ⟨S4x8192x512, .f32⟩
  | .hbm, ⟨46, _⟩ => ⟨S4x8192x512, .f32⟩
  | .hbm, ⟨47, _⟩ => ⟨S_, .f32⟩
  | .hbm, ⟨48, _⟩ => ⟨S4x8192x8, .f32⟩
  | .hbm, ⟨49, _⟩ => ⟨S4x8192x8, .f32⟩
  | .hbm, ⟨50, _⟩ => ⟨S8192, .i32⟩
  | .hbm, ⟨51, _⟩ => ⟨S1x8192x1, .i32⟩
  | .hbm, ⟨52, _⟩ => ⟨S4x8192x3, .i32⟩
  | .hbm, ⟨53, _⟩ => ⟨S_, .i32⟩
  | .hbm, ⟨54, _⟩ => ⟨S_, .i32⟩
  | .hbm, ⟨55, _⟩ => ⟨S4x8192x3, .i32⟩
  | .hbm, ⟨56, _⟩ => ⟨S4x8192x3, .i32⟩
  | .hbm, ⟨57, _⟩ => ⟨S4x8192x3, .i32⟩
  | .hbm, ⟨58, _⟩ => ⟨S_, .i32⟩
  | .hbm, ⟨59, _⟩ => ⟨S4x8192x3, .i32⟩
  | .hbm, ⟨60, _⟩ => ⟨S4x8192x3, .i1⟩
  | .hbm, ⟨61, _⟩ => ⟨S4x8192x3, .i32⟩
  | .hbm, ⟨62, _⟩ => ⟨S4x8192x3, .i32⟩
  | .hbm, ⟨63, _⟩ => ⟨S_, .i32⟩
  | .hbm, ⟨64, _⟩ => ⟨S4x8192x3, .i32⟩
  | .hbm, ⟨65, _⟩ => ⟨S4x8192x3, .i1⟩
  | .hbm, ⟨66, _⟩ => ⟨S4x8192x3, .i1⟩
  | .hbm, ⟨67, _⟩ => ⟨S_, .i32⟩
  | .hbm, ⟨68, _⟩ => ⟨S4x8192x3, .i32⟩
  | .hbm, ⟨69, _⟩ => ⟨S4x8192x3, .i32⟩
  | .hbm, ⟨70, _⟩ => ⟨S4x8192x3, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i1⟩
  | .hbm, ⟨75, _⟩ => ⟨S_, .i32⟩
  | .hbm, ⟨76, _⟩ => ⟨S_, .i32⟩
  | .hbm, ⟨77, _⟩ => ⟨S4x8192x3, .i32⟩
  | .hbm, ⟨78, _⟩ => ⟨S4x8192x3, .i32⟩
  | .hbm, ⟨79, _⟩ => ⟨S_, .i32⟩
  | .hbm, ⟨80, _⟩ => ⟨S4x8192x3, .i32⟩
  | .hbm, ⟨81, _⟩ => ⟨S4x8192x3, .i1⟩
  | .hbm, ⟨82, _⟩ => ⟨S_, .i32⟩
  | .hbm, ⟨83, _⟩ => ⟨S4x8192x3, .i32⟩
  | .hbm, ⟨84, _⟩ => ⟨S4x8192x3, .i1⟩
  | .hbm, ⟨85, _⟩ => ⟨S_, .i32⟩
  | .hbm, ⟨86, _⟩ => ⟨S_, .i1⟩
  | .hbm, ⟨87, _⟩ => ⟨S4x8192x3, .i1⟩
  | .hbm, ⟨88, _⟩ => ⟨S4x8192x3, .i1⟩
  | .hbm, ⟨89, _⟩ => ⟨S4x8192x3, .i1⟩
  | .hbm, ⟨90, _⟩ => ⟨S4x8192x3, .i32⟩
  | .hbm, ⟨91, _⟩ => ⟨S4x8192x3, .i32⟩
  | .hbm, ⟨92, _⟩ => ⟨S4x8192x3, .i32⟩
  | .hbm, ⟨93, _⟩ => ⟨S_, .i32⟩
  | .hbm, ⟨94, _⟩ => ⟨S4x8192x58, .i32⟩
  | .hbm, ⟨95, _⟩ => ⟨S4x8192x64, .i32⟩
  | .hbm, ⟨96, _⟩ => ⟨S4x8192x64, .f32⟩
  | .hbm, ⟨97, _⟩ => ⟨S4x8192x64, .f32⟩
  | .hbm, ⟨98, _⟩ => ⟨S4x8192x64, .f32⟩
  | .hbm, ⟨99, _⟩ => ⟨S4x8192x256, .f32⟩
  | .hbm, ⟨100, _⟩ => ⟨S_, .f32⟩
  | .hbm, ⟨101, _⟩ => ⟨S4x1x8192, .f32⟩
  | .hbm, ⟨102, _⟩ => ⟨S_, .f32⟩
  | .hbm, ⟨103, _⟩ => ⟨S4x15x8192, .f32⟩
  | .hbm, ⟨104, _⟩ => ⟨S4x16x8192, .f32⟩
  | .hbm, ⟨105, _⟩ => ⟨S4x128x8192, .f32⟩
  | .hbm, ⟨106, _⟩ => ⟨S4x64x8192, .f32⟩
  | .hbm, ⟨107, _⟩ => ⟨S4x64x8192, .f32⟩
  | .hbm, ⟨108, _⟩ => ⟨S4x160x8192, .f32⟩
  | .hbm, ⟨109, _⟩ => ⟨S4x8192x256, .bf16⟩
  | .hbm, ⟨110, _⟩ => ⟨S4x8192x256, .bf16⟩
  | .hbm, ⟨111, _⟩ => ⟨S4x8192x512, .bf16⟩
  | .hbm, ⟨112, _⟩ => ⟨S4x8192x512, .bf16⟩
  | .hbm, ⟨113, _⟩ => ⟨S4x512x8192, .f32⟩
  | .hbm, ⟨114, _⟩ => ⟨S4x512x8192, .bf16⟩
  | .hbm, ⟨115, _⟩ => ⟨S4x8192x256, .bf16⟩
  | .hbm, ⟨116, _⟩ => ⟨S4x160x8192, .bf16⟩
  | .hbm, ⟨117, _⟩ => ⟨S4x512x8192, .f32⟩
  | .hbm, ⟨118, _⟩ => ⟨S4x512x8192, .bf16⟩
  | .hbm, ⟨119, _⟩ => ⟨S4x8192x64, .bf16⟩
  | .hbm, ⟨120, _⟩ => ⟨S4x8x8192, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_c : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_c_0 : Ref sig .tc := ⟨.hbm, 67, rfl⟩
abbrev main_call0_v12 : Ref sig .tc := ⟨.hbm, 68, rfl⟩
abbrev main_call0_v13 : Ref sig .tc := ⟨.hbm, 69, rfl⟩
abbrev main_v41 : Ref sig .tc := ⟨.hbm, 70, rfl⟩
abbrev main_c_6 : Ref sig .tc := ⟨.hbm, 71, rfl⟩
abbrev main_call1_v0 : Ref sig .tc := ⟨.hbm, 72, rfl⟩
abbrev main_call1_c : Ref sig .tc := ⟨.hbm, 73, rfl⟩
abbrev main_call1_v1 : Ref sig .tc := ⟨.hbm, 74, rfl⟩
abbrev main_call1_c_0 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_c_1 : Ref sig .tc := ⟨.hbm, 79, rfl⟩
abbrev main_call1_v5 : Ref sig .tc := ⟨.hbm, 80, rfl⟩
abbrev main_call1_v6 : Ref sig .tc := ⟨.hbm, 81, rfl⟩
abbrev main_call1_c_2 : Ref sig .tc := ⟨.hbm, 82, rfl⟩
abbrev main_call1_v7 : Ref sig .tc := ⟨.hbm, 83, rfl⟩
abbrev main_call1_v8 : Ref sig .tc := ⟨.hbm, 84, rfl⟩
abbrev main_call1_c_3 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_v12 : Ref sig .tc := ⟨.hbm, 89, rfl⟩
abbrev main_call1_v13 : Ref sig .tc := ⟨.hbm, 90, rfl⟩
abbrev main_call1_v14 : Ref sig .tc := ⟨.hbm, 91, rfl⟩
abbrev main_v42 : Ref sig .tc := ⟨.hbm, 92, rfl⟩
abbrev main_c_7 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_cst_8 : Ref sig .tc := ⟨.hbm, 100, rfl⟩
abbrev main_v49 : Ref sig .tc := ⟨.hbm, 101, rfl⟩
abbrev main_cst_9 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩

abbrev nD : Nat := 1
abbrev τ : Topo := Topo.v7x

variable {F : FTy → Type} [FloatOps F]
-- ==== Kernel3.lean ====
abbrev S1179648x128 : Shape := ⟨2, ![1179648, 128]⟩
abbrev S288 : Shape := ⟨1, ![288]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S4096x128 : Shape := ⟨2, ![4096, 128]⟩
abbrev S1x1x2048 : Shape := ⟨3, ![1, 1, 2048]⟩
abbrev S1x1x1024 : Shape := ⟨3, ![1, 1, 1024]⟩
abbrev S1024x2048 : Shape := ⟨2, ![1024, 2048]⟩
abbrev S1024x1024 : Shape := ⟨2, ![1024, 1024]⟩
abbrev S_ : Shape := ⟨0, ![]⟩
abbrev S1x1024x2048 : Shape := ⟨3, ![1, 1024, 2048]⟩
abbrev S1x1024x1024 : Shape := ⟨3, ![1, 1024, 1024]⟩
abbrev S512x128 : Shape := ⟨2, ![512, 128]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 8
  | .vmem => 12
  | .smem => 3
  | _ => 0

abbrev bufTy : (tb : Table) → Fin (tcTables nBuf tb) → BufTy
  | .hbm, ⟨0, _⟩ => ⟨S1179648x128, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1x2048, .f32⟩
  | .hbm, ⟨6, _⟩ => ⟨S32x1x1024, .f32⟩
  | .hbm, ⟨7, _⟩ => ⟨S1179648x128, .f32⟩
  | .local _ .vmem, ⟨0, _⟩ => ⟨S4096x128, .f32⟩
  | .local _ .vmem, ⟨1, _⟩ => ⟨S4096x128, .f32⟩
  | .local _ .vmem, ⟨2, _⟩ => ⟨S1x1x2048, .f32⟩
  | .local _ .vmem, ⟨3, _⟩ => ⟨S1x1x2048, .f32⟩
  | .local _ .vmem, ⟨4, _⟩ => ⟨S1x1x1024, .f32⟩
  | .local _ .vmem, ⟨5, _⟩ => ⟨S1x1x1024, .f32⟩
  | .local _ .vmem, ⟨6, _⟩ => ⟨S4096x128, .f32⟩
  | .local _ .vmem, ⟨7, _⟩ => ⟨S4096x128, .f32⟩
  | .local _ .vmem, ⟨8, _⟩ => ⟨S1024x2048, .f32⟩
  | .local _ .vmem, ⟨9, _⟩ => ⟨S1024x1024, .f32⟩
  | .local _ .vmem, ⟨10, _⟩ => ⟨S1024x2048, .bf16⟩
  | .local _ .vmem, ⟨11, _⟩ => ⟨S1024x1024, .bf16⟩
  | .local _ .smem, ⟨0, _⟩ => ⟨S288, .i32⟩
  | .local _ .smem, ⟨1, _⟩ => ⟨S1, .i32⟩
  | .local _ .smem, ⟨2, _⟩ => ⟨S288, .i32⟩
  | _, _ => ⟨S1179648x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![288], ![false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k0_off2 (v3 : BitVec 32) : Fin 3 → Nat :=
  let c0_i32_6 : BitVec 32 := 0#32
  let c0_i32_7 : BitVec 32 := 0#32
  ![v3.toNat, 0, 0]

def k0_off3 (v3 : BitVec 32) : Fin 3 → Nat :=
  let c0_i32_8 : BitVec 32 := 0#32
  let c0_i32_9 : BitVec 32 := 0#32
  ![v3.toNat, 0, 0]

def k0_chk1 (i : grid0.Coords) (v3 : BitVec 32) : Prop :=
  (∀ (k0_h1 : k0_cond1 i = 1#1), ∀ a, (k0_off2 v3) a + S1x1024x2048.size a ≤ S32x1024x2048.size a) ∧
  (∀ (k0_h1 : k0_cond1 i = 1#1), ∀ a, (k0_off3 v3) a + S1x1024x1024.size a ≤ S32x1024x1024.size a)
theorem k0_off2_inb : ∀ (i : grid0.Coords) (v3 : BitVec 32) (k0_hw1 : k0_chk1 i v3), ∀ (k0_h1 : k0_cond1 i = 1#1), ∀ a, (k0_off2 v3) a + S1x1024x2048.size a ≤ S32x1024x2048.size a := fun i v3 k0_hw1 k0_h1 => k0_hw1.1 k0_h1
theorem k0_off3_inb : ∀ (i : grid0.Coords) (v3 : BitVec 32) (k0_hw1 : k0_chk1 i v3), ∀ (k0_h1 : k0_cond1 i = 1#1), ∀ a, (k0_off3 v3) a + S1x1024x1024.size a ≤ S32x1024x1024.size a := fun i v3 k0_hw1 k0_h1 => k0_hw1.2 k0_h1

def k0_off4 (i : grid0.Coords) : Fin 1 → Nat :=
  let arg0 : BitVec 32 := BitVec.ofNat 32 (i 0).val
  let c1_i32 : BitVec 32 := 1#32
  let v8 : BitVec 32 := Scalar.subi arg0 c1_i32
  let c0_i32_2 : BitVec 32 := 0#32
  let v9 : BitVec 32 := Scalar.maxsi v8 c0_i32_2
  let v10 : Index := Scalar.indexCast v9
  ![v10.toNat]
def k0_off5 (v3 : BitVec 32) : Fin 3 → Nat :=
  let c0_i32_6 : BitVec 32 := 0#32
  let c0_i32_7 : BitVec 32 := 0#32
  ![v3.toNat, 0, 0]
def k0_cond2 (i : grid0.Coords) (v0 : BitVec 32) (v3 : BitVec 32) (v11 : BitVec 32) : BitVec 1 :=
  let arg0 : BitVec 32 := BitVec.ofNat 32 (i 0).val
  let v1 : BitVec 1 := Scalar.cmpi .slt arg0 v0
  let c0_i32_1 : BitVec 32 := 0#32
  let v7 : BitVec 1 := Scalar.cmpi .eq arg0 c0_i32_1
  let v12 : BitVec 1 := Scalar.cmpi .ne v3 v11
  let v13 : BitVec 1 := Scalar.ori v7 v12
  let v14 : BitVec 1 := Scalar.andi v1 v13
  let v15 : BitVec 32 := Scalar.extui v14
  let c0_i32_3 : BitVec 32 := 0#32
  let v16 : BitVec 1 := Scalar.cmpi .ne v15 c0_i32_3
  v16

def k0_off6 (v3 : BitVec 32) : Fin 3 → Nat :=
  let c0_i32_8 : BitVec 32 := 0#32
  let c0_i32_9 : BitVec 32 := 0#32
  ![v3.toNat, 0, 0]

def k0_chk2 (i : grid0.Coords) (v0 : BitVec 32) (v3 : BitVec 32) (v11 : BitVec 32) : Prop :=
  (∀ (k0_h2 : k0_cond2 i v0 v3 v11 = 1#1), ∀ a, (k0_off5 v3) a + S1x1024x2048.size a ≤ S32x1024x2048.size a) ∧
  (∀ (k0_h2 : k0_cond2 i v0 v3 v11 = 1#1), ∀ a, (k0_off6 v3) a + S1x1024x1024.size a ≤ S32x1024x1024.size a)
theorem k0_off5_inb : ∀ (i : grid0.Coords) (v0 : BitVec 32) (v3 : BitVec 32) (v11 : BitVec 32) (k0_hw2 : k0_chk2 i v0 v3 v11), ∀ (k0_h2 : k0_cond2 i v0 v3 v11 = 1#1), ∀ a, (k0_off5 v3) a + S1x1024x2048.size a ≤ S32x1024x2048.size a := fun i v0 v3 v11 k0_hw2 k0_h2 => k0_hw2.1 k0_h2
theorem k0_off6_inb : ∀ (i : grid0.Coords) (v0 : BitVec 32) (v3 : BitVec 32) (v11 : BitVec 32) (k0_hw2 : k0_chk2 i v0 v3 v11), ∀ (k0_h2 : k0_cond2 i v0 v3 v11 = 1#1), ∀ a, (k0_off6 v3) a + S1x1024x1024.size a ≤ S32x1024x1024.size a := fun i v0 v3 v11 k0_hw2 k0_h2 => k0_hw2.2 k0_h2

def k0_off7 (i : grid0.Coords) : Fin 1 → Nat :=
  let arg0 : BitVec 32 := BitVec.ofNat 32 (i 0).val
  let v36 : Index := Scalar.indexCast arg0
  ![v36.toNat]
def k0_off8 (i : grid0.Coords) : Fin 1 → Nat :=
  let arg0 : BitVec 32 := BitVec.ofNat 32 (i 0).val
  let v41 : Index := Scalar.indexCast arg0
  ![v41.toNat]
def k0_off9 (v42 : BitVec 32) : Fin 3 → Nat :=
  let c0_i32_20 : BitVec 32 := 0#32
  let c0_i32_21 : BitVec 32 := 0#32
  ![v42.toNat, 0, 0]
def k0_cond3 (v37 : BitVec 32) : BitVec 1 :=
  let c0_i32_18 : BitVec 32 := 0#32
  let v38 : BitVec 1 := Scalar.cmpi .sge v37 c0_i32_18
  let v39 : BitVec 32 := Scalar.extui v38
  let c0_i32_19 : BitVec 32 := 0#32
  let v40 : BitVec 1 := Scalar.cmpi .ne v39 c0_i32_19
  v40

def k0_off10 (v42 : BitVec 32) : Fin 3 → Nat :=
  let c0_i32_22 : BitVec 32 := 0#32
  let c0_i32_23 : BitVec 32 := 0#32
  ![v42.toNat, 0, 0]

def k0_chk3 (i : grid0.Coords) (v0 : BitVec 32) (v3 : BitVec 32) (v11 : BitVec 32) (v37 : BitVec 32) (v42 : BitVec 32) : Prop :=
  (∀ (k0_h2 : k0_cond2 i v0 v3 v11 = 1#1), ∀ (k0_h3 : k0_cond3 v37 = 1#1), ∀ a, (k0_off9 v42) a + S1x1024x2048.size a ≤ S32x1024x2048.size a) ∧
  (∀ (k0_h2 : k0_cond2 i v0 v3 v11 = 1#1), ∀ (k0_h3 : k0_cond3 v37 = 1#1), ∀ a, (k0_off10 v42) a + S1x1024x1024.size a ≤ S32x1024x1024.size a)
theorem k0_off9_inb : ∀ (i : grid0.Coords) (v0 : BitVec 32) (v3 : BitVec 32) (v11 : BitVec 32) (v37 : BitVec 32) (v42 : BitVec 32) (k0_hw3 : k0_chk3 i v0 v3 v11 v37 v42), ∀ (k0_h2 : k0_cond2 i v0 v3 v11 = 1#1), ∀ (k0_h3 : k0_cond3 v37 = 1#1), ∀ a, (k0_off9 v42) a + S1x1024x2048.size a ≤ S32x1024x2048.size a := fun i v0 v3 v11 v37 v42 k0_hw3 k0_h2 k0_h3 => k0_hw3.1 k0_h2 k0_h3
theorem k0_off10_inb : ∀ (i : grid0.Coords) (v0 : BitVec 32) (v3 : BitVec 32) (v11 : BitVec 32) (v37 : BitVec 32) (v42 : BitVec 32) (k0_hw3 : k0_chk3 i v0 v3 v11 v37 v42), ∀ (k0_h2 : k0_cond2 i v0 v3 v11 = 1#1), ∀ (k0_h3 : k0_cond3 v37 = 1#1), ∀ a, (k0_off10 v42) a + S1x1024x1024.size a ≤ S32x1024x1024.size a := fun i v0 v3 v11 v37 v42 k0_hw3 k0_h2 k0_h3 => k0_hw3.2 k0_h2 k0_h3

def k0_cond4 (i : grid0.Coords) (v0 : BitVec 32) : BitVec 1 :=
  let arg0 : BitVec 32 := BitVec.ofNat 32 (i 0).val
  let v1 : BitVec 1 := Scalar.cmpi .slt arg0 v0
  let v17 : BitVec 32 := Scalar.extui v1
  let c0_i32_4 : BitVec 32 := 0#32
  let v18 : BitVec 1 := Scalar.cmpi .ne v17 c0_i32_4
  v18

def k0_cond5 (i : grid0.Coords) (v0 : BitVec 32) : BitVec 1 :=
  let arg0 : BitVec 32 := BitVec.ofNat 32 (i 0).val
  let v1 : BitVec 1 := Scalar.cmpi .slt arg0 v0
  let v_true : BitVec 1 := 1#1
  let v19 : BitVec 1 := Scalar.xori v1 v_true
  let v20 : BitVec 32 := Scalar.extui v19
  let c0_i32_5 : BitVec 32 := 0#32
  let v21 : BitVec 1 := Scalar.cmpi .ne v20 c0_i32_5
  v21

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S1179648x128 : Shape := ⟨2, ![1179648, 128]⟩
abbrev S288 : Shape := ⟨1, ![288]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S288x512x1024 : Shape := ⟨3, ![288, 512, 1024]⟩
abbrev S_ : Shape := ⟨0, ![]⟩
abbrev S288x1 : Shape := ⟨2, ![288, 1]⟩
abbrev S288x1024x2048 : Shape := ⟨3, ![288, 1024, 2048]⟩
abbrev S288x512x2048 : Shape := ⟨3, ![288, 512, 2048]⟩
abbrev S288x2048 : Shape := ⟨2, ![288, 2048]⟩
abbrev S288x1x2048 : Shape := ⟨3, ![288, 1, 2048]⟩
abbrev S288x1024x1024 : Shape := ⟨3, ![288, 1024, 1024]⟩
abbrev S288x1024 : Shape := ⟨2, ![288, 1024]⟩
abbrev S288x1x1024 : Shape := ⟨3, ![288, 1, 1024]⟩
abbrev S288x1x1 : Shape := ⟨3, ![288, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S1179648x128, .f32⟩
  | .hbm, ⟨1, _⟩ => ⟨S288, .i32⟩
  | .hbm, ⟨2, _⟩ => ⟨S1, .i32⟩
  | .hbm, ⟨3, _⟩ => ⟨S288, .i32⟩
  | .hbm, ⟨4, _⟩ => ⟨S32x1024x2048, .f32⟩
  | .hbm, ⟨5, _⟩ => ⟨S32x2048, .f32⟩
  | .hbm, ⟨6, _⟩ => ⟨S32x1024x1024, .f32⟩
  | .hbm, ⟨7, _⟩ => ⟨S32x1024, .f32⟩
  | .hbm, ⟨8, _⟩ => ⟨S288x512x1024, .f32⟩
  | .hbm, ⟨9, _⟩ => ⟨S_, .i32⟩
  | .hbm, ⟨10, _⟩ => ⟨S288, .i32⟩
  | .hbm, ⟨11, _⟩ => ⟨S288, .i1⟩
  | .hbm, ⟨12, _⟩ => ⟨S_, .i32⟩
  | .hbm, ⟨13, _⟩ => ⟨S288, .i32⟩
  | .hbm, ⟨14, _⟩ => ⟨S288, .i32⟩
  | .hbm, ⟨15, _⟩ => ⟨S288, .i32⟩
  | .hbm, ⟨16, _⟩ => ⟨S288x1, .i32⟩
  | .hbm, ⟨17, _⟩ => ⟨S288x1024x2048, .f32⟩
  | .hbm, ⟨18, _⟩ => ⟨S288x512x2048, .f32⟩
  | .hbm, ⟨19, _⟩ => ⟨S_, .i32⟩
  | .hbm, ⟨20, _⟩ => ⟨S288, .i32⟩
  | .hbm, ⟨21, _⟩ => ⟨S288, .i1⟩
  | .hbm, ⟨22, _⟩ => ⟨S_, .i32⟩
  | .hbm, ⟨23, _⟩ => ⟨S288, .i32⟩
  | .hbm, ⟨24, _⟩ => ⟨S288, .i32⟩
  | .hbm, ⟨25, _⟩ => ⟨S288, .i32⟩
  | .hbm, ⟨26, _⟩ => ⟨S288x1, .i32⟩
  | .hbm, ⟨27, _⟩ => ⟨S288x2048, .f32⟩
  | .hbm, ⟨28, _⟩ => ⟨S288x1x2048, .f32⟩
  | .hbm, ⟨29, _⟩ => ⟨S288x512x2048, .f32⟩
  | .hbm, ⟨30, _⟩ => ⟨S288x512x2048, .f32⟩
  | .hbm, ⟨31, _⟩ => ⟨S288x512x1024, .f32⟩
  | .hbm, ⟨32, _⟩ => ⟨S288x512x1024, .f32⟩
  | .hbm, ⟨33, _⟩ => ⟨S_, .f32⟩
  | .hbm, ⟨34, _⟩ => ⟨S288x512x1024, .f32⟩
  | .hbm, ⟨35, _⟩ => ⟨S288x512x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S288x512x1024, .f32⟩
  | .hbm, ⟨40, _⟩ => ⟨S288x512x1024, .f32⟩
  | .hbm, ⟨41, _⟩ => ⟨S_, .f32⟩
  | .hbm, ⟨42, _⟩ => ⟨S288x512x1024, .f32⟩
  | .hbm, ⟨43, _⟩ => ⟨S288x512x1024, .f32⟩
  | .hbm, ⟨44, _⟩ => ⟨S_, .f32⟩
  | .hbm, ⟨45, _⟩ => ⟨S288x512x1024, .f32⟩
  | .hbm, ⟨46, _⟩ => ⟨S288x512x1024, .f32⟩
  | .hbm, ⟨47, _⟩ => ⟨S288x512x1024, .f32⟩
  | .hbm, ⟨48, _⟩ => ⟨S288x512x1024, .f32⟩
  | .hbm, ⟨49, _⟩ => ⟨S_, .f32⟩
  | .hbm, ⟨50, _⟩ => ⟨S288x512x1024, .f32⟩
  | .hbm, ⟨51, _⟩ => ⟨S288x512x1024, .f32⟩
  | .hbm, ⟨52, _⟩ => ⟨S_, .f32⟩
  | .hbm, ⟨53, _⟩ => ⟨S288x512x1024, .f32⟩
  | .hbm, ⟨54, _⟩ => ⟨S288x512x1024, .f32⟩
  | .hbm, ⟨55, _⟩ => ⟨S288x512x1024, .f32⟩
  | .hbm, ⟨56, _⟩ => ⟨S_, .f32⟩
  | .hbm, ⟨57, _⟩ => ⟨S288x512x1024, .f32⟩
  | .hbm, ⟨58, _⟩ => ⟨S288x512x1024, .f32⟩
  | .hbm, ⟨59, _⟩ => ⟨S288x512x1024, .f32⟩
  | .hbm, ⟨60, _⟩ => ⟨S_, .i32⟩
  | .hbm, ⟨61, _⟩ => ⟨S288, .i32⟩
  | .hbm, ⟨62, _⟩ => ⟨S288, .i1⟩
  | .hbm, ⟨63, _⟩ => ⟨S_, .i32⟩
  | .hbm, ⟨64, _⟩ => ⟨S288, .i32⟩
  | .hbm, ⟨65, _⟩ => ⟨S288, .i32⟩
  | .hbm, ⟨66, _⟩ => ⟨S288, .i32⟩
  | .hbm, ⟨67, _⟩ => ⟨S288x1, .i32⟩
  | .hbm, ⟨68, _⟩ => ⟨S288x1024x1024, .f32⟩
  | .hbm, ⟨69, _⟩ => ⟨S288x512x1024, .f32⟩
  | .hbm, ⟨70, _⟩ => ⟨S_, .i32⟩
  | .hbm, ⟨71, _⟩ => ⟨S288, .i32⟩
  | .hbm, ⟨72, _⟩ => ⟨S288, .i1⟩
  | .hbm, ⟨73, _⟩ => ⟨S_, .i32⟩
  | .hbm, ⟨74, _⟩ => ⟨S288, .i32⟩
  | .hbm, ⟨75, _⟩ => ⟨S288, .i32⟩
  | .hbm, ⟨76, _⟩ => ⟨S288, .i32⟩
  | .hbm, ⟨77, _⟩ => ⟨S288x1, .i32⟩
  | .hbm, ⟨78, _⟩ => ⟨S288x1024, .f32⟩
  | .hbm, ⟨79, _⟩ => ⟨S288x1x1024, .f32⟩
  | .hbm, ⟨80, _⟩ => ⟨S288x512x1024, .f32⟩
  | .hbm, ⟨81, _⟩ => ⟨S288x512x1024, .f32⟩
  | .hbm, ⟨82, _⟩ => ⟨S288, .i32⟩
  | .hbm, ⟨83, _⟩ => ⟨S288, .i32⟩
  | .hbm, ⟨84, _⟩ => ⟨S288, .i1⟩
  | .hbm, ⟨85, _⟩ => ⟨S288x1x1, .i1⟩
  | .hbm, ⟨86, _⟩ => ⟨S_, .f32⟩
  | .hbm, ⟨87, _⟩ => ⟨S_, .f32⟩
  | .hbm, ⟨88, _⟩ => ⟨S288x512x1024, .i1⟩
  | .hbm, ⟨89, _⟩ => ⟨S288x512x1024, .f32⟩
  | .hbm, ⟨90, _⟩ => ⟨S288x512x1024, .f32⟩
  | .hbm, ⟨91, _⟩ => ⟨S1179648x128, .f32⟩
  | _, _ => ⟨S1179648x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_6 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_9 : Ref sig .tc := ⟨.hbm, 60, rfl⟩
abbrev main_v36 : Ref sig .tc := ⟨.hbm, 61, rfl⟩
abbrev main_v37 : Ref sig .tc := ⟨.hbm, 62, rfl⟩
abbrev main_c_10 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_11 : Ref sig .tc := ⟨.hbm, 70, rfl⟩
abbrev main_v44 : Ref sig .tc := ⟨.hbm, 71, rfl⟩
abbrev main_v45 : Ref sig .tc := ⟨.hbm, 72, rfl⟩
abbrev main_c_12 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v58 : Ref sig .tc := ⟨.hbm, 90, rfl⟩
abbrev main_v59 : Ref sig .tc := ⟨.hbm, 91, rfl⟩

abbrev nD : Nat := 1
abbrev τ : Topo := Topo.v7x

variable {F : FTy → Type} [FloatOps F]
-- ==== Kernel4.lean ====
abbrev S4x8192x512 : Shape := ⟨3, ![4, 8192, 512]⟩
abbrev S4x512x8192 : Shape := ⟨3, ![4, 512, 8192]⟩
abbrev S4x8192x1024 : Shape := ⟨3, ![4, 8192, 1024]⟩
abbrev S4x1024 : Shape := ⟨2, ![4, 1024]⟩
abbrev S1024 : Shape := ⟨1, ![1024]⟩
abbrev S1024x1024 : Shape := ⟨2, ![1024, 1024]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S1x1024x128 : Shape := ⟨3, ![1, 1024, 128]⟩
abbrev S2x1024x128 : Shape := ⟨3, ![2, 1024, 128]⟩
abbrev S128 : Shape := ⟨1, ![128]⟩
abbrev S1x128 : Shape := ⟨2, ![1, 128]⟩
abbrev S4x1x1024 : Shape := ⟨3, ![4, 1, 1024]⟩
abbrev S1x1024 : Shape := ⟨2, ![1, 1024]⟩
abbrev S32768x1024 : Shape := ⟨2, ![32768, 1024]⟩
abbrev S262144x128 : Shape := ⟨2, ![262144, 128]⟩
abbrev S32768x128 : Shape := ⟨2, ![32768, 128]⟩
abbrev S1x512x512 : Shape := ⟨3, ![1, 512, 512]⟩
abbrev S1x512x1024 : Shape := ⟨3, ![1, 512, 1024]⟩
abbrev S1x1x1024 : Shape := ⟨3, ![1, 1, 1024]⟩
abbrev S512x1024 : Shape := ⟨2, ![512, 1024]⟩
abbrev S4096x128 : Shape := ⟨2, ![4096, 128]⟩
abbrev S512x128 : Shape := ⟨2, ![512, 128]⟩
abbrev S1x256x512 : Shape := ⟨3, ![1, 256, 512]⟩
abbrev S256x512 : Shape := ⟨2, ![256, 512]⟩
abbrev S256x1024 : Shape := ⟨2, ![256, 1024]⟩
abbrev S1x512x256 : Shape := ⟨3, ![1, 512, 256]⟩
abbrev S512x256 : Shape := ⟨2, ![512, 256]⟩
abbrev S1x256x1024 : Shape := ⟨3, ![1, 256, 1024]⟩
abbrev S256 : Shape := ⟨1, ![256]⟩
abbrev S256x1 : Shape := ⟨2, ![256, 1]⟩
abbrev S256x128 : Shape := ⟨2, ![256, 128]⟩

abbrev nBuf : Space → Nat
  | .hbm => 35
  | .vmem => 27
  | .smem => 0
  | _ => 0

abbrev bufTy : (tb : Table) → Fin (tcTables nBuf tb) → BufTy
  | .hbm, ⟨0, _⟩ => ⟨S4x8192x512, .bf16⟩
  | .hbm, ⟨1, _⟩ => ⟨S4x512x8192, .bf16⟩
  | .hbm, ⟨2, _⟩ => ⟨S4x8192x1024, .f32⟩
  | .hbm, ⟨3, _⟩ => ⟨S4x1024, .f32⟩
  | .hbm, ⟨4, _⟩ => ⟨S1024, .f32⟩
  | .hbm, ⟨5, _⟩ => ⟨S4x1024, .f32⟩
  | .hbm, ⟨6, _⟩ => ⟨S4x1024, .f32⟩
  | .hbm, ⟨7, _⟩ => ⟨S1024x1024, .f32⟩
  | .hbm, ⟨8, _⟩ => ⟨S1024x32, .f32⟩
  | .hbm, ⟨9, _⟩ => ⟨S32, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1024x128, .f32⟩
  | .hbm, ⟨15, _⟩ => ⟨S1024x128, .f32⟩
  | .hbm, ⟨16, _⟩ => ⟨S1024x128, .bf16⟩
  | .hbm, ⟨17, _⟩ => ⟨S1x1024x128, .bf16⟩
  | .hbm, ⟨18, _⟩ => ⟨S1x1024x128, .bf16⟩
  | .hbm, ⟨19, _⟩ => ⟨S2x1024x128, .bf16⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S1024x1024, .bf16⟩
  | .hbm, ⟨25, _⟩ => ⟨S4x1x1024, .f32⟩
  | .hbm, ⟨26, _⟩ => ⟨S4x1x1024, .f32⟩
  | .hbm, ⟨27, _⟩ => ⟨S4x1x1024, .f32⟩
  | .hbm, ⟨28, _⟩ => ⟨S1x1024, .f32⟩
  | .hbm, ⟨29, _⟩ => ⟨S32768x1024, .f32⟩
  | .hbm, ⟨30, _⟩ => ⟨S262144x128, .f32⟩
  | .hbm, ⟨31, _⟩ => ⟨S32768x128, .f32⟩
  | .hbm, ⟨32, _⟩ => ⟨S32768x128, .f32⟩
  | .hbm, ⟨33, _⟩ => ⟨S32768x128, .f32⟩
  | .hbm, ⟨34, _⟩ => ⟨S1x128, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .f32⟩
  | .local _ .vmem, ⟨5, _⟩ => ⟨S1x512x1024, .f32⟩
  | .local _ .vmem, ⟨6, _⟩ => ⟨S1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S2x1024x128, .bf16⟩
  | .local _ .vmem, ⟨15, _⟩ => ⟨S1x128, .f32⟩
  | .local _ .vmem, ⟨16, _⟩ => ⟨S512x1024, .f32⟩
  | .local _ .vmem, ⟨17, _⟩ => ⟨S512x1024, .f32⟩
  | .local _ .vmem, ⟨18, _⟩ => ⟨S4096x128, .f32⟩
  | .local _ .vmem, ⟨19, _⟩ => ⟨S4096x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S1x128, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_call1_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v15_2 : Ref sig .tc := ⟨.hbm, 31, rfl⟩
abbrev main_v15_3 : Ref sig .tc := ⟨.hbm, 32, rfl⟩
abbrev main_v15_4 : Ref sig .tc := ⟨.hbm, 33, rfl⟩
abbrev main_v15_5 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S2x1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== Reference4Ideal.lean ====
abbrev S4x8192x512 : Shape := ⟨3, ![4, 8192, 512]⟩
abbrev S4x512x8192 : Shape := ⟨3, ![4, 512, 8192]⟩
abbrev S4x8192x1024 : Shape := ⟨3, ![4, 8192, 1024]⟩
abbrev S4x1024 : Shape := ⟨2, ![4, 1024]⟩
abbrev S1024 : Shape := ⟨1, ![1024]⟩
abbrev S1024x1024 : Shape := ⟨2, ![1024, 1024]⟩
abbrev S1024x32 : Shape := ⟨2, ![1024, 32]⟩
abbrev S32 : Shape := ⟨1, ![32]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩
abbrev S262144x128 : Shape := ⟨2, ![262144, 128]⟩

abbrev nBuf : Space → Nat
  | .hbm => 45
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x512x8192, .bf16⟩
  | .hbm, ⟨2, _⟩ => ⟨S4x8192x1024, .f32⟩
  | .hbm, ⟨3, _⟩ => ⟨S4x1024, .f32⟩
  | .hbm, ⟨4, _⟩ => ⟨S1024, .f32⟩
  | .hbm, ⟨5, _⟩ => ⟨S4x1024, .f32⟩
  | .hbm, ⟨6, _⟩ => ⟨S4x1024, .f32⟩
  | .hbm, ⟨7, _⟩ => ⟨S1024x1024, .f32⟩
  | .hbm, ⟨8, _⟩ => ⟨S1024x32, .f32⟩
  | .hbm, ⟨9, _⟩ => ⟨S32, .f32⟩
  | .hbm, ⟨10, _⟩ => ⟨S4x8192x512, .bf16⟩
  | .hbm, ⟨11, _⟩ => ⟨S4x8192x1024, .bf16⟩
  | .hbm, ⟨12, _⟩ => ⟨S4x8192x1024, .f32⟩
  | .hbm, ⟨13, _⟩ => ⟨S4x1x1024, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S_, .f32⟩
  | .hbm, ⟨20, _⟩ => ⟨S4x8192, .f32⟩
  | .hbm, ⟨21, _⟩ => ⟨S4x8192x1, .f32⟩
  | .hbm, ⟨22, _⟩ => ⟨S_, .f32⟩
  | .hbm, ⟨23, _⟩ => ⟨S4x8192x1, .f32⟩
  | .hbm, ⟨24, _⟩ => ⟨S4x8192x1, .f32⟩
  | .hbm, ⟨25, _⟩ => ⟨S_, .f32⟩
  | .hbm, ⟨26, _⟩ => ⟨S4x8192x1, .f32⟩
  | .hbm, ⟨27, _⟩ => ⟨S4x8192x1, .f32⟩
  | .hbm, ⟨28, _⟩ => ⟨S4x8192x1, .f32⟩
  | .hbm, ⟨29, _⟩ => ⟨S4x8192x1024, .f32⟩
  | .hbm, ⟨30, _⟩ => ⟨S4x8192x1024, .f32⟩
  | .hbm, ⟨31, _⟩ => ⟨S1x1x1024, .f32⟩
  | .hbm, ⟨32, _⟩ => ⟨S4x8192x1024, .f32⟩
  | .hbm, ⟨33, _⟩ => ⟨S4x8192x1024, .f32⟩
  | .hbm, ⟨34, _⟩ => ⟨S4x1x1024, .f32⟩
  | .hbm, ⟨35, _⟩ => ⟨S_, .f32⟩
  | .hbm, ⟨36, _⟩ => ⟨S4x1x1024, .f32⟩
  | .hbm, ⟨37, _⟩ => ⟨S4x1x1024, .f32⟩
  | .hbm, ⟨38, _⟩ => ⟨S4x8192x1024, .f32⟩
  | .hbm, ⟨39, _⟩ => ⟨S4x8192x1024, .f32⟩
  | .hbm, ⟨40, _⟩ => ⟨S4x1x1024, .f32⟩
  | .hbm, ⟨41, _⟩ => ⟨S4x8192x1024, .f32⟩
  | .hbm, ⟨42, _⟩ => ⟨S4x8192x1024, .f32⟩
  | .hbm, ⟨43, _⟩ => ⟨S32768x1024, .f32⟩
  | .hbm, ⟨44, _⟩ => ⟨S262144x128, .f32⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel5.lean ====
abbrev S4x1024 : Shape := ⟨2, ![4, 1024]⟩
abbrev S1024x6144 : Shape := ⟨2, ![1024, 6144]⟩
abbrev S6144 : Shape := ⟨1, ![6144]⟩
abbrev S_ : Shape := ⟨0, ![]⟩
abbrev S8x1024 : Shape := ⟨2, ![8, 1024]⟩
abbrev S1 : Shape := ⟨1, ![1]⟩
abbrev S1x6144 : Shape := ⟨2, ![1, 6144]⟩
abbrev S8x6144 : Shape := ⟨2, ![8, 6144]⟩
abbrev S1024x1024 : Shape := ⟨2, ![1024, 1024]⟩
abbrev S1x1024 : Shape := ⟨2, ![1, 1024]⟩
abbrev S4x6144 : Shape := ⟨2, ![4, 6144]⟩

abbrev nBuf : Space → Nat
  | .hbm => 11
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024x6144, .f32⟩
  | .hbm, ⟨2, _⟩ => ⟨S6144, .f32⟩
  | .hbm, ⟨3, _⟩ => ⟨S_, .f32⟩
  | .hbm, ⟨4, _⟩ => ⟨S8x1024, .f32⟩
  | .hbm, ⟨5, _⟩ => ⟨S_, .i32⟩
  | .hbm, ⟨6, _⟩ => ⟨S1, .i32⟩
  | .hbm, ⟨7, _⟩ => ⟨S8x1024, .f32⟩
  | .hbm, ⟨8, _⟩ => ⟨S1x6144, .f32⟩
  | .hbm, ⟨9, _⟩ => ⟨S8x6144, .f32⟩
  | .hbm, ⟨10, _⟩ => ⟨S4x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S4x1024 : Shape := ⟨2, ![4, 1024]⟩
abbrev S1024x6144 : Shape := ⟨2, ![1024, 6144]⟩
abbrev S6144 : Shape := ⟨1, ![6144]⟩
abbrev S_ : Shape := ⟨0, ![]⟩
abbrev S4x6144 : Shape := ⟨2, ![4, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024x6144, .f32⟩
  | .hbm, ⟨2, _⟩ => ⟨S6144, .f32⟩
  | .hbm, ⟨3, _⟩ => ⟨S4x1024, .f32⟩
  | .hbm, ⟨4, _⟩ => ⟨S4x1024, .f32⟩
  | .hbm, ⟨5, _⟩ => ⟨S_, .f32⟩
  | .hbm, ⟨6, _⟩ => ⟨S4x1024, .f32⟩
  | .hbm, ⟨7, _⟩ => ⟨S4x1024, .f32⟩
  | .hbm, ⟨8, _⟩ => ⟨S_, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x6144, .f32⟩
  | .hbm, ⟨13, _⟩ => ⟨S1x6144, .f32⟩
  | .hbm, ⟨14, _⟩ => ⟨S4x6144, .f32⟩
  | .hbm, ⟨15, _⟩ => ⟨S4x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.Safe.lean ====
/-
  A program that only reads and overwrites buffers it owns whole runs from owning them to owning them, whatever they
  hold: the judgement `Safe`, its rules (return, sequence, branch, counted loop, load, store), and the class `Holds`
  by which a resource is opened at one of the buffers it owns.
-/
module

public import proofs.«01_k».proof.Proof.Gen.Kernel
public import proofs.«01_k».proof.Proof.Gen.Kernel.Skeleton
public import proofs.«01_k».proof.Proof.Gen.Kernel.Launch
public import Idealize.ShloMosaic.Lib.Pipeline.Frame
public import Idealize.ShloMosaic.Lib.Tactic

@[expose] public section

noncomputable section

namespace Cert.Proof.Kernel

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [BitOps F]

/-- What the assertions speak of: the machine's memory and counters, at values of format family `F`. -/
abbrev Res (F : FTy → Type) [BitOps F] : Type := MT nD τ sig Unit (Elt F) ℕ (UR sig nD τ) ℕ

/-- The variants of the one label that calls itself: the rounds it has left. -/
abbrev 𝒱₀ : Variants := Variants.nat

/-- The buffer of memref `m` on core `c`, owned whole, at some contents. -/
def Owned (c : Dev nD) {cs : CoreSpace} {s : Shape} {e : EltTy} (m : Memref sig .tc cs s e) : sProp (Res F) :=
  iprop(∃ f : Buf (Elt F) (m.view.loc (c : Thread nD τ)), m.view.loc (c : Thread nD τ) ↦{fullShare} f)

/-- `R` owns `m`'s buffer: it can be taken out and, at whatever contents, put back. -/
class Holds (R : sProp (Res F)) (c : Dev nD) {cs : CoreSpace} {s : Shape} {e : EltTy} (m : Memref sig .tc cs s e) : Prop where
  take : R ⊢ iprop(Owned (F := F) c m ∗ (Owned (F := F) c m -∗ R))

/-- `p` keeps `R`, at the bound `bd` for the calls it makes. -/
structure Safe (R : sProp (Res F)) (c : Dev nD) (bd : Option 𝒱₀.V) {α : Type} (p : Prog (TpuEff nD τ sig (Elt F) (Λ₀ F) .tc) α) : Prop where
  run : R ⊢ wp frame (wpE (defs₀ (F := F)) 𝒱₀ (c : Thread nD τ) bd) Set.univ p (fun _ => R)

variable {R : sProp (Res F)} {c : Dev nD} {bd : Option 𝒱₀.V} {α β : Type}

theorem Holds.self {cs : CoreSpace} {s : Shape} {e : EltTy} (m : Memref sig .tc cs s e) :
    Holds (F := F) (Owned c m) c m := ⟨by
  iintro H
  isplitl [H]
  · iexact H
  · iintro H; iexact H⟩

theorem Holds.left {A B : sProp (Res F)} {cs : CoreSpace} {s : Shape} {e : EltTy} {m : Memref sig .tc cs s e}
    (h : Holds (F := F) A c m) : Holds (F := F) iprop(A ∗ B) c m := ⟨by
  iintro ⟨HA, HB⟩
  ihave H := h.take $$ HA
  icases H with ⟨HO, HK⟩
  isplitl [HO]
  · iexact HO
  · iintro HO
    isplitl [HO HK]
    · iapply HK; iexact HO
    · iexact HB⟩

theorem Holds.right {A B : sProp (Res F)} {cs : CoreSpace} {s : Shape} {e : EltTy} {m : Memref sig .tc cs s e}
    (h : Holds (F := F) B c m) : Holds (F := F) iprop(A ∗ B) c m := ⟨by
  iintro ⟨HA, HB⟩
  ihave H := h.take $$ HB
  icases H with ⟨HO, HK⟩
  isplitl [HO]
  · iexact HO
  · iintro HO
    isplitl [HA]
    · iexact HA
    · iapply HK; iexact HO⟩

theorem Safe.pure (a : α) : Safe R c bd (Pure.pure a) := by
  constructor
  rw [wp_pure]
  exact fupd_intro

theorem Safe.bind {p : Prog (TpuEff nD τ sig (Elt F) (Λ₀ F) .tc) α} {k : α → Prog (TpuEff nD τ sig (Elt F) (Λ₀ F) .tc) β}
    (hp : Safe R c bd p) (hk : ∀ a, Safe R c bd (k a)) : Safe R c bd (p >>= k) := by
  constructor
  rw [wp_bind]
  exact hp.run.trans (wp_mono _ _ _ fun a => (hk a).run)

theorem Safe.ite {P : Prop} [Decidable P] {p q : Prog (TpuEff nD τ sig (Elt F) (Λ₀ F) .tc) α}
    (hp : Safe R c bd p) (hq : Safe R c bd q) : Safe R c bd (if P then p else q) := by
  split <;> assumption

theorem Safe.loop {w : ℕ} {l : Scf.Loop w} {hok : l.OK} {init : α} {body : Fin l.trips → α → Prog (TpuEff nD τ sig (Elt F) (Λ₀ F) .tc) α}
    (h : ∀ k acc, Safe R c bd (body k acc)) : Safe R c bd (Scf.Loop.for l hok init body) := by
  constructor
  iintro H
  iapply (Scf.wp_for _ _ _ l.lb l.ub l.st hok init body (fun _ _ => R) (fun k acc => (h k acc).run))
  isplitl [H]
  · iexact H
  · iintro %acc H; iexact H

theorem Safe.load {cs : CoreSpace} {s : Shape} {e : EltTy} {m : Memref sig .tc cs s e} [h : Holds R c m] {r : LoadRect s}
    {hl : m.view.LoadsAt r} : Safe R c bd (Prog.lift (.load m r hl)) := by
  constructor
  iintro H
  ihave H := h.take $$ H
  icases H with ⟨HO, HK⟩
  unfold Owned
  icases HO with ⟨%f, HO⟩
  iapply (wp_load (defs := defs₀ (F := F)) 𝒱₀ (c : Thread nD τ) bd Set.univ (Finset.subset_univ _)) $$ HO
  iintro HO
  rw [wp_ret]
  imodintro
  iapply HK
  iexists f
  iexact HO

theorem Safe.store {cs : CoreSpace} {s : Shape} {e : EltTy} {m : Memref sig .tc cs s e} [h : Holds R c m] {r : Rect s}
    {w : r.shape.Idx → Elt F e} {Mk : Finset r.shape.Idx} {hx : (m.access r).Stores Mk} {hm : Mk = Finset.univ ∨ ∀ a, r.stride a = 1} :
    Safe R c bd (Prog.lift (.store m r w Mk hx hm)) := by
  constructor
  iintro H
  ihave H := h.take $$ H
  icases H with ⟨HO, HK⟩
  unfold Owned
  icases HO with ⟨%f, HO⟩
  iapply (wp_store (defs := defs₀ (F := F)) 𝒱₀ (c : Thread nD τ) bd Set.univ (m := m) (r := r) (w := w) (Mk := Mk) (hx := hx) (hm := hm)
    (k := .ret) (f := f) (Finset.subset_univ _)) $$ HO
  iintro HO
  rw [wp_ret]
  imodintro
  iapply HK
  iexists _
  iexact HO

/-- A call of a label, at a variant below the caller's bound at which the label's body keeps `R`. -/
theorem Safe.call {ℓ : (Λ₀ F).Label} {a : (Λ₀ F).Args ℓ} (v : ℕ) (hv : ∀ u ∈ bd, v < u)
    (h : Safe R c (some v) (defs₀ (F := F) .tc ℓ a)) : Safe R c bd (Prog.lift (.call ℓ a)) := by
  constructor
  refine BIBase.Entails.trans (h.run.trans (wp_mono _ _ _ fun x => ?_)) (wp_call 𝒱₀ (c : Thread nD τ) bd Set.univ v hv)
  rw [wp_ret]
  exact fupd_intro

end Cert.Proof.Kernel
-- ==== Proof.Loops.lean ====
/-
  The kernel's counted loops keep what the kernel owns: one trip of each, at any trip and carried values.
-/
module

public import proofs.«01_k».proof.Proof.Safe

@[expose] public section

noncomputable section

namespace Cert.Proof.Kernel

open Cert.Kernel Cert.Kernel.Gen
open Idealize.ShloMosaic Idealize.ShloMosaic.TcCoe
open Idealize.SL Idealize.SL.RA Idealize.SL.BI

variable {F : FTy → Type} [BitOps F] {R : sProp (Res F)} {c : Dev nD} {bd : Option 𝒱₀.V} (i : grid0.Coords)
variable (arg2 : Memref sig .tc .vmem S1x512x512 .bf16) (harg2 : arg2.IsWhole)
  (arg3 : Memref sig .tc .vmem S1x8x512 .f32) (harg3 : arg3.IsWhole)
  (arg4 : Memref sig .tc .vmem S1x512x512 .bf16) (harg4 : arg4.IsWhole)
  (arg5 : Memref sig .tc .vmem S1x8192x64 .bf16) (harg5 : arg5.IsWhole)
  (arg6 : Memref sig .tc .vmem S1x8192x256 .bf16) (harg6 : arg6.IsWhole)
  (arg7 : Memref sig .tc .vmem S1x160x8192 .bf16) (harg7 : arg7.IsWhole)
  (arg8 : Memref sig .tc .vmem S512x512 .f32) (harg8 : arg8.IsWhole)
  (arg9 : Memref sig .tc .vmem S1x512x512 .bf16) (harg9 : arg9.IsWhole)
  (arg10 : Memref sig .tc .vmem S8192x512 .f32) (harg10 : arg10.IsWhole)
  (arg11 : Memref sig .tc .vmem S8192x512 .bf16) (harg11 : arg11.IsWhole)
  (arg12 : Memref sig .tc .vmem S8x128x512 .bf16) (harg12 : arg12.IsWhole)
  (arg13 : Memref sig .tc .vmem S8x256x512 .f32) (harg13 : arg13.IsWhole)
  (arg14 : Memref sig .tc .vmem S8x256x512 .f32) (harg14 : arg14.IsWhole)
  (arg15 : Memref sig .tc .vmem S256x512 .f32) (harg15 : arg15.IsWhole)
  (arg16 : Memref sig .tc .vmem S80x512 .f32) (harg16 : arg16.IsWhole)
  (arg17 : Memref sig .tc .vmem S80x512 .f32) (harg17 : arg17.IsWhole)
  (arg18 : Memref sig .tc .vmem S80x512 .f32) (harg18 : arg18.IsWhole)
  (arg19 : Memref sig .tc .vmem S80x512 .f32) (harg19 : arg19.IsWhole)
  (arg20 : Memref sig .tc .vmem S80x512 .f32) (harg20 : arg20.IsWhole)
  (arg21 : Memref sig .tc .vmem S80x512 .f32) (harg21 : arg21.IsWhole)
  (arg22 : Memref sig .tc .vmem S80x512 .f32) (harg22 : arg22.IsWhole)
  (arg23 : Memref sig .tc .vmem S80x512 .f32) (harg23 : arg23.IsWhole)
variable [Holds R c arg2] [Holds R c arg3] [Holds R c arg4] [Holds R c arg5] [Holds R c arg6] [Holds R c arg7] [Holds R c arg8] [Holds R c arg9] [Holds R c arg10] [Holds R c arg11] [Holds R c arg12] [Holds R c arg13] [Holds R c arg14] [Holds R c arg15] [Holds R c arg16] [Holds R c arg17] [Holds R c arg18] [Holds R c arg19] [Holds R c arg20] [Holds R c arg21] [Holds R c arg22] [Holds R c arg23]

set_option maxHeartbeats 400000 in
theorem safe_t1 (v0 : BitVec 32) (v54 : BitVec 32) (v57 : IVec S1x512 32) (v58 : IVec S128x512 32) (v60 : FVec F S1x512 .f32) (v62 : FVec F S1x512 .f32) (v64 : FVec F S1x512 .f32) (v66 : FVec F S1x512 .f32) (v68 : FVec F S1x512 .f32) (v70 : FVec F S1x512 .f32) (v71 : Vec F S1x1x512 .f32) (v73 : Vec F S1x1x512 .f32) (k acc) :
    Safe R c bd (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v54 v57 v58 v60 v62 v64 v66 v68 v70 v71 v73 k acc) := by
  unfold k0_t1_body
  repeat' with_reducible first
    | exact Safe.load
    | exact Safe.store
    | exact Safe.pure _
    | refine Safe.bind ?_ fun _ => ?_
    | refine Safe.loop fun _ _ => ?_
    | refine Safe.ite ?_ ?_
    | rw [k0_part1_eq_skeleton] | rw [k0_part2_eq_skeleton] | rw [k0_part3_eq_skeleton] | rw [k0_part4_eq_skeleton] | rw [k0_part5_eq_skeleton] | rw [k0_part6_eq_skeleton] | rw [k0_part7_eq_skeleton] | rw [k0_part8_eq_skeleton] | rw [k0_part9_eq_skeleton] | rw [k0_part10_eq_skeleton] | rw [k0_part11_eq_skeleton] | rw [k0_part12_eq_skeleton] | rw [k0_part13_eq_skeleton] | rw [k0_part14_eq_skeleton] | rw [k0_part15_eq_skeleton] | rw [k0_part16_eq_skeleton] | rw [k0_part17_eq_skeleton] | rw [k0_part18_eq_skeleton]
    | unfold k0_part1_skel | unfold k0_part2_skel | unfold k0_part3_skel | unfold k0_part4_skel | unfold k0_part5_skel | unfold k0_part6_skel | unfold k0_part7_skel | unfold k0_part8_skel | unfold k0_part9_skel | unfold k0_part10_skel | unfold k0_part11_skel | unfold k0_part12_skel | unfold k0_part13_skel | unfold k0_part14_skel | unfold k0_part15_skel | unfold k0_part16_skel | unfold k0_part17_skel | unfold k0_part18_skel

set_option maxHeartbeats 400000 in
theorem safe_t2 (v0 : BitVec 32) (v54 : BitVec 32) (v57 : IVec S1x512 32) (v58 : IVec S128x512 32) (v60 : FVec F S1x512 .f32) (v62 : FVec F S1x512 .f32) (v64 : FVec F S1x512 .f32) (v66 : FVec F S1x512 .f32) (v68 : FVec F S1x512 .f32) (v70 : FVec F S1x512 .f32) (v71 : Vec F S1x1x512 .f32) (v73 : Vec F S1x1x512 .f32) (v101 : BitVec 32) (k acc) :
    Safe R c bd (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v54 v57 v58 v60 v62 v64 v66 v68 v70 v71 v73 v101 k acc) := by
  unfold k0_t2_body
  repeat' with_reducible first
    | exact Safe.load
    | exact Safe.store
    | exact Safe.pure _
    | refine Safe.bind ?_ fun _ => ?_
    | refine Safe.loop fun _ _ => ?_
    | refine Safe.ite ?_ ?_
    | rw [k0_part19_eq_skeleton] | rw [k0_part20_eq_skeleton] | rw [k0_part21_eq_skeleton] | rw [k0_part22_eq_skeleton] | rw [k0_part23_eq_skeleton] | rw [k0_part24_eq_skeleton] | rw [k0_part25_eq_skeleton] | rw [k0_part26_eq_skeleton] | rw [k0_part27_eq_skeleton] | rw [k0_part28_eq_skeleton] | rw [k0_part29_eq_skeleton] | rw [k0_part30_eq_skeleton] | rw [k0_part31_eq_skeleton] | rw [k0_part32_eq_skeleton] | rw [k0_part33_eq_skeleton] | rw [k0_part34_eq_skeleton] | rw [k0_part35_eq_skeleton] | rw [k0_part36_eq_skeleton]
    | unfold k0_part19_skel | unfold k0_part20_skel | unfold k0_part21_skel | unfold k0_part22_skel | unfold k0_part23_skel | unfold k0_part24_skel | unfold k0_part25_skel | unfold k0_part26_skel | unfold k0_part27_skel | unfold k0_part28_skel | unfold k0_part29_skel | unfold k0_part30_skel | unfold k0_part31_skel | unfold k0_part32_skel | unfold k0_part33_skel | unfold k0_part34_skel | unfold k0_part35_skel | unfold k0_part36_skel

set_option maxHeartbeats 400000 in
theorem safe_t3 (v0 : BitVec 32) (v54 : BitVec 32) (v57 : IVec S1x512 32) (v58 : IVec S128x512 32) (v60 : FVec F S1x512 .f32) (v62 : FVec F S1x512 .f32) (v64 : FVec F S1x512 .f32) (v66 : FVec F S1x512 .f32) (v68 : FVec F S1x512 .f32) (v70 : FVec F S1x512 .f32) (v71 : Vec F S1x1x512 .f32) (v73 : Vec F S1x1x512 .f32) (v96 : BitVec 32) (k acc) :
    Safe R c bd (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v54 v57 v58 v60 v62 v64 v66 v68 v70 v71 v73 v96 k acc) := by
  unfold k0_t3_body
  repeat' with_reducible first
    | exact Safe.load
    | exact Safe.store
    | exact Safe.pure _
    | refine Safe.bind ?_ fun _ => ?_
    | refine Safe.loop fun _ _ => ?_
    | refine Safe.ite ?_ ?_
    | rw [k0_part37_eq_skeleton] | rw [k0_part38_eq_skeleton] | rw [k0_part39_eq_skeleton] | rw [k0_part40_eq_skeleton] | rw [k0_part41_eq_skeleton] | rw [k0_part42_eq_skeleton] | rw [k0_part43_eq_skeleton] | rw [k0_part44_eq_skeleton] | rw [k0_part45_eq_skeleton] | rw [k0_part46_eq_skeleton] | rw [k0_part47_eq_skeleton] | rw [k0_part48_eq_skeleton] | rw [k0_part49_eq_skeleton] | rw [k0_part50_eq_skeleton] | rw [k0_part51_eq_skeleton] | rw [k0_part52_eq_skeleton] | rw [k0_part53_eq_skeleton] | rw [k0_part54_eq_skeleton] | rw [k0_part55_eq_skeleton]
    | unfold k0_part37_skel | unfold k0_part38_skel | unfold k0_part39_skel | unfold k0_part40_skel | unfold k0_part41_skel | unfold k0_part42_skel | unfold k0_part43_skel | unfold k0_part44_skel | unfold k0_part45_skel | unfold k0_part46_skel | unfold k0_part47_skel | unfold k0_part48_skel | unfold k0_part49_skel | unfold k0_part50_skel | unfold k0_part51_skel | unfold k0_part52_skel | unfold k0_part53_skel | unfold k0_part54_skel | unfold k0_part55_skel

set_option maxHeartbeats 400000 in
theorem safe_t4 (v57 : IVec S1x512 32) (v58 : IVec S128x512 32) (v60 : FVec F S1x512 .f32) (v62 : FVec F S1x512 .f32) (v64 : FVec F S1x512 .f32) (v66 : FVec F S1x512 .f32) (v68 : FVec F S1x512 .f32) (v70 : FVec F S1x512 .f32) (v72 : FVec F S1x512 .f32) (v74 : FVec F S1x512 .f32) (v108 : BitVec 32) (v109_0 : FVec F S8x512 .f32) (v109_1 : FVec F S8x512 .f32) (v109_2 : FVec F S8x512 .f32) (v109_3 : FVec F S8x512 .f32) (c1_i32_52 : BitVec 32) (k acc) :
    Safe R c bd (k0_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v57 v58 v60 v62 v64 v66 v68 v70 v72 v74 v108 v109_0 v109_1 v109_2 v109_3 c1_i32_52 k acc) := by
  unfold k0_t4_body
  repeat' with_reducible first
    | exact Safe.load
    | exact Safe.store
    | exact Safe.pure _
    | refine Safe.bind ?_ fun _ => ?_
    | refine Safe.loop fun _ _ => ?_
    | refine Safe.ite ?_ ?_
    | rw [k0_part56_eq_skeleton] | rw [k0_part57_eq_skeleton] | rw [k0_part58_eq_skeleton] | rw [k0_part59_eq_skeleton] | rw [k0_part60_eq_skeleton] | rw [k0_part61_eq_skeleton] | rw [k0_part62_eq_skeleton] | rw [k0_part63_eq_skeleton] | rw [k0_part64_eq_skeleton] | rw [k0_part65_eq_skeleton] | rw [k0_part66_eq_skeleton] | rw [k0_part67_eq_skeleton] | rw [k0_part68_eq_skeleton] | rw [k0_part69_eq_skeleton] | rw [k0_part70_eq_skeleton] | rw [k0_part71_eq_skeleton] | rw [k0_part72_eq_skeleton] | rw [k0_part73_eq_skeleton] | rw [k0_part74_eq_skeleton]
    | unfold k0_part56_skel | unfold k0_part57_skel | unfold k0_part58_skel | unfold k0_part59_skel | unfold k0_part60_skel | unfold k0_part61_skel | unfold k0_part62_skel | unfold k0_part63_skel | unfold k0_part64_skel | unfold k0_part65_skel | unfold k0_part66_skel | unfold k0_part67_skel | unfold k0_part68_skel | unfold k0_part69_skel | unfold k0_part70_skel | unfold k0_part71_skel | unfold k0_part72_skel | unfold k0_part73_skel | unfold k0_part74_skel

set_option maxHeartbeats 400000 in
theorem safe_t6 (v18 : BitVec 32) (arg25 : FVec F S1x512 .f32) (arg26 : FVec F S1x512 .f32) (v738 : FVec F S1x512 .f32) (v740 : IVec S1x512 1) (v750 : IVec S1x512 32) (v752 : IVec S1x512 32) (c2147483647_i32_441 : BitVec 32) (k acc) :
    Safe R c bd (k0_t6_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v18 arg25 arg26 v738 v740 v750 v752 c2147483647_i32_441 k acc) := by
  unfold k0_t6_body
  repeat' with_reducible first
    | exact Safe.load
    | exact Safe.store
    | exact Safe.pure _
    | refine Safe.bind ?_ fun _ => ?_
    | refine Safe.loop fun _ _ => ?_
    | refine Safe.ite ?_ ?_
    | rw [k0_part75_eq_skeleton]
    | unfold k0_part75_skel

set_option maxHeartbeats 400000 in
theorem safe_t7 (v18 : BitVec 32) (arg25 : FVec F S1x512 .f32) (arg26 : FVec F S1x512 .f32) (v738 : FVec F S1x512 .f32) (v740 : IVec S1x512 1) (v750 : IVec S1x512 32) (v752 : IVec S1x512 32) (c2147483647_i32_441 : BitVec 32) (v784 : BitVec 32) (k acc) :
    Safe R c bd (k0_t7_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v18 arg25 arg26 v738 v740 v750 v752 c2147483647_i32_441 v784 k acc) := by
  unfold k0_t7_body
  repeat' with_reducible first
    | exact Safe.load
    | exact Safe.store
    | exact Safe.pure _
    | refine Safe.bind ?_ fun _ => ?_
    | refine Safe.loop fun _ _ => ?_
    | refine Safe.ite ?_ ?_
    | rw [k0_part76_eq_skeleton]
    | unfold k0_part76_skel

set_option maxHeartbeats 400000 in
theorem safe_t8 (arg24 : FVec F S1x512 .f32) (arg25 : FVec F S1x512 .f32) (arg26 : FVec F S1x512 .f32) (arg27 : FVec F S1x512 .f32) (arg28 : FVec F S1x512 .f32) (arg29 : F .f32) (arg30 : BitVec 32) (v18 : BitVec 32) (k acc) :
    Safe R c bd (k0_t8_body i arg10 harg10 arg24 arg25 arg26 arg27 arg28 arg29 arg30 v18 k acc) := by
  unfold k0_t8_body
  repeat' with_reducible first
    | exact Safe.load
    | exact Safe.store
    | exact Safe.pure _
    | refine Safe.bind ?_ fun _ => ?_
    | refine Safe.loop fun _ _ => ?_
    | refine Safe.ite ?_ ?_
    | rw [k0_part140_eq_skeleton]
    | unfold k0_part140_skel

set_option maxHeartbeats 400000 in
theorem safe_t9 (arg24 : FVec F S1x512 .f32) (arg25 : FVec F S1x512 .f32) (arg26 : FVec F S1x512 .f32) (arg27 : FVec F S1x512 .f32) (arg28 : FVec F S1x512 .f32) (arg29 : F .f32) (arg30 : BitVec 32) (v18 : BitVec 32) (v732 : BitVec 32) (k acc) :
    Safe R c bd (k0_t9_body i arg10 harg10 arg24 arg25 arg26 arg27 arg28 arg29 arg30 v18 v732 k acc) := by
  unfold k0_t9_body
  repeat' with_reducible first
    | exact Safe.load
    | exact Safe.store
    | exact Safe.pure _
    | refine Safe.bind ?_ fun _ => ?_
    | refine Safe.loop fun _ _ => ?_
    | refine Safe.ite ?_ ?_
    | rw [k0_part141_eq_skeleton]
    | unfold k0_part141_skel

set_option maxHeartbeats 400000 in
theorem safe_t10 (v18 : BitVec 32) (v116 : FVec F S1x512 .f32) (v201 : FVec F S1x512 .f32) (v206 : FVec F S1x512 .f32) (k acc) :
    Safe R c bd (k0_t10_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v18 v116 v201 v206 k acc) := by
  unfold k0_t10_body
  repeat' with_reducible first
    | exact Safe.load
    | exact Safe.store
    | exact Safe.pure _
    | refine Safe.bind ?_ fun _ => ?_
    | refine Safe.loop fun _ _ => ?_
    | refine Safe.ite ?_ ?_
    | rw [k0_part79_eq_skeleton]
    | unfold k0_part79_skel

set_option maxHeartbeats 400000 in
theorem safe_t11 (v18 : BitVec 32) (v116 : FVec F S1x512 .f32) (v201 : FVec F S1x512 .f32) (v206 : FVec F S1x512 .f32) (v789 : BitVec 32) (k acc) :
    Safe R c bd (k0_t11_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v18 v116 v201 v206 v789 k acc) := by
  unfold k0_t11_body
  repeat' with_reducible first
    | exact Safe.load
    | exact Safe.store
    | exact Safe.pure _
    | refine Safe.bind ?_ fun _ => ?_
    | refine Safe.loop fun _ _ => ?_
    | refine Safe.ite ?_ ?_
    | rw [k0_part80_eq_skeleton]
    | unfold k0_part80_skel

set_option maxHeartbeats 400000 in
theorem safe_t12 (v18 : BitVec 32) (v116 : FVec F S1x512 .f32) (v123 : IVec S1x512 1) (v160_0 : FVec F S1x512 .f32) (v160_1 : FVec F S1x512 .f32) (v160_2 : FVec F S1x512 .f32) (v160_3 : FVec F S1x512 .f32) (v187 : FVec F S1x512 .f32) (v195 : F .f32) (c0_i32_83 : BitVec 32) (v196_0 : FVec F S1x512 .f32) (v196_1 : FVec F S1x512 .f32) (v196_3 : FVec F S1x512 .f32) (v734 : FVec F S1x512 .f32) (v741 : FVec F S128x128 .bf16) (k acc) :
    Safe R c bd (k0_t12_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v18 v116 v123 v160_0 v160_1 v160_2 v160_3 v187 v195 c0_i32_83 v196_0 v196_1 v196_3 v734 v741 k acc) := by
  unfold k0_t12_body
  repeat' with_reducible first
    | exact Safe.load
    | exact Safe.store
    | exact Safe.pure _
    | refine Safe.bind ?_ fun _ => ?_
    | refine Safe.loop fun _ _ => ?_
    | refine Safe.ite ?_ ?_
    | rw [k0_part81_eq_skeleton] | rw [k0_part82_eq_skeleton]
    | unfold k0_part81_skel | unfold k0_part82_skel

set_option maxHeartbeats 400000 in
theorem safe_t13 (v18 : BitVec 32) (v116 : FVec F S1x512 .f32) (v123 : IVec S1x512 1) (v160_0 : FVec F S1x512 .f32) (v160_1 : FVec F S1x512 .f32) (v160_2 : FVec F S1x512 .f32) (v160_3 : FVec F S1x512 .f32) (v187 : FVec F S1x512 .f32) (v195 : F .f32) (c0_i32_83 : BitVec 32) (v196_0 : FVec F S1x512 .f32) (v196_1 : FVec F S1x512 .f32) (v196_3 : FVec F S1x512 .f32) (v734 : FVec F S1x512 .f32) (v741 : FVec F S128x128 .bf16) (v764 : BitVec 32) (k acc) :
    Safe R c bd (k0_t13_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v18 v116 v123 v160_0 v160_1 v160_2 v160_3 v187 v195 c0_i32_83 v196_0 v196_1 v196_3 v734 v741 v764 k acc) := by
  unfold k0_t13_body
  repeat' with_reducible first
    | exact Safe.load
    | exact Safe.store
    | exact Safe.pure _
    | refine Safe.bind ?_ fun _ => ?_
    | refine Safe.loop fun _ _ => ?_
    | refine Safe.ite ?_ ?_
    | rw [k0_part83_eq_skeleton] | rw [k0_part84_eq_skeleton]
    | unfold k0_part83_skel | unfold k0_part84_skel

set_option maxHeartbeats 400000 in
theorem safe_t14 (v54 : BitVec 32) (v201 : FVec F S1x512 .f32) (v595 : FVec F S256x512 .f32) (v596 : Vec F S1x256x512 .f32) (k acc) :
    Safe R c bd (k0_t14_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54 v201 v595 v596 k acc) := by
  unfold k0_t14_body
  repeat' with_reducible first
    | exact Safe.load
    | exact Safe.store
    | exact Safe.pure _
    | refine Safe.bind ?_ fun _ => ?_
    | refine Safe.loop fun _ _ => ?_
    | refine Safe.ite ?_ ?_
    | rw [k0_part86_eq_skeleton] | rw [k0_part87_eq_skeleton] | rw [k0_part88_eq_skeleton] | rw [k0_part89_eq_skeleton] | rw [k0_part90_eq_skeleton] | rw [k0_part91_eq_skeleton] | rw [k0_part92_eq_skeleton] | rw [k0_part93_eq_skeleton] | rw [k0_part94_eq_skeleton] | rw [k0_part95_eq_skeleton] | rw [k0_part96_eq_skeleton] | rw [k0_part97_eq_skeleton] | rw [k0_part98_eq_skeleton] | rw [k0_part99_eq_skeleton] | rw [k0_part100_eq_skeleton] | rw [k0_part101_eq_skeleton] | rw [k0_part102_eq_skeleton]
    | unfold k0_part86_skel | unfold k0_part87_skel | unfold k0_part88_skel | unfold k0_part89_skel | unfold k0_part90_skel | unfold k0_part91_skel | unfold k0_part92_skel | unfold k0_part93_skel | unfold k0_part94_skel | unfold k0_part95_skel | unfold k0_part96_skel | unfold k0_part97_skel | unfold k0_part98_skel | unfold k0_part99_skel | unfold k0_part100_skel | unfold k0_part101_skel | unfold k0_part102_skel

set_option maxHeartbeats 400000 in
theorem safe_t15 (v54 : BitVec 32) (v201 : FVec F S1x512 .f32) (v595 : FVec F S256x512 .f32) (v596 : Vec F S1x256x512 .f32) (v611 : BitVec 32) (k acc) :
    Safe R c bd (k0_t15_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54 v201 v595 v596 v611 k acc) := by
  unfold k0_t15_body
  repeat' with_reducible first
    | exact Safe.load
    | exact Safe.store
    | exact Safe.pure _
    | refine Safe.bind ?_ fun _ => ?_
    | refine Safe.loop fun _ _ => ?_
    | refine Safe.ite ?_ ?_
    | rw [k0_part103_eq_skeleton] | rw [k0_part104_eq_skeleton] | rw [k0_part105_eq_skeleton] | rw [k0_part106_eq_skeleton] | rw [k0_part107_eq_skeleton] | rw [k0_part108_eq_skeleton] | rw [k0_part109_eq_skeleton] | rw [k0_part110_eq_skeleton] | rw [k0_part111_eq_skeleton] | rw [k0_part112_eq_skeleton] | rw [k0_part113_eq_skeleton] | rw [k0_part114_eq_skeleton] | rw [k0_part115_eq_skeleton] | rw [k0_part116_eq_skeleton] | rw [k0_part117_eq_skeleton] | rw [k0_part118_eq_skeleton] | rw [k0_part119_eq_skeleton]
    | unfold k0_part103_skel | unfold k0_part104_skel | unfold k0_part105_skel | unfold k0_part106_skel | unfold k0_part107_skel | unfold k0_part108_skel | unfold k0_part109_skel | unfold k0_part110_skel | unfold k0_part111_skel | unfold k0_part112_skel | unfold k0_part113_skel | unfold k0_part114_skel | unfold k0_part115_skel | unfold k0_part116_skel | unfold k0_part117_skel | unfold k0_part118_skel | unfold k0_part119_skel

end Cert.Proof.Kernel
-- ==== Proof.Body.lean ====
/-
  The kernel's bisection, a label that calls itself at most forty times, and the kernel's body: each keeps the buffers
  the kernel owns.
-/
module

public import proofs.«01_k».proof.Proof.Loops

@[expose] public section

noncomputable section

namespace Cert.Proof.Kernel

open Cert.Kernel Cert.Kernel.Gen
open Idealize.ShloMosaic Idealize.ShloMosaic.TcCoe
open Idealize.SL Idealize.SL.RA Idealize.SL.BI

variable {F : FTy → Type} [BitOps F] {R : sProp (Res F)} {c : Dev nD} {bd : Option 𝒱₀.V} (i : grid0.Coords)
variable (arg2 : Memref sig .tc .vmem S1x512x512 .bf16) (harg2 : arg2.IsWhole)
  (arg3 : Memref sig .tc .vmem S1x8x512 .f32) (harg3 : arg3.IsWhole)
  (arg4 : Memref sig .tc .vmem S1x512x512 .bf16) (harg4 : arg4.IsWhole)
  (arg5 : Memref sig .tc .vmem S1x8192x64 .bf16) (harg5 : arg5.IsWhole)
  (arg6 : Memref sig .tc .vmem S1x8192x256 .bf16) (harg6 : arg6.IsWhole)
  (arg7 : Memref sig .tc .vmem S1x160x8192 .bf16) (harg7 : arg7.IsWhole)
  (arg8 : Memref sig .tc .vmem S512x512 .f32) (harg8 : arg8.IsWhole)
  (arg9 : Memref sig .tc .vmem S1x512x512 .bf16) (harg9 : arg9.IsWhole)
  (arg10 : Memref sig .tc .vmem S8192x512 .f32) (harg10 : arg10.IsWhole)
  (arg11 : Memref sig .tc .vmem S8192x512 .bf16) (harg11 : arg11.IsWhole)
  (arg12 : Memref sig .tc .vmem S8x128x512 .bf16) (harg12 : arg12.IsWhole)
  (arg13 : Memref sig .tc .vmem S8x256x512 .f32) (harg13 : arg13.IsWhole)
  (arg14 : Memref sig .tc .vmem S8x256x512 .f32) (harg14 : arg14.IsWhole)
  (arg15 : Memref sig .tc .vmem S256x512 .f32) (harg15 : arg15.IsWhole)
  (arg16 : Memref sig .tc .vmem S80x512 .f32) (harg16 : arg16.IsWhole)
  (arg17 : Memref sig .tc .vmem S80x512 .f32) (harg17 : arg17.IsWhole)
  (arg18 : Memref sig .tc .vmem S80x512 .f32) (harg18 : arg18.IsWhole)
  (arg19 : Memref sig .tc .vmem S80x512 .f32) (harg19 : arg19.IsWhole)
  (arg20 : Memref sig .tc .vmem S80x512 .f32) (harg20 : arg20.IsWhole)
  (arg21 : Memref sig .tc .vmem S80x512 .f32) (harg21 : arg21.IsWhole)
  (arg22 : Memref sig .tc .vmem S80x512 .f32) (harg22 : arg22.IsWhole)
  (arg23 : Memref sig .tc .vmem S80x512 .f32) (harg23 : arg23.IsWhole)
variable [Holds R c arg2] [Holds R c arg3] [Holds R c arg4] [Holds R c arg5] [Holds R c arg6] [Holds R c arg7] [Holds R c arg8] [Holds R c arg9] [Holds R c arg10] [Holds R c arg11] [Holds R c arg12] [Holds R c arg13] [Holds R c arg14] [Holds R c arg15] [Holds R c arg16] [Holds R c arg17] [Holds R c arg18] [Holds R c arg19] [Holds R c arg20] [Holds R c arg21] [Holds R c arg22] [Holds R c arg23]

set_option maxHeartbeats 400000 in
/-- One trip of the coarse search keeps what the kernel owns. -/
theorem safe_t5 (v18 : BitVec 32) (v119 : FVec F S1x512 .f32) (v136 : FVec F S1x512 .f32) (v139 : FVec F S1x512 .f32) (v141 : FVec F S1x512 .f32) (v143 : IVec S1x512 1) (v151 : IVec S1x512 32) (v152 : IVec S1x512 32) (k acc) :
    Safe R c bd (k0_t5_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v18 v119 v136 v139 v141 v143 v151 v152 k acc) := by
  unfold k0_t5_body
  repeat' with_reducible first
    | exact Safe.load
    | exact Safe.store
    | exact Safe.pure _
    | refine Safe.bind ?_ fun _ => ?_
    | refine Safe.loop fun _ _ => ?_
    | exact safe_t6 ..
    | exact safe_t7 ..
    | refine Safe.ite ?_ ?_
    | rw [k0_part77_eq_skeleton] | rw [k0_part78_eq_skeleton]
    | unfold k0_part77_skel | unfold k0_part78_skel

set_option maxHeartbeats 400000 in
/-- One round of the bisection before its call of the next. -/
theorem safe_part142 (arg24 arg25 arg26 arg27 arg28 arg29 arg30 v18) :
    Safe R c bd (k0_part142 i arg10 harg10 arg24 arg25 arg26 arg27 arg28 arg29 arg30 v18) := by
  repeat' with_reducible first
    | exact Safe.load
    | exact Safe.store
    | exact Safe.pure _
    | refine Safe.bind ?_ fun _ => ?_
    | refine Safe.loop fun _ _ => ?_
    | exact safe_t8 ..
    | exact safe_t9 ..
    | refine Safe.ite ?_ ?_
    | rw [k0_part142_eq_skeleton]
    | unfold k0_part142_skel

/-- A counter below forty has fewer rounds left after it is raised by one. -/
theorem rounds_lt (x : BitVec 32) (h : x.toInt < 40) : (40 - (x + 1#32).toInt).toNat < (40 - x.toInt).toNat := by
  have h1 : (x + 1#32).toInt = x.toInt + 1 := by
    have := x.le_toInt
    rw [BitVec.toInt_add, show (1#32 : BitVec 32).toInt = 1 from rfl]
    exact Int.bmod_eq_of_le (by omega) (by omega)
  omega

/-- The bisection: entered with as many rounds as its counter leaves below forty, it keeps what it owns. -/
theorem safe_while (n : ℕ) : ∀ (arg24 : FVec F S1x512 .f32) (arg25 : FVec F S1x512 .f32) (arg26 : FVec F S1x512 .f32) (arg27 : FVec F S1x512 .f32) (arg28 : FVec F S1x512 .f32) (arg29 : F .f32) (arg30 : BitVec 32), (40 - arg30.toInt).toNat = n →
    Safe R c (some n) (cc0_while1 (F := F) i arg10 harg10 arg24 arg25 arg26 arg27 arg28 arg29 arg30) := by
  induction n using Nat.strong_induction_on with
  | _ n ih =>
  intro arg24 arg25 arg26 arg27 arg28 arg29 arg30 hn
  rw [cc0_while1_eq_skeleton]
  unfold cc0_while1_skel
  dsimp only
  split
  next h =>
    have hlt : arg30.toInt < 40 := by
      exact IntOp.cmpi_slt.mp (IntOp.andi_eq_one.mp h).2
    refine Safe.bind (safe_part142 ..) fun x => ?_
    refine Safe.call (40 - (arg30 + 1#32).toInt).toNat (fun u hu => ?_) ?_
    · obtain rfl := Option.some.inj hu
      exact hn ▸ rounds_lt arg30 hlt
    · exact ih _ (hn ▸ rounds_lt arg30 hlt) _ _ _ _ _ _ _ rfl
  next => exact Safe.pure _

set_option maxHeartbeats 1000000 in
/-- The kernel's body, at any point. -/
theorem safe_dsa : Safe R c none (cc0_dsa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) := by
  rw [cc0_dsa_eq_skeleton]
  unfold cc0_dsa_skel
  repeat' with_reducible first
    | exact Safe.load
    | exact Safe.store
    | exact Safe.pure _
    | refine Safe.bind ?_ fun _ => ?_
    | refine Safe.loop fun _ _ => ?_
    | exact safe_t1 ..
    | exact safe_t2 ..
    | exact safe_t3 ..
    | exact safe_t4 ..
    | exact safe_t5 ..
    | exact safe_t10 ..
    | exact safe_t11 ..
    | exact safe_t12 ..
    | exact safe_t13 ..
    | exact safe_t14 ..
    | exact safe_t15 ..
    | refine Safe.ite ?_ ?_
    | rw [k0_part85_eq_skeleton] | rw [k0_part102_eq_skeleton] | rw [k0_part119_eq_skeleton] | rw [k0_part120_eq_skeleton] | rw [k0_part121_eq_skeleton] | rw [k0_part122_eq_skeleton] | rw [k0_part123_eq_skeleton] | rw [k0_part124_eq_skeleton] | rw [k0_part125_eq_skeleton] | rw [k0_part126_eq_skeleton] | rw [k0_part127_eq_skeleton] | rw [k0_part128_eq_skeleton] | rw [k0_part129_eq_skeleton] | rw [k0_part130_eq_skeleton] | rw [k0_part131_eq_skeleton] | rw [k0_part132_eq_skeleton] | rw [k0_part133_eq_skeleton] | rw [k0_part134_eq_skeleton] | rw [k0_part135_eq_skeleton] | rw [k0_part136_eq_skeleton] | rw [k0_part137_eq_skeleton] | rw [k0_part138_eq_skeleton] | rw [k0_part139_eq_skeleton]
    | unfold k0_part85_skel | unfold k0_part102_skel | unfold k0_part119_skel | unfold k0_part120_skel | unfold k0_part121_skel | unfold k0_part122_skel | unfold k0_part123_skel | unfold k0_part124_skel | unfold k0_part125_skel | unfold k0_part126_skel | unfold k0_part127_skel | unfold k0_part128_skel | unfold k0_part129_skel | unfold k0_part130_skel | unfold k0_part131_skel | unfold k0_part132_skel | unfold k0_part133_skel | unfold k0_part134_skel | unfold k0_part135_skel | unfold k0_part136_skel | unfold k0_part137_skel | unfold k0_part138_skel | unfold k0_part139_skel
  exact Safe.call _ (fun _ h => nomatch h) (safe_while i arg10 harg10 _ _ _ _ _ _ _ _ rfl)

end Cert.Proof.Kernel
-- ==== Proof.Frame.lean ====
/-
  The frame of the attention kernel: at every grid point the body keeps the buffers it owns (`safe_dsa`), so the run
  ends with the argument arrays as they were and every semaphore counter at zero. Nothing is said of what the body
  leaves in a buffer.
-/
module

public import proofs.«01_k».proof.Defs
public import proofs.«01_k».proof.Proof.Body

@[expose] public section

noncomputable section

namespace Cert.Proof.Kernel

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [BitOps F]

local instance {c : Dev nD} {sp : CoreSpace} {s : Shape} {e : EltTy} {m : Memref sig .tc sp s e} : Holds (F := F) (Owned c m) c m := Holds.self m
local instance {A B : sProp (Res F)} {c : Dev nD} {sp : CoreSpace} {s : Shape} {e : EltTy} {m : Memref sig .tc sp s e} [h : Holds A c m] :
    Holds iprop(A ∗ B) c m := Holds.left h
local instance {A B : sProp (Res F)} {c : Dev nD} {sp : CoreSpace} {s : Shape} {e : EltTy} {m : Memref sig .tc sp s e} [h : Holds B c m] :
    Holds iprop(A ∗ B) c m := Holds.right h

/-! ## A window's staging buffer -/

theorem owned_of_owns (c : Dev nD) {s : Shape} {e : EltTy} {sp : CoreSpace} {m : Memref sig .tc sp s e} (h : m.IsWhole) (X : s.Idx → Elt F e) :
    (ownsTc c m fullShare X : sProp (Res F)) ⊢ Owned (F := F) c m := by
  unfold Owned ownsTc owns
  rw [h.set_eq_univ]
  iintro ⟨%f, -, H⟩
  iexists f
  iexact H

theorem owns_of_owned (c : Dev nD) {s : Shape} {e : EltTy} {sp : CoreSpace} {m : Memref sig .tc sp s e} (h : m.IsWhole) :
    (Owned (F := F) c m : sProp (Res F)) ⊢ iprop(∃ X, ⌜True⌝ ∗ ownsTc c m fullShare X) := by
  unfold Owned ownsTc owns
  rw [h.set_eq_univ]
  iintro ⟨%f, H⟩
  iexists m.view.read (Elt F) f
  isplitr
  · ipureintro; trivial
  iexists f
  isplitr
  · ipureintro; rfl
  iexact H

/-! ## The body at a point -/

/-- The proof data: the arrays at their contents when the region is entered; of what the body leaves, nothing. -/
def rdat (V : (c : Dev nD) → (b : Ref sig .tc) → Buf (Elt F) ((c.tc : Thread nD τ).loc b)) (c : Dev nD) :
    RDat τ (Elt F) Unit ℕ (UR sig nD τ) ℕ (cfg0 (F := F)) c where
  A w := V c (Pipeline.arrRef spec0 w)
  after _ _ _ _ := True
  Φ _ := Pipeline.ΦA spec0 c
  q _ := fullShare
  owed _ := 0

/-- The kernel's scratch buffers. -/
def Scratch (c : Dev nD) : sProp (Res F) :=
  iprop(Owned c (Memref.whole cc0_scratch0) ∗ Owned c (Memref.whole cc0_scratch1) ∗ Owned c (Memref.whole cc0_scratch2)
    ∗ Owned c (Memref.whole cc0_scratch3) ∗ Owned c (Memref.whole cc0_scratch4) ∗ Owned c (Memref.whole cc0_scratch5)
    ∗ Owned c (Memref.whole cc0_scratch6) ∗ Owned c (Memref.whole cc0_scratch7) ∗ Owned c (Memref.whole cc0_scratch8)
    ∗ Owned c (Memref.whole cc0_scratch9) ∗ Owned c (Memref.whole cc0_scratch10) ∗ Owned c (Memref.whole cc0_scratch11)
    ∗ Owned c (Memref.whole cc0_scratch12) ∗ Owned c (Memref.whole cc0_scratch13))

theorem scratch_eq (c : Dev nD) :
    (Pipeline.scopedRest (Ix := Unit) (Name := ℕ) (U := UR sig nD τ) (Lvl := ℕ) (Val := Elt F) spec0 c : sProp (Res F)) = Scratch c :=
  scopedRest0_eq c

/-- The staging buffers at point `t`. -/
def Staged (c : Dev nD) (t : Fin (cfg0 (F := F)).N) : sProp (Res F) :=
  iprop(Owned c (win0_0.stage ((cfg0 (F := F)).slots t 0)) ∗ Owned c (win0_1.stage ((cfg0 (F := F)).slots t 1)) ∗ Owned c (win0_2.stage ((cfg0 (F := F)).slots t 2)) ∗ Owned c (win0_3.stage ((cfg0 (F := F)).slots t 3)) ∗ Owned c (win0_4.stage ((cfg0 (F := F)).slots t 4)) ∗ Owned c (win0_5.stage ((cfg0 (F := F)).slots t 5)) ∗ Owned c (win0_6.stage ((cfg0 (F := F)).slots t 6)) ∗ Owned c (win0_7.stage ((cfg0 (F := F)).slots t 7)))

theorem staged_eq (c : Dev nD) (t : Fin (cfg0 (F := F)).N) :
    (bigSep Finset.univ fun w : Fin 8 => Owned c (((cfg0 (F := F)).win w).stage ((cfg0 (F := F)).slots t w)) : sProp (Res F))
      = Staged c t := by
  rw [bigSep_W0]; rfl

/-- What the body runs on and keeps. -/
def Kept (c : Dev nD) (t : Fin (cfg0 (F := F)).N) (A B : sProp (Res F)) : sProp (Res F) :=
  iprop(Scratch c ∗ Staged c t ∗ A ∗ B)

theorem safe_body (c : Dev nD) (t : Fin (cfg0 (F := F)).N) (A B : sProp (Res F)) :
    Safe (Kept c t A B) c none (defs₀ (F := F) .tc (cfg0 (F := F)).body ((cfg0 (F := F)).bodyArgs t ((cfg0 (F := F)).slots t))) := by
  unfold Kept Staged Scratch
  exact safe_dsa ..

theorem body_obligation (V : (c : Dev nD) → (b : Ref sig .tc) → Buf (Elt F) ((c.tc : Thread nD τ).loc b)) (c : Dev nD) :
    (rdat V c).BodyObligation (defs₀ (F := F)) 𝒱₀ () Set.univ := fun t Y _ => by
  have h := (safe_body (F := F) c t iprop(∃ r, prngReg c r) ((rdat V c).owesAt () t.castSucc)).run
  have hin : iprop((rdat V c).Φ t.castSucc ∗ (rdat V c).owesAt () t.castSucc
      ∗ bigSep Finset.univ fun w => ownsTc c (((cfg0 (F := F)).win w).stage ((cfg0 (F := F)).slots t w)) fullShare (Y w))
      ⊢ Kept c t iprop(∃ r, prngReg c r) ((rdat V c).owesAt () t.castSucc) := by
    unfold Kept
    rw [← staged_eq]
    rw [show (rdat V c).Φ t.castSucc = iprop(Scratch c ∗ ∃ r, prngReg c r) from by rw [← scratch_eq]; rfl]
    have hs : (bigSep Finset.univ fun w => ownsTc c (((cfg0 (F := F)).win w).stage ((cfg0 (F := F)).slots t w)) fullShare (Y w) : sProp (Res F))
        ⊢ bigSep Finset.univ fun w : Fin 8 => Owned c (((cfg0 (F := F)).win w).stage ((cfg0 (F := F)).slots t w)) :=
      bigSep_mono fun w _ => owned_of_owns c (stage_whole0 w ((cfg0 (F := F)).slots t w)) (Y w)
    iintro ⟨⟨HS, HP⟩, HO, HW⟩
    isplitl [HS]
    · iexact HS
    isplitl [HW]
    · ihave HW := hs $$ HW
      iexact HW
    isplitl [HP]
    · iexact HP
    · iexact HO
  have hout : Kept c t iprop(∃ r, prngReg c r) ((rdat V c).owesAt () t.castSucc)
      ⊢ iprop((rdat V c).Φ t.succ ∗ (rdat V c).owesAt () t.succ
        ∗ bigSep Finset.univ fun w => iprop(∃ X, ⌜(rdat V c).after w t (Y w) X⌝
          ∗ ownsTc c (((cfg0 (F := F)).win w).stage ((cfg0 (F := F)).slots t w)) fullShare X)) := by
    unfold Kept
    rw [← staged_eq]
    rw [show (rdat V c).Φ t.succ = iprop(Scratch c ∗ ∃ r, prngReg c r) from by rw [← scratch_eq]; rfl]
    have hs : (bigSep Finset.univ fun w : Fin 8 => Owned c (((cfg0 (F := F)).win w).stage ((cfg0 (F := F)).slots t w)) : sProp (Res F))
        ⊢ bigSep Finset.univ fun w => iprop(∃ X, ⌜(rdat V c).after w t (Y w) X⌝
          ∗ ownsTc c (((cfg0 (F := F)).win w).stage ((cfg0 (F := F)).slots t w)) fullShare X) :=
      bigSep_mono fun w _ => owns_of_owned (F := F) c (stage_whole0 w ((cfg0 (F := F)).slots t w))
    iintro ⟨HS, HW, HP, HO⟩
    isplitl [HS HP]
    · isplitl [HS]
      · iexact HS
      · iexact HP
    isplitl [HO]
    · iexact HO
    · ihave HW := hs $$ HW
      iexact HW
  exact (hin.trans h).trans (wp_mono _ _ _ fun _ => hout)

/-! ## The run -/

/-- The arrays when the region is entered: the two host lines have run. -/
abbrev V₀ (m : (ℓ : Loc nD τ sig) → Buf (Elt F) ℓ) (c : Dev nD) (b : Ref sig .tc) : Buf (Elt F) ((c.tc : Thread nD τ).loc b) :=
  StableHlo.after hostOps0 (fun b => m (c, b)) b

theorem run_main [∀ e, Nonempty (Elt F e)] (m : (ℓ : Loc nD τ sig) → Buf (Elt F) ℓ) (g : Dev nD → PrngReg) :
    θ_run (defs (F := F)) (onTc (τ := τ) (main (F := F))) ⟨m, fun _ => 0, g⟩
      (fun r => RDat.FramePost (cfg0 (F := F)) (rdat (V₀ m)) (V₀ m) r ∧ r.2.sem = fun _ => 0) :=
  Pipeline.RDat.θ_run_frame (fun _ : Fin 1 => cfg0 (F := F)) 0 launch0 defs₀ 𝒱₀ (rdat (V₀ m)) m g main
    (body_obligation (V₀ m)) (fun c w => by unfold RDat.share; split <;> rfl) (fun _ _ => rfl) (V₀ m)
    (Pipeline.hmain_prefix _ 0 defs₀ 𝒱₀ m main hostOps0 hostOps0_sub ⟨rfl, rfl⟩ main_chain)
    (fun _ _ => rfl) (fun _ _ => rfl) _ (fun _ h => h)

theorem frame_kernel [hK : Cert.Kernel.Facts] : Cert.quiescent_Kernel := by
  intro m g _
  refine (θ_run Cert.Kernel.defs _ _).mono ?_ (run_main m g)
  intro r h
  have hw (c : Dev nD) (b : Ref sig .tc) (hb : b ∉ [main_v0, main_v1]) : V₀ m c b = m ((c.tc : Thread nD τ).loc b) :=
    StableHlo.after_of_writes_sub hostOps0 (fun b => m (c, b)) (StableHlo.forall_writes_sub_of_map rfl) hb
  have ha (c : Dev nD) (w : Fin 8) (hi : ((cfg0 (F := Bits)).win w).isOut = false) (hb : Pipeline.arrRef spec0 w ∉ [main_v0, main_v1]) :
      r.2.mem ((spec0 w).arr.view.loc (c.tc : Thread nD τ)) = m ((spec0 w).arr.view.loc (c.tc : Thread nD τ)) :=
    (RDat.FramePost.arr_in h.1 c w hi).trans (hw c _ hb)
  refine ⟨fun c => ⟨ha c 0 rfl (by decide), ha c 1 rfl (by decide), ha c 2 rfl (by decide), ha c 3 rfl (by decide),
    ha c 4 rfl (by decide), ha c 5 rfl (by decide), ?_⟩, h.2⟩
  exact ((h.1 c).2 main_arg6 (by decide)).trans (hw c main_arg6 (by decide))

end Cert.Proof.Kernel
-- ==== Proof.Inproj.Base.lean ====
/- The input-projection call: the arrays the region finds, the row it normalises, and the projections of that row, as
   functions of the arguments. -/
module
public import proofs.«01_k».proof.Proof.Gen.Kernel2Ideal.Value
public import Idealize.ShloMosaic.Lib.Pointwise
public import Idealize.ShloMosaic.Lib.Pipeline.ValueKit
@[expose] public section
noncomputable section
namespace Cert.Proof.Inproj
open Cert.Kernel2Ideal Cert.Kernel2Ideal.Gen
open Idealize.ShloMosaic Idealize.ShloMosaic.TcCoe

/-- Row `(b, s)` after the root-mean-square norm, the gain, the scale and the shift, at channel `k`. -/
def hid (X : FVec Ideal S4x8192x1024 .f32) (G : FVec Ideal S1024 .f32) (SC SH : FVec Ideal S4x1024 .f32)
    (b : Fin 4) (s : Fin 8192) (k : Fin 1024) : EReal :=
  X (ix3 b s k) *
      Ideal.rsqrt (Ideal.div (∑ x : Fin 1024, X (ix3 b s x) * X (ix3 b s x)) (Ideal.ofBits FTy.f32 1149239296#32) +
        Ideal.ofBits FTy.f32 897988541#32) * G (ix1 k) * (1 + SC (ix2 b k)) + SH (ix2 b k)

/-- Column `n` of the projection of row `(b, s)`. -/
def prj (X : FVec Ideal S4x8192x1024 .f32) (G : FVec Ideal S1024 .f32) (SC SH : FVec Ideal S4x1024 .f32)
    (W : FVec Ideal S1024x2888 .f32) (b : Fin 4) (s : Fin 8192) (n : Fin 2888) : EReal :=
  ∑ k : Fin 1024, hid X G SC SH b s k * W (ix2 k n)

variable (m : (ℓ : Loc nD τ sig) → Buf (Elt Ideal) ℓ)

/-- The argument arrays of a memory. -/
abbrev aX (c : Dev nD) : FVec Ideal S4x8192x1024 .f32 := m ((c : Thread nD τ).loc main_arg0)
abbrev aG (c : Dev nD) : FVec Ideal S1024 .f32 := m ((c : Thread nD τ).loc main_arg1)
abbrev aSC (c : Dev nD) : FVec Ideal S4x1024 .f32 := m ((c : Thread nD τ).loc main_arg2)
abbrev aSH (c : Dev nD) : FVec Ideal S4x1024 .f32 := m ((c : Thread nD τ).loc main_arg3)
abbrev aW (c : Dev nD) : FVec Ideal S1024x2888 .f32 := m ((c : Thread nD τ).loc main_arg4)

theorem V_g (c : Dev nD) : V m c main_v4 = shapeCast S1x1024 (aG m c) shapeCasts_S1024_S1x1024 := by
  unfold V; simp only [hostOps0, hostOps0_1, hostOps0_2, List.flatten_cons, List.flatten_nil, List.append_nil, List.cons_append, List.nil_append]
  after_results_simp
  rfl
theorem V_sc (c : Dev nD) : V m c main_v2 = broadcastInDim S4x1x1024 ![0, 2] bcast_S4x1024_S4x1x1024_0_2 (aSC m c) := by
  unfold V; simp only [hostOps0, hostOps0_1, hostOps0_2, List.flatten_cons, List.flatten_nil, List.append_nil, List.cons_append, List.nil_append]
  after_results_simp
theorem V_sh (c : Dev nD) : V m c main_v3 = broadcastInDim S4x1x1024 ![0, 2] bcast_S4x1024_S4x1x1024_0_2 (aSH m c) := by
  unfold V; simp only [hostOps0, hostOps0_1, hostOps0_2, List.flatten_cons, List.flatten_nil, List.append_nil, List.cons_append, List.nil_append]
  after_results_simp
theorem V_w (c : Dev nD) : V m c main_v1 = truncf .bf16 (pad S1024x2944 ![0, 0] ![0, 56] ![0, 0] (aW m c)
    (sitofp .f32 (constantI S_ 32 0#32) : FVec Ideal S_ .f32) pads_S1024x2888_S1024x2944_000_0560 h_S_) bitsLt_bf16_f32 := by
  unfold V; simp only [hostOps0, hostOps0_1, hostOps0_2, List.flatten_cons, List.flatten_nil, List.append_nil, List.cons_append, List.nil_append]
  after_results_simp
  simp only [StableHlo.TRef.toBuf, StableHlo.TRef.ofBuf, cast_eq]

/-- The batch and the row of the array that row `r` of point `t`'s block is. -/
def bT (t : Fin cfg0.N) : Fin 4 := ⟨t.val / 16, by have : t.val < 64 := t.isLt; omega⟩
def rowT (t : Fin cfg0.N) (r : Fin 512) : Fin 8192 := ⟨t.val % 16 * 512 + r.val, by have := r.isLt; omega⟩

theorem e0 : ∀ t : Fin cfg0.N, win0_0.index t = ![t.val / 16, t.val % 16, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val / 16, 0, 0] := (by decide +kernel : ∀ t : Fin grid0.N, _)
theorem e3 : ∀ t : Fin cfg0.N, win0_3.index t = ![t.val / 16, 0, 0] := (by decide +kernel : ∀ t : Fin grid0.N, _)
theorem e4 : ∀ t : Fin cfg0.N, win0_4.index t = ![0, 0] := (by decide +kernel : ∀ t : Fin grid0.N, _)

theorem blkX (c : Dev nD) (t : Fin cfg0.N) (r : Fin 512) (k : Fin 1024) :
    (iblk m c 0 t : FVec Ideal S1x512x1024 .f32) (ix3 0 r k) = aX m c (ix3 (bT t) (rowT t r) k) := by
  have h : (iblk m c 0 t : FVec Ideal S1x512x1024 .f32) (ix3 0 r k) = (V m c main_arg0 : FVec Ideal S4x8192x1024 .f32) (ix3 (bT t) (rowT t r) k) := by
    blk_simp [iblk]
    refine congrArg (V m c main_arg0) ?_
    blk_ext [e0, bT, rowT]
  rw [h, V_main_arg0]
theorem blkG (c : Dev nD) (t : Fin cfg0.N) (k : Fin 1024) :
    (iblk m c 1 t : FVec Ideal S1x1024 .f32) (ix2 0 k) = aG m c (ix1 k) := by
  have h : (iblk m c 1 t : FVec Ideal S1x1024 .f32) (ix2 0 k) = (V m c main_v4 : FVec Ideal S1x1024 .f32) (ix2 0 k) := by
    blk_simp [iblk]
    refine congrArg (V m c main_v4) ?_
    blk_ext [e1]
  rw [h, V_g]
  pointwise
theorem blkSC (c : Dev nD) (t : Fin cfg0.N) (k : Fin 1024) :
    (iblk m c 2 t : FVec Ideal S1x1x1024 .f32) (ix3 0 0 k) = aSC m c (ix2 (bT t) k) := by
  have h : (iblk m c 2 t : FVec Ideal S1x1x1024 .f32) (ix3 0 0 k) = (V m c main_v2 : FVec Ideal S4x1x1024 .f32) (ix3 (bT t) 0 k) := by
    blk_simp [iblk]
    refine congrArg (V m c main_v2) ?_
    blk_ext [e2, bT]
  rw [h, V_sc]
  pointwise
theorem blkSH (c : Dev nD) (t : Fin cfg0.N) (k : Fin 1024) :
    (iblk m c 3 t : FVec Ideal S1x1x1024 .f32) (ix3 0 0 k) = aSH m c (ix2 (bT t) k) := by
  have h : (iblk m c 3 t : FVec Ideal S1x1x1024 .f32) (ix3 0 0 k) = (V m c main_v3 : FVec Ideal S4x1x1024 .f32) (ix3 (bT t) 0 k) := by
    blk_simp [iblk]
    refine congrArg (V m c main_v3) ?_
    blk_ext [e3, bT]
  rw [h, V_sh]
  pointwise
theorem blkW (c : Dev nD) (t : Fin cfg0.N) (k : Fin 1024) (n : Fin 2944) (hn : n.val < 2888) :
    (iblk m c 4 t : FVec Ideal S1024x2944 .bf16) (ix2 k n) = aW m c (ix2 k ⟨n.val, hn⟩) := by
  have h : (iblk m c 4 t : FVec Ideal S1024x2944 .bf16) (ix2 k n) = (V m c main_v1 : FVec Ideal S1024x2944 .bf16) (ix2 k n) := by
    blk_simp [iblk]
    refine congrArg (V m c main_v1) ?_
    blk_ext [e4]
  rw [h, V_w]
  pointwise
  rw [dif_pos hn]

/-- The block's normalised rows are the array's. -/
theorem hidK (c : Dev nD) (t : Fin cfg0.N) (r : Fin 512) (k : Fin 1024) :
    k0_pay4 (iblk m c 0 t) (iblk m c 1 t) (iblk m c 2 t) (iblk m c 3 t) (ix2 r k)
      = hid (aX m c) (aG m c) (aSC m c) (aSH m c) (bT t) (rowT t r) k := by
  pointwise [k0_pay4]
  simp only [blkX, blkG, blkSC, blkSH, hid]

/-- A block row times a column of the block of weights is the array's projection. -/
theorem prjK (c : Dev nD) (t : Fin cfg0.N) (r : Fin 512) (n : Fin 2944) (hn : n.val < 2888) :
    ∑ k : Fin 1024, k0_pay4 (iblk m c 0 t) (iblk m c 1 t) (iblk m c 2 t) (iblk m c 3 t) (ix2 r k) * (iblk m c 4 t : FVec Ideal S1024x2944 .bf16) (ix2 k n)
      = prj (aX m c) (aG m c) (aSC m c) (aSH m c) (aW m c) (bT t) (rowT t r) ⟨n.val, hn⟩ := by
  unfold prj
  exact Finset.sum_congr rfl fun k _ => by rw [hidK, blkW m c t k n hn]

end Cert.Proof.Inproj
-- ==== Proof.Inproj.Spec.lean ====
/- The ten results of the input-projection call as functions of its arguments. -/
module
public import proofs.«01_k».proof.Proof.Inproj.Base
@[expose] public section
noncomputable section
namespace Cert.Proof.Inproj
open Cert.Kernel2Ideal Cert.Kernel2Ideal.Gen
open Idealize.ShloMosaic Idealize.ShloMosaic.TcCoe

theorem prj_congr (X : FVec Ideal S4x8192x1024 .f32) (G : FVec Ideal S1024 .f32) (SC SH : FVec Ideal S4x1024 .f32)
    (W : FVec Ideal S1024x2888 .f32) {b b' : Fin 4} {s s' : Fin 8192} {n n' : Fin 2888}
    (hb : b.val = b'.val) (hs : s.val = s'.val) (hn : n.val = n'.val) : prj X G SC SH W b s n = prj X G SC SH W b' s' n' := by
  rw [Fin.ext hb, Fin.ext hs, Fin.ext hn]

/-- The word of column `q` of the position columns of row `s`: three columns of its quotient by 64, three of its rest. -/
def posw (s : Fin 8192) (q : Fin 64) : BitVec 32 :=
  if q.val < 3 then BitVec.ofNat 32 (s.val / 64) else if q.val < 6 then BitVec.ofNat 32 (s.val % 64) else 0#32
/-- The same as a value. -/
def posc (s : Fin 8192) (q : Fin 64) : EReal := FloatOps.sitofp (F := Ideal) .f32 (posw s q)

/-- The array of the retention queries. -/
def o_rq (X : FVec Ideal S4x8192x1024 .f32) (G : FVec Ideal S1024 .f32) (SC SH : FVec Ideal S4x1024 .f32)
    (W : FVec Ideal S1024x2888 .f32) : FVec Ideal S4x8192x256 .bf16 := fun j =>
  prj X G SC SH W (j 0) (j 1) ⟨(j 2).val, by have : (j 2).val < 256 := (j 2).isLt; omega⟩
/-- The array of the retention keys, scaled. -/
def o_rk (X : FVec Ideal S4x8192x1024 .f32) (G : FVec Ideal S1024 .f32) (SC SH : FVec Ideal S4x1024 .f32)
    (W : FVec Ideal S1024x2888 .f32) : FVec Ideal S4x8192x256 .bf16 := fun j =>
  prj X G SC SH W (j 0) (j 1) ⟨256 + (j 2).val, by have : (j 2).val < 256 := (j 2).isLt; omega⟩ * Ideal.ofBits FTy.f32 1040187392#32
/-- The array of the retention values. -/
def o_rv (X : FVec Ideal S4x8192x1024 .f32) (G : FVec Ideal S1024 .f32) (SC SH : FVec Ideal S4x1024 .f32)
    (W : FVec Ideal S1024x2888 .f32) : FVec Ideal S4x8192x512 .bf16 := fun j =>
  prj X G SC SH W (j 0) (j 1) ⟨512 + (j 2).val, by have : (j 2).val < 512 := (j 2).isLt; omega⟩
/-- The array of the retention gate. -/
def o_rg (X : FVec Ideal S4x8192x1024 .f32) (G : FVec Ideal S1024 .f32) (SC SH : FVec Ideal S4x1024 .f32)
    (W : FVec Ideal S1024x2888 .f32) : FVec Ideal S4x8192x512 .bf16 := fun j =>
  prj X G SC SH W (j 0) (j 1) ⟨1024 + (j 2).val, by have : (j 2).val < 512 := (j 2).isLt; omega⟩
/-- The array of the attention queries, scaled and transposed. -/
def o_aq (X : FVec Ideal S4x8192x1024 .f32) (G : FVec Ideal S1024 .f32) (SC SH : FVec Ideal S4x1024 .f32)
    (W : FVec Ideal S1024x2888 .f32) : FVec Ideal S4x512x8192 .bf16 := fun j =>
  prj X G SC SH W (j 0) (j 2) ⟨1536 + (j 1).val, by have : (j 1).val < 512 := (j 1).isLt; omega⟩ * Ideal.ofBits FTy.f32 1043900987#32
/-- The array of the indexer queries, transposed. -/
def o_iq (X : FVec Ideal S4x8192x1024 .f32) (G : FVec Ideal S1024 .f32) (SC SH : FVec Ideal S4x1024 .f32)
    (W : FVec Ideal S1024x2888 .f32) : FVec Ideal S4x512x8192 .bf16 := fun j =>
  prj X G SC SH W (j 0) (j 2) ⟨2304 + (j 1).val, by have : (j 1).val < 512 := (j 1).isLt; omega⟩
/-- The array of the indexer keys. -/
def o_ik (X : FVec Ideal S4x8192x1024 .f32) (G : FVec Ideal S1024 .f32) (SC SH : FVec Ideal S4x1024 .f32)
    (W : FVec Ideal S1024x2888 .f32) : FVec Ideal S4x8192x64 .bf16 := fun j =>
  prj X G SC SH W (j 0) (j 1) ⟨2816 + (j 2).val, by have : (j 2).val < 64 := (j 2).isLt; omega⟩
/-- The array of the indexer weights, scaled and transposed. -/
def o_iw (X : FVec Ideal S4x8192x1024 .f32) (G : FVec Ideal S1024 .f32) (SC SH : FVec Ideal S4x1024 .f32)
    (W : FVec Ideal S1024x2888 .f32) : FVec Ideal S4x8x8192 .f32 := fun j =>
  prj X G SC SH W (j 0) (j 2) ⟨2880 + (j 1).val, by have : (j 1).val < 8 := (j 1).isLt; omega⟩ * Ideal.ofBits FTy.f32 1026884851#32
/-- The array of the attention keys: per head 64 key columns, then the position columns. -/
def o_ak (X : FVec Ideal S4x8192x1024 .f32) (G : FVec Ideal S1024 .f32) (SC SH : FVec Ideal S4x1024 .f32)
    (W : FVec Ideal S1024x2888 .f32) : FVec Ideal S4x8192x256 .bf16 := fun j =>
  if h0 : (j 2).val < 64 then prj X G SC SH W (j 0) (j 1) ⟨2048 + (j 2).val, by omega⟩
  else if h1 : (j 2).val < 128 then posc (j 1) ⟨(j 2).val - 64, by omega⟩
  else if h2 : (j 2).val < 192 then prj X G SC SH W (j 0) (j 1) ⟨2048 + ((j 2).val - 64), by omega⟩
  else posc (j 1) ⟨(j 2).val - 192, by have : (j 2).val < 256 := (j 2).isLt; omega⟩
/-- The first row of sixteen is one, the others zero. -/
def one16 (q : Nat) : EReal := if q = 0 then 1 else 0
/-- The array of the attention values, transposed: per head 64 value rows, then a row of ones and 15 of zeros. -/
def o_av (X : FVec Ideal S4x8192x1024 .f32) (G : FVec Ideal S1024 .f32) (SC SH : FVec Ideal S4x1024 .f32)
    (W : FVec Ideal S1024x2888 .f32) : FVec Ideal S4x160x8192 .bf16 := fun j =>
  if h0 : (j 1).val < 64 then prj X G SC SH W (j 0) (j 2) ⟨2176 + (j 1).val, by omega⟩
  else if h1 : (j 1).val < 80 then one16 ((j 1).val - 64)
  else if h2 : (j 1).val < 144 then prj X G SC SH W (j 0) (j 2) ⟨2176 + ((j 1).val - 16), by omega⟩
  else one16 ((j 1).val - 144)

end Cert.Proof.Inproj
-- ==== Proof.Inproj.OutA.lean ====
/- What the kernel leaves in the arrays it fills by one store per block. -/
module
public import proofs.«01_k».proof.Proof.Inproj.Spec
@[expose] public section
noncomputable section
namespace Cert.Proof.Inproj
open Cert.Kernel2Ideal Cert.Kernel2Ideal.Gen
open Idealize.ShloMosaic Idealize.ShloMosaic.TcCoe

variable (m : (ℓ : Loc nD τ sig) → Buf (Elt Ideal) ℓ)

theorem e5 : ∀ t : Fin cfg0.N, win0_5.index t = ![t.val / 16, t.val % 16, 0] := (by decide +kernel : ∀ t : Fin grid0.N, _)
/-- The first output's block after point `t` is the run's. -/
theorem first_out (c : Dev nD) (t : Fin cfg0.N) : (outsAt0 m c t).1 = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t)) := by
  simp only [outsAt0]
theorem final_rq (c : Dev nD) : (dats m 0 c).arrAt 5 cfg0.N = o_rq (aX m c) (aG m c) (aSC m c) (aSH m c) (aW m c) := by
  refine (dats m 0 c).arrAt_eq_of_covers 5 _ (by decide +kernel) fun t hf y => ?_
  blk_simp
  rw [after0_5]; rw [first_out]; frame_out
  rw [eq_ix3 (n0 := 1) (n1 := 512) (n2 := 256) y]
  have hy : (y 2).val < 256 := (y 2).isLt
  have hr : (y 1).val < 512 := (y 1).isLt
  have h0 : (y 0).val < 1 := (y 0).isLt
  pointwise [k0_pay5]
  unfold o_rq
  refine ((prjK m c t (y 1) ⟨(y 2).val, by omega⟩ (by show (y 2).val < 2888; omega)).trans (prj_congr _ _ _ _ _ ?_ ?_ ?_))
  · blk_simp [e5, bT]; try omega
  · blk_simp [e5, rowT]; try omega
  · show (y 2).val = _
    blk_simp [e5]; try omega

theorem e6 : ∀ t : Fin cfg0.N, win0_6.index t = ![t.val / 16, t.val % 16, 0] := (by decide +kernel : ∀ t : Fin grid0.N, _)

theorem final_rk (c : Dev nD) : (dats m 0 c).arrAt 6 cfg0.N = o_rk (aX m c) (aG m c) (aSC m c) (aSH m c) (aW m c) := by
  refine (dats m 0 c).arrAt_eq_of_covers 6 _ (by decide +kernel) fun t hf y => ?_
  blk_simp
  rw [after0_6]; frame_out
  rw [eq_ix3 (n0 := 1) (n1 := 512) (n2 := 256) y]
  have hy : (y 2).val < 256 := (y 2).isLt
  have hr : (y 1).val < 512 := (y 1).isLt
  have h0 : (y 0).val < 1 := (y 0).isLt
  pointwise [k0_pay6]
  unfold o_rk
  refine congrArg (· * _) ((prjK m c t (y 1) ⟨256 + (y 2).val, by omega⟩ (by show 256 + (y 2).val < 2888; omega)).trans (prj_congr _ _ _ _ _ ?_ ?_ ?_))
  · blk_simp [e6, bT]; try omega
  · blk_simp [e6, rowT]; try omega
  · show 256 + (y 2).val = 256 + _
    blk_simp [e6]; try omega

theorem e7 : ∀ t : Fin cfg0.N, win0_7.index t = ![t.val / 16, t.val % 16, 0] := (by decide +kernel : ∀ t : Fin grid0.N, _)

theorem final_rv (c : Dev nD) : (dats m 0 c).arrAt 7 cfg0.N = o_rv (aX m c) (aG m c) (aSC m c) (aSH m c) (aW m c) := by
  refine (dats m 0 c).arrAt_eq_of_covers 7 _ (by decide +kernel) fun t hf y => ?_
  blk_simp
  rw [after0_7]; frame_out
  rw [eq_ix3 (n0 := 1) (n1 := 512) (n2 := 512) y]
  have hy : (y 2).val < 512 := (y 2).isLt
  have hr : (y 1).val < 512 := (y 1).isLt
  have h0 : (y 0).val < 1 := (y 0).isLt
  pointwise [k0_pay7]
  unfold o_rv
  refine ((prjK m c t (y 1) ⟨512 + (y 2).val, by omega⟩ (by show 512 + (y 2).val < 2888; omega)).trans (prj_congr _ _ _ _ _ ?_ ?_ ?_))
  · blk_simp [e7, bT]; try omega
  · blk_simp [e7, rowT]; try omega
  · show 512 + (y 2).val = 512 + _
    blk_simp [e7]; try omega

theorem e8 : ∀ t : Fin cfg0.N, win0_8.index t = ![t.val / 16, t.val % 16, 0] := (by decide +kernel : ∀ t : Fin grid0.N, _)

theorem final_rg (c : Dev nD) : (dats m 0 c).arrAt 8 cfg0.N = o_rg (aX m c) (aG m c) (aSC m c) (aSH m c) (aW m c) := by
  refine (dats m 0 c).arrAt_eq_of_covers 8 _ (by decide +kernel) fun t hf y => ?_
  blk_simp
  rw [after0_8]; frame_out
  rw [eq_ix3 (n0 := 1) (n1 := 512) (n2 := 512) y]
  have hy : (y 2).val < 512 := (y 2).isLt
  have hr : (y 1).val < 512 := (y 1).isLt
  have h0 : (y 0).val < 1 := (y 0).isLt
  pointwise [k0_pay8]
  unfold o_rg
  refine ((prjK m c t (y 1) ⟨1024 + (y 2).val, by omega⟩ (by show 1024 + (y 2).val < 2888; omega)).trans (prj_congr _ _ _ _ _ ?_ ?_ ?_))
  · blk_simp [e8, bT]; try omega
  · blk_simp [e8, rowT]; try omega
  · show 1024 + (y 2).val = 1024 + _
    blk_simp [e8]; try omega

end Cert.Proof.Inproj
-- ==== Proof.Inproj.OutB.lean ====
/- What the kernel leaves in the arrays it fills by one store per block. -/
module
public import proofs.«01_k».proof.Proof.Inproj.Spec
@[expose] public section
noncomputable section
namespace Cert.Proof.Inproj
open Cert.Kernel2Ideal Cert.Kernel2Ideal.Gen
open Idealize.ShloMosaic Idealize.ShloMosaic.TcCoe

variable (m : (ℓ : Loc nD τ sig) → Buf (Elt Ideal) ℓ)

theorem e9 : ∀ t : Fin cfg0.N, win0_9.index t = ![t.val / 16, 0, t.val % 16] := (by decide +kernel : ∀ t : Fin grid0.N, _)

theorem final_aq (c : Dev nD) : (dats m 0 c).arrAt 9 cfg0.N = o_aq (aX m c) (aG m c) (aSC m c) (aSH m c) (aW m c) := by
  refine (dats m 0 c).arrAt_eq_of_covers 9 _ (by decide +kernel) fun t hf y => ?_
  blk_simp
  rw [after0_9]; frame_out
  rw [eq_ix3 (n0 := 1) (n1 := 512) (n2 := 512) y]
  have hy : (y 1).val < 512 := (y 1).isLt
  have hr : (y 2).val < 512 := (y 2).isLt
  have h0 : (y 0).val < 1 := (y 0).isLt
  pointwise [k0_pay9]
  unfold o_aq
  refine congrArg (· * _) ((prjK m c t (y 2) ⟨1536 + (y 1).val, by omega⟩ (by show 1536 + (y 1).val < 2888; omega)).trans (prj_congr _ _ _ _ _ ?_ ?_ ?_))
  · blk_simp [e9, bT]; try omega
  · blk_simp [e9, rowT]; try omega
  · show 1536 + (y 1).val = 1536 + _
    blk_simp [e9]; try omega

theorem e12 : ∀ t : Fin cfg0.N, win0_12.index t = ![t.val / 16, 0, t.val % 16] := (by decide +kernel : ∀ t : Fin grid0.N, _)

theorem final_iq (c : Dev nD) : (dats m 0 c).arrAt 12 cfg0.N = o_iq (aX m c) (aG m c) (aSC m c) (aSH m c) (aW m c) := by
  refine (dats m 0 c).arrAt_eq_of_covers 12 _ (by decide +kernel) fun t hf y => ?_
  blk_simp
  rw [after0_12]; frame_out
  rw [eq_ix3 (n0 := 1) (n1 := 512) (n2 := 512) y]
  have hy : (y 1).val < 512 := (y 1).isLt
  have hr : (y 2).val < 512 := (y 2).isLt
  have h0 : (y 0).val < 1 := (y 0).isLt
  pointwise [k0_pay28]
  unfold o_iq
  refine ((prjK m c t (y 2) ⟨2304 + (y 1).val, by omega⟩ (by show 2304 + (y 1).val < 2888; omega)).trans (prj_congr _ _ _ _ _ ?_ ?_ ?_))
  · blk_simp [e12, bT]; try omega
  · blk_simp [e12, rowT]; try omega
  · show 2304 + (y 1).val = 2304 + _
    blk_simp [e12]; try omega

theorem e13 : ∀ t : Fin cfg0.N, win0_13.index t = ![t.val / 16, t.val % 16, 0] := (by decide +kernel : ∀ t : Fin grid0.N, _)

theorem final_ik (c : Dev nD) : (dats m 0 c).arrAt 13 cfg0.N = o_ik (aX m c) (aG m c) (aSC m c) (aSH m c) (aW m c) := by
  refine (dats m 0 c).arrAt_eq_of_covers 13 _ (by decide +kernel) fun t hf y => ?_
  blk_simp
  rw [after0_13]; frame_out
  rw [eq_ix3 (n0 := 1) (n1 := 512) (n2 := 64) y]
  have hy : (y 2).val < 64 := (y 2).isLt
  have hr : (y 1).val < 512 := (y 1).isLt
  have h0 : (y 0).val < 1 := (y 0).isLt
  pointwise [k0_pay2, k0_pay1, k0_pay29]
  unfold o_ik
  refine ((prjK m c t (y 1) ⟨2816 + (y 2).val, by omega⟩ (by show 2816 + (y 2).val < 2888; omega)).trans (prj_congr _ _ _ _ _ ?_ ?_ ?_))
  · blk_simp [e13, bT]; try omega
  · blk_simp [e13, rowT]; try omega
  · show 2816 + (y 2).val = 2816 + _
    blk_simp [e13]; try omega

theorem e14 : ∀ t : Fin cfg0.N, win0_14.index t = ![t.val / 16, 0, t.val % 16] := (by decide +kernel : ∀ t : Fin grid0.N, _)

theorem final_iw (c : Dev nD) : (dats m 0 c).arrAt 14 cfg0.N = o_iw (aX m c) (aG m c) (aSC m c) (aSH m c) (aW m c) := by
  refine (dats m 0 c).arrAt_eq_of_covers 14 _ (by decide +kernel) fun t hf y => ?_
  blk_simp
  rw [after0_14]; frame_out
  rw [eq_ix3 (n0 := 1) (n1 := 8) (n2 := 512) y]
  have hy : (y 1).val < 8 := (y 1).isLt
  have hr : (y 2).val < 512 := (y 2).isLt
  have h0 : (y 0).val < 1 := (y 0).isLt
  pointwise [k0_pay3, k0_pay1, k0_pay29]
  unfold o_iw
  refine congrArg (· * _) ((prjK m c t (y 2) ⟨2816 + (64 + (y 1).val), by omega⟩ (by show 2816 + (64 + (y 1).val) < 2888; omega)).trans (prj_congr _ _ _ _ _ ?_ ?_ ?_))
  · blk_simp [e14, bT]; try omega
  · blk_simp [e14, rowT]; try omega
  · show 2816 + (64 + (y 1).val) = 2880 + _
    blk_simp [e14]; try omega

end Cert.Proof.Inproj
-- ==== Proof.Inproj.OutC.lean ====
/- What the kernel leaves in the two arrays it fills by four stores per block: the attention keys with their position
   columns, and the transposed attention values with their rows of ones. -/
module
public import proofs.«01_k».proof.Proof.Inproj.Spec
public import Idealize.ShloMosaic.Lib.Pipeline.ReadBack
@[expose] public section
noncomputable section
namespace Cert.Proof.Inproj
open Cert.Kernel2Ideal Cert.Kernel2Ideal.Gen
open Idealize.ShloMosaic Idealize.ShloMosaic.TcCoe

variable (m : (ℓ : Loc nD τ sig) → Buf (Elt Ideal) ℓ)

/-- The kernel's quotient by 64, rounded down, of the word `p`. -/
def divw (p : BitVec 32) : BitVec 32 :=
  Scalar.select
          (IntOp.andi
            (IntOp.cmpi CmpIPredicate.ne
              (IntOp.subi
                (BitVec.setWidth 32
                  (IntOp.cmpi CmpIPredicate.sgt p 0#32))
                (BitVec.setWidth 32
                  (IntOp.cmpi CmpIPredicate.slt p 0#32)))
              (Scalar.subi (Scalar.extui (Scalar.cmpi CmpIPredicate.sgt 64#32 0#32))
                (Scalar.extui (Scalar.cmpi CmpIPredicate.slt 64#32 0#32))))
            (IntOp.cmpi CmpIPredicate.ne
              (IntOp.remsi ArithUnit.vector p 64#32) 0#32))
          (IntOp.subi (IntOp.divsi ArithUnit.vector p 64#32)
            1#32)
          (IntOp.divsi ArithUnit.vector p 64#32)
/-- The kernel's rest by 64 of the word `p`. -/
def remw (p : BitVec 32) : BitVec 32 :=
          Scalar.select
            (IntOp.andi
              (IntOp.xori
                (IntOp.cmpi CmpIPredicate.slt
                  (IntOp.remsi ArithUnit.vector p
                    (Scalar.select (Scalar.cmpi CmpIPredicate.eq 64#32 0#32) 1#32 64#32))
                  0#32)
                (Scalar.cmpi CmpIPredicate.slt 64#32 0#32))
              (IntOp.cmpi CmpIPredicate.ne
                (IntOp.remsi ArithUnit.vector p
                  (Scalar.select (Scalar.cmpi CmpIPredicate.eq 64#32 0#32) 1#32 64#32))
                0#32))
            (IntOp.addi
              (IntOp.remsi ArithUnit.vector p
                (Scalar.select (Scalar.cmpi CmpIPredicate.eq 64#32 0#32) 1#32 64#32))
              64#32)
            (IntOp.remsi ArithUnit.vector p
              (Scalar.select (Scalar.cmpi CmpIPredicate.eq 64#32 0#32) 1#32 64#32))

set_option maxRecDepth 100000 in
theorem divw_eq : ∀ (i : Fin 16) (r : Fin 512), divw (IntOp.addi (Scalar.muli (BitVec.ofNat 32 i.val) 512#32) (BitVec.ofNat 32 r.val))
    = BitVec.ofNat 32 ((i.val * 512 + r.val) / 64) := by decide +kernel
set_option maxRecDepth 100000 in
theorem remw_eq : ∀ (i : Fin 16) (r : Fin 512), remw (IntOp.addi (Scalar.muli (BitVec.ofNat 32 i.val) 512#32) (BitVec.ofNat 32 r.val))
    = BitVec.ofNat 32 ((i.val * 512 + r.val) % 64) := by decide +kernel
theorem lt3 : ∀ q : Fin 64, IntOp.cmpi CmpIPredicate.slt (BitVec.ofNat 32 q.val) 3#32 = if q.val < 3 then 1#1 else 0#1 := by decide +kernel
theorem lt6 : ∀ q : Fin 64, IntOp.cmpi CmpIPredicate.slt (BitVec.ofNat 32 q.val) 6#32 = if q.val < 6 then 1#1 else 0#1 := by decide +kernel
theorem posK (i : Fin 16) (r : Fin 512) (q : Fin 64) (s : Fin 8192) (hs : s.val = i.val * 512 + r.val) :
    k0_pay19 (F := Ideal) k0_pay12 (k0_pay13 (BitVec.ofNat 32 i.val)) k0_pay14 (64#32)
            (k0_pay15 (BitVec.ofNat 32 i.val)) (k0_pay16 (BitVec.ofNat 32 i.val)) (ix3 0 r q) = posc s q := by
  pointwise [k0_pay19, k0_pay17, k0_pay12, k0_pay13, k0_pay14, k0_pay15, k0_pay16, k0_pay11]
  unfold posc posw
  refine congrArg (FloatOps.sitofp (F := Ideal) FTy.f32) ?_
  show Scalar.select (IntOp.cmpi CmpIPredicate.slt (BitVec.ofNat 32 q.val) 3#32) (divw _) (Scalar.select (IntOp.cmpi CmpIPredicate.slt (BitVec.ofNat 32 q.val) 6#32) (remw _) 0#32) = _
  rw [divw_eq, remw_eq, lt3, lt6, hs]
  by_cases h3 : q.val < 3
  · simp [h3, Scalar.select]
  · by_cases h6 : q.val < 6 <;> simp [h3, h6, Scalar.select]

theorem oneK (r : Fin 16) (q : Fin 512) :
    k0_pay25 (F := Ideal) (iota Kind.tc S16x512 32 [0] iota_S16x512_d0_w32) 0#32 (ix3 0 r q) = one16 r.val := by
  pointwise [k0_pay25, k0_pay23]
  have h : ∀ r : Fin 16, IntOp.cmpi CmpIPredicate.eq (BitVec.ofNat 32 r.val) 0#32 = if r.val = 0 then 1#1 else 0#1 := by decide +kernel
  rw [h r]; unfold one16
  by_cases h0 : r.val = 0 <;> simp [h0, Scalar.select]

/-- Stores that are blocks of `G` and cover the shape leave `G`. -/
theorem canon_of_pieces {s : Shape} {e : EltTy} (G : s.Idx → Elt Ideal e) (L : List (View.Piece (Elt Ideal) s e)) (h : View.PiecesOf G L)
    (y : s.Idx) (hc : ∃ p ∈ L, y ∈ p.1.set) : View.canon L y = G y := by
  have := View.canon_append_of_piecesOf G [] L h y hc
  rwa [List.append_nil] at this

theorem e10 : ∀ t : Fin cfg0.N, win0_10.index t = ![t.val / 16, t.val % 16, 0] := (by decide +kernel : ∀ t : Fin grid0.N, _)
theorem e11 : ∀ t : Fin cfg0.N, win0_11.index t = ![t.val / 16, 0, t.val % 16] := (by decide +kernel : ∀ t : Fin grid0.N, _)
theorem co1 : ∀ t : Fin cfg0.N, (grid0.coords t 1).val = t.val % 16 := (by decide +kernel : ∀ t : Fin grid0.N, _)

theorem ak_0 (X : FVec Ideal S4x8192x1024 .f32) (G : FVec Ideal S1024 .f32) (SC SH : FVec Ideal S4x1024 .f32)
    (W : FVec Ideal S1024x2888 .f32) (j : S4x8192x256.Idx) (b : Fin 4) (s : Fin 8192) (q : Fin 64)
    (hb : (j 0).val = b.val) (hs : (j 1).val = s.val) (hq : (j 2).val = 0 + q.val) :
    o_ak X G SC SH W j = prj X G SC SH W b s ⟨2048 + q.val, by omega⟩ := by
  obtain rfl : j 0 = b := Fin.ext hb
  obtain rfl : j 1 = s := Fin.ext hs
  have hq' := q.isLt
  unfold o_ak
  rw [dif_pos (by omega)]
  exact prj_congr X G SC SH W rfl rfl (by show _ = _; simp only []; omega)
theorem ak_1 (X : FVec Ideal S4x8192x1024 .f32) (G : FVec Ideal S1024 .f32) (SC SH : FVec Ideal S4x1024 .f32)
    (W : FVec Ideal S1024x2888 .f32) (j : S4x8192x256.Idx) (b : Fin 4) (s : Fin 8192) (q : Fin 64)
    (hb : (j 0).val = b.val) (hs : (j 1).val = s.val) (hq : (j 2).val = 64 + q.val) :
    o_ak X G SC SH W j = posc s q := by
  obtain rfl : j 0 = b := Fin.ext hb
  obtain rfl : j 1 = s := Fin.ext hs
  have hq' := q.isLt
  unfold o_ak
  rw [dif_neg (by omega)]
  rw [dif_pos (by omega)]
  exact congrArg _ (Fin.ext (by show _ = q.val; simp only []; omega))
theorem ak_2 (X : FVec Ideal S4x8192x1024 .f32) (G : FVec Ideal S1024 .f32) (SC SH : FVec Ideal S4x1024 .f32)
    (W : FVec Ideal S1024x2888 .f32) (j : S4x8192x256.Idx) (b : Fin 4) (s : Fin 8192) (q : Fin 64)
    (hb : (j 0).val = b.val) (hs : (j 1).val = s.val) (hq : (j 2).val = 128 + q.val) :
    o_ak X G SC SH W j = prj X G SC SH W b s ⟨2048 + (64 + q.val), by omega⟩ := by
  obtain rfl : j 0 = b := Fin.ext hb
  obtain rfl : j 1 = s := Fin.ext hs
  have hq' := q.isLt
  unfold o_ak
  rw [dif_neg (by omega)]
  rw [dif_neg (by omega)]
  rw [dif_pos (by omega)]
  exact prj_congr X G SC SH W rfl rfl (by show _ = _; simp only []; omega)
theorem ak_3 (X : FVec Ideal S4x8192x1024 .f32) (G : FVec Ideal S1024 .f32) (SC SH : FVec Ideal S4x1024 .f32)
    (W : FVec Ideal S1024x2888 .f32) (j : S4x8192x256.Idx) (b : Fin 4) (s : Fin 8192) (q : Fin 64)
    (hb : (j 0).val = b.val) (hs : (j 1).val = s.val) (hq : (j 2).val = 192 + q.val) :
    o_ak X G SC SH W j = posc s q := by
  obtain rfl : j 0 = b := Fin.ext hb
  obtain rfl : j 1 = s := Fin.ext hs
  have hq' := q.isLt
  unfold o_ak
  rw [dif_neg (by omega)]
  rw [dif_neg (by omega)]
  rw [dif_neg (by omega)]
  exact congrArg _ (Fin.ext (by show _ = q.val; simp only []; omega))
theorem av_0 (X : FVec Ideal S4x8192x1024 .f32) (G : FVec Ideal S1024 .f32) (SC SH : FVec Ideal S4x1024 .f32)
    (W : FVec Ideal S1024x2888 .f32) (j : S4x160x8192.Idx) (b : Fin 4) (s : Fin 8192) (q : Fin 64)
    (hb : (j 0).val = b.val) (hs : (j 2).val = s.val) (hq : (j 1).val = 0 + q.val) :
    o_av X G SC SH W j = prj X G SC SH W b s ⟨2176 + q.val, by omega⟩ := by
  obtain rfl : j 0 = b := Fin.ext hb
  obtain rfl : j 2 = s := Fin.ext hs
  have hq' := q.isLt
  unfold o_av
  rw [dif_pos (by omega)]
  exact prj_congr X G SC SH W rfl rfl (by show _ = _; simp only []; omega)
theorem av_1 (X : FVec Ideal S4x8192x1024 .f32) (G : FVec Ideal S1024 .f32) (SC SH : FVec Ideal S4x1024 .f32)
    (W : FVec Ideal S1024x2888 .f32) (j : S4x160x8192.Idx) (b : Fin 4) (s : Fin 8192) (q : Fin 16)
    (hb : (j 0).val = b.val) (hs : (j 2).val = s.val) (hq : (j 1).val = 64 + q.val) :
    o_av X G SC SH W j = one16 q.val := by
  obtain rfl : j 0 = b := Fin.ext hb
  obtain rfl : j 2 = s := Fin.ext hs
  have hq' := q.isLt
  unfold o_av
  rw [dif_neg (by omega)]
  rw [dif_pos (by omega)]
  exact congrArg one16 (by omega)
theorem av_2 (X : FVec Ideal S4x8192x1024 .f32) (G : FVec Ideal S1024 .f32) (SC SH : FVec Ideal S4x1024 .f32)
    (W : FVec Ideal S1024x2888 .f32) (j : S4x160x8192.Idx) (b : Fin 4) (s : Fin 8192) (q : Fin 64)
    (hb : (j 0).val = b.val) (hs : (j 2).val = s.val) (hq : (j 1).val = 80 + q.val) :
    o_av X G SC SH W j = prj X G SC SH W b s ⟨2176 + (64 + q.val), by omega⟩ := by
  obtain rfl : j 0 = b := Fin.ext hb
  obtain rfl : j 2 = s := Fin.ext hs
  have hq' := q.isLt
  unfold o_av
  rw [dif_neg (by omega)]
  rw [dif_neg (by omega)]
  rw [dif_pos (by omega)]
  exact prj_congr X G SC SH W rfl rfl (by show _ = _; simp only []; omega)
theorem av_3 (X : FVec Ideal S4x8192x1024 .f32) (G : FVec Ideal S1024 .f32) (SC SH : FVec Ideal S4x1024 .f32)
    (W : FVec Ideal S1024x2888 .f32) (j : S4x160x8192.Idx) (b : Fin 4) (s : Fin 8192) (q : Fin 16)
    (hb : (j 0).val = b.val) (hs : (j 2).val = s.val) (hq : (j 1).val = 144 + q.val) :
    o_av X G SC SH W j = one16 q.val := by
  obtain rfl : j 0 = b := Fin.ext hb
  obtain rfl : j 2 = s := Fin.ext hs
  have hq' := q.isLt
  unfold o_av
  rw [dif_neg (by omega)]
  rw [dif_neg (by omega)]
  rw [dif_neg (by omega)]
  exact congrArg one16 (by omega)

theorem final_ak (c : Dev nD) : (dats m 0 c).arrAt 10 cfg0.N = o_ak (aX m c) (aG m c) (aSC m c) (aSH m c) (aW m c) := by
  refine (dats m 0 c).arrAt_eq_of_covers 10 _ (by decide +kernel) fun t hf y => ?_
  blk_simp
  rw [after0_10]; frame_out
  refine canon_of_pieces (e := .bf16) (s := S1x512x256) (fun y => o_ak (aX m c) (aG m c) (aSC m c) (aSH m c) (aW m c) ((win0_10.blk t).view.emb y)) _ ?_ y ?_
  · refine ⟨?_, ?_, ?_, ?_, trivial⟩
    · intro x; change S1x512x64.Idx at x; dsimp only
      obtain ⟨p, d1, d2, rfl⟩ : ∃ (p : Fin 1) (d1 : Fin 512) (d2 : Fin 64), x = ix3 p d1 d2 := ⟨_, _, _, eq_ix3 (n0 := 1) (n1 := 512) (n2 := 64) x⟩
      obtain rfl : p = 0 := Subsingleton.elim _ _
      have h1 := d1.isLt
      have h2 := d2.isLt
      refine Eq.trans ?_ (ak_3 _ _ _ _ _ _ (bT t) (rowT t d1) d2 ?_ ?_ ?_).symm
      · exact posK ⟨(grid0.coords t 1).val, (grid0.coords t 1).isLt⟩ d1 d2 _ (by rw [co1]; rfl)
      · blk_simp [e10, bT]; try exact Nat.add_zero _
      · blk_simp [e10, rowT]; try omega
      · blk_simp [e10]; try omega
    · intro x; change S1x512x64.Idx at x; dsimp only
      obtain ⟨p, d1, d2, rfl⟩ : ∃ (p : Fin 1) (d1 : Fin 512) (d2 : Fin 64), x = ix3 p d1 d2 := ⟨_, _, _, eq_ix3 (n0 := 1) (n1 := 512) (n2 := 64) x⟩
      obtain rfl : p = 0 := Subsingleton.elim _ _
      have h1 := d1.isLt
      have h2 := d2.isLt
      refine Eq.trans ?_ (ak_2 _ _ _ _ _ _ (bT t) (rowT t d1) d2 ?_ ?_ ?_).symm
      · pointwise [k0_pay20, k0_pay10]
        exact prjK m c t d1 ⟨2048 + (64 + d2.val), by omega⟩ (by show 2048 + (64 + d2.val) < 2888; omega)
      · blk_simp [e10, bT]; try exact Nat.add_zero _
      · blk_simp [e10, rowT]; try omega
      · blk_simp [e10]; try omega
    · intro x; change S1x512x64.Idx at x; dsimp only
      obtain ⟨p, d1, d2, rfl⟩ : ∃ (p : Fin 1) (d1 : Fin 512) (d2 : Fin 64), x = ix3 p d1 d2 := ⟨_, _, _, eq_ix3 (n0 := 1) (n1 := 512) (n2 := 64) x⟩
      obtain rfl : p = 0 := Subsingleton.elim _ _
      have h1 := d1.isLt
      have h2 := d2.isLt
      refine Eq.trans ?_ (ak_1 _ _ _ _ _ _ (bT t) (rowT t d1) d2 ?_ ?_ ?_).symm
      · exact posK ⟨(grid0.coords t 1).val, (grid0.coords t 1).isLt⟩ d1 d2 _ (by rw [co1]; rfl)
      · blk_simp [e10, bT]; try exact Nat.add_zero _
      · blk_simp [e10, rowT]; try omega
      · blk_simp [e10]; try omega
    · intro x; change S1x512x64.Idx at x; dsimp only
      obtain ⟨p, d1, d2, rfl⟩ : ∃ (p : Fin 1) (d1 : Fin 512) (d2 : Fin 64), x = ix3 p d1 d2 := ⟨_, _, _, eq_ix3 (n0 := 1) (n1 := 512) (n2 := 64) x⟩
      obtain rfl : p = 0 := Subsingleton.elim _ _
      have h1 := d1.isLt
      have h2 := d2.isLt
      refine Eq.trans ?_ (ak_0 _ _ _ _ _ _ (bT t) (rowT t d1) d2 ?_ ?_ ?_).symm
      · pointwise [k0_pay18, k0_pay10]
        exact prjK m c t d1 ⟨2048 + d2.val, by omega⟩ (by show 2048 + d2.val < 2888; omega)
      · blk_simp [e10, bT]; try exact Nat.add_zero _
      · blk_simp [e10, rowT]; try omega
      · blk_simp [e10]; try omega
  · have hy : (y 2).val < 256 := (y 2).isLt
    have hr : (y 1).val < 512 := (y 1).isLt
    have h0 : (y 0).val < 1 := (y 0).isLt
    rcases Nat.lt_or_ge (y 2).val 64 with a | a
    · refine ⟨_, List.mem_cons_of_mem _ (List.mem_cons_of_mem _ (List.mem_cons_of_mem _ List.mem_cons_self)), ?_⟩
      refine (Rect.mem_set_unit (inb := inb_S1x512x256_S1x512x64_0_0_0)).2 (fun i => ?_)
      match i with
      | ⟨0, _⟩ => exact ⟨Nat.zero_le _, h0⟩
      | ⟨1, _⟩ => exact ⟨Nat.zero_le _, hr⟩
      | ⟨2, _⟩ => exact ⟨Nat.zero_le _, a⟩
    rcases Nat.lt_or_ge (y 2).val 128 with b | b
    · refine ⟨_, List.mem_cons_of_mem _ (List.mem_cons_of_mem _ List.mem_cons_self), (Rect.mem_set_unit (inb := inb_S1x512x256_S1x512x64_0_0_64)).2 (fun i => ?_)⟩
      match i with
      | ⟨0, _⟩ => exact ⟨Nat.zero_le _, h0⟩
      | ⟨1, _⟩ => exact ⟨Nat.zero_le _, hr⟩
      | ⟨2, _⟩ => exact ⟨a, b⟩
    rcases Nat.lt_or_ge (y 2).val 192 with d | d
    · refine ⟨_, List.mem_cons_of_mem _ List.mem_cons_self, (Rect.mem_set_unit (inb := inb_S1x512x256_S1x512x64_0_0_128)).2 (fun i => ?_)⟩
      match i with
      | ⟨0, _⟩ => exact ⟨Nat.zero_le _, h0⟩
      | ⟨1, _⟩ => exact ⟨Nat.zero_le _, hr⟩
      | ⟨2, _⟩ => exact ⟨b, d⟩
    · refine ⟨_, List.mem_cons_self, (Rect.mem_set_unit (inb := inb_S1x512x256_S1x512x64_0_0_192)).2 (fun i => ?_)⟩
      match i with
      | ⟨0, _⟩ => exact ⟨Nat.zero_le _, h0⟩
      | ⟨1, _⟩ => exact ⟨Nat.zero_le _, hr⟩
      | ⟨2, _⟩ => exact ⟨d, hy⟩

theorem final_av (c : Dev nD) : (dats m 0 c).arrAt 11 cfg0.N = o_av (aX m c) (aG m c) (aSC m c) (aSH m c) (aW m c) := by
  refine (dats m 0 c).arrAt_eq_of_covers 11 _ (by decide +kernel) fun t hf y => ?_
  blk_simp
  rw [after0_11]; frame_out
  refine canon_of_pieces (e := .bf16) (s := S1x160x512) (fun y => o_av (aX m c) (aG m c) (aSC m c) (aSH m c) (aW m c) ((win0_11.blk t).view.emb y)) _ ?_ y ?_
  · refine ⟨?_, ?_, ?_, ?_, trivial⟩
    · intro x; change S1x16x512.Idx at x; dsimp only
      obtain ⟨p, d1, d2, rfl⟩ : ∃ (p : Fin 1) (d1 : Fin 16) (d2 : Fin 512), x = ix3 p d1 d2 := ⟨_, _, _, eq_ix3 (n0 := 1) (n1 := 16) (n2 := 512) x⟩
      obtain rfl : p = 0 := Subsingleton.elim _ _
      have h1 := d1.isLt
      have h2 := d2.isLt
      refine Eq.trans ?_ (av_3 _ _ _ _ _ _ (bT t) (rowT t d2) d1 ?_ ?_ ?_).symm
      · exact oneK d1 d2
      · blk_simp [e11, bT]; try exact Nat.add_zero _
      · blk_simp [e11, rowT]; try omega
      · blk_simp [e11]; try omega
    · intro x; change S1x64x512.Idx at x; dsimp only
      obtain ⟨p, d1, d2, rfl⟩ : ∃ (p : Fin 1) (d1 : Fin 64) (d2 : Fin 512), x = ix3 p d1 d2 := ⟨_, _, _, eq_ix3 (n0 := 1) (n1 := 64) (n2 := 512) x⟩
      obtain rfl : p = 0 := Subsingleton.elim _ _
      have h1 := d1.isLt
      have h2 := d2.isLt
      refine Eq.trans ?_ (av_2 _ _ _ _ _ _ (bT t) (rowT t d2) d1 ?_ ?_ ?_).symm
      · pointwise [k0_pay26, k0_pay22]
        exact prjK m c t d2 ⟨2176 + (64 + d1.val), by omega⟩ (by show 2176 + (64 + d1.val) < 2888; omega)
      · blk_simp [e11, bT]; try exact Nat.add_zero _
      · blk_simp [e11, rowT]; try omega
      · blk_simp [e11]; try omega
    · intro x; change S1x16x512.Idx at x; dsimp only
      obtain ⟨p, d1, d2, rfl⟩ : ∃ (p : Fin 1) (d1 : Fin 16) (d2 : Fin 512), x = ix3 p d1 d2 := ⟨_, _, _, eq_ix3 (n0 := 1) (n1 := 16) (n2 := 512) x⟩
      obtain rfl : p = 0 := Subsingleton.elim _ _
      have h1 := d1.isLt
      have h2 := d2.isLt
      refine Eq.trans ?_ (av_1 _ _ _ _ _ _ (bT t) (rowT t d2) d1 ?_ ?_ ?_).symm
      · exact oneK d1 d2
      · blk_simp [e11, bT]; try exact Nat.add_zero _
      · blk_simp [e11, rowT]; try omega
      · blk_simp [e11]; try omega
    · intro x; change S1x64x512.Idx at x; dsimp only
      obtain ⟨p, d1, d2, rfl⟩ : ∃ (p : Fin 1) (d1 : Fin 64) (d2 : Fin 512), x = ix3 p d1 d2 := ⟨_, _, _, eq_ix3 (n0 := 1) (n1 := 64) (n2 := 512) x⟩
      obtain rfl : p = 0 := Subsingleton.elim _ _
      have h1 := d1.isLt
      have h2 := d2.isLt
      refine Eq.trans ?_ (av_0 _ _ _ _ _ _ (bT t) (rowT t d2) d1 ?_ ?_ ?_).symm
      · pointwise [k0_pay24, k0_pay22]
        exact prjK m c t d2 ⟨2176 + d1.val, by omega⟩ (by show 2176 + d1.val < 2888; omega)
      · blk_simp [e11, bT]; try exact Nat.add_zero _
      · blk_simp [e11, rowT]; try omega
      · blk_simp [e11]; try omega
  · have hy : (y 1).val < 160 := (y 1).isLt
    have hr : (y 2).val < 512 := (y 2).isLt
    have h0 : (y 0).val < 1 := (y 0).isLt
    rcases Nat.lt_or_ge (y 1).val 64 with a | a
    · refine ⟨_, List.mem_cons_of_mem _ (List.mem_cons_of_mem _ (List.mem_cons_of_mem _ List.mem_cons_self)), ?_⟩
      refine (Rect.mem_set_unit (inb := inb_S1x160x512_S1x64x512_0_0_0)).2 (fun i => ?_)
      match i with
      | ⟨0, _⟩ => exact ⟨Nat.zero_le _, h0⟩
      | ⟨2, _⟩ => exact ⟨Nat.zero_le _, hr⟩
      | ⟨1, _⟩ => exact ⟨Nat.zero_le _, a⟩
    rcases Nat.lt_or_ge (y 1).val 80 with b | b
    · refine ⟨_, List.mem_cons_of_mem _ (List.mem_cons_of_mem _ List.mem_cons_self), (Rect.mem_set_unit (inb := inb_S1x160x512_S1x16x512_0_64_0)).2 (fun i => ?_)⟩
      match i with
      | ⟨0, _⟩ => exact ⟨Nat.zero_le _, h0⟩
      | ⟨2, _⟩ => exact ⟨Nat.zero_le _, hr⟩
      | ⟨1, _⟩ => exact ⟨a, b⟩
    rcases Nat.lt_or_ge (y 1).val 144 with d | d
    · refine ⟨_, List.mem_cons_of_mem _ List.mem_cons_self, (Rect.mem_set_unit (inb := inb_S1x160x512_S1x64x512_0_80_0)).2 (fun i => ?_)⟩
      match i with
      | ⟨0, _⟩ => exact ⟨Nat.zero_le _, h0⟩
      | ⟨2, _⟩ => exact ⟨Nat.zero_le _, hr⟩
      | ⟨1, _⟩ => exact ⟨b, d⟩
    · refine ⟨_, List.mem_cons_self, (Rect.mem_set_unit (inb := inb_S1x160x512_S1x16x512_0_144_0)).2 (fun i => ?_)⟩
      match i with
      | ⟨0, _⟩ => exact ⟨Nat.zero_le _, h0⟩
      | ⟨2, _⟩ => exact ⟨Nat.zero_le _, hr⟩
      | ⟨1, _⟩ => exact ⟨d, hy⟩

end Cert.Proof.Inproj
-- ==== Proof.Inproj.Ref.lean ====
/- The results of the reference of the input projection, as functions of its arguments. -/
module
public import proofs.«01_k».proof.Proof.Inproj.Spec
public import proofs.«01_k».proof.Proof.Gen.Reference2Ideal.Run
public import Idealize.ShloMosaic.Lib.Pointwise
@[expose] public section
noncomputable section
namespace Cert.Proof.Inproj
open Cert.Reference2Ideal Cert.Reference2Ideal.Gen
open Idealize.ShloMosaic Idealize.ShloMosaic.TcCoe

/-- The reference's projections, as an array of its arguments. -/
def rprj (X : FVec Ideal S4x8192x1024 .f32) (G : FVec Ideal S1024 .f32) (SC SH : FVec Ideal S4x1024 .f32)
    (W : FVec Ideal S1024x2888 .f32) : FVec Ideal S4x8192x2888 .f32 :=
  (Host.dotGeneral (F := Ideal) dot_S4x8192x1024_S1024x2888_S4x8192x2888_2_0_01_1_n_n none (addf (mulf (mulf (mulf X (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf X X) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 G))) (broadcastInDim S4x8192x1024 ![0, 1, 2] bcast_S4x1x1024_S4x8192x1024_0_1_2 (addf (broadcastInDim S4x1x1024 ![] bcast_S_S4x1x1024 (constant S_ .f32 0x3F800000#32)) (broadcastInDim S4x1x1024 ![0, 2] bcast_S4x1024_S4x1x1024_0_2 SC)))) (broadcastInDim S4x8192x1024 ![0, 1, 2] bcast_S4x1x1024_S4x8192x1024_0_1_2 (broadcastInDim S4x1x1024 ![0, 2] bcast_S4x1024_S4x1x1024_0_2 SH))) W)

theorem rprj_at (X : FVec Ideal S4x8192x1024 .f32) (G : FVec Ideal S1024 .f32) (SC SH : FVec Ideal S4x1024 .f32)
    (W : FVec Ideal S1024x2888 .f32) (b : Fin 4) (s : Fin 8192) (n : Fin 2888) :
    rprj X G SC SH W (ix3 b s n) = prj X G SC SH W b s n := by
  unfold rprj
  pointwise
  unfold prj hid
  rfl

theorem ref_rq (X : FVec Ideal S4x8192x1024 .f32) (G : FVec Ideal S1024 .f32) (SC SH : FVec Ideal S4x1024 .f32)
    (W : FVec Ideal S1024x2888 .f32) :
    truncf (F := Ideal) .bf16 (extractStridedSlice S4x8192x256 ![0, 0, 0] (rprj X G SC SH W) slices_S4x8192x2888_S4x8192x256_0_0_0) bitsLt_bf16_f32 = o_rq X G SC SH W := by
  funext j
  obtain ⟨a, d1, d2, rfl⟩ : ∃ (a : Fin 4) (d1 : Fin 8192) (d2 : Fin 256), j = ix3 a d1 d2 := ⟨_, _, _, eq_ix3 (n0 := 4) (n1 := 8192) (n2 := 256) j⟩
  pointwise [rprj_at]
  unfold o_rq
  exact prj_congr X G SC SH W rfl rfl (by simp)

theorem ref_rk (X : FVec Ideal S4x8192x1024 .f32) (G : FVec Ideal S1024 .f32) (SC SH : FVec Ideal S4x1024 .f32)
    (W : FVec Ideal S1024x2888 .f32) :
    truncf (F := Ideal) .bf16 (mulf (F := Ideal) (extractStridedSlice S4x8192x256 ![0, 0, 256] (rprj X G SC SH W) slices_S4x8192x2888_S4x8192x256_0_0_256) (broadcastInDim S4x8192x256 ![] bcast_S_S4x8192x256 (constant S_ .f32 0x3E000000#32))) bitsLt_bf16_f32 = o_rk X G SC SH W := by
  funext j
  obtain ⟨a, d1, d2, rfl⟩ : ∃ (a : Fin 4) (d1 : Fin 8192) (d2 : Fin 256), j = ix3 a d1 d2 := ⟨_, _, _, eq_ix3 (n0 := 4) (n1 := 8192) (n2 := 256) j⟩
  pointwise [rprj_at]
  unfold o_rk
  exact congrArg (· * _) (prj_congr X G SC SH W rfl rfl (by simp))

theorem ref_rv (X : FVec Ideal S4x8192x1024 .f32) (G : FVec Ideal S1024 .f32) (SC SH : FVec Ideal S4x1024 .f32)
    (W : FVec Ideal S1024x2888 .f32) :
    truncf (F := Ideal) .bf16 (extractStridedSlice S4x8192x512 ![0, 0, 512] (rprj X G SC SH W) slices_S4x8192x2888_S4x8192x512_0_0_512) bitsLt_bf16_f32 = o_rv X G SC SH W := by
  funext j
  obtain ⟨a, d1, d2, rfl⟩ : ∃ (a : Fin 4) (d1 : Fin 8192) (d2 : Fin 512), j = ix3 a d1 d2 := ⟨_, _, _, eq_ix3 (n0 := 4) (n1 := 8192) (n2 := 512) j⟩
  pointwise [rprj_at]
  unfold o_rv
  exact prj_congr X G SC SH W rfl rfl (by simp)

theorem ref_rg (X : FVec Ideal S4x8192x1024 .f32) (G : FVec Ideal S1024 .f32) (SC SH : FVec Ideal S4x1024 .f32)
    (W : FVec Ideal S1024x2888 .f32) :
    truncf (F := Ideal) .bf16 (extractStridedSlice S4x8192x512 ![0, 0, 1024] (rprj X G SC SH W) slices_S4x8192x2888_S4x8192x512_0_0_1024) bitsLt_bf16_f32 = o_rg X G SC SH W := by
  funext j
  obtain ⟨a, d1, d2, rfl⟩ : ∃ (a : Fin 4) (d1 : Fin 8192) (d2 : Fin 512), j = ix3 a d1 d2 := ⟨_, _, _, eq_ix3 (n0 := 4) (n1 := 8192) (n2 := 512) j⟩
  pointwise [rprj_at]
  unfold o_rg
  exact prj_congr X G SC SH W rfl rfl (by simp)

theorem ref_aq (X : FVec Ideal S4x8192x1024 .f32) (G : FVec Ideal S1024 .f32) (SC SH : FVec Ideal S4x1024 .f32)
    (W : FVec Ideal S1024x2888 .f32) :
    truncf (F := Ideal) .bf16 (transpose S4x512x8192 [0, 2, 1] (mulf (F := Ideal) (extractStridedSlice S4x8192x512 ![0, 0, 1536] (rprj X G SC SH W) slices_S4x8192x2888_S4x8192x512_0_0_1536) (broadcastInDim S4x8192x512 ![] bcast_S_S4x8192x512 (constant S_ .f32 0x3E38AA3B#32))) transposes_S4x8192x512_S4x512x8192_0_2_1) bitsLt_bf16_f32 = o_aq X G SC SH W := by
  funext j
  obtain ⟨a, d1, d2, rfl⟩ : ∃ (a : Fin 4) (d1 : Fin 512) (d2 : Fin 8192), j = ix3 a d1 d2 := ⟨_, _, _, eq_ix3 (n0 := 4) (n1 := 512) (n2 := 8192) j⟩
  pointwise [rprj_at]
  unfold o_aq
  exact congrArg (· * _) (prj_congr X G SC SH W rfl rfl (by simp))

theorem ref_iq (X : FVec Ideal S4x8192x1024 .f32) (G : FVec Ideal S1024 .f32) (SC SH : FVec Ideal S4x1024 .f32)
    (W : FVec Ideal S1024x2888 .f32) :
    truncf (F := Ideal) .bf16 (transpose S4x512x8192 [0, 2, 1] (extractStridedSlice S4x8192x512 ![0, 0, 2304] (rprj X G SC SH W) slices_S4x8192x2888_S4x8192x512_0_0_2304) transposes_S4x8192x512_S4x512x8192_0_2_1) bitsLt_bf16_f32 = o_iq X G SC SH W := by
  funext j
  obtain ⟨a, d1, d2, rfl⟩ : ∃ (a : Fin 4) (d1 : Fin 512) (d2 : Fin 8192), j = ix3 a d1 d2 := ⟨_, _, _, eq_ix3 (n0 := 4) (n1 := 512) (n2 := 8192) j⟩
  pointwise [rprj_at]
  unfold o_iq
  exact prj_congr X G SC SH W rfl rfl (by simp)

theorem ref_ik (X : FVec Ideal S4x8192x1024 .f32) (G : FVec Ideal S1024 .f32) (SC SH : FVec Ideal S4x1024 .f32)
    (W : FVec Ideal S1024x2888 .f32) :
    truncf (F := Ideal) .bf16 (extractStridedSlice S4x8192x64 ![0, 0, 2816] (rprj X G SC SH W) slices_S4x8192x2888_S4x8192x64_0_0_2816) bitsLt_bf16_f32 = o_ik X G SC SH W := by
  funext j
  obtain ⟨a, d1, d2, rfl⟩ : ∃ (a : Fin 4) (d1 : Fin 8192) (d2 : Fin 64), j = ix3 a d1 d2 := ⟨_, _, _, eq_ix3 (n0 := 4) (n1 := 8192) (n2 := 64) j⟩
  pointwise [rprj_at]
  unfold o_ik
  exact prj_congr X G SC SH W rfl rfl (by simp)

theorem ref_iw (X : FVec Ideal S4x8192x1024 .f32) (G : FVec Ideal S1024 .f32) (SC SH : FVec Ideal S4x1024 .f32)
    (W : FVec Ideal S1024x2888 .f32) :
    transpose S4x8x8192 [0, 2, 1] (mulf (F := Ideal) (extractStridedSlice S4x8192x8 ![0, 0, 2880] (rprj X G SC SH W) slices_S4x8192x2888_S4x8192x8_0_0_2880) (broadcastInDim S4x8192x8 ![] bcast_S_S4x8192x8 (constant S_ .f32 0x3D3504F3#32))) transposes_S4x8192x8_S4x8x8192_0_2_1 = o_iw X G SC SH W := by
  funext j
  obtain ⟨a, d1, d2, rfl⟩ : ∃ (a : Fin 4) (d1 : Fin 8) (d2 : Fin 8192), j = ix3 a d1 d2 := ⟨_, _, _, eq_ix3 (n0 := 4) (n1 := 8) (n2 := 8192) j⟩
  pointwise [rprj_at]
  unfold o_iw
  exact congrArg (· * _) (prj_congr X G SC SH W rfl rfl (by simp))
end Cert.Proof.Inproj
-- ==== Proof.Inproj.RefB.lean ====
/- The two results of the reference of the input projection with position columns and rows of ones. -/
module
public import proofs.«01_k».proof.Proof.Inproj.Ref
public import proofs.«01_k».proof.Proof.Gen.Reference2Ideal.Run
public import Idealize.ShloMosaic.Lib.Pointwise
@[expose] public section
noncomputable section
namespace Cert.Proof.Inproj
open Cert.Reference2Ideal Cert.Reference2Ideal.Gen
open Idealize.ShloMosaic Idealize.ShloMosaic.TcCoe

/-- The reference's quotient by 64, rounded down, of the word `p`. -/
def rdivw (p : BitVec 32) : BitVec 32 :=
  Scalar.select
    (IntOp.andi
      (IntOp.cmpi CmpIPredicate.ne (if p = 0 then (0 : BitVec 32) else if p.msb = true then -1 else 1)
        (if (64#32) = 0 then (0 : BitVec 32) else if (64#32).msb = true then -1 else 1))
      (IntOp.cmpi CmpIPredicate.ne (IntOp.remsi ArithUnit.host p 64#32) 0#32))
    (IntOp.subi (IntOp.divsi ArithUnit.host p 64#32) 1#32)
    (IntOp.divsi ArithUnit.host p 64#32)
/-- The divisor of the rest. -/
def rmod : BitVec 32 := Scalar.select (IntOp.cmpi CmpIPredicate.eq 64#32 0#32) (1#32) 64#32
/-- The reference's rest by 64 of the word `p`. -/
def rremw (p : BitVec 32) : BitVec 32 :=
  Scalar.select
    (IntOp.andi
      (IntOp.cmpi CmpIPredicate.ne (IntOp.cmpi CmpIPredicate.slt (IntOp.remsi ArithUnit.host p rmod) 0#32)
        (IntOp.cmpi CmpIPredicate.slt rmod 0#32))
      (IntOp.cmpi CmpIPredicate.ne (IntOp.remsi ArithUnit.host p rmod) 0#32))
    (IntOp.addi (IntOp.remsi ArithUnit.host p rmod) rmod)
    (IntOp.remsi ArithUnit.host p rmod)

set_option maxRecDepth 100000 in
theorem rdivw_split : ∀ (i : Fin 16) (r : Fin 512), rdivw (BitVec.ofNat 32 (i.val * 512 + r.val))
    = BitVec.ofNat 32 ((i.val * 512 + r.val) / 64) := by decide +kernel
set_option maxRecDepth 100000 in
theorem rremw_split : ∀ (i : Fin 16) (r : Fin 512), rremw (BitVec.ofNat 32 (i.val * 512 + r.val))
    = BitVec.ofNat 32 ((i.val * 512 + r.val) % 64) := by decide +kernel
theorem split512 (s : Fin 8192) : ∃ (i : Fin 16) (r : Fin 512), s.val = i.val * 512 + r.val :=
  ⟨⟨s.val / 512, by omega⟩, ⟨s.val % 512, by omega⟩, by show s.val = s.val / 512 * 512 + s.val % 512; omega⟩
theorem rdivw_eq (s : Fin 8192) : rdivw (BitVec.ofNat 32 s.val) = BitVec.ofNat 32 (s.val / 64) := by
  obtain ⟨i, r, h⟩ := split512 s
  rw [h]; exact rdivw_split i r
theorem rremw_eq (s : Fin 8192) : rremw (BitVec.ofNat 32 s.val) = BitVec.ofNat 32 (s.val % 64) := by
  obtain ⟨i, r, h⟩ := split512 s
  rw [h]; exact rremw_split i r

/-- The reference's position columns, as words. -/
def rpos : IVec S4x8192x64 32 :=
  (concatenate S4x8192x64 2 [⟨S4x8192x3, ((select (andi (cmpi .ne (signi (broadcastInDim S4x8192x3 ![0, 1, 2] bcast_S1x8192x1_S4x8192x3_0_1_2 (broadcastInDim S1x8192x1 ![1] bcast_S8192_S1x8192x1_1 (iotaInDim S8192 32 0)))) (broadcastInDim S4x8192x3 ![] bcast_S_S4x8192x3 (signi (id (constantI S_ 32 64#32))))) (cmpi .ne (Host.remsi (broadcastInDim S4x8192x3 ![0, 1, 2] bcast_S1x8192x1_S4x8192x3_0_1_2 (broadcastInDim S1x8192x1 ![1] bcast_S8192_S1x8192x1_1 (iotaInDim S8192 32 0))) (broadcastInDim S4x8192x3 ![] bcast_S_S4x8192x3 (id (constantI S_ 32 64#32)))) (broadcastInDim S4x8192x3 ![] bcast_S_S4x8192x3 (constantI S_ 32 0#32)))) (subi (Host.divsi (broadcastInDim S4x8192x3 ![0, 1, 2] bcast_S1x8192x1_S4x8192x3_0_1_2 (broadcastInDim S1x8192x1 ![1] bcast_S8192_S1x8192x1_1 (iotaInDim S8192 32 0))) (broadcastInDim S4x8192x3 ![] bcast_S_S4x8192x3 (id (constantI S_ 32 64#32)))) (broadcastInDim S4x8192x3 ![] bcast_S_S4x8192x3 (constantI S_ 32 1#32))) (Host.divsi (broadcastInDim S4x8192x3 ![0, 1, 2] bcast_S1x8192x1_S4x8192x3_0_1_2 (broadcastInDim S1x8192x1 ![1] bcast_S8192_S1x8192x1_1 (iotaInDim S8192 32 0))) (broadcastInDim S4x8192x3 ![] bcast_S_S4x8192x3 (id (constantI S_ 32 64#32))))) : (⟨S4x8192x3, .i32⟩ : BufTy).Contents (Elt Ideal))⟩, ⟨S4x8192x3, ((select (andi (cmpi .ne (cmpi .slt (Host.remsi (broadcastInDim S4x8192x3 ![0, 1, 2] bcast_S1x8192x1_S4x8192x3_0_1_2 (broadcastInDim S1x8192x1 ![1] bcast_S8192_S1x8192x1_1 (iotaInDim S8192 32 0))) (broadcastInDim S4x8192x3 ![] bcast_S_S4x8192x3 (select (cmpi .eq (id (constantI S_ 32 64#32)) (constantI S_ 32 0#32)) (constantI S_ 32 1#32) (id (constantI S_ 32 64#32))))) (broadcastInDim S4x8192x3 ![] bcast_S_S4x8192x3 (constantI S_ 32 0#32))) (broadcastInDim S4x8192x3 ![] bcast_S_S4x8192x3 (cmpi .slt (select (cmpi .eq (id (constantI S_ 32 64#32)) (constantI S_ 32 0#32)) (constantI S_ 32 1#32) (id (constantI S_ 32 64#32))) (constantI S_ 32 0#32)))) (cmpi .ne (Host.remsi (broadcastInDim S4x8192x3 ![0, 1, 2] bcast_S1x8192x1_S4x8192x3_0_1_2 (broadcastInDim S1x8192x1 ![1] bcast_S8192_S1x8192x1_1 (iotaInDim S8192 32 0))) (broadcastInDim S4x8192x3 ![] bcast_S_S4x8192x3 (select (cmpi .eq (id (constantI S_ 32 64#32)) (constantI S_ 32 0#32)) (constantI S_ 32 1#32) (id (constantI S_ 32 64#32))))) (broadcastInDim S4x8192x3 ![] bcast_S_S4x8192x3 (constantI S_ 32 0#32)))) (addi (Host.remsi (broadcastInDim S4x8192x3 ![0, 1, 2] bcast_S1x8192x1_S4x8192x3_0_1_2 (broadcastInDim S1x8192x1 ![1] bcast_S8192_S1x8192x1_1 (iotaInDim S8192 32 0))) (broadcastInDim S4x8192x3 ![] bcast_S_S4x8192x3 (select (cmpi .eq (id (constantI S_ 32 64#32)) (constantI S_ 32 0#32)) (constantI S_ 32 1#32) (id (constantI S_ 32 64#32))))) (broadcastInDim S4x8192x3 ![] bcast_S_S4x8192x3 (select (cmpi .eq (id (constantI S_ 32 64#32)) (constantI S_ 32 0#32)) (constantI S_ 32 1#32) (id (constantI S_ 32 64#32))))) (Host.remsi (broadcastInDim S4x8192x3 ![0, 1, 2] bcast_S1x8192x1_S4x8192x3_0_1_2 (broadcastInDim S1x8192x1 ![1] bcast_S8192_S1x8192x1_1 (iotaInDim S8192 32 0))) (broadcastInDim S4x8192x3 ![] bcast_S_S4x8192x3 (select (cmpi .eq (id (constantI S_ 32 64#32)) (constantI S_ 32 0#32)) (constantI S_ 32 1#32) (id (constantI S_ 32 64#32)))))) : (⟨S4x8192x3, .i32⟩ : BufTy).Contents (Elt Ideal))⟩, ⟨S4x8192x58, ((broadcastInDim S4x8192x58 ![] bcast_S_S4x8192x58 (constantI S_ 32 0#32)) : (⟨S4x8192x58, .i32⟩ : BufTy).Contents (Elt Ideal))⟩] concatenates_S4x8192x3_S4x8192x3_S4x8192x58_S4x8192x64_d2 : (⟨S4x8192x64, .i32⟩ : BufTy).Contents (Elt Ideal))

theorem rpos_at (b : Fin 4) (s : Fin 8192) (q : Fin 64) : rpos (ix3 b s q) = posw s q := by
  unfold rpos
  pointwise
  show (if h : q.val < 3 then rdivw (BitVec.ofNat 32 s.val) else if h : q.val - 3 < 3 then rremw (BitVec.ofNat 32 s.val) else 0#32) = _
  rw [rdivw_eq, rremw_eq]
  unfold posw
  by_cases h3 : q.val < 3
  · simp [h3]
  · by_cases h6 : q.val < 6
    · have h7 : q.val - 3 < 3 := by omega
      simp [h3, h6, h7]
    · have h7 : ¬ q.val - 3 < 3 := by omega
      simp [h3, h6, h7]

theorem ref_ak (X : FVec Ideal S4x8192x1024 .f32) (G : FVec Ideal S1024 .f32) (SC SH : FVec Ideal S4x1024 .f32)
    (W : FVec Ideal S1024x2888 .f32) :
    truncf (F := Ideal) .bf16 ((concatenate S4x8192x256 2 [⟨S4x8192x64, ((extractStridedSlice S4x8192x64 ![0, 0, 0] (extractStridedSlice S4x8192x128 ![0, 0, 2048] (rprj X G SC SH W) slices_S4x8192x2888_S4x8192x128_0_0_2048) slices_S4x8192x128_S4x8192x64_0_0_0) : (⟨S4x8192x64, .f32⟩ : BufTy).Contents (Elt Ideal))⟩, ⟨S4x8192x64, ((sitofp (F := Ideal) .f32 (rpos)) : (⟨S4x8192x64, .f32⟩ : BufTy).Contents (Elt Ideal))⟩, ⟨S4x8192x64, ((extractStridedSlice S4x8192x64 ![0, 0, 64] (extractStridedSlice S4x8192x128 ![0, 0, 2048] (rprj X G SC SH W) slices_S4x8192x2888_S4x8192x128_0_0_2048) slices_S4x8192x128_S4x8192x64_0_0_64) : (⟨S4x8192x64, .f32⟩ : BufTy).Contents (Elt Ideal))⟩, ⟨S4x8192x64, ((sitofp (F := Ideal) .f32 (rpos)) : (⟨S4x8192x64, .f32⟩ : BufTy).Contents (Elt Ideal))⟩] concatenates_S4x8192x64_S4x8192x64_S4x8192x64_S4x8192x64_S4x8192x256_d2 : (⟨S4x8192x256, .f32⟩ : BufTy).Contents (Elt Ideal))) bitsLt_bf16_f32 = o_ak X G SC SH W := by
  funext j
  obtain ⟨a, d1, d2, rfl⟩ : ∃ (a : Fin 4) (d1 : Fin 8192) (d2 : Fin 256), j = ix3 a d1 d2 := ⟨_, _, _, eq_ix3 (n0 := 4) (n1 := 8192) (n2 := 256) j⟩
  pointwise [rprj_at, rpos_at]
  unfold o_ak
  show _ = (if h0 : d2.val < 64 then prj X G SC SH W a d1 ⟨2048 + d2.val, by omega⟩
    else if h1 : d2.val < 128 then posc d1 ⟨d2.val - 64, by omega⟩
    else if h2 : d2.val < 192 then prj X G SC SH W a d1 ⟨2048 + (d2.val - 64), by omega⟩
    else posc d1 ⟨d2.val - 192, by omega⟩)
  have hd := d2.isLt
  rcases Nat.lt_or_ge d2.val 64 with h | h
  · rw [dif_pos h, dif_pos h]
  rcases Nat.lt_or_ge d2.val 128 with h' | h'
  · rw [dif_neg (by omega), dif_pos (by omega), dif_neg (by omega), dif_pos h']; rfl
  rcases Nat.lt_or_ge d2.val 192 with h'' | h''
  · rw [dif_neg (by omega), dif_neg (by omega), dif_pos (by omega), dif_neg (by omega), dif_neg (by omega), dif_pos h'']
    exact prj_congr X G SC SH W rfl rfl (by show 2048 + (64 + (d2.val - 64 - 64)) = 2048 + (d2.val - 64); omega)
  · rw [dif_neg (by omega), dif_neg (by omega), dif_neg (by omega), dif_neg (by omega), dif_neg (by omega), dif_neg (by omega)]
    exact congrArg (posc d1) (Fin.ext (by show d2.val - 64 - 64 - 64 = d2.val - 192; omega))

theorem ref_av (X : FVec Ideal S4x8192x1024 .f32) (G : FVec Ideal S1024 .f32) (SC SH : FVec Ideal S4x1024 .f32)
    (W : FVec Ideal S1024x2888 .f32) :
    truncf (F := Ideal) .bf16 ((concatenate S4x160x8192 1 [⟨S4x64x8192, ((extractStridedSlice S4x64x8192 ![0, 0, 0] (transpose S4x128x8192 [0, 2, 1] (extractStridedSlice S4x8192x128 ![0, 0, 2176] (rprj X G SC SH W) slices_S4x8192x2888_S4x8192x128_0_0_2176) transposes_S4x8192x128_S4x128x8192_0_2_1) slices_S4x128x8192_S4x64x8192_0_0_0) : (⟨S4x64x8192, .f32⟩ : BufTy).Contents (Elt Ideal))⟩, ⟨S4x16x8192, ((concatenate S4x16x8192 1 [⟨S4x1x8192, (broadcastInDim S4x1x8192 ![] bcast_S_S4x1x8192 (constant (F := Ideal) S_ .f32 0x3F800000#32))⟩, ⟨S4x15x8192, (broadcastInDim S4x15x8192 ![] bcast_S_S4x15x8192 (constant (F := Ideal) S_ .f32 0x00000000#32))⟩] concatenates_S4x1x8192_S4x15x8192_S4x16x8192_d1) : (⟨S4x16x8192, .f32⟩ : BufTy).Contents (Elt Ideal))⟩, ⟨S4x64x8192, ((extractStridedSlice S4x64x8192 ![0, 64, 0] (transpose S4x128x8192 [0, 2, 1] (extractStridedSlice S4x8192x128 ![0, 0, 2176] (rprj X G SC SH W) slices_S4x8192x2888_S4x8192x128_0_0_2176) transposes_S4x8192x128_S4x128x8192_0_2_1) slices_S4x128x8192_S4x64x8192_0_64_0) : (⟨S4x64x8192, .f32⟩ : BufTy).Contents (Elt Ideal))⟩, ⟨S4x16x8192, ((concatenate S4x16x8192 1 [⟨S4x1x8192, (broadcastInDim S4x1x8192 ![] bcast_S_S4x1x8192 (constant (F := Ideal) S_ .f32 0x3F800000#32))⟩, ⟨S4x15x8192, (broadcastInDim S4x15x8192 ![] bcast_S_S4x15x8192 (constant (F := Ideal) S_ .f32 0x00000000#32))⟩] concatenates_S4x1x8192_S4x15x8192_S4x16x8192_d1) : (⟨S4x16x8192, .f32⟩ : BufTy).Contents (Elt Ideal))⟩] concatenates_S4x64x8192_S4x16x8192_S4x64x8192_S4x16x8192_S4x160x8192_d1 : (⟨S4x160x8192, .f32⟩ : BufTy).Contents (Elt Ideal))) bitsLt_bf16_f32 = o_av X G SC SH W := by
  funext j
  obtain ⟨a, d1, d2, rfl⟩ : ∃ (a : Fin 4) (d1 : Fin 160) (d2 : Fin 8192), j = ix3 a d1 d2 := ⟨_, _, _, eq_ix3 (n0 := 4) (n1 := 160) (n2 := 8192) j⟩
  pointwise [rprj_at]
  unfold o_av one16
  show _ = (if h0 : d1.val < 64 then prj X G SC SH W a d2 ⟨2176 + d1.val, by omega⟩
    else if h1 : d1.val < 80 then (if d1.val - 64 = 0 then (1 : EReal) else 0)
    else if h2 : d1.val < 144 then prj X G SC SH W a d2 ⟨2176 + (d1.val - 16), by omega⟩
    else (if d1.val - 144 = 0 then (1 : EReal) else 0))
  have hd := d1.isLt
  rcases Nat.lt_or_ge d1.val 64 with h | h
  · rw [dif_pos h, dif_pos h]
  have g : ¬ d1.val < 64 := by omega
  rcases Nat.lt_or_ge d1.val 80 with h' | h'
  · have g1 : d1.val - 64 < 16 := by omega
    simp only [dif_neg g, dif_pos g1, dif_pos h']
    by_cases e : d1.val - 64 = 0
    · have e' : d1.val - 64 < 1 := by omega
      simp only [dif_pos e', if_pos e]
    · have e' : ¬ d1.val - 64 < 1 := by omega
      simp only [dif_neg e', if_neg e]
  have g0 : ¬ d1.val < 80 := by omega
  have g1 : ¬ d1.val - 64 < 16 := by omega
  rcases Nat.lt_or_ge d1.val 144 with h'' | h''
  · have g2 : d1.val - 64 - 16 < 64 := by omega
    simp only [dif_neg g, dif_neg g0, dif_neg g1, dif_pos g2, dif_pos h'']
    refine prj_congr X G SC SH W rfl rfl ?_
    dsimp only; omega
  · have g2 : ¬ d1.val - 64 - 16 < 64 := by omega
    have g3 : ¬ d1.val < 144 := by omega
    simp only [dif_neg g, dif_neg g0, dif_neg g1, dif_neg g2, dif_neg g3]
    by_cases e : d1.val - 144 = 0
    · have e' : d1.val - 64 - 16 - 64 < 1 := by omega
      simp only [dif_pos e', if_pos e]
    · have e' : ¬ d1.val - 64 - 16 - 64 < 1 := by omega
      simp only [dif_neg e', if_neg e]

end Cert.Proof.Inproj
-- ==== Proof.Inproj.Claim.lean ====
/- The claims of the input-projection call: its frames, and the ten results against the reference's. -/
module
public import proofs.«01_k».proof.Defs
public import proofs.«01_k».proof.Proof.Gen.Kernel2.Frame
public import proofs.«01_k».proof.Proof.Inproj.OutA
public import proofs.«01_k».proof.Proof.Inproj.OutB
public import proofs.«01_k».proof.Proof.Inproj.OutC
public import proofs.«01_k».proof.Proof.Inproj.RefB
public import Idealize.ShloMosaic.Lib.Quiescent
@[expose] public section
noncomputable section
namespace Cert.Proof.Inproj
open Idealize.ShloMosaic Idealize.ShloMosaic.TcCoe

theorem frame_bits : Cert.quiescent_Kernel2 (hKernel2 := Cert.Kernel2.Gen.facts) := fun m ρ _ =>
  Cert.Kernel2.Gen.frame (F := Bits) m ρ

theorem frame_ideal : Cert.quiescent_Kernel2Ideal (hKernel2Ideal := Cert.Kernel2Ideal.Gen.facts) := fun m ρ _ =>
  Cert.Kernel2Ideal.Gen.frame (F := Ideal) m ρ

theorem frame_ref : Cert.quiescent_Reference2Ideal (hReference2Ideal := Cert.Reference2Ideal.Gen.facts) := fun m ρ _ =>
  (θ_run Cert.Reference2Ideal.defs _ _).mono (fun r h => ⟨fun c => (h c).2.2.2.2.2.2.2.2.2.2,
    Idealize.ShloMosaic.sem_eq_zero_of_no_sems (by decide) r.2⟩) (Cert.Reference2Ideal.Value.run (F := Ideal) m ρ)

set_option maxHeartbeats 4000000 in
theorem value : Cert.algebraic_Kernel2Ideal_Reference2Ideal (hKernel2Ideal := Cert.Kernel2Ideal.Gen.facts)
    (hReference2Ideal := Cert.Reference2Ideal.Gen.facts) := by
  intro m ρ m' ρ' _ hargs
  refine ⟨fun c => o_rq (aX m c) (aG m c) (aSC m c) (aSH m c) (aW m c), fun c => o_rk (aX m c) (aG m c) (aSC m c) (aSH m c) (aW m c),
    fun c => o_rv (aX m c) (aG m c) (aSC m c) (aSH m c) (aW m c), fun c => o_rg (aX m c) (aG m c) (aSC m c) (aSH m c) (aW m c),
    fun c => o_aq (aX m c) (aG m c) (aSC m c) (aSH m c) (aW m c), fun c => o_ak (aX m c) (aG m c) (aSC m c) (aSH m c) (aW m c),
    fun c => o_av (aX m c) (aG m c) (aSC m c) (aSH m c) (aW m c), fun c => o_iq (aX m c) (aG m c) (aSC m c) (aSH m c) (aW m c),
    fun c => o_ik (aX m c) (aG m c) (aSC m c) (aSH m c) (aW m c), fun c => o_iw (aX m c) (aG m c) (aSC m c) (aSH m c) (aW m c), ?_, ?_⟩
  · refine (θ_run Cert.Kernel2Ideal.defs _ _).mono (fun r h c => ?_) (Cert.Kernel2Ideal.Value.run_blocks (F := Ideal) m ρ)
    obtain ⟨h0, h1, h2, h3, h4, h5, h6, h7, h8, h9, hk⟩ := h c
    exact ⟨h0.trans (final_rq m c), h1.trans (final_rk m c), h2.trans (final_rv m c), h3.trans (final_rg m c), h4.trans (final_aq m c),
      h5.trans (final_ak m c), h6.trans (final_av m c), h7.trans (final_iq m c), h8.trans (final_ik m c), h9.trans (final_iw m c), hk⟩
  · refine (θ_run Cert.Reference2Ideal.defs _ _).mono (fun r h c => ?_) (Cert.Reference2Ideal.Value.run (F := Ideal) m' ρ')
    obtain ⟨e0, e1, e2, e3, e4⟩ := hargs c
    have E0 : m' ((c.tc : Thread Cert.Reference2Ideal.nD Cert.Reference2Ideal.τ).loc Cert.Reference2Ideal.main_arg0) = aX m c := e0
    have E1 : m' ((c.tc : Thread Cert.Reference2Ideal.nD Cert.Reference2Ideal.τ).loc Cert.Reference2Ideal.main_arg1) = aG m c := e1
    have E2 : m' ((c.tc : Thread Cert.Reference2Ideal.nD Cert.Reference2Ideal.τ).loc Cert.Reference2Ideal.main_arg2) = aSC m c := e2
    have E3 : m' ((c.tc : Thread Cert.Reference2Ideal.nD Cert.Reference2Ideal.τ).loc Cert.Reference2Ideal.main_arg3) = aSH m c := e3
    have E4 : m' ((c.tc : Thread Cert.Reference2Ideal.nD Cert.Reference2Ideal.τ).loc Cert.Reference2Ideal.main_arg4) = aW m c := e4
    obtain ⟨h0, h1, h2, h3, h4, h5, h6, h7, h8, h9, hk⟩ := h c
    beta_reduce
    rw [← E0, ← E1, ← E2, ← E3, ← E4]
    exact ⟨h0.trans (ref_rq ..), h1.trans (ref_rk ..), h2.trans (ref_rv ..), h3.trans (ref_rg ..), h4.trans (ref_aq ..),
      h5.trans (ref_ak ..), h6.trans (ref_av ..), h7.trans (ref_iq ..), h8.trans (ref_ik ..), h9.trans (ref_iw ..), hk⟩

end Cert.Proof.Inproj
-- ==== Proof.Ffn.Setup.lean ====
/-
  The set-up of the expert layer's launch: the arrays as the region finds them, the tables read off the launch memory,
  the windows' blocks, the scratch buffers, the two copy cells and the two weight arrays the body copies from.
-/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Core `c`'s TensorCore buffers when the region is entered: after the host operations `hostOps0`. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host operations write the two reshaped biases alone. -/
theorem V_kept (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals first | exact StableHlo.devRef_ne_of_ne h0 | exact StableHlo.devRef_ne_of_ne h1))

def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table).  -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S288 .i32 := Memref.whole main_arg1
abbrev htbM0_0 : tbM0_0.IsWhole := Memref.isWhole_whole _
abbrev tbM0_1 : Memref sig .tc .smem S1 .i32 := Memref.whole main_arg2
abbrev htbM0_1 : tbM0_1.IsWhole := Memref.isWhole_whole _
abbrev tbM0_2 : Memref sig .tc .smem S288 .i32 := Memref.whole main_arg3
abbrev htbM0_2 : tbM0_2.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (Pipeline.UD sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (hO : Ok m) (dats : (p : Fin 1) → (c : Dev nD) → Dat τ (Elt F) Unit ℕ (Pipeline.UD sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_kept m c main_arg0 (by decide) (by decide)))),
      ((h c).2 main_arg1 (by decide : main_arg1 ∈ Pipeline.restRefs sig spec0)).trans (V_kept m c main_arg1 (by decide) (by decide)),
      ((h c).2 main_arg2 (by decide : main_arg2 ∈ Pipeline.restRefs sig spec0)).trans (V_kept m c main_arg2 (by decide) (by decide)),
      ((h c).2 main_arg3 (by decide : main_arg3 ∈ Pipeline.restRefs sig spec0)).trans (V_kept m c main_arg3 (by decide) (by decide)),
      ((h c).2 main_arg4 (by decide : main_arg4 ∈ Pipeline.restRefs sig spec0)).trans (V_kept m c main_arg4 (by decide) (by decide)),
      ((h c).2 main_arg5 (by decide : main_arg5 ∈ Pipeline.restRefs sig spec0)).trans (V_kept m c main_arg5 (by decide) (by decide)),
      ((h c).2 main_arg6 (by decide : main_arg6 ∈ Pipeline.restRefs sig spec0)).trans (V_kept m c main_arg6 (by decide) (by decide)),
      ((h c).2 main_arg7 (by decide : main_arg7 ∈ Pipeline.restRefs sig spec0)).trans (V_kept m c main_arg7 (by decide) (by decide))⟩) h

/-- One staging buffer of output window 3, through which its contents are stated (`View.read_writes_of_cover`: the
    choice does not matter). -/
abbrev VO0_3 : View sig .tc .vmem S4096x128 .f32 := (Memref.whole cc0_stg3_0 : Memref sig .tc .vmem S4096x128 .f32).view
/-- Each window's current staging memref at point `t`, spelled as the pipeline passes it (`bodyAt0`), and its wholeness. -/
abbrev ms0_0 (hO : Ok m) (t : Fin (cfgM m hO).N) : Memref sig .tc .vmem S4096x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S4096x128 .f32 := spec0_3.stage ((cfgM m hO).slots t 3)
abbrev hs0_3 (hO : Ok m) (t : Fin (cfgM m hO).N) : (ms0_3 m hO t).IsWhole := hstage0_3 (((cfgM m hO).slots t 3).cast nbuf0_3)
/-- The scratch operands: whole scoped buffers of the kernel's own, passed beside the windows. -/
abbrev scM0_0 : Memref sig .tc .vmem S1024x2048 .f32 := Memref.whole cc0_scratch0
abbrev scM0_1 : Memref sig .tc .vmem S1024x1024 .f32 := Memref.whole cc0_scratch1
abbrev scM0_2 : Memref sig .tc .vmem S1024x2048 .bf16 := Memref.whole cc0_scratch2
abbrev scM0_3 : Memref sig .tc .vmem S1024x1024 .bf16 := Memref.whole cc0_scratch3
/-- The operands left in HBM that the body copies into scratch itself, whole. -/
abbrev hbM0_0 : Memref sig .tc .hbm S32x1024x2048 .f32 := Memref.whole main_arg4
abbrev hbM0_1 : Memref sig .tc .hbm S32x1024x1024 .f32 := Memref.whole main_arg6
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 8, SemLoc.dma 9] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0) := by
  rw [Pipeline.ownSems0_eq_of_list c osem0 [0, 1] (by decide) (by decide)]; rfl
/-- The HBM operands the body moves, as references: unscoped, no window's array, no table (`Pipeline.restRefsP`). -/
def H0 : Finset (Ref sig .tc) := {main_arg4, main_arg6}
theorem H0_sub : H0 ⊆ Pipeline.restRefsP sig pre0 spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg4) ∗ hbPt0 c hbM0_1 (V m c main_arg6)) := by
  rw [BI.bigSep_eq_bigSepL_of_eq [main_arg4, main_arg6] (by decide) (by decide)]; rfl

theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 8) 0 ∗ semVal ((c : Thread nD τ), SemLoc.dma 9) 0) ∗ iprop(hbPt0 c hbM0_0 (V m c main_arg4) ∗ hbPt0 c hbM0_1 (V m c main_arg6))) := by
  rw [Pipeline.ΦD_eq, scopedRest0_eq, ownSems00_eq, hbmPts0_eq]; simp only [scM0_0, scM0_1, scM0_2, scM0_3, owns_whole]; try rfl

end Cert.Proof.Ffn

end
-- ==== Proof.Ffn.State.lean ====
/-
  The states of the expert kernel's body between points: the weights in flight into the two staging buffers, the
  cast weights held, and what one live point leaves in the result's staging buffer.
-/
module

public import proofs.«01_k».proof.Proof.Ffn.Setup
public import Idealize.ShloMosaic.Lib.Pointwise
public import Idealize.ShloMosaic.Lib.Pipeline.ValueKit

@[expose] public section

set_option maxRecDepth 16384

noncomputable section

namespace Cert.Proof.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The words the body reads -/

section Words
variable {c : Dev nD} (i : grid0.Coords)
/-- This block's expert, the block before's, the number of live blocks, the next expert to fetch. -/
abbrev wBe (x : TbBuf0 (F := F) c tbM0_0) : BitVec 32 := tbM0_0.view.readAt (Elt F) (Rect.unit (s := S288) (k0_off1 i) S1.size (k0_off1_inb i)).toLoadRect x (Shape.Idx.first (numel1_S1.symm ▸ Nat.one_pos))
abbrev wPv (x : TbBuf0 (F := F) c tbM0_0) : BitVec 32 := tbM0_0.view.readAt (Elt F) (Rect.unit (s := S288) (k0_off4 i) S1.size (k0_off4_inb i)).toLoadRect x (Shape.Idx.first (numel1_S1.symm ▸ Nat.one_pos))
abbrev wNb (x : TbBuf0 (F := F) c tbM0_1) : BitVec 32 := tbM0_1.view.readAt (Elt F) (Rect.unit (s := S1) ![0] S1.size inb_S1_S1_0).toLoadRect x (Shape.Idx.first (numel1_S1.symm ▸ Nat.one_pos))
abbrev wNx (x : TbBuf0 (F := F) c tbM0_2) : BitVec 32 := tbM0_2.view.readAt (Elt F) (Rect.unit (s := S288) (k0_off7 i) S1.size (k0_off7_inb i)).toLoadRect x (Shape.Idx.first (numel1_S1.symm ▸ Nat.one_pos))
end Words

/-! ## One expert's weights in the arrays they are copied from -/

/-- Expert `v`'s gate-up and down weights lie inside their arrays. -/
abbrev InG (v : BitVec 32) : Prop := ∀ a, (k0_off9 v) a + S1x1024x2048.size a ≤ S32x1024x2048.size a
abbrev InD (v : BitVec 32) : Prop := ∀ a, (k0_off10 v) a + S1x1024x1024.size a ≤ S32x1024x1024.size a
/-- Those weights, as the copies name them, -/
abbrev srcG (v : BitVec 32) (h : InG v) : Memref sig .tc .hbm S1024x2048 .f32 :=
  (hbM0_0.slice (Rect.unit (s := S32x1024x2048) (k0_off9 v) S1x1024x2048.size h) (fun _ => rfl)).squeeze S1024x2048 squeezes_S1x1024x2048_S1024x2048
abbrev srcD (v : BitVec 32) (h : InD v) : Memref sig .tc .hbm S1024x1024 .f32 :=
  (hbM0_1.slice (Rect.unit (s := S32x1024x1024) (k0_off10 v) S1x1024x1024.size h) (fun _ => rfl)).squeeze S1024x1024 squeezes_S1x1024x1024_S1024x1024

section Fly
variable (c : Dev nD) (fh0 : HbBuf0 (F := F) c hbM0_0) (fh1 : HbBuf0 (F := F) c hbM0_1)
/-- and their values in the arrays' contents. -/
def gW (v : BitVec 32) (h : InG v) : Vec F S1024x2048 .f32 := (srcG v h).view.read (Elt F) fh0
def dW (v : BitVec 32) (h : InD v) : Vec F S1024x1024 .f32 := (srcD v h).view.read (Elt F) fh1

/-- Expert `v`'s weights in flight into the staging buffers, each with the rest of its array. -/
abbrev flyG (v : BitVec 32) (h : InG v) (f : Buf (Elt F) (scM0_0.view.loc (c : Thread nD τ))) : sProp 𝕄 :=
  Transfers.Flight countersEmb (c : Thread nD τ) (SemLoc.dma 8) () 262144
    iprop((scM0_0.view.loc (c : Thread nD τ) ↦[scM0_0.view.set]{fullShare} scM0_0.view.writes (Elt F) f [⟨Rect.whole S1024x2048, gW c fh0 v h⟩])
      ∗ (hbM0_0.view.loc (c : Thread nD τ) ↦[(srcG v h).view.set]{fullShare} fh0))
abbrev flyD (v : BitVec 32) (h : InD v) (f : Buf (Elt F) (scM0_1.view.loc (c : Thread nD τ))) : sProp 𝕄 :=
  Transfers.Flight countersEmb (c : Thread nD τ) (SemLoc.dma 9) () 131072
    iprop((scM0_1.view.loc (c : Thread nD τ) ↦[scM0_1.view.set]{fullShare} scM0_1.view.writes (Elt F) f [⟨Rect.whole S1024x1024, dW c fh1 v h⟩])
      ∗ (hbM0_1.view.loc (c : Thread nD τ) ↦[(srcD v h).view.set]{fullShare} fh1))
abbrev restG (v : BitVec 32) (h : InG v) : sProp 𝕄 := hbM0_0.view.loc (c : Thread nD τ) ↦[Finset.univ \ (srcG v h).view.set]{fullShare} fh0
abbrev restD (v : BitVec 32) (h : InD v) : sProp 𝕄 := hbM0_1.view.loc (c : Thread nD τ) ↦[Finset.univ \ (srcD v h).view.set]{fullShare} fh1
/-- In flight: -/
def Fly (v : BitVec 32) (hG : InG v) (hD : InD v) : sProp 𝕄 :=
  iprop((∃ f, flyG c fh0 v hG f) ∗ (∃ f, flyD c fh1 v hD f) ∗ restG c fh0 v hG ∗ restD c fh1 v hD)
/-- and nothing in flight: the staging buffers at anything, the cells at zero, the arrays whole. -/
def Idle : sProp 𝕄 :=
  iprop((∃ d, owns (c : Thread nD τ) scM0_0 fullShare d) ∗ (∃ d, owns (c : Thread nD τ) scM0_1 fullShare d)
    ∗ semVal ((c : Thread nD τ), SemLoc.dma 8) 0 ∗ semVal ((c : Thread nD τ), SemLoc.dma 9) 0 ∗ hbPt0 c hbM0_0 fh0 ∗ hbPt0 c hbM0_1 fh1)
/-- The tables' halves the body is lent. -/
def Tabs (xt0 : TbBuf0 (F := F) c tbM0_0) (xt1 : TbBuf0 (F := F) c tbM0_1) (xt2 : TbBuf0 (F := F) c tbM0_2) : sProp 𝕄 :=
  iprop(tbPt0 c tbM0_0 xt0 ∗ tbPt0 c tbM0_1 xt1 ∗ tbPt0 c tbM0_2 xt2)
/-- The cast weights held. -/
def Cast (wg : Vec F S1024x2048 .bf16) (wd : Vec F S1024x1024 .bf16) : sProp 𝕄 :=
  iprop(owns (c : Thread nD τ) scM0_2 fullShare wg ∗ owns (c : Thread nD τ) scM0_3 fullShare wd)
end Fly

/-! ## What a live point computes -/

abbrev lr0 : LoadRect S4096x128 := ⟨![0, 0], S512x128.size, ![8, 1], inb_S4096x128_S512x128_0_0_s_8_1⟩
abbrev lr1 : LoadRect S4096x128 := ⟨![1, 0], S512x128.size, ![8, 1], inb_S4096x128_S512x128_1_0_s_8_1⟩
abbrev lr2 : LoadRect S4096x128 := ⟨![2, 0], S512x128.size, ![8, 1], inb_S4096x128_S512x128_2_0_s_8_1⟩
abbrev lr3 : LoadRect S4096x128 := ⟨![3, 0], S512x128.size, ![8, 1], inb_S4096x128_S512x128_3_0_s_8_1⟩
abbrev lr4 : LoadRect S4096x128 := ⟨![4, 0], S512x128.size, ![8, 1], inb_S4096x128_S512x128_4_0_s_8_1⟩
abbrev lr5 : LoadRect S4096x128 := ⟨![5, 0], S512x128.size, ![8, 1], inb_S4096x128_S512x128_5_0_s_8_1⟩
abbrev lr6 : LoadRect S4096x128 := ⟨![6, 0], S512x128.size, ![8, 1], inb_S4096x128_S512x128_6_0_s_8_1⟩
abbrev lr7 : LoadRect S4096x128 := ⟨![7, 0], S512x128.size, ![8, 1], inb_S4096x128_S512x128_7_0_s_8_1⟩
/-- The block's columns `128 j ‥ 128 j + 127`: its rows `j, j + 8, …`. -/
abbrev ldX (x0 : Vec F S4096x128 .f32) (B : LoadRect S4096x128) : B.shape.Idx → Elt F .f32 := fun y => x0 (B.idx y)
def act45 (x0 : Vec F S4096x128 .f32) (x1 : Vec F S1x1x2048 .f32) (wg : Vec F S1024x2048 .bf16) : FVec F S512x1024 .f32 :=
  k0_pay14 (ldX x0 lr0) (ldX x0 lr1) (ldX x0 lr2) (ldX x0 lr3) (ldX x0 lr4) (ldX x0 lr5) (ldX x0 lr6) (ldX x0 lr7) wg x1
def act53 (x0 : Vec F S4096x128 .f32) (x1 : Vec F S1x1x2048 .f32) (wg : Vec F S1024x2048 .bf16) : FVec F S512x1024 .f32 :=
  k0_pay15 (ldX x0 lr0) (ldX x0 lr1) (ldX x0 lr2) (ldX x0 lr3) (ldX x0 lr4) (ldX x0 lr5) (ldX x0 lr6) (ldX x0 lr7) wg x1
/-- The eight strided stores, last first. -/
abbrev outL (v45 v53 : FVec F S512x1024 .f32) (v58 : Vec F S1024x1024 .bf16) (v60 : Vec F S1x1x1024 .f32) : List (View.Piece (Elt F) S4096x128 .f32) :=
  [⟨⟨lr7, spos_8_1⟩, k0_pay11 v45 v53 v58 v60⟩,
   ⟨⟨lr6, spos_8_1⟩, k0_pay10 v45 v53 v58 v60⟩,
   ⟨⟨lr5, spos_8_1⟩, k0_pay9 v45 v53 v58 v60⟩,
   ⟨⟨lr4, spos_8_1⟩, k0_pay8 v45 v53 v58 v60⟩,
   ⟨⟨lr3, spos_8_1⟩, k0_pay7 v45 v53 v58 v60⟩,
   ⟨⟨lr2, spos_8_1⟩, k0_pay6 v45 v53 v58 v60⟩,
   ⟨⟨lr1, spos_8_1⟩, k0_pay5 v45 v53 v58 v60⟩,
   ⟨⟨lr0, spos_8_1⟩, k0_pay4 v45 v53 v58 v60⟩]
def outLive (x0 : Vec F S4096x128 .f32) (x1 : Vec F S1x1x2048 .f32) (x2 : Vec F S1x1x1024 .f32) (wg : Vec F S1024x2048 .bf16) (wd : Vec F S1024x1024 .bf16) : Vec F S4096x128 .f32 :=
  View.canon (outL (act45 x0 x1 wg) (act53 x0 x1 wg) wd x2)

theorem pay14_congr (x0 : Vec F S4096x128 .f32) (x1 : Vec F S1x1x2048 .f32) (wg : Vec F S1024x2048 .bf16) {l0 l1 l2 l3 l4 l5 l6 l7 : Vec F S512x128 .f32} {w : Vec F S1024x2048 .bf16} {b : Vec F S1x1x2048 .f32}
    (h0 : l0 = ldX x0 lr0) (h1 : l1 = ldX x0 lr1) (h2 : l2 = ldX x0 lr2) (h3 : l3 = ldX x0 lr3) (h4 : l4 = ldX x0 lr4) (h5 : l5 = ldX x0 lr5) (h6 : l6 = ldX x0 lr6) (h7 : l7 = ldX x0 lr7) (hw : w = wg) (hb : b = x1) :
    k0_pay14 l0 l1 l2 l3 l4 l5 l6 l7 w b = act45 x0 x1 wg := by
  subst hw hb; rw [h0, h1, h2, h3, h4, h5, h6, h7]; rfl
theorem pay15_congr (x0 : Vec F S4096x128 .f32) (x1 : Vec F S1x1x2048 .f32) (wg : Vec F S1024x2048 .bf16) {l0 l1 l2 l3 l4 l5 l6 l7 : Vec F S512x128 .f32} {w : Vec F S1024x2048 .bf16} {b : Vec F S1x1x2048 .f32}
    (h0 : l0 = ldX x0 lr0) (h1 : l1 = ldX x0 lr1) (h2 : l2 = ldX x0 lr2) (h3 : l3 = ldX x0 lr3) (h4 : l4 = ldX x0 lr4) (h5 : l5 = ldX x0 lr5) (h6 : l6 = ldX x0 lr6) (h7 : l7 = ldX x0 lr7) (hw : w = wg) (hb : b = x1) :
    k0_pay15 l0 l1 l2 l3 l4 l5 l6 l7 w b = act53 x0 x1 wg := by
  subst hw hb; rw [h0, h1, h2, h3, h4, h5, h6, h7]; rfl

theorem stride_mem {y : S4096x128.Idx} {B : LoadRect S4096x128} (hs : ∀ a, 0 < B.stride a) (x : B.shape.Idx) (h : B.idx x = y) :
    y ∈ (⟨B, hs⟩ : Rect S4096x128).set := by
  subst h; exact B.image_idx_univ ▸ Finset.mem_image_of_mem B.idx (Finset.mem_univ x)

theorem outL_cover (v45 v53 : FVec F S512x1024 .f32) (v58 : Vec F S1024x1024 .bf16) (v60 : Vec F S1x1x1024 .f32) (y : S4096x128.Idx) :
    ∃ p ∈ outL v45 v53 v58 v60, y ∈ p.1.set := by
  have h0 : (y 0).val < 4096 := (y 0).isLt
  have h1 : (y 1).val < 128 := (y 1).isLt
  have hq : (y 0).val / 8 < 512 := by omega
  have key : ∀ j : ℕ, (y 0).val % 8 = j → ∀ a : Fin 2, (y a).val = (![j, 0] : Fin 2 → ℕ) a + (![8, 1] : Fin 2 → ℕ) a * ((ix2 (⟨(y 0).val / 8, hq⟩ : Fin 512) (⟨(y 1).val, h1⟩ : Fin 128) : S512x128.Idx) a).val := by
    intro j hj a
    match a with
    | ⟨0, _⟩ => show (y 0).val = j + 8 * ((y 0).val / 8); omega
    | ⟨1, _⟩ => show (y 1).val = 0 + 1 * (y 1).val; omega
  have hj : (y 0).val % 8 < 8 := Nat.mod_lt _ (by decide)
  match hm : (y 0).val % 8, hj with
  | 0, _ => exact ⟨⟨⟨lr0, spos_8_1⟩, k0_pay4 v45 v53 v58 v60⟩, by simp only [outL, List.mem_cons, _root_.true_or, _root_.or_true],
      stride_mem spos_8_1 (ix2 (⟨(y 0).val / 8, hq⟩ : Fin 512) (⟨(y 1).val, h1⟩ : Fin 128)) (funext fun a => Fin.ext (key 0 hm a).symm)⟩
  | 1, _ => exact ⟨⟨⟨lr1, spos_8_1⟩, k0_pay5 v45 v53 v58 v60⟩, by simp only [outL, List.mem_cons, _root_.true_or, _root_.or_true],
      stride_mem spos_8_1 (ix2 (⟨(y 0).val / 8, hq⟩ : Fin 512) (⟨(y 1).val, h1⟩ : Fin 128)) (funext fun a => Fin.ext (key 1 hm a).symm)⟩
  | 2, _ => exact ⟨⟨⟨lr2, spos_8_1⟩, k0_pay6 v45 v53 v58 v60⟩, by simp only [outL, List.mem_cons, _root_.true_or, _root_.or_true],
      stride_mem spos_8_1 (ix2 (⟨(y 0).val / 8, hq⟩ : Fin 512) (⟨(y 1).val, h1⟩ : Fin 128)) (funext fun a => Fin.ext (key 2 hm a).symm)⟩
  | 3, _ => exact ⟨⟨⟨lr3, spos_8_1⟩, k0_pay7 v45 v53 v58 v60⟩, by simp only [outL, List.mem_cons, _root_.true_or, _root_.or_true],
      stride_mem spos_8_1 (ix2 (⟨(y 0).val / 8, hq⟩ : Fin 512) (⟨(y 1).val, h1⟩ : Fin 128)) (funext fun a => Fin.ext (key 3 hm a).symm)⟩
  | 4, _ => exact ⟨⟨⟨lr4, spos_8_1⟩, k0_pay8 v45 v53 v58 v60⟩, by simp only [outL, List.mem_cons, _root_.true_or, _root_.or_true],
      stride_mem spos_8_1 (ix2 (⟨(y 0).val / 8, hq⟩ : Fin 512) (⟨(y 1).val, h1⟩ : Fin 128)) (funext fun a => Fin.ext (key 4 hm a).symm)⟩
  | 5, _ => exact ⟨⟨⟨lr5, spos_8_1⟩, k0_pay9 v45 v53 v58 v60⟩, by simp only [outL, List.mem_cons, _root_.true_or, _root_.or_true],
      stride_mem spos_8_1 (ix2 (⟨(y 0).val / 8, hq⟩ : Fin 512) (⟨(y 1).val, h1⟩ : Fin 128)) (funext fun a => Fin.ext (key 5 hm a).symm)⟩
  | 6, _ => exact ⟨⟨⟨lr6, spos_8_1⟩, k0_pay10 v45 v53 v58 v60⟩, by simp only [outL, List.mem_cons, _root_.true_or, _root_.or_true],
      stride_mem spos_8_1 (ix2 (⟨(y 0).val / 8, hq⟩ : Fin 512) (⟨(y 1).val, h1⟩ : Fin 128)) (funext fun a => Fin.ext (key 6 hm a).symm)⟩
  | 7, _ => exact ⟨⟨⟨lr7, spos_8_1⟩, k0_pay11 v45 v53 v58 v60⟩, by simp only [outL, List.mem_cons, _root_.true_or, _root_.or_true],
      stride_mem spos_8_1 (ix2 (⟨(y 0).val / 8, hq⟩ : Fin 512) (⟨(y 1).val, h1⟩ : Fin 128)) (funext fun a => Fin.ext (key 7 hm a).symm)⟩
  | n + 8, h => exact absurd h (by omega)

theorem read_outL {sp : Space} (v : View sig .tc sp S4096x128 .f32) (f : v.ty.Contents (Elt F)) {v45 v53 : FVec F S512x1024 .f32} {v58 : Vec F S1024x1024 .bf16} {v60 : Vec F S1x1x1024 .f32}
    (x0 : Vec F S4096x128 .f32) (x1 : Vec F S1x1x2048 .f32) (x2 : Vec F S1x1x1024 .f32) (wg : Vec F S1024x2048 .bf16) (wd : Vec F S1024x1024 .bf16)
    (h45 : v45 = act45 x0 x1 wg) (h53 : v53 = act53 x0 x1 wg) (h58 : v58 = wd) (h60 : v60 = x2) :
    v.read (Elt F) (v.writes (Elt F) f (outL v45 v53 v58 v60)) = outLive x0 x1 x2 wg wd := by
  subst h45 h53 h58 h60
  unfold outLive
  rw [← View.read_writes_junk_eq_canon v]
  exact View.read_writes_of_cover _ _ _ _ _ (outL_cover _ _ _ _)

end Cert.Proof.Ffn

end
-- ==== Proof.Ffn.Run.lean ====
/-
  One point of the expert kernel's body, case by case: the first block, a block of another expert than the one before,
  a block of the same expert, and a block past the live ones.
-/
module

public import proofs.«01_k».proof.Proof.Ffn.State
public import Idealize.ShloMosaic.Lib.WholeRead
public import Idealize.ShloMosaic.Lib.VecWindow

@[expose] public section

set_option maxRecDepth 16384

noncomputable section

namespace Cert.Proof.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords) (arg4 : Memref sig .tc .vmem S4096x128 .f32) (harg4 : arg4.IsWhole) (arg6 : Memref sig .tc .vmem S1x1x2048 .f32) (harg6 : arg6.IsWhole) (arg8 : Memref sig .tc .vmem S1x1x1024 .f32) (harg8 : arg8.IsWhole) (arg9 : Memref sig .tc .vmem S4096x128 .f32) (harg9 : arg9.IsWhole)
    (x0 : Vec F S4096x128 .f32) (x1 : Vec F S1x1x2048 .f32) (x2 : Vec F S1x1x1024 .f32) (xt0 : TbBuf0 (F := F) c tbM0_0) (xt1 : TbBuf0 (F := F) c tbM0_1) (xt2 : TbBuf0 (F := F) c tbM0_2) (fh0 : HbBuf0 (F := F) c hbM0_0) (fh1 : HbBuf0 (F := F) c hbM0_1)

abbrev bodyP : Prog (TpuEff nD τ sig (Elt F) Λ₀ .tc) PUnit :=
  cc0_ffn i tbM0_0 htbM0_0 tbM0_1 htbM0_1 tbM0_2 htbM0_2 arg4 harg4 (Memref.whole main_arg4) (Memref.isWhole_whole _) arg6 harg6 (Memref.whole main_arg6) (Memref.isWhole_whole _) arg8 harg8 arg9 harg9 scM0_0 (Memref.isWhole_whole _) scM0_1 (Memref.isWhole_whole _) scM0_2 (Memref.isWhole_whole _) scM0_3 (Memref.isWhole_whole _) cc0_scratch4 cc0_scratch5

set_option maxHeartbeats 4000000 in
/-- The first block, another expert to come: its weights are copied and cast, the next expert's set in flight. -/
theorem run_first_next (hc1 : k0_cond1 i = 1#1) (hc2 : k0_cond2 i (wNb xt1) (wBe i xt0) (wPv i xt0) = 1#1) (hc3 : k0_cond3 (wNx i xt2) = 1#1) (hc4 : k0_cond4 i (wNb xt1) = 1#1) (hc5 : ¬ k0_cond5 i (wNb xt1) = 1#1) (hw1 : k0_chk1 i (wBe i xt0)) (hw2 : k0_chk2 i (wNb xt1) (wBe i xt0) (wPv i xt0)) (hw3 : k0_chk3 i (wNb xt1) (wBe i xt0) (wPv i xt0) (wNx i xt2) (wNx i xt2)) (hG : InG (wBe i xt0)) (hD : InD (wBe i xt0)) (hG' : InG (wNx i xt2)) (hD' : InD (wNx i xt2)) (W : Waits sig Unit) (K : PUnit → sProp 𝕄) :
    iprop(owns (c : Thread nD τ) arg4 fullShare x0 ∗ owns (c : Thread nD τ) arg6 fullShare x1 ∗ owns (c : Thread nD τ) arg8 fullShare x2 ∗ (∃ d, owns (c : Thread nD τ) arg9 fullShare d) ∗ Tabs c xt0 xt1 xt2 ∗ (∃ d, owns (c : Thread nD τ) scM0_2 fullShare d) ∗ (∃ d, owns (c : Thread nD τ) scM0_3 fullShare d) ∗ Idle c fh0 fh1 ∗ owes (c : Thread nD τ) 0 W
        ∗ (iprop(owns (c : Thread nD τ) arg4 fullShare x0 ∗ owns (c : Thread nD τ) arg6 fullShare x1 ∗ owns (c : Thread nD τ) arg8 fullShare x2 ∗ Tabs c xt0 xt1 xt2 ∗ owns (c : Thread nD τ) arg9 fullShare (outLive x0 x1 x2 (k0_pay1 (gW c fh0 (wBe i xt0) hG)) (k0_pay2 (dW c fh1 (wBe i xt0) hD))) ∗ Cast c (k0_pay1 (gW c fh0 (wBe i xt0) hG)) (k0_pay2 (dW c fh1 (wBe i xt0) hD)) ∗ Fly c fh0 fh1 (wNx i xt2) hG' hD' ∗ (∃ W', owes (c : Thread nD τ) 0 W')) -∗ K ⟨⟩))
      ⊢ wp frame (wpE (defs₀ (F := F)) Variants.none c none) Set.univ (bodyP i arg4 harg4 arg6 harg6 arg8 harg8 arg9 harg9) K := by
  unfold bodyP
  simp only [cc0_ffn_eq_skeleton]; unfold cc0_ffn_skel
  simp only [k0_part1_eq_skeleton]
  unfold Tabs Cast Idle Fly owns
  iintro ⟨⟨%f0, %hf0, H0⟩, ⟨%f1, %hf1, H1⟩, ⟨%f2, %hf2, H2⟩, ⟨%d3, %f3, -, H3⟩, ⟨HT0, HT1, HT2⟩, ⟨%ds2, %fs2, -, HS2⟩, ⟨%ds3, %fs3, -, HS3⟩, ⟨⟨%ds0, %fs0, -, HS0⟩, ⟨%ds1, %fs1, -, HS1⟩, Hq0, Hq1, Hh0, Hh1⟩, HW, Hk⟩
  obtain rfl := harg4.eq_unread hf0; obtain rfl := harg6.eq_unread hf1; obtain rfl := harg8.eq_unread hf2
  sl_exec (disch := first | sl_exact hw1 | sl_exact hw2 | sl_exact hw3)
  sl_step
  iapply Hk
  isplitl [H0]
  · iexists _; isplitr; · ipureintro; exact harg4.read_unread _
    iexact H0
  isplitl [H1]
  · iexists _; isplitr; · ipureintro; exact harg6.read_unread _
    iexact H1
  isplitl [H2]
  · iexists _; isplitr; · ipureintro; exact harg8.read_unread _
    iexact H2
  isplitl [HT0 HT1 HT2]
  · isplitl [HT0]; · iexact HT0
    isplitl [HT1]; · iexact HT1
    iexact HT2
  isplitl [H3]
  · iexists _; isplitr
    swap; · iexact H3
    ipureintro
    exact read_outL arg9.view _ x0 x1 x2 _ _ (pay14_congr x0 x1 _ (funext fun y => harg4.readAt_unread x0 _ y) (funext fun y => harg4.readAt_unread x0 _ y) (funext fun y => harg4.readAt_unread x0 _ y) (funext fun y => harg4.readAt_unread x0 _ y) (funext fun y => harg4.readAt_unread x0 _ y) (funext fun y => harg4.readAt_unread x0 _ y) (funext fun y => harg4.readAt_unread x0 _ y) (funext fun y => harg4.readAt_unread x0 _ y) ((View.readCov_full scM0_2.view _ _ _ _).trans (congrArg k0_pay1 (View.readCov_full (off' := fun _ => 0) scM0_0.view _ _ _ _))) ((View.readAt_full arg6.view _ _).trans (harg6.read_unread x1))) (pay15_congr x0 x1 _ (funext fun y => harg4.readAt_unread x0 _ y) (funext fun y => harg4.readAt_unread x0 _ y) (funext fun y => harg4.readAt_unread x0 _ y) (funext fun y => harg4.readAt_unread x0 _ y) (funext fun y => harg4.readAt_unread x0 _ y) (funext fun y => harg4.readAt_unread x0 _ y) (funext fun y => harg4.readAt_unread x0 _ y) (funext fun y => harg4.readAt_unread x0 _ y) ((View.readCov_full scM0_2.view _ _ _ _).trans (congrArg k0_pay1 (View.readCov_full (off' := fun _ => 0) scM0_0.view _ _ _ _))) ((View.readAt_full arg6.view _ _).trans (harg6.read_unread x1))) ((View.readCov_full scM0_3.view _ _ _ _).trans (congrArg k0_pay2 (View.readCov_full (off' := fun _ => 0) scM0_1.view _ _ _ _))) ((View.readAt_full arg8.view _ _).trans (harg8.read_unread x2))
  isplitl [HS2 HS3]
  · isplitl [HS2]
    · iexists _; isplitr
      swap; · iexact HS2
      ipureintro
      exact (View.read_writes_full scM0_2.view _ _ _ _).trans (congrArg k0_pay1 (View.readCov_full (off' := fun _ => 0) scM0_0.view _ _ _ _))
    iexists _; isplitr
    swap; · iexact HS3
    ipureintro
    exact (View.read_writes_full scM0_3.view _ _ _ _).trans (congrArg k0_pay2 (View.readCov_full (off' := fun _ => 0) scM0_1.view _ _ _ _))
  isplitl [Hq0 Hq1 Hh0 Hh1]
  · isplitl [Hq0]; · iexists _; iexact Hq0
    isplitl [Hq1]; · iexists _; iexact Hq1
    isplitl [Hh0]; · iexact Hh0
    iexact Hh1
  iexists _; iexact HW

set_option maxHeartbeats 4000000 in
/-- The first block, no expert to come. -/
theorem run_first_last (hc1 : k0_cond1 i = 1#1) (hc2 : k0_cond2 i (wNb xt1) (wBe i xt0) (wPv i xt0) = 1#1) (hc3 : ¬ k0_cond3 (wNx i xt2) = 1#1) (hc4 : k0_cond4 i (wNb xt1) = 1#1) (hc5 : ¬ k0_cond5 i (wNb xt1) = 1#1) (hw1 : k0_chk1 i (wBe i xt0)) (hw2 : k0_chk2 i (wNb xt1) (wBe i xt0) (wPv i xt0)) (hG : InG (wBe i xt0)) (hD : InD (wBe i xt0)) (W : Waits sig Unit) (K : PUnit → sProp 𝕄) :
    iprop(owns (c : Thread nD τ) arg4 fullShare x0 ∗ owns (c : Thread nD τ) arg6 fullShare x1 ∗ owns (c : Thread nD τ) arg8 fullShare x2 ∗ (∃ d, owns (c : Thread nD τ) arg9 fullShare d) ∗ Tabs c xt0 xt1 xt2 ∗ (∃ d, owns (c : Thread nD τ) scM0_2 fullShare d) ∗ (∃ d, owns (c : Thread nD τ) scM0_3 fullShare d) ∗ Idle c fh0 fh1 ∗ owes (c : Thread nD τ) 0 W
        ∗ (iprop(owns (c : Thread nD τ) arg4 fullShare x0 ∗ owns (c : Thread nD τ) arg6 fullShare x1 ∗ owns (c : Thread nD τ) arg8 fullShare x2 ∗ Tabs c xt0 xt1 xt2 ∗ owns (c : Thread nD τ) arg9 fullShare (outLive x0 x1 x2 (k0_pay1 (gW c fh0 (wBe i xt0) hG)) (k0_pay2 (dW c fh1 (wBe i xt0) hD))) ∗ Cast c (k0_pay1 (gW c fh0 (wBe i xt0) hG)) (k0_pay2 (dW c fh1 (wBe i xt0) hD)) ∗ Idle c fh0 fh1 ∗ (∃ W', owes (c : Thread nD τ) 0 W')) -∗ K ⟨⟩))
      ⊢ wp frame (wpE (defs₀ (F := F)) Variants.none c none) Set.univ (bodyP i arg4 harg4 arg6 harg6 arg8 harg8 arg9 harg9) K := by
  unfold bodyP
  simp only [cc0_ffn_eq_skeleton]; unfold cc0_ffn_skel
  simp only [k0_part1_eq_skeleton]
  unfold Tabs Cast Idle owns
  iintro ⟨⟨%f0, %hf0, H0⟩, ⟨%f1, %hf1, H1⟩, ⟨%f2, %hf2, H2⟩, ⟨%d3, %f3, -, H3⟩, ⟨HT0, HT1, HT2⟩, ⟨%ds2, %fs2, -, HS2⟩, ⟨%ds3, %fs3, -, HS3⟩, ⟨⟨%ds0, %fs0, -, HS0⟩, ⟨%ds1, %fs1, -, HS1⟩, Hq0, Hq1, Hh0, Hh1⟩, HW, Hk⟩
  obtain rfl := harg4.eq_unread hf0; obtain rfl := harg6.eq_unread hf1; obtain rfl := harg8.eq_unread hf2
  sl_exec (disch := first | sl_exact hw1 | sl_exact hw2)
  sl_step
  iapply Hk
  isplitl [H0]
  · iexists _; isplitr; · ipureintro; exact harg4.read_unread _
    iexact H0
  isplitl [H1]
  · iexists _; isplitr; · ipureintro; exact harg6.read_unread _
    iexact H1
  isplitl [H2]
  · iexists _; isplitr; · ipureintro; exact harg8.read_unread _
    iexact H2
  isplitl [HT0 HT1 HT2]
  · isplitl [HT0]; · iexact HT0
    isplitl [HT1]; · iexact HT1
    iexact HT2
  isplitl [H3]
  · iexists _; isplitr
    swap; · iexact H3
    ipureintro
    exact read_outL arg9.view _ x0 x1 x2 _ _ (pay14_congr x0 x1 _ (funext fun y => harg4.readAt_unread x0 _ y) (funext fun y => harg4.readAt_unread x0 _ y) (funext fun y => harg4.readAt_unread x0 _ y) (funext fun y => harg4.readAt_unread x0 _ y) (funext fun y => harg4.readAt_unread x0 _ y) (funext fun y => harg4.readAt_unread x0 _ y) (funext fun y => harg4.readAt_unread x0 _ y) (funext fun y => harg4.readAt_unread x0 _ y) ((View.readCov_full scM0_2.view _ _ _ _).trans (congrArg k0_pay1 (View.readCov_full (off' := fun _ => 0) scM0_0.view _ _ _ _))) ((View.readAt_full arg6.view _ _).trans (harg6.read_unread x1))) (pay15_congr x0 x1 _ (funext fun y => harg4.readAt_unread x0 _ y) (funext fun y => harg4.readAt_unread x0 _ y) (funext fun y => harg4.readAt_unread x0 _ y) (funext fun y => harg4.readAt_unread x0 _ y) (funext fun y => harg4.readAt_unread x0 _ y) (funext fun y => harg4.readAt_unread x0 _ y) (funext fun y => harg4.readAt_unread x0 _ y) (funext fun y => harg4.readAt_unread x0 _ y) ((View.readCov_full scM0_2.view _ _ _ _).trans (congrArg k0_pay1 (View.readCov_full (off' := fun _ => 0) scM0_0.view _ _ _ _))) ((View.readAt_full arg6.view _ _).trans (harg6.read_unread x1))) ((View.readCov_full scM0_3.view _ _ _ _).trans (congrArg k0_pay2 (View.readCov_full (off' := fun _ => 0) scM0_1.view _ _ _ _))) ((View.readAt_full arg8.view _ _).trans (harg8.read_unread x2))
  isplitl [HS2 HS3]
  · isplitl [HS2]
    · iexists _; isplitr
      swap; · iexact HS2
      ipureintro
      exact (View.read_writes_full scM0_2.view _ _ _ _).trans (congrArg k0_pay1 (View.readCov_full (off' := fun _ => 0) scM0_0.view _ _ _ _))
    iexists _; isplitr
    swap; · iexact HS3
    ipureintro
    exact (View.read_writes_full scM0_3.view _ _ _ _).trans (congrArg k0_pay2 (View.readCov_full (off' := fun _ => 0) scM0_1.view _ _ _ _))
  isplitl [HS0 HS1 Hq0 Hq1 Hh0 Hh1]
  · isplitl [HS0]
    · iexists _; iexists _; isplitr; swap; · iexact HS0
      ipureintro; rfl
    isplitl [HS1]
    · iexists _; iexists _; isplitr; swap; · iexact HS1
      ipureintro; rfl
    isplitl [Hq0]; · iexact Hq0
    isplitl [Hq1]; · iexact Hq1
    isplitl [Hh0]; · iexact Hh0
    iexact Hh1
  iexists _; iexact HW

set_option maxHeartbeats 4000000 in
/-- A block of a new expert, whose weights are in flight, another expert to come. -/
theorem run_new_next (hc1 : ¬ k0_cond1 i = 1#1) (hc2 : k0_cond2 i (wNb xt1) (wBe i xt0) (wPv i xt0) = 1#1) (hc3 : k0_cond3 (wNx i xt2) = 1#1) (hc4 : k0_cond4 i (wNb xt1) = 1#1) (hc5 : ¬ k0_cond5 i (wNb xt1) = 1#1) (hw1 : k0_chk1 i (wBe i xt0)) (hw2 : k0_chk2 i (wNb xt1) (wBe i xt0) (wPv i xt0)) (hw3 : k0_chk3 i (wNb xt1) (wBe i xt0) (wPv i xt0) (wNx i xt2) (wNx i xt2)) (hG : InG (wBe i xt0)) (hD : InD (wBe i xt0)) (hG' : InG (wNx i xt2)) (hD' : InD (wNx i xt2)) (W : Waits sig Unit) (K : PUnit → sProp 𝕄) :
    iprop(owns (c : Thread nD τ) arg4 fullShare x0 ∗ owns (c : Thread nD τ) arg6 fullShare x1 ∗ owns (c : Thread nD τ) arg8 fullShare x2 ∗ (∃ d, owns (c : Thread nD τ) arg9 fullShare d) ∗ Tabs c xt0 xt1 xt2 ∗ (∃ d, owns (c : Thread nD τ) scM0_2 fullShare d) ∗ (∃ d, owns (c : Thread nD τ) scM0_3 fullShare d) ∗ Fly c fh0 fh1 (wBe i xt0) hG hD ∗ owes (c : Thread nD τ) 0 W
        ∗ (iprop(owns (c : Thread nD τ) arg4 fullShare x0 ∗ owns (c : Thread nD τ) arg6 fullShare x1 ∗ owns (c : Thread nD τ) arg8 fullShare x2 ∗ Tabs c xt0 xt1 xt2 ∗ owns (c : Thread nD τ) arg9 fullShare (outLive x0 x1 x2 (k0_pay1 (gW c fh0 (wBe i xt0) hG)) (k0_pay2 (dW c fh1 (wBe i xt0) hD))) ∗ Cast c (k0_pay1 (gW c fh0 (wBe i xt0) hG)) (k0_pay2 (dW c fh1 (wBe i xt0) hD)) ∗ Fly c fh0 fh1 (wNx i xt2) hG' hD' ∗ (∃ W', owes (c : Thread nD τ) 0 W')) -∗ K ⟨⟩))
      ⊢ wp frame (wpE (defs₀ (F := F)) Variants.none c none) Set.univ (bodyP i arg4 harg4 arg6 harg6 arg8 harg8 arg9 harg9) K := by
  unfold bodyP
  simp only [cc0_ffn_eq_skeleton]; unfold cc0_ffn_skel
  simp only [k0_part1_eq_skeleton]
  unfold Tabs Cast Fly owns
  iintro ⟨⟨%f0, %hf0, H0⟩, ⟨%f1, %hf1, H1⟩, ⟨%f2, %hf2, H2⟩, ⟨%d3, %f3, -, H3⟩, ⟨HT0, HT1, HT2⟩, ⟨%ds2, %fs2, -, HS2⟩, ⟨%ds3, %fs3, -, HS3⟩, ⟨⟨%fs0, Hq0⟩, ⟨%fs1, Hq1⟩, Hh0, Hh1⟩, HW, Hk⟩
  obtain rfl := harg4.eq_unread hf0; obtain rfl := harg6.eq_unread hf1; obtain rfl := harg8.eq_unread hf2
  sl_exec (disch := first | sl_exact hw1 | sl_exact hw2 | sl_exact hw3)
  sl_step
  iapply Hk
  isplitl [H0]
  · iexists _; isplitr; · ipureintro; exact harg4.read_unread _
    iexact H0
  isplitl [H1]
  · iexists _; isplitr; · ipureintro; exact harg6.read_unread _
    iexact H1
  isplitl [H2]
  · iexists _; isplitr; · ipureintro; exact harg8.read_unread _
    iexact H2
  isplitl [HT0 HT1 HT2]
  · isplitl [HT0]; · iexact HT0
    isplitl [HT1]; · iexact HT1
    iexact HT2
  isplitl [H3]
  · iexists _; isplitr
    swap; · iexact H3
    ipureintro
    exact read_outL arg9.view _ x0 x1 x2 _ _ (pay14_congr x0 x1 _ (funext fun y => harg4.readAt_unread x0 _ y) (funext fun y => harg4.readAt_unread x0 _ y) (funext fun y => harg4.readAt_unread x0 _ y) (funext fun y => harg4.readAt_unread x0 _ y) (funext fun y => harg4.readAt_unread x0 _ y) (funext fun y => harg4.readAt_unread x0 _ y) (funext fun y => harg4.readAt_unread x0 _ y) (funext fun y => harg4.readAt_unread x0 _ y) ((View.readCov_full scM0_2.view _ _ _ _).trans (congrArg k0_pay1 (View.readCov_full (off' := fun _ => 0) scM0_0.view _ _ _ _))) ((View.readAt_full arg6.view _ _).trans (harg6.read_unread x1))) (pay15_congr x0 x1 _ (funext fun y => harg4.readAt_unread x0 _ y) (funext fun y => harg4.readAt_unread x0 _ y) (funext fun y => harg4.readAt_unread x0 _ y) (funext fun y => harg4.readAt_unread x0 _ y) (funext fun y => harg4.readAt_unread x0 _ y) (funext fun y => harg4.readAt_unread x0 _ y) (funext fun y => harg4.readAt_unread x0 _ y) (funext fun y => harg4.readAt_unread x0 _ y) ((View.readCov_full scM0_2.view _ _ _ _).trans (congrArg k0_pay1 (View.readCov_full (off' := fun _ => 0) scM0_0.view _ _ _ _))) ((View.readAt_full arg6.view _ _).trans (harg6.read_unread x1))) ((View.readCov_full scM0_3.view _ _ _ _).trans (congrArg k0_pay2 (View.readCov_full (off' := fun _ => 0) scM0_1.view _ _ _ _))) ((View.readAt_full arg8.view _ _).trans (harg8.read_unread x2))
  isplitl [HS2 HS3]
  · isplitl [HS2]
    · iexists _; isplitr
      swap; · iexact HS2
      ipureintro
      exact (View.read_writes_full scM0_2.view _ _ _ _).trans (congrArg k0_pay1 (View.readCov_full (off' := fun _ => 0) scM0_0.view _ _ _ _))
    iexists _; isplitr
    swap; · iexact HS3
    ipureintro
    exact (View.read_writes_full scM0_3.view _ _ _ _).trans (congrArg k0_pay2 (View.readCov_full (off' := fun _ => 0) scM0_1.view _ _ _ _))
  isplitl [Hq0 Hq1 Hh0 Hh1]
  · isplitl [Hq0]; · iexists _; iexact Hq0
    isplitl [Hq1]; · iexists _; iexact Hq1
    isplitl [Hh0]; · iexact Hh0
    iexact Hh1
  iexists _; iexact HW

set_option maxHeartbeats 4000000 in
/-- A block of a new expert, whose weights are in flight, no expert to come. -/
theorem run_new_last (hc1 : ¬ k0_cond1 i = 1#1) (hc2 : k0_cond2 i (wNb xt1) (wBe i xt0) (wPv i xt0) = 1#1) (hc3 : ¬ k0_cond3 (wNx i xt2) = 1#1) (hc4 : k0_cond4 i (wNb xt1) = 1#1) (hc5 : ¬ k0_cond5 i (wNb xt1) = 1#1) (hw1 : k0_chk1 i (wBe i xt0)) (hw2 : k0_chk2 i (wNb xt1) (wBe i xt0) (wPv i xt0)) (hG : InG (wBe i xt0)) (hD : InD (wBe i xt0)) (W : Waits sig Unit) (K : PUnit → sProp 𝕄) :
    iprop(owns (c : Thread nD τ) arg4 fullShare x0 ∗ owns (c : Thread nD τ) arg6 fullShare x1 ∗ owns (c : Thread nD τ) arg8 fullShare x2 ∗ (∃ d, owns (c : Thread nD τ) arg9 fullShare d) ∗ Tabs c xt0 xt1 xt2 ∗ (∃ d, owns (c : Thread nD τ) scM0_2 fullShare d) ∗ (∃ d, owns (c : Thread nD τ) scM0_3 fullShare d) ∗ Fly c fh0 fh1 (wBe i xt0) hG hD ∗ owes (c : Thread nD τ) 0 W
        ∗ (iprop(owns (c : Thread nD τ) arg4 fullShare x0 ∗ owns (c : Thread nD τ) arg6 fullShare x1 ∗ owns (c : Thread nD τ) arg8 fullShare x2 ∗ Tabs c xt0 xt1 xt2 ∗ owns (c : Thread nD τ) arg9 fullShare (outLive x0 x1 x2 (k0_pay1 (gW c fh0 (wBe i xt0) hG)) (k0_pay2 (dW c fh1 (wBe i xt0) hD))) ∗ Cast c (k0_pay1 (gW c fh0 (wBe i xt0) hG)) (k0_pay2 (dW c fh1 (wBe i xt0) hD)) ∗ Idle c fh0 fh1 ∗ (∃ W', owes (c : Thread nD τ) 0 W')) -∗ K ⟨⟩))
      ⊢ wp frame (wpE (defs₀ (F := F)) Variants.none c none) Set.univ (bodyP i arg4 harg4 arg6 harg6 arg8 harg8 arg9 harg9) K := by
  unfold bodyP
  simp only [cc0_ffn_eq_skeleton]; unfold cc0_ffn_skel
  simp only [k0_part1_eq_skeleton]
  unfold Tabs Cast Idle Fly owns
  iintro ⟨⟨%f0, %hf0, H0⟩, ⟨%f1, %hf1, H1⟩, ⟨%f2, %hf2, H2⟩, ⟨%d3, %f3, -, H3⟩, ⟨HT0, HT1, HT2⟩, ⟨%ds2, %fs2, -, HS2⟩, ⟨%ds3, %fs3, -, HS3⟩, ⟨⟨%fs0, Hq0⟩, ⟨%fs1, Hq1⟩, Hh0, Hh1⟩, HW, Hk⟩
  obtain rfl := harg4.eq_unread hf0; obtain rfl := harg6.eq_unread hf1; obtain rfl := harg8.eq_unread hf2
  sl_exec (disch := first | sl_exact hw1 | sl_exact hw2)
  sl_step
  iapply Hk
  isplitl [H0]
  · iexists _; isplitr; · ipureintro; exact harg4.read_unread _
    iexact H0
  isplitl [H1]
  · iexists _; isplitr; · ipureintro; exact harg6.read_unread _
    iexact H1
  isplitl [H2]
  · iexists _; isplitr; · ipureintro; exact harg8.read_unread _
    iexact H2
  isplitl [HT0 HT1 HT2]
  · isplitl [HT0]; · iexact HT0
    isplitl [HT1]; · iexact HT1
    iexact HT2
  isplitl [H3]
  · iexists _; isplitr
    swap; · iexact H3
    ipureintro
    exact read_outL arg9.view _ x0 x1 x2 _ _ (pay14_congr x0 x1 _ (funext fun y => harg4.readAt_unread x0 _ y) (funext fun y => harg4.readAt_unread x0 _ y) (funext fun y => harg4.readAt_unread x0 _ y) (funext fun y => harg4.readAt_unread x0 _ y) (funext fun y => harg4.readAt_unread x0 _ y) (funext fun y => harg4.readAt_unread x0 _ y) (funext fun y => harg4.readAt_unread x0 _ y) (funext fun y => harg4.readAt_unread x0 _ y) ((View.readCov_full scM0_2.view _ _ _ _).trans (congrArg k0_pay1 (View.readCov_full (off' := fun _ => 0) scM0_0.view _ _ _ _))) ((View.readAt_full arg6.view _ _).trans (harg6.read_unread x1))) (pay15_congr x0 x1 _ (funext fun y => harg4.readAt_unread x0 _ y) (funext fun y => harg4.readAt_unread x0 _ y) (funext fun y => harg4.readAt_unread x0 _ y) (funext fun y => harg4.readAt_unread x0 _ y) (funext fun y => harg4.readAt_unread x0 _ y) (funext fun y => harg4.readAt_unread x0 _ y) (funext fun y => harg4.readAt_unread x0 _ y) (funext fun y => harg4.readAt_unread x0 _ y) ((View.readCov_full scM0_2.view _ _ _ _).trans (congrArg k0_pay1 (View.readCov_full (off' := fun _ => 0) scM0_0.view _ _ _ _))) ((View.readAt_full arg6.view _ _).trans (harg6.read_unread x1))) ((View.readCov_full scM0_3.view _ _ _ _).trans (congrArg k0_pay2 (View.readCov_full (off' := fun _ => 0) scM0_1.view _ _ _ _))) ((View.readAt_full arg8.view _ _).trans (harg8.read_unread x2))
  isplitl [HS2 HS3]
  · isplitl [HS2]
    · iexists _; isplitr
      swap; · iexact HS2
      ipureintro
      exact (View.read_writes_full scM0_2.view _ _ _ _).trans (congrArg k0_pay1 (View.readCov_full (off' := fun _ => 0) scM0_0.view _ _ _ _))
    iexists _; isplitr
    swap; · iexact HS3
    ipureintro
    exact (View.read_writes_full scM0_3.view _ _ _ _).trans (congrArg k0_pay2 (View.readCov_full (off' := fun _ => 0) scM0_1.view _ _ _ _))
  isplitl [Hq0_dst Hq1_dst Hq0 Hq1 Hh0 Hh1]
  · isplitl [Hq0_dst]
    · iexists _; iexists _; isplitr; swap; · iexact Hq0_dst
      ipureintro; rfl
    isplitl [Hq1_dst]
    · iexists _; iexists _; isplitr; swap; · iexact Hq1_dst
      ipureintro; rfl
    isplitl [Hq0]; · iexact Hq0
    isplitl [Hq1]; · iexact Hq1
    isplitl [Hh0]; · iexact Hh0
    iexact Hh1
  iexists _; iexact HW

set_option maxHeartbeats 4000000 in
/-- A block of the expert before's: the cast weights are used as they are. -/
theorem run_same (wg : Vec F S1024x2048 .bf16) (wd : Vec F S1024x1024 .bf16) (hc1 : ¬ k0_cond1 i = 1#1) (hc2 : ¬ k0_cond2 i (wNb xt1) (wBe i xt0) (wPv i xt0) = 1#1) (hc4 : k0_cond4 i (wNb xt1) = 1#1) (hc5 : ¬ k0_cond5 i (wNb xt1) = 1#1) (hw1 : k0_chk1 i (wBe i xt0)) (hw2 : k0_chk2 i (wNb xt1) (wBe i xt0) (wPv i xt0)) (W : Waits sig Unit) (K : PUnit → sProp 𝕄) :
    iprop(owns (c : Thread nD τ) arg4 fullShare x0 ∗ owns (c : Thread nD τ) arg6 fullShare x1 ∗ owns (c : Thread nD τ) arg8 fullShare x2 ∗ (∃ d, owns (c : Thread nD τ) arg9 fullShare d) ∗ Tabs c xt0 xt1 xt2 ∗ Cast c wg wd ∗ owes (c : Thread nD τ) 0 W
        ∗ (iprop(owns (c : Thread nD τ) arg4 fullShare x0 ∗ owns (c : Thread nD τ) arg6 fullShare x1 ∗ owns (c : Thread nD τ) arg8 fullShare x2 ∗ Tabs c xt0 xt1 xt2 ∗ owns (c : Thread nD τ) arg9 fullShare (outLive x0 x1 x2 wg wd) ∗ Cast c wg wd ∗ (∃ W', owes (c : Thread nD τ) 0 W')) -∗ K ⟨⟩))
      ⊢ wp frame (wpE (defs₀ (F := F)) Variants.none c none) Set.univ (bodyP i arg4 harg4 arg6 harg6 arg8 harg8 arg9 harg9) K := by
  unfold bodyP
  simp only [cc0_ffn_eq_skeleton]; unfold cc0_ffn_skel
  simp only [k0_part1_eq_skeleton]
  unfold Tabs Cast owns
  iintro ⟨⟨%f0, %hf0, H0⟩, ⟨%f1, %hf1, H1⟩, ⟨%f2, %hf2, H2⟩, ⟨%d3, %f3, -, H3⟩, ⟨HT0, HT1, HT2⟩, ⟨⟨%f4, %hf4, HS2⟩, ⟨%f5, %hf5, HS3⟩⟩, HW, Hk⟩
  obtain rfl := harg4.eq_unread hf0; obtain rfl := harg6.eq_unread hf1; obtain rfl := harg8.eq_unread hf2
  sl_exec (disch := first | sl_exact hw1 | sl_exact hw2)
  sl_step
  iapply Hk
  isplitl [H0]
  · iexists _; isplitr; · ipureintro; exact harg4.read_unread _
    iexact H0
  isplitl [H1]
  · iexists _; isplitr; · ipureintro; exact harg6.read_unread _
    iexact H1
  isplitl [H2]
  · iexists _; isplitr; · ipureintro; exact harg8.read_unread _
    iexact H2
  isplitl [HT0 HT1 HT2]
  · isplitl [HT0]; · iexact HT0
    isplitl [HT1]; · iexact HT1
    iexact HT2
  isplitl [H3]
  · iexists _; isplitr
    swap; · iexact H3
    ipureintro
    exact read_outL arg9.view _ x0 x1 x2 _ _ (pay14_congr x0 x1 _ (funext fun y => harg4.readAt_unread x0 _ y) (funext fun y => harg4.readAt_unread x0 _ y) (funext fun y => harg4.readAt_unread x0 _ y) (funext fun y => harg4.readAt_unread x0 _ y) (funext fun y => harg4.readAt_unread x0 _ y) (funext fun y => harg4.readAt_unread x0 _ y) (funext fun y => harg4.readAt_unread x0 _ y) (funext fun y => harg4.readAt_unread x0 _ y) ((View.readAt_full scM0_2.view _ _).trans hf4) ((View.readAt_full arg6.view _ _).trans (harg6.read_unread x1))) (pay15_congr x0 x1 _ (funext fun y => harg4.readAt_unread x0 _ y) (funext fun y => harg4.readAt_unread x0 _ y) (funext fun y => harg4.readAt_unread x0 _ y) (funext fun y => harg4.readAt_unread x0 _ y) (funext fun y => harg4.readAt_unread x0 _ y) (funext fun y => harg4.readAt_unread x0 _ y) (funext fun y => harg4.readAt_unread x0 _ y) (funext fun y => harg4.readAt_unread x0 _ y) ((View.readAt_full scM0_2.view _ _).trans hf4) ((View.readAt_full arg6.view _ _).trans (harg6.read_unread x1))) ((View.readAt_full scM0_3.view _ _).trans hf5) ((View.readAt_full arg8.view _ _).trans (harg8.read_unread x2))
  isplitl [HS2 HS3]
  · isplitl [HS2]
    · iexists _; isplitr; · ipureintro; exact hf4
      iexact HS2
    iexists _; isplitr; · ipureintro; exact hf5
    iexact HS3
  iexists _; iexact HW

set_option maxHeartbeats 4000000 in
/-- A block past the live ones is stored zero. -/
theorem run_dead (hc1 : ¬ k0_cond1 i = 1#1) (hc2 : ¬ k0_cond2 i (wNb xt1) (wBe i xt0) (wPv i xt0) = 1#1) (hc4 : ¬ k0_cond4 i (wNb xt1) = 1#1) (hc5 : k0_cond5 i (wNb xt1) = 1#1) (hw1 : k0_chk1 i (wBe i xt0)) (hw2 : k0_chk2 i (wNb xt1) (wBe i xt0) (wPv i xt0)) (W : Waits sig Unit) (K : PUnit → sProp 𝕄) :
    iprop(owns (c : Thread nD τ) arg4 fullShare x0 ∗ owns (c : Thread nD τ) arg6 fullShare x1 ∗ owns (c : Thread nD τ) arg8 fullShare x2 ∗ (∃ d, owns (c : Thread nD τ) arg9 fullShare d) ∗ Tabs c xt0 xt1 xt2 ∗ owes (c : Thread nD τ) 0 W
        ∗ (iprop(owns (c : Thread nD τ) arg4 fullShare x0 ∗ owns (c : Thread nD τ) arg6 fullShare x1 ∗ owns (c : Thread nD τ) arg8 fullShare x2 ∗ Tabs c xt0 xt1 xt2 ∗ owns (c : Thread nD τ) arg9 fullShare (k0_pay12 (F := F)) ∗ (∃ W', owes (c : Thread nD τ) 0 W')) -∗ K ⟨⟩))
      ⊢ wp frame (wpE (defs₀ (F := F)) Variants.none c none) Set.univ (bodyP i arg4 harg4 arg6 harg6 arg8 harg8 arg9 harg9) K := by
  unfold bodyP
  simp only [cc0_ffn_eq_skeleton]; unfold cc0_ffn_skel
  simp only [k0_part1_eq_skeleton]
  unfold Tabs owns
  iintro ⟨⟨%f0, %hf0, H0⟩, ⟨%f1, %hf1, H1⟩, ⟨%f2, %hf2, H2⟩, ⟨%d3, %f3, -, H3⟩, ⟨HT0, HT1, HT2⟩, HW, Hk⟩
  obtain rfl := harg4.eq_unread hf0; obtain rfl := harg6.eq_unread hf1; obtain rfl := harg8.eq_unread hf2
  sl_exec (disch := first | sl_exact hw1 | sl_exact hw2)
  sl_step
  iapply Hk
  isplitl [H0]
  · iexists _; isplitr; · ipureintro; exact harg4.read_unread _
    iexact H0
  isplitl [H1]
  · iexists _; isplitr; · ipureintro; exact harg6.read_unread _
    iexact H1
  isplitl [H2]
  · iexists _; isplitr; · ipureintro; exact harg8.read_unread _
    iexact H2
  isplitl [HT0 HT1 HT2]
  · isplitl [HT0]; · iexact HT0
    isplitl [HT1]; · iexact HT1
    iexact HT2
  isplitl [H3]
  · iexists _; isplitr
    swap; · iexact H3
    ipureintro
    exact View.read_writes_full arg9.view _ _ _ _
  iexists _; iexact HW

end Cert.Proof.Ffn

end
-- ==== Proof.Ffn.Tab.lean ====
/-
  The tables' words at each point, the kernel's conditions of them, and what the precondition says of them.
-/
module

public import proofs.«01_k».proof.Proof.Ffn.State
public import Idealize.ShloMosaic.Lib.StableHlo.Predicate

@[expose] public section

set_option maxRecDepth 16384

noncomputable section

namespace Cert.Proof.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The grid's points and the words at them -/

theorem coords_val : ∀ t : Fin grid0.N, (grid0.coords t 0).val = t.val := by decide +kernel
theorem off1_val : ∀ t : Fin grid0.N, k0_off1 (grid0.coords t) 0 = t.val := by decide +kernel
theorem off4_val : ∀ t : Fin grid0.N, k0_off4 (grid0.coords t) 0 = t.val - 1 := by decide +kernel
theorem off7_val : ∀ t : Fin grid0.N, k0_off7 (grid0.coords t) 0 = t.val := by decide +kernel
theorem cond1_iff : ∀ t : Fin grid0.N, k0_cond1 (grid0.coords t) = 1#1 ↔ t.val = 0 := by decide +kernel
theorem arg0_toNat : ∀ t : Fin grid0.N, (BitVec.ofNat 32 (grid0.coords t 0).val).toNat = t.val := by decide +kernel

/-- A table's word at a position. -/
def tabN (x : IVec S288 32) (s : ℕ) : BitVec 32 := if h : s < 288 then x (ix1 ⟨s, h⟩) else 0#32
theorem tabN_of (x : IVec S288 32) {s : ℕ} (h : s < 288) : tabN x s = x (ix1 ⟨s, h⟩) := dif_pos h

theorem idx1_eq {x : IVec S288 32} {s : ℕ} (hs : s < 288) (y : S288.Idx) (hy : (y 0).val = s) : x y = tabN x s := by
  rw [tabN_of x hs]; congr 1; funext a; match a with | ⟨0, _⟩ => exact Fin.ext hy

section Words
variable {c : Dev nD} (t : Fin grid0.N) (x : IVec S288 32)
theorem wBe_eq : wBe (F := F) (c := c) (grid0.coords t) x = tabN x t.val :=
  idx1_eq t.isLt _ ((Nat.add_zero _).trans (off1_val t))
theorem wPv_eq : wPv (F := F) (c := c) (grid0.coords t) x = tabN x (t.val - 1) :=
  idx1_eq (lt_of_le_of_lt (Nat.sub_le _ _) t.isLt) _ ((Nat.add_zero _).trans (off4_val t))
theorem wNx_eq : wNx (F := F) (c := c) (grid0.coords t) x = tabN x t.val :=
  idx1_eq t.isLt _ ((Nat.add_zero _).trans (off7_val t))
end Words
theorem wNb_eq {c : Dev nD} (x : IVec S1 32) : wNb (F := F) (c := c) x = x (ix1 0) := by
  show x _ = _; congr 1; funext a; match a with | ⟨0, _⟩ => rfl

/-! ## The conditions -/

theorem ext_ne (b : BitVec 1) : Scalar.cmpi .ne (Scalar.extui b) 0#32 = b := by revert b; decide
theorem slt_iff (t : Fin grid0.N) {v : BitVec 32} (hv : v.toNat ≤ 288) :
    Scalar.cmpi .slt (BitVec.ofNat 32 (grid0.coords t 0).val) v = 1#1 ↔ t.val < v.toNat := by
  have ht : t.val < 288 := t.isLt
  have e := arg0_toNat t
  refine (StableHlo.Predicate.ofBool_eq_one_iff _).trans ?_
  show (BitVec.ofNat 32 (grid0.coords t 0).val).slt v = true ↔ _
  rw [BitVec.slt, StableHlo.Predicate.toInt_eq_toNat_of_lt (by omega), StableHlo.Predicate.toInt_eq_toNat_of_lt (by omega), decide_eq_true_eq, e]
  omega
theorem cond4_iff (t : Fin grid0.N) {v : BitVec 32} (hv : v.toNat ≤ 288) : k0_cond4 (grid0.coords t) v = 1#1 ↔ t.val < v.toNat := by
  rw [← slt_iff t hv]; exact Iff.of_eq (congrArg (· = 1#1) (ext_ne _))
theorem cond5_iff (t : Fin grid0.N) {v : BitVec 32} (hv : v.toNat ≤ 288) : k0_cond5 (grid0.coords t) v = 1#1 ↔ ¬ t.val < v.toNat := by
  rw [← slt_iff t hv]
  refine (Iff.of_eq (congrArg (· = 1#1) (ext_ne _))).trans ?_
  have h : ∀ b : BitVec 1, Scalar.xori b 1#1 = 1#1 ↔ ¬ b = 1#1 := by decide
  exact h _
theorem cond2_iff (t : Fin grid0.N) {v : BitVec 32} (hv : v.toNat ≤ 288) (a b : BitVec 32) :
    k0_cond2 (grid0.coords t) v a b = 1#1 ↔ t.val < v.toNat ∧ (t.val = 0 ∨ a ≠ b) := by
  rw [← slt_iff t hv, ← cond1_iff t]
  refine (Iff.of_eq (congrArg (· = 1#1) (ext_ne _))).trans ?_
  have h : ∀ p q r : BitVec 1, Scalar.andi p (Scalar.ori q r) = 1#1 ↔ p = 1#1 ∧ (q = 1#1 ∨ r = 1#1) := by decide
  refine (h _ _ _).trans (and_congr Iff.rfl (or_congr (Iff.of_eq (congrArg (· = 1#1) (ext_ne _))).symm ?_))
  refine (StableHlo.Predicate.ofBool_eq_one_iff _).trans ?_
  exact bne_iff_ne
theorem cond3_iff (v : BitVec 32) : k0_cond3 v = 1#1 ↔ v.toNat < 2 ^ 31 := by
  refine (Iff.of_eq (congrArg (· = 1#1) (ext_ne _))).trans ?_
  refine (StableHlo.Predicate.ofBool_eq_one_iff _).trans ?_
  show (0#32).sle v = true ↔ _
  rw [BitVec.sle, decide_eq_true_eq, BitVec.toInt_eq_msb_cond v]
  have h1 := BitVec.msb_eq_false_iff_two_mul_lt (x := v)
  have hv := v.isLt
  cases hm : v.msb
  · rw [hm] at h1; have := h1.mp rfl; simp; omega
  · rw [hm] at h1; have : ¬ 2 * v.toNat < 2 ^ 32 := fun h => absurd (h1.mpr h) (by decide)
    simp; omega

/-! ## What the precondition says -/

/-- Between 1 and 288 live blocks, of experts below 32; each block's table of the next expert names the next live block's expert when
    that is another, agrees with the next live block's when it is not, and names none at the last live block. -/
structure TabOk (be : IVec S288 32) (nb : IVec S1 32) (nx : IVec S288 32) : Prop where
  pos : 1 ≤ (nb (ix1 0)).toNat
  le : (nb (ix1 0)).toNat ≤ 288
  be_lt : ∀ s, s < 288 → (tabN be s).toNat < 32
  nx_lt : ∀ s, s < 288 → (tabN nx s).toNat < 2 ^ 31 → (tabN nx s).toNat < 32
  step : ∀ s, s + 1 < (nb (ix1 0)).toNat → (tabN be s ≠ tabN be (s + 1) ∧ tabN nx s = tabN be (s + 1)) ∨ (tabN be s = tabN be (s + 1) ∧ tabN nx s = tabN nx (s + 1))
  last : ∀ s, s + 1 = (nb (ix1 0)).toNat → ¬ (tabN nx s).toNat < 2 ^ 31

theorem inG_of {v : BitVec 32} (h : v.toNat < 32) : InG v := fun a => by
  match a with
  | ⟨0, _⟩ => show v.toNat + 1 ≤ 32; omega
  | ⟨1, _⟩ => exact Nat.le_refl _
  | ⟨2, _⟩ => exact Nat.le_refl _
theorem inD_of {v : BitVec 32} (h : v.toNat < 32) : InD v := fun a => by
  match a with
  | ⟨0, _⟩ => show v.toNat + 1 ≤ 32; omega
  | ⟨1, _⟩ => exact Nat.le_refl _
  | ⟨2, _⟩ => exact Nat.le_refl _
theorem chk1_of (i : grid0.Coords) {v : BitVec 32} (h : v.toNat < 32) : k0_chk1 i v := ⟨fun _ => inG_of h, fun _ => inD_of h⟩
theorem chk2_of (i : grid0.Coords) (n : BitVec 32) {v : BitVec 32} (w : BitVec 32) (h : v.toNat < 32) : k0_chk2 i n v w := ⟨fun _ => inG_of h, fun _ => inD_of h⟩
theorem chk3_of (i : grid0.Coords) (n v w x : BitVec 32) {y : BitVec 32} (h : y.toNat < 32) : k0_chk3 i n v w x y := ⟨fun _ _ => inG_of h, fun _ _ => inD_of h⟩

end Cert.Proof.Ffn

end
-- ==== Proof.Ffn.Point.lean ====
/-
  One point of the expert kernel's body, whatever its case: from the state before it to the state after it.
-/
module

public import proofs.«01_k».proof.Proof.Ffn.Run
public import proofs.«01_k».proof.Proof.Ffn.Tab

@[expose] public section

set_option maxRecDepth 16384

noncomputable section

namespace Cert.Proof.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section State
variable (c : Dev nD) (fh0 : HbBuf0 (F := F) c hbM0_0) (fh1 : HbBuf0 (F := F) c hbM0_1)
/-- Expert `v`'s weights in the arrays (at a word naming no expert: unused). -/
def gT (v : BitVec 32) : Vec F S1024x2048 .f32 := if h : v.toNat < 32 then gW c fh0 v (inG_of h) else View.canon []
def dT (v : BitVec 32) : Vec F S1024x1024 .f32 := if h : v.toNat < 32 then dW c fh1 v (inD_of h) else View.canon []
theorem gW_eq {v v' : BitVec 32} (e : v = v') (hG : InG v) (h : v'.toNat < 32) : gW c fh0 v hG = gT c fh0 v' := by
  subst e; unfold gT; rw [dif_pos h]
theorem dW_eq {v v' : BitVec 32} (e : v = v') (hD : InD v) (h : v'.toNat < 32) : dW c fh1 v hD = dT c fh1 v' := by
  subst e; unfold dT; rw [dif_pos h]
/-- The next expert's weights in flight, or nothing. -/
def Pend (v : BitVec 32) : sProp 𝕄 := if h : v.toNat < 32 then Fly c fh0 fh1 v (inG_of h) (inD_of h) else Idle c fh0 fh1
theorem Fly_eq {v v' : BitVec 32} (e : v = v') (hG : InG v) (hD : InD v) (h : v'.toNat < 32) : Fly c fh0 fh1 v hG hD = Pend c fh0 fh1 v' := by
  subst e; unfold Pend; rw [dif_pos h]
theorem Idle_eq {v' : BitVec 32} (h : ¬ v'.toNat < 32) : Idle c fh0 fh1 = Pend c fh0 fh1 v' := by unfold Pend; rw [dif_neg h]

variable (be : IVec S288 32) (nb : IVec S1 32) (nx : IVec S288 32)
/-- The last live block before position `n`. -/
abbrev lastLive (n : ℕ) : ℕ := min n (nb (ix1 0)).toNat - 1
/-- The kernel's scratch before position `n`: at the first, anything and nothing in flight; later the cast weights of the last live
    block's expert, the next expert's in flight. -/
def Scr (n : ℕ) : sProp 𝕄 :=
  if n = 0 then iprop((∃ d, owns (c : Thread nD τ) scM0_2 fullShare d) ∗ (∃ d, owns (c : Thread nD τ) scM0_3 fullShare d) ∗ Idle c fh0 fh1)
  else iprop(Cast c (k0_pay1 (gT c fh0 (tabN be (lastLive nb n)))) (k0_pay2 (dT c fh1 (tabN be (lastLive nb n)))) ∗ Pend c fh0 fh1 (tabN nx (lastLive nb n)))
theorem Scr_zero : Scr c fh0 fh1 be nb nx 0 = iprop((∃ d, owns (c : Thread nD τ) scM0_2 fullShare d) ∗ (∃ d, owns (c : Thread nD τ) scM0_3 fullShare d) ∗ Idle c fh0 fh1) := if_pos rfl
theorem Scr_at {n s : ℕ} (hn : n ≠ 0) (hs : lastLive nb n = s) : Scr c fh0 fh1 be nb nx n
    = iprop(Cast c (k0_pay1 (gT c fh0 (tabN be s))) (k0_pay2 (dT c fh1 (tabN be s))) ∗ Pend c fh0 fh1 (tabN nx s)) := by subst hs; exact if_neg hn
/-- What a point leaves in the result's staging buffer. -/
def outAt (n : ℕ) (x0 : Vec F S4096x128 .f32) (x1 : Vec F S1x1x2048 .f32) (x2 : Vec F S1x1x1024 .f32) : Vec F S4096x128 .f32 :=
  if n < (nb (ix1 0)).toNat then outLive x0 x1 x2 (k0_pay1 (gT c fh0 (tabN be n))) (k0_pay2 (dT c fh1 (tabN be n))) else k0_pay12 (F := F)
end State

variable (c : Dev nD) (t : Fin grid0.N) (arg4 : Memref sig .tc .vmem S4096x128 .f32) (harg4 : arg4.IsWhole) (arg6 : Memref sig .tc .vmem S1x1x2048 .f32) (harg6 : arg6.IsWhole) (arg8 : Memref sig .tc .vmem S1x1x1024 .f32) (harg8 : arg8.IsWhole) (arg9 : Memref sig .tc .vmem S4096x128 .f32) (harg9 : arg9.IsWhole)
    (x0 : Vec F S4096x128 .f32) (x1 : Vec F S1x1x2048 .f32) (x2 : Vec F S1x1x1024 .f32) (be : IVec S288 32) (nb : IVec S1 32) (nx : IVec S288 32) (fh0 : HbBuf0 (F := F) c hbM0_0) (fh1 : HbBuf0 (F := F) c hbM0_1)

set_option maxHeartbeats 1000000 in
/-- One point. -/
theorem point (hT : TabOk be nb nx) (W : Waits sig Unit) (K : PUnit → sProp 𝕄) :
    iprop(owns (c : Thread nD τ) arg4 fullShare x0 ∗ owns (c : Thread nD τ) arg6 fullShare x1 ∗ owns (c : Thread nD τ) arg8 fullShare x2 ∗ (∃ d, owns (c : Thread nD τ) arg9 fullShare d) ∗ Tabs c be nb nx ∗ Scr c fh0 fh1 be nb nx t.val ∗ owes (c : Thread nD τ) 0 W
        ∗ (iprop(owns (c : Thread nD τ) arg4 fullShare x0 ∗ owns (c : Thread nD τ) arg6 fullShare x1 ∗ owns (c : Thread nD τ) arg8 fullShare x2 ∗ Tabs c be nb nx ∗ owns (c : Thread nD τ) arg9 fullShare (outAt c fh0 fh1 be nb t.val x0 x1 x2) ∗ Scr c fh0 fh1 be nb nx (t.val + 1) ∗ (∃ W', owes (c : Thread nD τ) 0 W')) -∗ K ⟨⟩))
      ⊢ wp frame (wpE (defs₀ (F := F)) Variants.none c none) Set.univ (bodyP (grid0.coords t) arg4 harg4 arg6 harg6 arg8 harg8 arg9 harg9) K := by
  have ht : t.val < 288 := t.isLt
  have hle := hT.le
  have hpos := hT.pos
  have eb : wBe (F := F) (c := c) (grid0.coords t) be = tabN be t.val := wBe_eq t be
  have ep : wPv (F := F) (c := c) (grid0.coords t) be = tabN be (t.val - 1) := wPv_eq t be
  have en : wNx (F := F) (c := c) (grid0.coords t) nx = tabN nx t.val := wNx_eq t nx
  have em : wNb (F := F) (c := c) nb = nb (ix1 0) := wNb_eq nb
  have hb : (tabN be t.val).toNat < 32 := hT.be_lt _ ht
  have hb' : (wBe (F := F) (c := c) (grid0.coords t) be).toNat < 32 := by rw [eb]; exact hb
  have hw1 : k0_chk1 (grid0.coords t) (wBe (F := F) (c := c) (grid0.coords t) be) := chk1_of _ hb'
  have hw2 : k0_chk2 (grid0.coords t) (wNb (F := F) (c := c) nb) (wBe (F := F) (c := c) (grid0.coords t) be) (wPv (F := F) (c := c) (grid0.coords t) be) := chk2_of _ _ _ hb'
  have c1 : k0_cond1 (grid0.coords t) = 1#1 ↔ t.val = 0 := cond1_iff t
  have c2 : k0_cond2 (grid0.coords t) (wNb (F := F) (c := c) nb) (wBe (F := F) (c := c) (grid0.coords t) be) (wPv (F := F) (c := c) (grid0.coords t) be) = 1#1
      ↔ t.val < (nb (ix1 0)).toNat ∧ (t.val = 0 ∨ tabN be t.val ≠ tabN be (t.val - 1)) := by rw [eb, ep, em]; exact cond2_iff t hle _ _
  have c3 : k0_cond3 (wNx (F := F) (c := c) (grid0.coords t) nx) = 1#1 ↔ (tabN nx t.val).toNat < 2 ^ 31 := by rw [en]; exact cond3_iff _
  have c4 : k0_cond4 (grid0.coords t) (wNb (F := F) (c := c) nb) = 1#1 ↔ t.val < (nb (ix1 0)).toNat := by rw [em]; exact cond4_iff t hle
  have c5 : k0_cond5 (grid0.coords t) (wNb (F := F) (c := c) nb) = 1#1 ↔ ¬ t.val < (nb (ix1 0)).toNat := by rw [em]; exact cond5_iff t hle
  by_cases hl : t.val < (nb (ix1 0)).toNat
  · have s1 : lastLive nb (t.val + 1) = t.val := by show min _ _ - 1 = _; omega
    rw [Scr_at c fh0 fh1 be nb nx (Nat.succ_ne_zero _) s1, show outAt c fh0 fh1 be nb t.val x0 x1 x2 = outLive x0 x1 x2 (k0_pay1 (gT c fh0 (tabN be t.val))) (k0_pay2 (dT c fh1 (tabN be t.val))) from if_pos hl]
    have hc4 := c4.mpr hl
    have hc5 : ¬ _ := fun h => c5.mp h hl
    by_cases h0 : t.val = 0
    · rw [show Scr c fh0 fh1 be nb nx t.val = _ from (congrArg (Scr c fh0 fh1 be nb nx) h0).trans (Scr_zero c fh0 fh1 be nb nx)]
      by_cases hn : (tabN nx t.val).toNat < 2 ^ 31
      · have hn32 := hT.nx_lt _ ht hn
        have hn' : (wNx (F := F) (c := c) (grid0.coords t) nx).toNat < 32 := by rw [en]; exact hn32
        have R := run_first_next c (grid0.coords t) arg4 harg4 arg6 harg6 arg8 harg8 arg9 harg9 x0 x1 x2 be nb nx fh0 fh1 (c1.mpr h0) (c2.mpr ⟨hl, Or.inl h0⟩) (c3.mpr hn) hc4 hc5 hw1 hw2 (chk3_of _ _ _ _ _ hn') (inG_of hb') (inD_of hb') (inG_of hn') (inD_of hn') W K
        rw [gW_eq c fh0 eb _ hb, dW_eq c fh1 eb _ hb, Fly_eq c fh0 fh1 en _ _ hn32] at R
        refine .trans ?_ R
        iintro ⟨H0, H1, H2, H3, HT, ⟨Ha, Hb, HI⟩, HW, Hk⟩
        isplitl [H0]; · iexact H0
        isplitl [H1]; · iexact H1
        isplitl [H2]; · iexact H2
        isplitl [H3]; · iexact H3
        isplitl [HT]; · iexact HT
        isplitl [Ha]; · iexact Ha
        isplitl [Hb]; · iexact Hb
        isplitl [HI]; · iexact HI
        isplitl [HW]; · iexact HW
        iintro ⟨H0, H1, H2, HT, H3, HC, HP, HW⟩
        iapply Hk
        isplitl [H0]; · iexact H0
        isplitl [H1]; · iexact H1
        isplitl [H2]; · iexact H2
        isplitl [HT]; · iexact HT
        isplitl [H3]; · iexact H3
        isplitl [HC HP]
        · isplitl [HC]; · iexact HC
          iexact HP
        iexact HW
      · have hn32 : ¬ (tabN nx t.val).toNat < 32 := by omega
        have R := run_first_last c (grid0.coords t) arg4 harg4 arg6 harg6 arg8 harg8 arg9 harg9 x0 x1 x2 be nb nx fh0 fh1 (c1.mpr h0) (c2.mpr ⟨hl, Or.inl h0⟩) (fun h => hn (c3.mp h)) hc4 hc5 hw1 hw2 (inG_of hb') (inD_of hb') W K
        rw [gW_eq c fh0 eb _ hb, dW_eq c fh1 eb _ hb] at R
        refine .trans ?_ R
        rw [← Idle_eq c fh0 fh1 hn32]
        iintro ⟨H0, H1, H2, H3, HT, ⟨Ha, Hb, HI⟩, HW, Hk⟩
        isplitl [H0]; · iexact H0
        isplitl [H1]; · iexact H1
        isplitl [H2]; · iexact H2
        isplitl [H3]; · iexact H3
        isplitl [HT]; · iexact HT
        isplitl [Ha]; · iexact Ha
        isplitl [Hb]; · iexact Hb
        isplitl [HI]; · iexact HI
        isplitl [HW]; · iexact HW
        iintro ⟨H0, H1, H2, HT, H3, HC, HP, HW⟩
        iapply Hk
        isplitl [H0]; · iexact H0
        isplitl [H1]; · iexact H1
        isplitl [H2]; · iexact H2
        isplitl [HT]; · iexact HT
        isplitl [H3]; · iexact H3
        isplitl [HC HP]
        · isplitl [HC]; · iexact HC
          iexact HP
        iexact HW
    · have s0 : lastLive nb t.val = t.val - 1 := by show min _ _ - 1 = _; omega
      have e1 : t.val - 1 + 1 = t.val := by omega
      rw [Scr_at c fh0 fh1 be nb nx h0 s0]
      have hst := hT.step (t.val - 1) (by omega)
      rw [e1] at hst
      by_cases hd : tabN be t.val = tabN be (t.val - 1)
      · have hst := (hst.resolve_left fun h => h.1 hd.symm).2
        rw [hst, ← hd]
        have R := run_same c (grid0.coords t) arg4 harg4 arg6 harg6 arg8 harg8 arg9 harg9 x0 x1 x2 be nb nx (k0_pay1 (gT c fh0 (tabN be t.val))) (k0_pay2 (dT c fh1 (tabN be t.val))) (fun h => h0 (c1.mp h)) (fun h => (c2.mp h).2.elim h0 fun h => h hd) hc4 hc5 hw1 hw2 W K
        refine .trans ?_ R
        iintro ⟨H0, H1, H2, H3, HT, ⟨HC, HP⟩, HW, Hk⟩
        isplitl [H0]; · iexact H0
        isplitl [H1]; · iexact H1
        isplitl [H2]; · iexact H2
        isplitl [H3]; · iexact H3
        isplitl [HT]; · iexact HT
        isplitl [HC]; · iexact HC
        isplitl [HW]; · iexact HW
        iintro ⟨H0, H1, H2, HT, H3, HC, HW⟩
        iapply Hk
        isplitl [H0]; · iexact H0
        isplitl [H1]; · iexact H1
        isplitl [H2]; · iexact H2
        isplitl [HT]; · iexact HT
        isplitl [H3]; · iexact H3
        isplitl [HC HP]
        · isplitl [HC]; · iexact HC
          iexact HP
        iexact HW
      · have hst := (hst.resolve_right fun h => hd h.1.symm).2
        rw [hst]
        by_cases hn : (tabN nx t.val).toNat < 2 ^ 31
        · have hn32 := hT.nx_lt _ ht hn
          have hn' : (wNx (F := F) (c := c) (grid0.coords t) nx).toNat < 32 := by rw [en]; exact hn32
          have R := run_new_next c (grid0.coords t) arg4 harg4 arg6 harg6 arg8 harg8 arg9 harg9 x0 x1 x2 be nb nx fh0 fh1 (fun h => h0 (c1.mp h)) (c2.mpr ⟨hl, Or.inr hd⟩) (c3.mpr hn) hc4 hc5 hw1 hw2 (chk3_of _ _ _ _ _ hn') (inG_of hb') (inD_of hb') (inG_of hn') (inD_of hn') W K
          rw [gW_eq c fh0 eb _ hb, dW_eq c fh1 eb _ hb, Fly_eq c fh0 fh1 en _ _ hn32, Fly_eq c fh0 fh1 eb _ _ hb] at R
          refine .trans ?_ R
          unfold Cast
          iintro ⟨H0, H1, H2, H3, HT, ⟨⟨Ha, Hb⟩, HI⟩, HW, Hk⟩
          isplitl [H0]; · iexact H0
          isplitl [H1]; · iexact H1
          isplitl [H2]; · iexact H2
          isplitl [H3]; · iexact H3
          isplitl [HT]; · iexact HT
          isplitl [Ha]; · iexists _; iexact Ha
          isplitl [Hb]; · iexists _; iexact Hb
          isplitl [HI]; · iexact HI
          isplitl [HW]; · iexact HW
          iintro ⟨H0, H1, H2, HT, H3, HC, HP, HW⟩
          iapply Hk
          isplitl [H0]; · iexact H0
          isplitl [H1]; · iexact H1
          isplitl [H2]; · iexact H2
          isplitl [HT]; · iexact HT
          isplitl [H3]; · iexact H3
          isplitl [HC HP]
          · isplitl [HC]; · iexact HC
            iexact HP
          iexact HW
        · have hn32 : ¬ (tabN nx t.val).toNat < 32 := by omega
          have R := run_new_last c (grid0.coords t) arg4 harg4 arg6 harg6 arg8 harg8 arg9 harg9 x0 x1 x2 be nb nx fh0 fh1 (fun h => h0 (c1.mp h)) (c2.mpr ⟨hl, Or.inr hd⟩) (fun h => hn (c3.mp h)) hc4 hc5 hw1 hw2 (inG_of hb') (inD_of hb') W K
          rw [gW_eq c fh0 eb _ hb, dW_eq c fh1 eb _ hb, Fly_eq c fh0 fh1 eb _ _ hb] at R
          refine .trans ?_ R
          rw [← Idle_eq c fh0 fh1 hn32]
          unfold Cast
          iintro ⟨H0, H1, H2, H3, HT, ⟨⟨Ha, Hb⟩, HI⟩, HW, Hk⟩
          isplitl [H0]; · iexact H0
          isplitl [H1]; · iexact H1
          isplitl [H2]; · iexact H2
          isplitl [H3]; · iexact H3
          isplitl [HT]; · iexact HT
          isplitl [Ha]; · iexists _; iexact Ha
          isplitl [Hb]; · iexists _; iexact Hb
          isplitl [HI]; · iexact HI
          isplitl [HW]; · iexact HW
          iintro ⟨H0, H1, H2, HT, H3, HC, HP, HW⟩
          iapply Hk
          isplitl [H0]; · iexact H0
          isplitl [H1]; · iexact H1
          isplitl [H2]; · iexact H2
          isplitl [HT]; · iexact HT
          isplitl [H3]; · iexact H3
          isplitl [HC HP]
          · isplitl [HC]; · iexact HC
            iexact HP
          iexact HW
  · have h0 : t.val ≠ 0 := by omega
    have s0 : lastLive nb t.val = lastLive nb (t.val + 1) := by show min _ _ - 1 = min _ _ - 1; omega
    rw [show Scr c fh0 fh1 be nb nx t.val = Scr c fh0 fh1 be nb nx (t.val + 1) from (Scr_at c fh0 fh1 be nb nx h0 s0).trans (Scr_at c fh0 fh1 be nb nx (Nat.succ_ne_zero _) rfl).symm,
      show outAt c fh0 fh1 be nb t.val x0 x1 x2 = k0_pay12 (F := F) from if_neg hl]
    have R := run_dead c (grid0.coords t) arg4 harg4 arg6 harg6 arg8 harg8 arg9 harg9 x0 x1 x2 be nb nx (fun h => h0 (c1.mp h)) (fun h => hl (c2.mp h).1) (fun h => hl (c4.mp h)) (c5.mpr hl) hw1 hw2 W K
    refine .trans ?_ R
    iintro ⟨H0, H1, H2, H3, HT, HS, HW, Hk⟩
    isplitl [H0]; · iexact H0
    isplitl [H1]; · iexact H1
    isplitl [H2]; · iexact H2
    isplitl [H3]; · iexact H3
    isplitl [HT]; · iexact HT
    isplitl [HW]; · iexact HW
    iintro ⟨H0, H1, H2, HT, H3, HW⟩
    iapply Hk
    isplitl [H0]; · iexact H0
    isplitl [H1]; · iexact H1
    isplitl [H2]; · iexact H2
    isplitl [HT]; · iexact HT
    isplitl [H3]; · iexact H3
    isplitl [HS]; · iexact HS
    iexact HW

end Cert.Proof.Ffn

end
-- ==== Proof.Ffn.Launch.lean ====
/-
  The expert kernel's launch: the pipeline's proof data, the body obligation, the run, and the frame.
-/
module

public import proofs.«01_k».proof.Proof.Ffn.Point

@[expose] public section

set_option maxRecDepth 16384

noncomputable section

namespace Cert.Proof.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The tables the launch memory holds say what the kernel relies on. -/
abbrev Tok : Prop := TabOk (tbl m 0) (tbl m 1) (tbl m 2)

/-- What point `t` leaves in the result's block. -/
def out3 (hO : Ok m) (c : Dev nD) (t : Fin (cfgM m hO).N) : Vec F S4096x128 .f32 :=
  outAt c (V m c main_arg4) (V m c main_arg6) (tbl m 0) (tbl m 1) t.val (iblk m hO c 0 t) (iblk m hO c 1 t) (iblk m hO c 2 t)

/-- The invariant before position `n`. -/
def Inv (c : Dev nD) (n : ℕ) : sProp 𝕄 :=
  iprop((∃ r, prngReg c r) ∗ Tabs c (tbl m 0) (tbl m 1) (tbl m 2) ∗ Scr c (V m c main_arg4) (V m c main_arg6) (tbl m 0) (tbl m 1) (tbl m 2) n)

def dats (hO : Ok m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => out3 m hO c t
  Φ t := Inv m c t.val
  q _ := fullShare
  owed _ := 0

theorem A_eq (hO : Ok m) (c : Dev nD) (w : Fin (cfgM m hO).W) : (dats m hO 0 c).A w = V m c (Pipeline.arrRef spec0 w) := by
  dsimp only [dats]
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = out3 m hO c t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-- Every point writes its block of the result back. -/
theorem flush3 (a : (pcfg0 (F := F)).Adm) : ∀ t : Fin (cfg0 a).N, ((cfg0 a).win 3).flush t = true :=
  (fun t => (Pipeline.Window.flushOf_reads cc0_transform_5 reads0_3 hreads0_3 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-! ## The body obligation -/

abbrev bodyT (hO : Ok m) (t : Fin (cfgM m hO).N) : Prog (TpuEff nD τ sig (Elt F) Λ₀ .tc) PUnit :=
  bodyP (grid0.coords t) (ms0_0 m hO t) (hs0_0 m hO t) (ms0_1 m hO t) (hs0_1 m hO t) (ms0_2 m hO t) (hs0_2 m hO t) (ms0_3 m hO t) (hs0_3 m hO t)

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t))

set_option maxHeartbeats 800000 in
theorem sound_body (hO : Ok m) (hT : Tok m) (c : Dev nD) (t : Fin (cfgM m hO).N) :
    bodyPre m hO c t ⊢ wp frame (wpE (defs₀ (F := F)) Variants.none c none) Set.univ (bodyT m hO t) (fun _ => bodyPost m hO c t) := by
  unfold bodyPre bodyPost
  simp only [before0_0, before0_1, before0_2]
  rw [after0_0, after0_1, after0_2, after0_3, show (dats m hO 0 c).Φ t.castSucc = Inv m c t.val from rfl, show (dats m hO 0 c).Φ t.succ = Inv m c (t.val + 1) from rfl]
  unfold Inv Dat.owesAt Pipeline.owesWithin
  rw [show (dats m hO 0 c).owed t.castSucc = 0 from rfl, show (dats m hO 0 c).owed t.succ = 0 from rfl]
  iintro ⟨⟨Hg, HT, HS⟩, ⟨%W, -, HW⟩, ⟨%d0, H0⟩, ⟨%d1, H1⟩, ⟨%d2, H2⟩, ⟨%d3, H3⟩⟩
  iapply (point c t (ms0_0 m hO t) (hs0_0 m hO t) (ms0_1 m hO t) (hs0_1 m hO t) (ms0_2 m hO t) (hs0_2 m hO t) (ms0_3 m hO t) (hs0_3 m hO t) (iblk m hO c 0 t) (iblk m hO c 1 t) (iblk m hO c 2 t) (tbl m 0) (tbl m 1) (tbl m 2) (V m c main_arg4) (V m c main_arg6) hT W _)
  isplitl [H0]; · iexact H0
  isplitl [H1]; · iexact H1
  isplitl [H2]; · iexact H2
  isplitl [H3]; · iexists _; iexact H3
  isplitl [HT]; · iexact HT
  isplitl [HS]; · iexact HS
  isplitl [HW]; · iexact HW
  iintro ⟨H0, H1, H2, HT, H3, HS, ⟨%W', HW'⟩⟩
  isplitl [Hg HT HS]
  · isplitl [Hg]; · iexact Hg
    isplitl [HT]; · iexact HT
    iexact HS
  isplitl [HW']
  · iexists W'; isplitr; · ipureintro; exact fun _ _ => Or.inl trivial
    iexact HW'
  isplitl [H0]; · iexact H0
  isplitl [H1]; · iexact H1
  isplitl [H2]; · iexact H2
  iexact H3

theorem defs₀_row (hO : Ok m) (t : Fin (cfgM m hO).N) :
    defs₀ (F := F) .tc (cfgM m hO).body ((cfgM m hO).bodyArgs t ((cfgM m hO).slots t)) = bodyT m hO t := by
  unfold defs₀; rw [Defs.onTc_tc]

theorem leaves3 (hO : Ok m) (c : Dev nD) (t : Fin (cfgM m hO).N) (X Y : sProp 𝕄) :
    X ⊢ (match (cfgM m hO).idle 3 ((cfgM m hO).grid.coords t) with
      | true => match ((cfgM m hO).win 3).flush t with
        | false => Y
        | true => X
      | false => X) := by
  cases (cfgM m hO).idle 3 ((cfgM m hO).grid.coords t)
  · exact .rfl
  · rw [show ((cfgM m hO).win 3).flush t = true from flush3 (adm m hO) t]

theorem body_obligation (hO : Ok m) (hT : Tok m) (c : Dev nD) : BodyObligation (dats (F := F) m hO 0 c) (defs₀ (F := F)) Variants.none () Set.univ := fun t => by
  rw [bigSep_W0, bigSep_W0, defs₀_row m hO]
  refine triple_restated (sound_body m hO hT c t) rfl .rfl fun _ => ?_
  unfold bodyPost
  exact sep_mono .rfl (sep_mono .rfl (sep_mono .rfl (sep_mono .rfl (sep_mono .rfl (leaves3 m hO c t _ _)))))

/-! ## Into the invariant and out of it -/

theorem inv_in (c : Dev nD) : iprop(Pipeline.ΦD osem0 spec0 H0 (V m) c ∗ Pipeline.ΦT pre0 (tbl m) c) ⊢ (Inv m c 0 : sProp 𝕄) := by
  rw [PhiD0_eq, PhiT0_eq]
  unfold Inv
  rw [Scr_zero c _ _ (tbl m 0) (tbl m 1) (tbl m 2)]
  unfold Tabs Idle
  iintro ⟨⟨⟨HS0, HS1, HS2, HS3⟩, Hg, ⟨Hq0, Hq1⟩, ⟨Hh0, Hh1⟩⟩, HT⟩
  isplitl [Hg]; · iexact Hg
  isplitl [HT]; · iexact HT
  isplitl [HS2]; · iexact HS2
  isplitl [HS3]; · iexact HS3
  isplitl [HS0]; · iexact HS0
  isplitl [HS1]; · iexact HS1
  isplitl [Hq0]; · iexact Hq0
  isplitl [Hq1]; · iexact Hq1
  isplitl [Hh0]; · iexact Hh0
  iexact Hh1

theorem inv_out (hT : Tok m) (c : Dev nD) : (Inv m c 288 : sProp 𝕄) ⊢ Pipeline.ΦD osem0 spec0 H0 (V m) c := by
  have hle := hT.le
  have hpos := hT.pos
  have hl : lastLive (tbl m 1) 288 = ((tbl m 1 : IVec S1 32) (ix1 0)).toNat - 1 := by show min _ _ - 1 = _; rw [Nat.min_eq_right hle]
  have hn := hT.last (((tbl m 1 : IVec S1 32) (ix1 0)).toNat - 1) (Nat.sub_add_cancel hpos)
  rw [PhiD0_eq]
  unfold Inv
  rw [Scr_at c _ _ (tbl m 0) (tbl m 1) (tbl m 2) (by decide) hl, ← Idle_eq c _ _ (fun h => hn (Nat.lt_trans h (by decide)))]
  unfold Cast Idle
  iintro ⟨Hg, -, ⟨HS2, HS3⟩, HS0, HS1, Hq0, Hq1, Hh0, Hh1⟩
  isplitl [HS0 HS1 HS2 HS3]
  · isplitl [HS0]; · iexact HS0
    isplitl [HS1]; · iexact HS1
    isplitl [HS2]; · iexists _; iexact HS2
    iexists _; iexact HS3
  isplitl [Hg]; · iexact Hg
  isplitl [Hq0 Hq1]
  · isplitl [Hq0]; · iexact Hq0
    iexact Hq1
  isplitl [Hh0]; · iexact Hh0
  iexact Hh1

/-! ## The run and the frame -/

set_option backward.isDefEq.respectTransparency.types false in
theorem run_main (hO : Ok m) (hT : Tok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_dma (Q' := _) pcfgs (fun _ => adm m hO) (dats m hO) (0 : Fin 1) launch0 osem0 defs₀ Variants.none ownSemFacts0 H0 H0_sub m ρ main
    (hbody := fun c => (body_obligation m hO hT c).loose) (hshare := fun c => (dats m hO 0 c).share_full fun _ => rfl)
    (howed := fun _ _ => rfl) (V := V m) (hmain := hmain m Variants.none) (hA := A_eq m hO) (hpf := V_pre m)
    (hin := fun c => inv_in m c) (hout := fun c => inv_out m hT c)

theorem frame_run (hO : Ok m) (hT : Tok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ hO (dats m hO) (A_eq m hO) ((θ_run defs _ _).mono (fun _ h => h.1) (run_main m ρ hO hT))) ((θ_run defs _ _).mono (fun _ h => h.2) (run_main m ρ hO hT))

end Cert.Proof.Ffn

end
-- ==== Proof.Ffn.Pre.lean ====
/-
  The precondition decoded: the tables name experts and blocks inside their arrays and agree with one another.
-/
module

public import proofs.«01_k».proof.Proof.Ffn.Launch
public import proofs.«01_k».proof.Proof.Gen.Pre_tables_ok
public import proofs.«01_k».proof.Defs

@[expose] public section

set_option maxRecDepth 16384

noncomputable section

namespace Cert.Proof.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem and_one (a b : BitVec 1) : IntOp.andi a b = 1#1 ↔ a = 1#1 ∧ b = 1#1 := by revert a b; decide
theorem or_one (a b : BitVec 1) : IntOp.ori a b = 1#1 ↔ a = 1#1 ∨ b = 1#1 := by revert a b; decide
theorem sge_one (x y : BitVec 32) : IntOp.cmpi .sge x y = 1#1 ↔ y.toInt ≤ x.toInt :=
  (StableHlo.Predicate.ofBool_eq_one_iff _).trans (by show y.sle x = true ↔ _; rw [BitVec.sle, decide_eq_true_eq])
theorem sle_one (x y : BitVec 32) : IntOp.cmpi .sle x y = 1#1 ↔ x.toInt ≤ y.toInt :=
  (StableHlo.Predicate.ofBool_eq_one_iff _).trans (by show x.sle y = true ↔ _; rw [BitVec.sle, decide_eq_true_eq])
theorem slt_one (x y : BitVec 32) : IntOp.cmpi .slt x y = 1#1 ↔ x.toInt < y.toInt :=
  (StableHlo.Predicate.ofBool_eq_one_iff _).trans (by show x.slt y = true ↔ _; rw [BitVec.slt, decide_eq_true_eq])
theorem eq_one (x y : BitVec 32) : IntOp.cmpi .eq x y = 1#1 ↔ x = y :=
  (StableHlo.Predicate.ofBool_eq_one_iff _).trans beq_iff_eq
theorem ne_one (x y : BitVec 32) : IntOp.cmpi .ne x y = 1#1 ↔ x ≠ y :=
  (StableHlo.Predicate.ofBool_eq_one_iff _).trans bne_iff_ne
theorem nb_any (nb : IVec S1 32) (y : S1.Idx) : nb y = nb (ix1 0) := by
  congr 1; funext a; match a with | ⟨0, _⟩ => exact Fin.ext (Nat.lt_one_iff.mp (y 0).isLt)
theorem toInt_cond (x : BitVec 32) : x.toInt = if 2 * x.toNat < 4294967296 then (x.toNat : ℤ) else (x.toNat : ℤ) - 4294967296 := BitVec.toInt_eq_toNat_cond x

theorem sub_one_toNat (v : BitVec 32) (h : 1 ≤ v.toNat) : (IntOp.subi v 1#32).toNat = v.toNat - 1 := by
  show (v - 1#32).toNat = _
  have hv := v.isLt
  simp only [BitVec.toNat_sub, BitVec.toNat_ofNat]
  omega

theorem tabOk_of [Cert.Pre_tables_ok.Facts] (a0 : FVec F S1179648x128 .f32) (be : IVec S288 32) (nb : IVec S1 32) (nx : IVec S288 32)
    (a4 : FVec F S32x1024x2048 .f32) (a5 : FVec F S32x2048 .f32) (a6 : FVec F S32x1024x1024 .f32) (a7 : FVec F S32x1024 .f32)
    (h1 : (Cert.Pre_tables_ok.fn (F := F) a0 be nb nx a4 a5 a6 a7).1 = fun _ => 1#1)
    (h2 : (Cert.Pre_tables_ok.fn (F := F) a0 be nb nx a4 a5 a6 a7).2.1 = fun _ => 1#1)
    (h3 : (Cert.Pre_tables_ok.fn (F := F) a0 be nb nx a4 a5 a6 a7).2.2.1 = fun _ => 1#1)
    (h4 : (Cert.Pre_tables_ok.fn (F := F) a0 be nb nx a4 a5 a6 a7).2.2.2.1 = fun _ => 1#1)
    (h5 : (Cert.Pre_tables_ok.fn (F := F) a0 be nb nx a4 a5 a6 a7).2.2.2.2 = fun _ => 1#1) : TabOk be nb nx := by
  have q1 := congrFun h1 (ix1 (0 : Fin 288))
  have q2 := fun s : Fin 288 => congrFun h2 (ix1 s)
  have q3 := fun s : Fin 288 => congrFun h3 (ix1 s)
  have q4 := fun s : Fin 287 => congrFun h4 (ix1 s)
  have q5 := fun s : Fin 288 => congrFun h5 (ix1 s)
  clear h1 h2 h3 h4 h5
  simp only [Cert.Pre_tables_ok.fn, Cert.Pre_tables_ok.fn_part1, constantI, broadcastInDim, cmpi, andi, ori, subi, iotaInDim, extractStridedSlice,
    and_one, or_one, sge_one, sle_one, slt_one, eq_one, ne_one] at q1 q2 q3 q4 q5
  rw [nb_any nb] at q1
  have v1 : (1#32).toInt = 1 := by decide
  have v288 : (288#32).toInt = 288 := by decide
  have v0 : (0#32).toInt = 0 := by decide
  have v31 : (31#32).toInt = 31 := by decide
  rw [v1, v288, toInt_cond] at q1
  have hlt := (nb (ix1 0)).isLt
  have hn : 1 ≤ (nb (ix1 0)).toNat ∧ (nb (ix1 0)).toNat ≤ 288 := by
    obtain ⟨ha, hb⟩ := q1
    split at ha <;> omega
  refine ⟨hn.1, hn.2, fun s hs => ?_, fun s hs hp => ?_, fun s hs => ?_, fun s hs => ?_⟩
  · obtain ⟨ha, hb⟩ := q2 ⟨s, hs⟩
    rw [v0, toInt_cond] at ha
    rw [v31, toInt_cond] at hb
    rw [tabN_of be hs]
    have := (be (ix1 ⟨s, hs⟩)).isLt
    split at ha <;> omega
  · have hb := q3 ⟨s, hs⟩
    rw [v31, toInt_cond] at hb
    rw [tabN_of nx hs] at hp ⊢
    split at hb <;> omega
  · have hs' : s < 287 := by omega
    have q := q4 ⟨s, hs'⟩
    rcases q with (h | ⟨ha, hb⟩) | ⟨ha, hb⟩
    · exfalso
      rw [nb_any nb, toInt_cond, StableHlo.Predicate.toInt_ofNat_small _ (by show 1 + s < 2 ^ 31; omega)] at h
      have h : (if 2 * (nb (ix1 0)).toNat < 4294967296 then ((nb (ix1 0)).toNat : ℤ) else ((nb (ix1 0)).toNat : ℤ) - 4294967296) ≤ ((1 + s : ℕ) : ℤ) := h
      split at h <;> omega
    · refine Or.inl ⟨fun e => ha ?_, ?_⟩
      · exact (idx1_eq (s := s) (by omega) _ (Nat.zero_add _)).trans (e.trans (idx1_eq (s := s + 1) (by omega) _ (Nat.add_comm _ _)).symm)
      · exact (idx1_eq (s := s) (by omega) _ (Nat.zero_add _)).symm.trans (hb.trans (idx1_eq (s := s + 1) (by omega) _ (Nat.add_comm _ _)))
    · refine Or.inr ⟨?_, ?_⟩
      · exact (idx1_eq (s := s) (by omega) _ (Nat.zero_add _)).symm.trans (ha.trans (idx1_eq (s := s + 1) (by omega) _ (Nat.add_comm _ _)))
      · exact (idx1_eq (s := s) (by omega) _ (Nat.zero_add _)).symm.trans (hb.trans (idx1_eq (s := s + 1) (by omega) _ (Nat.add_comm _ _)))
  · have hs' : s < 288 := by omega
    have e : IntOp.subi (nb (ix1 0)) 1#32 = BitVec.ofNat 32 s := by
      apply BitVec.eq_of_toNat_eq
      rw [sub_one_toNat _ hn.1, BitVec.toNat_ofNat]
      omega
    have q := (q5 ⟨s, hs'⟩).resolve_left fun h => h (by rw [nb_any nb]; exact e.symm)
    rw [v0, toInt_cond] at q
    rw [tabN_of nx hs']
    split at q <;> omega

/-! ## The pipeline's own side condition: every block named by the tables lies inside its array -/

theorem ok_of (m : (ℓ : Loc nD τ sig) → Buf (Elt F) ℓ) (hT : Tok m) : Ok m := by
  have e0 : ∀ t : Fin grid0.N, (tbl m 0 : IVec S288 32) ((Rect.unit (s := S288) (k0_off1 (grid0.coords t)) S1.size (k0_off1_inb (grid0.coords t))).toLoadRect.idx (Shape.Idx.first (numel1_S1.symm ▸ Nat.one_pos))) = tabN (tbl m 0) t.val := fun t =>
    wBe_eq (F := F) (c := 0) t (tbl m 0)
  have hle := hT.le
  have hpos := hT.pos
  have key : ∀ t : Fin grid0.N, cc0_transform_0 inb_S1_S1_0 numel1_S1 (tbl m) (grid0.coords t) 0 < 288 := fun t => by
    have e1 : (tbl m 1 : IVec S1 32) ((Rect.unit (s := S1) ![0] S1.size inb_S1_S1_0).toLoadRect.idx (Shape.Idx.first (numel1_S1.symm ▸ Nat.one_pos))) = (tbl m 1 : IVec S1 32) (ix1 0) := nb_any _ _
    show (IntOp.minsi (BitVec.ofNat 32 (grid0.coords t 0).val) (IntOp.subi ((tbl m 1 : IVec S1 32) ((Rect.unit (s := S1) ![0] S1.size inb_S1_S1_0).toLoadRect.idx (Shape.Idx.first (numel1_S1.symm ▸ Nat.one_pos)))) 1#32)).toNat < 288
    rw [e1]
    have ea := arg0_toNat t
    have ht : t.val < 288 := t.isLt
    have es : (IntOp.subi ((tbl m 1 : IVec S1 32) (ix1 0)) 1#32).toNat = ((tbl m 1 : IVec S1 32) (ix1 0)).toNat - 1 := sub_one_toNat _ hpos
    unfold IntOp.minsi
    split
    · rw [ea]; exact ht
    · rw [es]; omega
  have all : ∀ i : grid0.Coords, ∃ t : Fin grid0.N, grid0.coords t = i := fun i => by
    refine ⟨⟨(i 0).val, (i 0).isLt⟩, ?_⟩
    funext a
    match a with
    | ⟨0, _⟩ => exact Fin.ext (coords_val _)
  refine ⟨fun i => ?_, fun i => ?_, fun i => ?_⟩
  · obtain ⟨t, rfl⟩ := all i
    refine ⟨fun a => ?_, Or.inl rfl⟩
    have := key t
    match a with
    | ⟨0, _⟩ => show (cc0_transform_0 inb_S1_S1_0 numel1_S1 (tbl m) (grid0.coords t) 0 + 1) * 4096 ≤ 1179648; omega
    | ⟨1, _⟩ => exact Nat.le_of_eq rfl
  · obtain ⟨t, rfl⟩ := all i
    refine ⟨fun a => ?_, Or.inl rfl⟩
    have hb := hT.be_lt t.val t.isLt
    match a with
    | ⟨0, _⟩ =>
      show (((tbl m 0 : IVec S288 32) ((Rect.unit (s := S288) (k0_off1 (grid0.coords t)) S1.size (k0_off1_inb (grid0.coords t))).toLoadRect.idx (Shape.Idx.first (numel1_S1.symm ▸ Nat.one_pos)))).toNat + 1) * 1 ≤ 32
      rw [e0]; omega
    | ⟨1, _⟩ => exact Nat.le_of_eq rfl
    | ⟨2, _⟩ => exact Nat.le_of_eq rfl
  · obtain ⟨t, rfl⟩ := all i
    refine ⟨fun a => ?_, Or.inl rfl⟩
    have hb := hT.be_lt t.val t.isLt
    match a with
    | ⟨0, _⟩ =>
      show (((tbl m 0 : IVec S288 32) ((Rect.unit (s := S288) (k0_off1 (grid0.coords t)) S1.size (k0_off1_inb (grid0.coords t))).toLoadRect.idx (Shape.Idx.first (numel1_S1.symm ▸ Nat.one_pos)))).toNat + 1) * 1 ≤ 32
      rw [e0]; omega
    | ⟨1, _⟩ => exact Nat.le_of_eq rfl
    | ⟨2, _⟩ => exact Nat.le_of_eq rfl

/-- The tables are what memory held at the launch. -/
theorem tbl0_eq (m : (ℓ : Loc nD τ sig) → Buf (Elt F) ℓ) : (tbl m 0 : IVec S288 32) = m (((0 : Dev nD) : Thread nD τ).loc main_arg1) := V_kept m 0 main_arg1 (by decide) (by decide)
theorem tbl1_eq (m : (ℓ : Loc nD τ sig) → Buf (Elt F) ℓ) : (tbl m 1 : IVec S1 32) = m (((0 : Dev nD) : Thread nD τ).loc main_arg2) := V_kept m 0 main_arg2 (by decide) (by decide)
theorem tbl2_eq (m : (ℓ : Loc nD τ sig) → Buf (Elt F) ℓ) : (tbl m 2 : IVec S288 32) = m (((0 : Dev nD) : Thread nD τ).loc main_arg3) := V_kept m 0 main_arg3 (by decide) (by decide)

end Cert.Proof.Ffn

namespace Cert.Proof.Ffn
open Cert.Kernel3Ideal Cert.Kernel3Ideal.Gen
open Idealize.ShloMosaic Idealize.ShloMosaic.TcCoe

theorem tok_of_pre [Cert.Pre_tables_ok.Facts] (m : (ℓ : Loc nD τ sig) → Buf (Elt Ideal) ℓ) (h : Cert.Pre_Kernel3Ideal m) : Tok m := by
  obtain ⟨h1, h2, h3, h4, h5⟩ := h 0
  unfold Tok
  rw [tbl0_eq m, tbl1_eq m, tbl2_eq m]
  exact tabOk_of (F := Ideal) _ _ _ _ _ _ _ _ h1 h2 h3 h4 h5

theorem frame_ideal [hP : Cert.Pre_tables_ok.Facts] : Cert.quiescent_Kernel3Ideal (hKernel3Ideal := Cert.Kernel3Ideal.Gen.facts) (hPre_tables_ok := hP) :=
  fun m ρ h => frame_run m ρ (ok_of m (tok_of_pre m h)) (tok_of_pre m h)

end Cert.Proof.Ffn

end
-- ==== Proof.Ffn.Bits.lean ====
/-
  The frame of the expert kernel as it is printed: its program is the ideal one's text, so the run proved of that text at any reading of
  the floats is its run.
-/
module

public import proofs.«01_k».proof.Proof.Ffn.Pre
public import proofs.«01_k».proof.Proof.Gen.Kernel3

@[expose] public section

set_option maxRecDepth 16384
noncomputable section

namespace Cert.Proof.Ffn
open Idealize.ShloMosaic Idealize.ShloMosaic.TcCoe

theorem frame_bits [hP : Cert.Pre_tables_ok.Facts] : Cert.quiescent_Kernel3 (hKernel3 := Cert.Kernel3.Gen.facts) (hPre_tables_ok := hP) := by
  intro m ρ h
  obtain ⟨h1, h2, h3, h4, h5⟩ := h 0
  have hT : Tok (F := Bits) m := by
    unfold Tok
    rw [tbl0_eq (F := Bits) m, tbl1_eq (F := Bits) m, tbl2_eq (F := Bits) m]
    exact tabOk_of (F := Bits) _ _ _ _ _ _ _ _ h1 h2 h3 h4 h5
  have run := frame_run (F := Bits) m ρ (ok_of m hT) hT
  refine Eq.mpr ?_ run
  sl_kernel_rfl
end Cert.Proof.Ffn
end
-- ==== Proof.Ffn.Spec.lean ====
/-
  The expert blocks as functions of the arguments: one element of the gate-and-up product, of the activation and of the
  result, and the array of the results in the rows' layout (row `8 q + j` of a block holds columns `128 j ‥` of its row `q`).
-/
module

public import proofs.«01_k».proof.Proof.Ffn.Pre
public import Idealize.ShloMosaic.Lib.Pointwise
public import Idealize.ShloMosaic.Lib.Pipeline.ValueKit
public import Idealize.ShloMosaic.Lib.Pipeline.ReadBack

@[expose] public section

noncomputable section

namespace Cert.Proof.Ffn

open Cert.Kernel3Ideal Cert.Kernel3Ideal.Gen
open Idealize.ShloMosaic Idealize.ShloMosaic.TcCoe

/-- The expert that a word names. -/
def exW (v : BitVec 32) : Fin 32 := ⟨min v.toNat 31, Nat.lt_succ_of_le (Nat.min_le_right _ _)⟩
theorem exW_val {v : BitVec 32} (h : v.toNat < 32) : (exW v).val = v.toNat := Nat.min_eq_left (Nat.le_of_lt_succ h)

section
variable (x : Fin 1024 → EReal) (e : Fin 32)
variable (WG : FVec Ideal S32x1024x2048 .f32) (BG : FVec Ideal S32x2048 .f32) (WD : FVec Ideal S32x1024x1024 .f32) (BD : FVec Ideal S32x1024 .f32)
/-- Expert `e`'s gate-and-up product of the row `x`, with the bias, at column `f`. -/
def guE (f : Fin 2048) : EReal := ∑ k : Fin 1024, x k * WG (ix3 e k f) + BG (ix2 e f)
/-- The gate, limited. -/
def gaE (f : Fin 1024) : EReal := min (guE x e WG BG ⟨f.val, by omega⟩) (Ideal.ofBits FTy.f32 0x40E00000#32)
/-- The other half, limited on both sides. -/
def upE (f : Fin 1024) : EReal :=
  min (Ideal.ofBits FTy.f32 0x40E00000#32) (max (Ideal.ofBits FTy.f32 0xC0E00000#32) (guE x e WG BG ⟨1024 + f.val, by omega⟩))
/-- The activation. -/
def acE (f : Fin 1024) : EReal :=
  (upE x e WG BG f + 1) * (gaE x e WG BG f * Ideal.div 1 (1 + Ideal.exp (-(Ideal.ofBits FTy.f32 0x3FD9DB23#32 * gaE x e WG BG f))))
/-- The result row at column `d`. -/
def yE (d : Fin 1024) : EReal := ∑ f : Fin 1024, acE x e WG BG f * WD (ix3 e f d) + BD (ix2 e d)
end

section
variable (X : FVec Ideal S1179648x128 .f32) (be : IVec S288 32) (nb : IVec S1 32)
variable (WG : FVec Ideal S32x1024x2048 .f32) (BG : FVec Ideal S32x2048 .f32) (WD : FVec Ideal S32x1024x1024 .f32) (BD : FVec Ideal S32x1024 .f32)
/-- Row `q` of block `n` of the sorted rows. -/
def xrow (n : Fin 288) (q : Fin 512) (k : Fin 1024) : EReal :=
  X (ix2 (⟨n.val * 4096 + (8 * q.val + k.val / 128), by omega⟩ : Fin 1179648) (⟨k.val % 128, Nat.mod_lt _ (by decide)⟩ : Fin 128))
/-- Row `q` of block `n` of the result, at column `d`: zero at a block that is not live. -/
def rowE (n : Fin 288) (q : Fin 512) (d : Fin 1024) : EReal :=
  if n.val < (nb (ix1 0)).toNat then yE (xrow X n q) (exW (tabN be n.val)) WG BG WD BD d else 0
/-- The result, in the rows' layout. -/
def o_ys : FVec Ideal S1179648x128 .f32 := fun y =>
  rowE X be nb WG BG WD BD ⟨(y 0).val / 4096, by have : (y 0).val < 1179648 := (y 0).isLt; omega⟩
    ⟨(y 0).val % 4096 / 8, by omega⟩ ⟨(y 0).val % 8 * 128 + (y 1).val, by have : (y 1).val < 128 := (y 1).isLt; omega⟩
theorem o_ys_at (n : Fin 288) (q : Fin 512) (d : Fin 1024) (y : S1179648x128.Idx) (h0 : (y 0).val = n.val * 4096 + (8 * q.val + d.val / 128))
    (h1 : (y 1).val = d.val % 128) : o_ys X be nb WG BG WD BD y = rowE X be nb WG BG WD BD n q d := by
  have hn := n.isLt
  have hq := q.isLt
  have hd := d.isLt
  unfold o_ys
  congr 1
  · exact Fin.ext (by show (y 0).val / 4096 = _; omega)
  · exact Fin.ext (by show (y 0).val % 4096 / 8 = _; omega)
  · exact Fin.ext (by show (y 0).val % 8 * 128 + (y 1).val = _; omega)
end

/-! ## The kernel's payloads at an element -/

/-- The block's row `q`, from its rows `8 q + j`. -/
def brow (x0 : Vec Ideal S4096x128 .f32) (q : Fin 512) (k : Fin 1024) : EReal :=
  x0 (ix2 (⟨8 * q.val + k.val / 128, by omega⟩ : Fin 4096) (⟨k.val % 128, Nat.mod_lt _ (by decide)⟩ : Fin 128))

section
variable (x0 : Vec Ideal S4096x128 .f32) (x1 : Vec Ideal S1x1x2048 .f32) (x2 : Vec Ideal S1x1x1024 .f32)
  (wg : Vec Ideal S1024x2048 .bf16) (wd : Vec Ideal S1024x1024 .bf16)

theorem cat8 (q : Fin 512) (x : Fin 1024) :
    (if h : x.val < 128 then x0 (ix2 ⟨8 * q.val, by omega⟩ ⟨x.val, h⟩)
      else if h : x.val - 128 < 128 then x0 (ix2 ⟨1 + 8 * q.val, by omega⟩ ⟨x.val - 128, h⟩)
      else if h : x.val - 128 - 128 < 128 then x0 (ix2 ⟨2 + 8 * q.val, by omega⟩ ⟨x.val - 128 - 128, h⟩)
      else if h : x.val - 128 - 128 - 128 < 128 then x0 (ix2 ⟨3 + 8 * q.val, by omega⟩ ⟨x.val - 128 - 128 - 128, h⟩)
      else if h : x.val - 128 - 128 - 128 - 128 < 128 then x0 (ix2 ⟨4 + 8 * q.val, by omega⟩ ⟨x.val - 128 - 128 - 128 - 128, h⟩)
      else if h : x.val - 128 - 128 - 128 - 128 - 128 < 128 then x0 (ix2 ⟨5 + 8 * q.val, by omega⟩ ⟨x.val - 128 - 128 - 128 - 128 - 128, h⟩)
      else if h : x.val - 128 - 128 - 128 - 128 - 128 - 128 < 128 then x0 (ix2 ⟨6 + 8 * q.val, by omega⟩ ⟨x.val - 128 - 128 - 128 - 128 - 128 - 128, h⟩)
      else x0 (ix2 (⟨7 + 8 * q.val, by omega⟩ : Fin 4096) (⟨x.val - 128 - 128 - 128 - 128 - 128 - 128 - 128, by omega⟩ : Fin 128))) = brow x0 q x := by
  have hx := x.isLt
  have key : ∀ (j : ℕ) (a : Fin 4096) (b : Fin 128), x.val / 128 = j → a.val = j + 8 * q.val → b.val = x.val - 128 * j → x0 (ix2 a b) = brow x0 q x := by
    intro j a b hj ha hb
    unfold brow
    congr 2
    · exact Fin.ext (by show a.val = 8 * q.val + x.val / 128; omega)
    · exact Fin.ext (by show b.val = x.val % 128; omega)
  split_ifs
  · exact key 0 _ _ (by omega) (by show 8 * q.val = _; omega) (by show x.val = _; omega)
  · exact key 1 _ _ (by omega) rfl (by show x.val - 128 = _; omega)
  · exact key 2 _ _ (by omega) rfl (by show x.val - 128 - 128 = _; omega)
  · exact key 3 _ _ (by omega) rfl (by show x.val - 128 - 128 - 128 = _; omega)
  · exact key 4 _ _ (by omega) rfl (by show x.val - 128 - 128 - 128 - 128 = _; omega)
  · exact key 5 _ _ (by omega) rfl (by show x.val - 128 - 128 - 128 - 128 - 128 = _; omega)
  · exact key 6 _ _ (by omega) rfl (by show x.val - 128 - 128 - 128 - 128 - 128 - 128 = _; omega)
  · exact key 7 _ _ (by omega) rfl (by show x.val - 128 - 128 - 128 - 128 - 128 - 128 - 128 = _; omega)

set_option maxHeartbeats 1000000 in
theorem pay13_at (q : Fin 512) (f : Fin 2048) :
    k0_pay13 (ldX x0 lr0) (ldX x0 lr1) (ldX x0 lr2) (ldX x0 lr3) (ldX x0 lr4) (ldX x0 lr5) (ldX x0 lr6) (ldX x0 lr7) wg x1 (ix2 q f)
      = ∑ k : Fin 1024, brow x0 q k * wg (ix2 k f) + x1 (ix3 0 0 f) := by
  pointwise [k0_pay13, ldX]
  exact congrArg (· + _) (Finset.sum_congr rfl fun k _ => congrArg (· * _) (cat8 x0 q k))

variable {x0 x1 x2 wg wd}
variable {x : Fin 1024 → EReal} {e : Fin 32} {q : Fin 512}
variable {WG : FVec Ideal S32x1024x2048 .f32} {BG : FVec Ideal S32x2048 .f32} {WD : FVec Ideal S32x1024x1024 .f32} {BD : FVec Ideal S32x1024 .f32}
variable (hx : ∀ k, brow x0 q k = x k) (h1 : ∀ f, x1 (ix3 0 0 f) = BG (ix2 e f)) (hg : ∀ k f, wg (ix2 k f) = WG (ix3 e k f))
include hx h1 hg

theorem pay13_guE (f : Fin 2048) :
    k0_pay13 (ldX x0 lr0) (ldX x0 lr1) (ldX x0 lr2) (ldX x0 lr3) (ldX x0 lr4) (ldX x0 lr5) (ldX x0 lr6) (ldX x0 lr7) wg x1 (ix2 q f) = guE x e WG BG f := by
  rw [pay13_at]
  unfold guE
  simp only [hx, h1, hg]

theorem act45_at (f : Fin 1024) : act45 x0 x1 wg (ix2 q f) = upE x e WG BG f := by
  unfold act45
  pointwise [k0_pay14]
  unfold upE
  rw [pay13_guE hx h1 hg]

theorem act53_at (f : Fin 1024) : act53 x0 x1 wg (ix2 q f)
    = gaE x e WG BG f * Ideal.div 1 (1 + Ideal.exp (-(Ideal.ofBits FTy.f32 0x3FD9DB23#32 * gaE x e WG BG f))) := by
  have hc : Ideal.ofBits FTy.f32 0xBFD9DB23#32 = -Ideal.ofBits FTy.f32 0x3FD9DB23#32 := by
    simp [Ideal.ofBits, Ideal.ieee, -EReal.coe_mul, -EReal.coe_neg]
    norm_num
  unfold act53
  pointwise [k0_pay15]
  rw [pay13_guE hx h1 hg, hc, EReal.neg_mul]
  rfl

variable (h2 : ∀ d, x2 (ix3 0 0 d) = BD (ix2 e d)) (hd : ∀ f d, wd (ix2 f d) = WD (ix3 e f d))
include h2 hd

theorem pay3_at (d : Fin 1024) : k0_pay3 (act45 x0 x1 wg) (act53 x0 x1 wg) wd x2 (ix2 q d) = yE x e WG BG WD BD d := by
  pointwise [k0_pay3]
  unfold yE acE
  rw [h2]
  exact congrArg (· + _) (Finset.sum_congr rfl fun f _ => by rw [act45_at hx h1 hg, act53_at hx h1 hg, hd])
end

theorem canon_of_pieces {s : Shape} {e : EltTy} (G : s.Idx → Elt Ideal e) (L : List (View.Piece (Elt Ideal) s e)) (h : View.PiecesOf G L)
    (y : s.Idx) (hc : ∃ p ∈ L, y ∈ p.1.set) : View.canon L y = G y := by
  have := View.canon_append_of_piecesOf G [] L h y hc
  simpa using this

section
variable {x0 : Vec Ideal S4096x128 .f32} {x1 : Vec Ideal S1x1x2048 .f32} {x2 : Vec Ideal S1x1x1024 .f32}
  {wg : Vec Ideal S1024x2048 .bf16} {wd : Vec Ideal S1024x1024 .bf16}
variable {x : Fin 512 → Fin 1024 → EReal} {e : Fin 32}
variable {WG : FVec Ideal S32x1024x2048 .f32} {BG : FVec Ideal S32x2048 .f32} {WD : FVec Ideal S32x1024x1024 .f32} {BD : FVec Ideal S32x1024 .f32}

/-- A live block of the result at an element. -/
theorem outLive_at (hx : ∀ q k, brow x0 q k = x q k) (h1 : ∀ f, x1 (ix3 0 0 f) = BG (ix2 e f)) (hg : ∀ k f, wg (ix2 k f) = WG (ix3 e k f))
    (h2 : ∀ d, x2 (ix3 0 0 d) = BD (ix2 e d)) (hd : ∀ f d, wd (ix2 f d) = WD (ix3 e f d)) (y : S4096x128.Idx) :
    outLive x0 x1 x2 wg wd y = yE (x ⟨(y 0).val / 8, by have : (y 0).val < 4096 := (y 0).isLt; omega⟩) e WG BG WD BD
      ⟨(y 0).val % 8 * 128 + (y 1).val, by have : (y 1).val < 128 := (y 1).isLt; omega⟩ := by
  have key : ∀ (q : Fin 512) (d : Fin 1024) (z : S4096x128.Idx), (z 0).val = 8 * q.val + d.val / 128 → (z 1).val = d.val % 128 →
      k0_pay3 (act45 x0 x1 wg) (act53 x0 x1 wg) wd x2 (ix2 q d) = yE (x ⟨(z 0).val / 8, by have : (z 0).val < 4096 := (z 0).isLt; omega⟩) e WG BG WD BD
        ⟨(z 0).val % 8 * 128 + (z 1).val, by have : (z 1).val < 128 := (z 1).isLt; omega⟩ := by
    intro q d z e0 e1
    have hq := q.isLt
    have hd' := d.isLt
    rw [pay3_at (hx q) h1 hg h2 hd d]
    congr 1
    · exact congrArg x (Fin.ext (by show q.val = (z 0).val / 8; omega))
    · exact Fin.ext (by show d.val = (z 0).val % 8 * 128 + (z 1).val; omega)
  unfold outLive
  refine canon_of_pieces (e := .f32) (s := S4096x128) (fun y => yE (x ⟨(y 0).val / 8, by have : (y 0).val < 4096 := (y 0).isLt; omega⟩) e WG BG WD BD
      ⟨(y 0).val % 8 * 128 + (y 1).val, by have : (y 1).val < 128 := (y 1).isLt; omega⟩) _ ?_ y (outL_cover _ _ _ _ y)
  refine ⟨?_, ?_, ?_, ?_, ?_, ?_, ?_, ?_, trivial⟩
  · intro z; change S512x128.Idx at z; dsimp only
    obtain ⟨q, l, rfl⟩ : ∃ (q : Fin 512) (l : Fin 128), z = ix2 q l := ⟨_, _, eq_ix2 (n0 := 512) (n1 := 128) z⟩
    have hl := l.isLt
    pointwise [k0_pay11]
    exact key q ⟨896 + l.val, by omega⟩ _ (by show 7 + 8 * q.val = 8 * q.val + (896 + l.val) / 128; omega) (by show 0 + 1 * l.val = (896 + l.val) % 128; omega)
  · intro z; change S512x128.Idx at z; dsimp only
    obtain ⟨q, l, rfl⟩ : ∃ (q : Fin 512) (l : Fin 128), z = ix2 q l := ⟨_, _, eq_ix2 (n0 := 512) (n1 := 128) z⟩
    have hl := l.isLt
    pointwise [k0_pay10]
    exact key q ⟨768 + l.val, by omega⟩ _ (by show 6 + 8 * q.val = 8 * q.val + (768 + l.val) / 128; omega) (by show 0 + 1 * l.val = (768 + l.val) % 128; omega)
  · intro z; change S512x128.Idx at z; dsimp only
    obtain ⟨q, l, rfl⟩ : ∃ (q : Fin 512) (l : Fin 128), z = ix2 q l := ⟨_, _, eq_ix2 (n0 := 512) (n1 := 128) z⟩
    have hl := l.isLt
    pointwise [k0_pay9]
    exact key q ⟨640 + l.val, by omega⟩ _ (by show 5 + 8 * q.val = 8 * q.val + (640 + l.val) / 128; omega) (by show 0 + 1 * l.val = (640 + l.val) % 128; omega)
  · intro z; change S512x128.Idx at z; dsimp only
    obtain ⟨q, l, rfl⟩ : ∃ (q : Fin 512) (l : Fin 128), z = ix2 q l := ⟨_, _, eq_ix2 (n0 := 512) (n1 := 128) z⟩
    have hl := l.isLt
    pointwise [k0_pay8]
    exact key q ⟨512 + l.val, by omega⟩ _ (by show 4 + 8 * q.val = 8 * q.val + (512 + l.val) / 128; omega) (by show 0 + 1 * l.val = (512 + l.val) % 128; omega)
  · intro z; change S512x128.Idx at z; dsimp only
    obtain ⟨q, l, rfl⟩ : ∃ (q : Fin 512) (l : Fin 128), z = ix2 q l := ⟨_, _, eq_ix2 (n0 := 512) (n1 := 128) z⟩
    have hl := l.isLt
    pointwise [k0_pay7]
    exact key q ⟨384 + l.val, by omega⟩ _ (by show 3 + 8 * q.val = 8 * q.val + (384 + l.val) / 128; omega) (by show 0 + 1 * l.val = (384 + l.val) % 128; omega)
  · intro z; change S512x128.Idx at z; dsimp only
    obtain ⟨q, l, rfl⟩ : ∃ (q : Fin 512) (l : Fin 128), z = ix2 q l := ⟨_, _, eq_ix2 (n0 := 512) (n1 := 128) z⟩
    have hl := l.isLt
    pointwise [k0_pay6]
    exact key q ⟨256 + l.val, by omega⟩ _ (by show 2 + 8 * q.val = 8 * q.val + (256 + l.val) / 128; omega) (by show 0 + 1 * l.val = (256 + l.val) % 128; omega)
  · intro z; change S512x128.Idx at z; dsimp only
    obtain ⟨q, l, rfl⟩ : ∃ (q : Fin 512) (l : Fin 128), z = ix2 q l := ⟨_, _, eq_ix2 (n0 := 512) (n1 := 128) z⟩
    have hl := l.isLt
    pointwise [k0_pay5]
    exact key q ⟨128 + l.val, by omega⟩ _ (by show 1 + 8 * q.val = 8 * q.val + (128 + l.val) / 128; omega) (by show 0 + 1 * l.val = (128 + l.val) % 128; omega)
  · intro z; change S512x128.Idx at z; dsimp only
    obtain ⟨q, l, rfl⟩ : ∃ (q : Fin 512) (l : Fin 128), z = ix2 q l := ⟨_, _, eq_ix2 (n0 := 512) (n1 := 128) z⟩
    have hl := l.isLt
    pointwise [k0_pay4]
    exact key q ⟨l.val, by omega⟩ _ (by show 0 + 8 * q.val = 8 * q.val + (l.val) / 128; omega) (by show 0 + 1 * l.val = (l.val) % 128; omega)
end

end Cert.Proof.Ffn

end
-- ==== Proof.Ffn.Value.lean ====
/-
  What the expert kernel leaves in its result's array: the blocks read off the arguments, then every block's element.
-/
module

public import proofs.«01_k».proof.Proof.Ffn.Spec

@[expose] public section

noncomputable section

namespace Cert.Proof.Ffn

open Cert.Kernel3Ideal Cert.Kernel3Ideal.Gen
open Idealize.ShloMosaic Idealize.ShloMosaic.TcCoe

/-! ## The weights -/

theorem readG (c : Dev nD) (W : FVec Ideal S32x1024x2048 .f32) (v : BitVec 32) (h : InG v) (hv : v.toNat < 32) (k : Fin 1024) (f : Fin 2048) :
    gW (F := Ideal) c W v h (ix2 k f) = W (ix3 (exW v) k f) := by
  have e : gW (F := Ideal) c W v h (ix2 k f)
      = W ((Rect.unit (s := S32x1024x2048) (k0_off9 v) S1x1024x2048.size h).emb (Shape.reshapeEquiv squeezes_S1x1024x2048_S1024x2048.numel_eq (ix2 k f))) := rfl
  rw [e, Shape.reshapeEquiv_cons_one]
  refine congrArg W ?_
  funext a
  apply Fin.ext
  rw [Rect.emb_apply]
  match a with
  | ⟨0, _⟩ => show v.toNat + 1 * 0 = (exW v).val; rw [exW_val hv]; omega
  | ⟨1, _⟩ => show 0 + 1 * k.val = k.val; omega
  | ⟨2, _⟩ => show 0 + 1 * f.val = f.val; omega

theorem readD (c : Dev nD) (W : FVec Ideal S32x1024x1024 .f32) (v : BitVec 32) (h : InD v) (hv : v.toNat < 32) (k : Fin 1024) (f : Fin 1024) :
    dW (F := Ideal) c W v h (ix2 k f) = W (ix3 (exW v) k f) := by
  have e : dW (F := Ideal) c W v h (ix2 k f)
      = W ((Rect.unit (s := S32x1024x1024) (k0_off10 v) S1x1024x1024.size h).emb (Shape.reshapeEquiv squeezes_S1x1024x1024_S1024x1024.numel_eq (ix2 k f))) := rfl
  rw [e, Shape.reshapeEquiv_cons_one]
  refine congrArg W ?_
  funext a
  apply Fin.ext
  rw [Rect.emb_apply]
  match a with
  | ⟨0, _⟩ => show v.toNat + 1 * 0 = (exW v).val; rw [exW_val hv]; omega
  | ⟨1, _⟩ => show 0 + 1 * k.val = k.val; omega
  | ⟨2, _⟩ => show 0 + 1 * f.val = f.val; omega

theorem gT_at (c : Dev nD) (W : FVec Ideal S32x1024x2048 .f32) (v : BitVec 32) (hv : v.toNat < 32) (k : Fin 1024) (f : Fin 2048) :
    k0_pay1 (gT (F := Ideal) c W v) (ix2 k f) = W (ix3 (exW v) k f) := by
  pointwise [k0_pay1]
  unfold gT
  rw [dif_pos hv]
  exact readG c W v _ hv k f

theorem dT_at (c : Dev nD) (W : FVec Ideal S32x1024x1024 .f32) (v : BitVec 32) (hv : v.toNat < 32) (k : Fin 1024) (f : Fin 1024) :
    k0_pay2 (dT (F := Ideal) c W v) (ix2 k f) = W (ix3 (exW v) k f) := by
  pointwise [k0_pay2]
  unfold dT
  rw [dif_pos hv]
  exact readD c W v _ hv k f

/-! ## The windows' indices -/

section
variable (m : (ℓ : Loc nD τ sig) → Buf (Elt Ideal) ℓ)
theorem ix0_at (hT : Tok m) (t : Fin grid0.N) (ht : t.val < ((tbl m 1 : IVec S1 32) (ix1 0)).toNat) :
    cc0_transform_0 inb_S1_S1_0 numel1_S1 (tbl m) (grid0.coords t) 0 = t.val := by
  have hle := hT.le
  have hpos := hT.pos
  have e1 : (tbl m 1 : IVec S1 32) ((Rect.unit (s := S1) ![0] S1.size inb_S1_S1_0).toLoadRect.idx (Shape.Idx.first (numel1_S1.symm ▸ Nat.one_pos))) = (tbl m 1 : IVec S1 32) (ix1 0) := nb_any _ _
  show (IntOp.minsi (BitVec.ofNat 32 (grid0.coords t 0).val) (IntOp.subi ((tbl m 1 : IVec S1 32) ((Rect.unit (s := S1) ![0] S1.size inb_S1_S1_0).toLoadRect.idx (Shape.Idx.first (numel1_S1.symm ▸ Nat.one_pos)))) 1#32)).toNat = t.val
  rw [e1]
  have ea := arg0_toNat t
  have es : (IntOp.subi ((tbl m 1 : IVec S1 32) (ix1 0)) 1#32).toNat = ((tbl m 1 : IVec S1 32) (ix1 0)).toNat - 1 := sub_one_toNat _ hpos
  unfold IntOp.minsi
  split
  · exact ea
  · rename_i hn
    have ht' : t.val < 288 := t.isLt
    have h1 : (BitVec.ofNat 32 (grid0.coords t 0).val).toInt = t.val := by rw [BitVec.toInt_eq_toNat_of_lt (by rw [ea]; omega), ea]
    have h2 : (IntOp.subi ((tbl m 1 : IVec S1 32) (ix1 0)) 1#32).toInt = ((((tbl m 1 : IVec S1 32) (ix1 0)).toNat - 1 : ℕ) : ℤ) := by rw [BitVec.toInt_eq_toNat_of_lt (by rw [es]; omega), es]
    rw [BitVec.slt_iff_toInt_lt, h1, h2] at hn
    rw [es]
    omega
theorem ix1_at (t : Fin grid0.N) : cc0_transform_2 k0_off1_inb numel1_S1 (tbl m) (grid0.coords t) 0 = (tabN (tbl m 0) t.val).toNat :=
  congrArg BitVec.toNat (wBe_eq (F := Ideal) (c := 0) t (tbl m 0))
theorem ix2_at (t : Fin grid0.N) : cc0_transform_4 k0_off1_inb numel1_S1 (tbl m) (grid0.coords t) 0 = (tabN (tbl m 0) t.val).toNat :=
  congrArg BitVec.toNat (wBe_eq (F := Ideal) (c := 0) t (tbl m 0))
end
theorem ix3_at : ∀ t : Fin grid0.N, cc0_transform_5 (grid0.coords t) 0 = t.val := by decide +kernel

variable (m : (ℓ : Loc nD τ sig) → Buf (Elt Ideal) ℓ)

/-- The argument arrays of a memory. -/
abbrev aX (c : Dev nD) : FVec Ideal S1179648x128 .f32 := m ((c : Thread nD τ).loc main_arg0)
abbrev aBe (c : Dev nD) : IVec S288 32 := m ((c : Thread nD τ).loc main_arg1)
abbrev aNb (c : Dev nD) : IVec S1 32 := m ((c : Thread nD τ).loc main_arg2)
abbrev aWG (c : Dev nD) : FVec Ideal S32x1024x2048 .f32 := m ((c : Thread nD τ).loc main_arg4)
abbrev aBG (c : Dev nD) : FVec Ideal S32x2048 .f32 := m ((c : Thread nD τ).loc main_arg5)
abbrev aWD (c : Dev nD) : FVec Ideal S32x1024x1024 .f32 := m ((c : Thread nD τ).loc main_arg6)
abbrev aBD (c : Dev nD) : FVec Ideal S32x1024 .f32 := m ((c : Thread nD τ).loc main_arg7)

theorem V_bg (c : Dev nD) : V m c main_v0 = shapeCast S32x1x2048 (aBG m c) shapeCasts_S32x2048_S32x1x2048 := by
  unfold V; simp only [hostOps0, List.flatten_cons, List.flatten_nil, List.append_nil, List.cons_append, List.nil_append]
  after_results_simp
  rfl
theorem V_bd (c : Dev nD) : V m c main_v1 = shapeCast S32x1x1024 (aBD m c) shapeCasts_S32x1024_S32x1x1024 := by
  unfold V; simp only [hostOps0, List.flatten_cons, List.flatten_nil, List.append_nil, List.cons_append, List.nil_append]
  after_results_simp
  rfl

variable (hO : Ok m) (c : Dev nD)

theorem blkX (hT : Tok m) (t : Fin (cfgM m hO).N) (ht : t.val < ((tbl m 1 : IVec S1 32) (ix1 0)).toNat) (q : Fin 512) (k : Fin 1024) :
    brow (iblk m hO c 0 t) q k = xrow (aX m c) ⟨t.val, t.isLt⟩ q k := by
  unfold brow xrow
  have h : (iblk m hO c 0 t : FVec Ideal S4096x128 .f32) (ix2 (⟨8 * q.val + k.val / 128, by omega⟩ : Fin 4096) (⟨k.val % 128, Nat.mod_lt _ (by decide)⟩ : Fin 128))
    = (V m c main_arg0 : FVec Ideal S1179648x128 .f32) (ix2 (⟨t.val * 4096 + (8 * q.val + k.val / 128), by have : t.val < 288 := t.isLt; omega⟩ : Fin 1179648) (⟨k.val % 128, Nat.mod_lt _ (by decide)⟩ : Fin 128)) := by
    blk_simp [iblk]
    refine congrArg (V m c main_arg0) ?_
    have e := ix0_at m hT t ht
    funext a
    match a with
    | ⟨0, _⟩ => exact Fin.ext (by
        show cc0_transform_0 inb_S1_S1_0 numel1_S1 (tbl m) (grid0.coords t) 0 * 4096 + 1 * (8 * q.val + k.val / 128) = _
        rw [e, Nat.one_mul]; rfl)
    | ⟨1, _⟩ => exact Fin.ext (by show 0 * 128 + 1 * (k.val % 128) = k.val % 128; omega)
  rw [h, V_kept m c main_arg0 (by decide) (by decide)]

theorem blkBG (hT : Tok m) (t : Fin (cfgM m hO).N) (f : Fin 2048) :
    (iblk m hO c 1 t : FVec Ideal S1x1x2048 .f32) (ix3 0 0 f) = aBG m c (ix2 (exW (tabN (tbl m 0) t.val)) f) := by
  have h : (iblk m hO c 1 t : FVec Ideal S1x1x2048 .f32) (ix3 0 0 f) = (V m c main_v0 : FVec Ideal S32x1x2048 .f32) (ix3 (exW (tabN (tbl m 0) t.val)) 0 f) := by
    blk_simp [iblk]
    refine congrArg (V m c main_v0) ?_
    have e := ix1_at m t
    funext a
    match a with
    | ⟨0, _⟩ => exact Fin.ext (by
        show cc0_transform_2 k0_off1_inb numel1_S1 (tbl m) (grid0.coords t) 0 * 1 + 1 * 0 = (exW (tabN (tbl m 0) t.val)).val
        rw [e, exW_val (hT.be_lt t.val t.isLt)]; omega)
    | ⟨1, _⟩ => exact Fin.ext (by show 0 * 1 + 1 * 0 = 0; omega)
    | ⟨2, _⟩ => exact Fin.ext (by show 0 * 2048 + 1 * f.val = f.val; omega)
  rw [h, V_bg]
  pointwise
theorem blkBD (hT : Tok m) (t : Fin (cfgM m hO).N) (f : Fin 1024) :
    (iblk m hO c 2 t : FVec Ideal S1x1x1024 .f32) (ix3 0 0 f) = aBD m c (ix2 (exW (tabN (tbl m 0) t.val)) f) := by
  have h : (iblk m hO c 2 t : FVec Ideal S1x1x1024 .f32) (ix3 0 0 f) = (V m c main_v1 : FVec Ideal S32x1x1024 .f32) (ix3 (exW (tabN (tbl m 0) t.val)) 0 f) := by
    blk_simp [iblk]
    refine congrArg (V m c main_v1) ?_
    have e := ix2_at m t
    funext a
    match a with
    | ⟨0, _⟩ => exact Fin.ext (by
        show cc0_transform_4 k0_off1_inb numel1_S1 (tbl m) (grid0.coords t) 0 * 1 + 1 * 0 = (exW (tabN (tbl m 0) t.val)).val
        rw [e, exW_val (hT.be_lt t.val t.isLt)]; omega)
    | ⟨1, _⟩ => exact Fin.ext (by show 0 * 1 + 1 * 0 = 0; omega)
    | ⟨2, _⟩ => exact Fin.ext (by show 0 * 1024 + 1 * f.val = f.val; omega)
  rw [h, V_bd]
  pointwise

theorem covers3 : ((cfgM m hO).win 3).Covers := by
  refine ⟨fun a => ?_, fun β => ?_⟩
  · match a with
    | ⟨0, _⟩ => exact (by decide : 0 < 4096)
    | ⟨1, _⟩ => exact (by decide : 0 < 128)
  · let γ : Fin 2 → ℕ := fun a => match a with | ⟨0, _⟩ => (β ⟨0, Nat.two_pos⟩).val | ⟨1, _⟩ => (β ⟨1, Nat.one_lt_two⟩).val
    have b0 : γ 0 < 288 := lt_of_lt_of_eq (β ⟨0, Nat.two_pos⟩).isLt (by show (1179648 + 4096 - 1) / 4096 = 288; norm_num)
    have b1 : γ 1 < 1 := lt_of_lt_of_eq (β ⟨1, Nat.one_lt_two⟩).isLt (by show (128 + 128 - 1) / 128 = 1; norm_num)
    refine ⟨(⟨γ 0, b0⟩ : Fin grid0.N), flush3 (adm m hO) _, fun a => ⟨?_, Or.inl ?_⟩⟩
    · match a with
      | ⟨0, _⟩ => exact ix3_at ⟨γ 0, b0⟩
      | ⟨1, _⟩ => show 0 = γ 1; omega
    · match a with
      | ⟨0, _⟩ => rfl
      | ⟨1, _⟩ => rfl

theorem final (hT : Tok m) : (dats m hO 0 c).arrAt 3 (cfgM m hO).N = o_ys (aX m c) (tbl m 0) (tbl m 1) (aWG m c) (aBG m c) (aWD m c) (aBD m c) := by
  refine (dats m hO 0 c).arrAt_eq_of_covers 3 _ (covers3 m hO) fun t hf y => ?_
  blk_simp
  rw [after0_3]
  change S4096x128.Idx at y
  have y0 : (y 0).val < 4096 := (y 0).isLt
  have y1 : (y 1).val < 128 := (y 1).isLt
  have e := ix3_at t
  refine Eq.trans ?_ (o_ys_at (aX m c) (tbl m 0) (tbl m 1) (aWG m c) (aBG m c) (aWD m c) (aBD m c) ⟨t.val, t.isLt⟩
    ⟨(y 0).val / 8, by omega⟩ ⟨(y 0).val % 8 * 128 + (y 1).val, by omega⟩ _ ?_ ?_).symm
  · unfold out3 outAt rowE
    split
    · rename_i hl
      have hb := hT.be_lt t.val t.isLt
      exact outLive_at (x := xrow (aX m c) ⟨t.val, t.isLt⟩) (blkX m hO c hT t hl) (blkBG m hO c hT t)
        (fun k f => by rw [V_kept m c main_arg4 (by decide) (by decide)]; exact gT_at c _ _ hb k f) (blkBD m hO c hT t)
        (fun k f => by rw [V_kept m c main_arg6 (by decide) (by decide)]; exact dT_at c _ _ hb k f) y
    · pointwise [k0_pay12]
  · show cc0_transform_5 (grid0.coords t) 0 * 4096 + 1 * (y 0).val = t.val * 4096 + (8 * ((y 0).val / 8) + ((y 0).val % 8 * 128 + (y 1).val) / 128)
    rw [e]; omega
  · show 0 * 128 + 1 * (y 1).val = ((y 0).val % 8 * 128 + (y 1).val) % 128
    omega

end Cert.Proof.Ffn

end
-- ==== Proof.Ffn.Ref.lean ====
/- The result of the reference of the expert blocks, as a function of its arguments. -/
module

public import proofs.«01_k».proof.Proof.Ffn.Spec
public import proofs.«01_k».proof.Proof.Gen.Reference3Ideal.Run

@[expose] public section

noncomputable section

namespace Cert.Proof.Ffn

open Cert.Reference3Ideal Cert.Reference3Ideal.Gen
open Idealize.ShloMosaic Idealize.ShloMosaic.TcCoe

section
variable (be : IVec S288 32)

/-- The rows of the expert arrays that the blocks take. -/
def rIdx : IVec S288x1 32 :=
  broadcastInDim S288x1 ![0] bcast_S288_S288x1_0 (select (cmpi .slt be (broadcastInDim S288 ![] bcast_S_S288 (constantI S_ 32 0#32))) (addi be (broadcastInDim S288 ![] bcast_S_S288 (constantI S_ 32 32#32))) be)

theorem rIdx_at (hb : ∀ s, s < 288 → (tabN be s).toNat < 32) (y : S288x1.Idx) (n : Fin 288) (hy : (y 0).val = n.val) :
    min (rIdx be y).toInt.toNat 31 = (exW (tabN be n.val)).val := by
  have hn := hb n.val n.isLt
  have hy1 : (y 1).val < 1 := (y 1).isLt
  obtain ⟨a, b, rfl⟩ : ∃ (a : Fin 288) (b : Fin 1), y = ix2 a b := ⟨_, _, eq_ix2 (n0 := 288) (n1 := 1) y⟩
  obtain rfl : a = n := Fin.ext hy
  have e : rIdx be (ix2 a b) = tabN be a.val := by
    rw [tabN_of be a.isLt] at hn ⊢
    unfold rIdx
    pointwise
    have hn' : (be (ix1 a)).toNat < 32 := hn
    have h0 : (be (ix1 a)).slt 0#32 = false := by
      rw [Bool.eq_false_iff, ne_eq, BitVec.slt_iff_toInt_lt, BitVec.toInt_eq_toNat_of_lt (by omega)]
      simp
    show Scalar.select (BitVec.ofBool ((be (ix1 a)).slt 0#32)) _ _ = _
    rw [h0]
    rfl
  rw [e, exW_val hn, BitVec.toInt_eq_toNat_of_lt (by omega)]
  omega

theorem takeG_at (hb : ∀ s, s < 288 → (tabN be s).toNat < 32) (W : FVec Ideal S32x1024x2048 .f32) (n : Fin 288) (k : Fin 1024) (f : Fin 2048) :
    Host.gather gather_S32x1024x2048_S288x1_S288x1024x2048_12_0_n_n_0_1_110242048 W (rIdx be) (ix3 n k f) = W (ix3 (exW (tabN be n.val)) k f) := by
  unfold Host.gather
  congr 1
  funext a
  refine Fin.ext ?_
  show (gather_S32x1024x2048_S288x1_S288x1024x2048_12_0_n_n_0_1_110242048).start (ix3 n k f) (rIdx be) a + (gather_S32x1024x2048_S288x1_S288x1024x2048_12_0_n_n_0_1_110242048).batchCoord (ix3 n k f) a + (gather_S32x1024x2048_S288x1_S288x1024x2048_12_0_n_n_0_1_110242048).offCoord (ix3 n k f) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    split
    · exact rIdx_at be hb _ n rfl
    · exact absurd (List.mem_singleton.mpr rfl) (by assumption)
  | ⟨1, _⟩ =>
    unfold GatherDims.start
    split
    · rename_i h
      exact absurd (congrArg Fin.val (List.mem_singleton.mp h)) (by show ¬ (1 : ℕ) = 0; decide)
    · show 0 + 0 + k.val = k.val
      omega
  | ⟨2, _⟩ =>
    unfold GatherDims.start
    split
    · rename_i h
      exact absurd (congrArg Fin.val (List.mem_singleton.mp h)) (by show ¬ (2 : ℕ) = 0; decide)
    · show 0 + 0 + f.val = f.val
      omega

theorem takeBG_at (hb : ∀ s, s < 288 → (tabN be s).toNat < 32) (W : FVec Ideal S32x2048 .f32) (n : Fin 288) (f : Fin 2048) :
    Host.gather gather_S32x2048_S288x1_S288x2048_1_0_n_n_0_1_12048 W (rIdx be) (ix2 n f) = W (ix2 (exW (tabN be n.val)) f) := by
  unfold Host.gather
  congr 1
  funext a
  refine Fin.ext ?_
  show (gather_S32x2048_S288x1_S288x2048_1_0_n_n_0_1_12048).start (ix2 n f) (rIdx be) a + (gather_S32x2048_S288x1_S288x2048_1_0_n_n_0_1_12048).batchCoord (ix2 n f) a + (gather_S32x2048_S288x1_S288x2048_1_0_n_n_0_1_12048).offCoord (ix2 n f) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    split
    · exact rIdx_at be hb _ n rfl
    · exact absurd (List.mem_singleton.mpr rfl) (by assumption)
  | ⟨1, _⟩ =>
    unfold GatherDims.start
    split
    · rename_i h
      exact absurd (congrArg Fin.val (List.mem_singleton.mp h)) (by show ¬ (1 : ℕ) = 0; decide)
    · show 0 + 0 + f.val = f.val
      omega

theorem takeD_at (hb : ∀ s, s < 288 → (tabN be s).toNat < 32) (W : FVec Ideal S32x1024x1024 .f32) (n : Fin 288) (k : Fin 1024) (f : Fin 1024) :
    Host.gather gather_S32x1024x1024_S288x1_S288x1024x1024_12_0_n_n_0_1_110241024 W (rIdx be) (ix3 n k f) = W (ix3 (exW (tabN be n.val)) k f) := by
  unfold Host.gather
  congr 1
  funext a
  refine Fin.ext ?_
  show (gather_S32x1024x1024_S288x1_S288x1024x1024_12_0_n_n_0_1_110241024).start (ix3 n k f) (rIdx be) a + (gather_S32x1024x1024_S288x1_S288x1024x1024_12_0_n_n_0_1_110241024).batchCoord (ix3 n k f) a + (gather_S32x1024x1024_S288x1_S288x1024x1024_12_0_n_n_0_1_110241024).offCoord (ix3 n k f) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    split
    · exact rIdx_at be hb _ n rfl
    · exact absurd (List.mem_singleton.mpr rfl) (by assumption)
  | ⟨1, _⟩ =>
    unfold GatherDims.start
    split
    · rename_i h
      exact absurd (congrArg Fin.val (List.mem_singleton.mp h)) (by show ¬ (1 : ℕ) = 0; decide)
    · show 0 + 0 + k.val = k.val
      omega
  | ⟨2, _⟩ =>
    unfold GatherDims.start
    split
    · rename_i h
      exact absurd (congrArg Fin.val (List.mem_singleton.mp h)) (by show ¬ (2 : ℕ) = 0; decide)
    · show 0 + 0 + f.val = f.val
      omega

theorem takeBD_at (hb : ∀ s, s < 288 → (tabN be s).toNat < 32) (W : FVec Ideal S32x1024 .f32) (n : Fin 288) (f : Fin 1024) :
    Host.gather gather_S32x1024_S288x1_S288x1024_1_0_n_n_0_1_11024 W (rIdx be) (ix2 n f) = W (ix2 (exW (tabN be n.val)) f) := by
  unfold Host.gather
  congr 1
  funext a
  refine Fin.ext ?_
  show (gather_S32x1024_S288x1_S288x1024_1_0_n_n_0_1_11024).start (ix2 n f) (rIdx be) a + (gather_S32x1024_S288x1_S288x1024_1_0_n_n_0_1_11024).batchCoord (ix2 n f) a + (gather_S32x1024_S288x1_S288x1024_1_0_n_n_0_1_11024).offCoord (ix2 n f) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    split
    · exact rIdx_at be hb _ n rfl
    · exact absurd (List.mem_singleton.mpr rfl) (by assumption)
  | ⟨1, _⟩ =>
    unfold GatherDims.start
    split
    · rename_i h
      exact absurd (congrArg Fin.val (List.mem_singleton.mp h)) (by show ¬ (1 : ℕ) = 0; decide)
    · show 0 + 0 + f.val = f.val
      omega

end

section
variable (X : FVec Ideal S1179648x128 .f32) (be : IVec S288 32) (nb : IVec S1 32)
variable (WG : FVec Ideal S32x1024x2048 .f32) (BG : FVec Ideal S32x2048 .f32) (WD : FVec Ideal S32x1024x1024 .f32) (BD : FVec Ideal S32x1024 .f32)

/-- The reference's gate-and-up products, with their bias. -/
def rGU : FVec Ideal S288x512x2048 .f32 :=
  addf (Host.dotGeneral dot_S288x512x1024_S288x1024x2048_S288x512x2048_2_1_1_2_0_0 none (shapeCast S288x512x1024 X shapeCasts_S1179648x128_S288x512x1024) (Host.gather gather_S32x1024x2048_S288x1_S288x1024x2048_12_0_n_n_0_1_110242048 WG (rIdx be))) (broadcastInDim S288x512x2048 ![0, 1, 2] bcast_S288x1x2048_S288x512x2048_0_1_2 (broadcastInDim S288x1x2048 ![0, 2] bcast_S288x2048_S288x1x2048_0_2 (Host.gather gather_S32x2048_S288x1_S288x2048_1_0_n_n_0_1_12048 BG (rIdx be))))

/-- The reference's limited gate, and its activation. -/
def rGA : FVec Ideal S288x512x1024 .f32 :=
  minimumf (extractStridedSlice S288x512x1024 ![0, 0, 0] (rGU X be WG BG) slices_S288x512x2048_S288x512x1024_0_0_0) (broadcastInDim S288x512x1024 ![] bcast_S_S288x512x1024 (constant S_ .f32 0x40E00000#32))
def rAC : FVec Ideal S288x512x1024 .f32 :=
  mulf (addf (minimumf (broadcastInDim S288x512x1024 ![] bcast_S_S288x512x1024 (id (constant S_ .f32 0x40E00000#32))) (maximumf (broadcastInDim S288x512x1024 ![] bcast_S_S288x512x1024 (id (constant S_ .f32 0xC0E00000#32))) (extractStridedSlice S288x512x1024 ![0, 0, 1024] (rGU X be WG BG) slices_S288x512x2048_S288x512x1024_0_0_1024))) (broadcastInDim S288x512x1024 ![] bcast_S_S288x512x1024 (constant S_ .f32 0x3F800000#32)))
    (mulf (rGA X be WG BG) (Host.divf (broadcastInDim S288x512x1024 ![] bcast_S_S288x512x1024 (constant S_ .f32 0x3F800000#32)) (addf (broadcastInDim S288x512x1024 ![] bcast_S_S288x512x1024 (constant S_ .f32 0x3F800000#32)) (Host.exp (Host.negf (mulf (broadcastInDim S288x512x1024 ![] bcast_S_S288x512x1024 (constant S_ .f32 0x3FD9DB23#32)) (rGA X be WG BG)))))))
/-- The reference's blocks of results, before the dead blocks are cleared, -/
def rYS : FVec Ideal S288x512x1024 .f32 :=
  addf (Host.dotGeneral dot_S288x512x1024_S288x1024x1024_S288x512x1024_2_1_1_2_0_0 none (rAC X be WG BG) (Host.gather gather_S32x1024x1024_S288x1_S288x1024x1024_12_0_n_n_0_1_110241024 WD (rIdx be))) (broadcastInDim S288x512x1024 ![0, 1, 2] bcast_S288x1x1024_S288x512x1024_0_1_2 (broadcastInDim S288x1x1024 ![0, 2] bcast_S288x1024_S288x1x1024_0_2 (Host.gather gather_S32x1024_S288x1_S288x1024_1_0_n_n_0_1_11024 BD (rIdx be))))
/-- and after. -/
def rOut : FVec Ideal S288x512x1024 .f32 :=
  select (broadcastInDim S288x512x1024 ![0, 1, 2] bcast_S288x1x1_S288x512x1024_0_1_2 (broadcastInDim S288x1x1 ![0] bcast_S288_S288x1x1_0 (cmpi .slt (iotaInDim S288 32 0) (broadcastInDim S288 ![0] bcast_S1_S288_0 nb)))) (rYS X be WG BG WD BD) (broadcastInDim S288x512x1024 ![] bcast_S_S288x512x1024 (id (constant S_ .f32 0x00000000#32)))

variable (hb : ∀ s, s < 288 → (tabN be s).toNat < 32)
include hb

theorem rGU_at (n : Fin 288) (q : Fin 512) (f : Fin 2048) :
    rGU X be WG BG (ix3 n q f) = guE (xrow X n q) (exW (tabN be n.val)) WG BG f := by
  unfold rGU
  pointwise [takeG_at be hb, takeBG_at be hb]
  unfold guE xrow
  refine congrArg (· + _) (Finset.sum_congr rfl fun x _ => congrArg (· * _) (congrArg X ?_))
  funext a
  match a with
  | ⟨0, _⟩ => exact Fin.ext (by show n.val * 4096 + q.val * 8 + x.val / 128 = n.val * 4096 + (8 * q.val + x.val / 128); omega)
  | ⟨1, _⟩ => exact Fin.ext (by show x.val % 128 = x.val % 128; exact Eq.refl _)

theorem rGA_at (n : Fin 288) (q : Fin 512) (f : Fin 1024) :
    rGA X be WG BG (ix3 n q f) = gaE (xrow X n q) (exW (tabN be n.val)) WG BG f := by
  unfold rGA
  pointwise [rGU_at X be WG BG hb]
  rfl

theorem rAC_at (n : Fin 288) (q : Fin 512) (f : Fin 1024) :
    rAC X be WG BG (ix3 n q f) = acE (xrow X n q) (exW (tabN be n.val)) WG BG f := by
  unfold rAC
  pointwise [rGU_at X be WG BG hb, rGA_at X be WG BG hb]
  rfl

theorem rYS_at (n : Fin 288) (q : Fin 512) (d : Fin 1024) :
    rYS X be WG BG WD BD (ix3 n q d) = yE (xrow X n q) (exW (tabN be n.val)) WG BG WD BD d := by
  unfold rYS
  pointwise [rAC_at X be WG BG hb, takeD_at be hb, takeBD_at be hb]
  rfl

theorem rOut_at (hnb : (nb (ix1 0)).toNat ≤ 288) (n : Fin 288) (q : Fin 512) (d : Fin 1024) :
    rOut X be nb WG BG WD BD (ix3 n q d) = rowE X be nb WG BG WD BD n q d := by
  unfold rOut
  pointwise [rYS_at X be WG BG WD BD hb]
  have hz : (id (constant S_ .f32 0x00000000#32) : FVec Ideal S_ .f32) ix0 = (0 : EReal) := by
    show Ideal.ofBits FTy.f32 0x00000000#32 = 0
    simp [Ideal.ofBits, Ideal.ieee]
  have hn : n.val < 288 := n.isLt
  have e1 : (BitVec.ofNat 32 n.val).toInt = n.val := by
    have : (BitVec.ofNat 32 n.val).toNat = n.val := by rw [BitVec.toNat_ofNat]; omega
    rw [BitVec.toInt_eq_toNat_of_lt (by omega), this]
  have e2 : (nb (ix1 0)).toInt = (nb (ix1 0)).toNat := BitVec.toInt_eq_toNat_of_lt (by omega)
  unfold rowE
  show Scalar.select (BitVec.ofBool ((BitVec.ofNat 32 n.val).slt (nb (ix1 0)))) _ _ = _
  by_cases h : n.val < (nb (ix1 0)).toNat
  · have hs : (BitVec.ofNat 32 n.val).slt (nb (ix1 0)) = true := by rw [BitVec.slt_iff_toInt_lt, e1, e2]; omega
    rw [hs, if_pos h]
    rfl
  · have hs : (BitVec.ofNat 32 n.val).slt (nb (ix1 0)) = false := by
      rw [Bool.eq_false_iff, ne_eq, BitVec.slt_iff_toInt_lt, e1, e2]; omega
    rw [hs, if_neg h]
    exact hz

theorem ref_ys (hnb : (nb (ix1 0)).toNat ≤ 288) :
    shapeCast S1179648x128 (rOut X be nb WG BG WD BD) shapeCasts_S288x512x1024_S1179648x128 = o_ys X be nb WG BG WD BD := by
  funext y
  obtain ⟨a, b, rfl⟩ : ∃ (a : Fin 1179648) (b : Fin 128), y = ix2 a b := ⟨_, _, eq_ix2 (n0 := 1179648) (n1 := 128) y⟩
  pointwise [rOut_at X be nb WG BG WD BD hb hnb]
  have ha := a.isLt
  have hb' := b.isLt
  exact (o_ys_at X be nb WG BG WD BD _ _ _ (ix2 a b)
    (by show a.val = a.val / 4096 * 4096 + (8 * (a.val / 8 % 512) + (a.val % 8 * 128 + b.val) / 128); omega)
    (by show b.val = (a.val % 8 * 128 + b.val) % 128; omega)).symm
end

end Cert.Proof.Ffn
end
-- ==== Proof.Ffn.Claim.lean ====
/- The claims of the expert call beside its frames: the reference's frame, and the result against the reference's. -/
module

public import proofs.«01_k».proof.Defs
public import proofs.«01_k».proof.Proof.Ffn.Value
public import proofs.«01_k».proof.Proof.Ffn.Ref
public import Idealize.ShloMosaic.Lib.Quiescent

@[expose] public section

noncomputable section

namespace Cert.Proof.Ffn

open Idealize.ShloMosaic Idealize.ShloMosaic.TcCoe

theorem frame_ref : Cert.quiescent_Reference3Ideal (hReference3Ideal := Cert.Reference3Ideal.Gen.facts) := fun m ρ _ =>
  (θ_run Cert.Reference3Ideal.defs _ _).mono (fun r h => ⟨fun c => (h c).2,
    Idealize.ShloMosaic.sem_eq_zero_of_no_sems (by decide) r.2⟩) (Cert.Reference3Ideal.Value.run (F := Ideal) m ρ)

theorem frame_ref_pre [hP : Cert.Pre_tables_ok.Facts] :
    Cert.quiescent_Reference3Ideal_pre_tables_ok (hReference3Ideal := Cert.Reference3Ideal.Gen.facts) (hPre_tables_ok := hP) := fun m ρ _ =>
  (θ_run Cert.Reference3Ideal.defs _ _).mono (fun r h => ⟨fun c => (h c).2,
    Idealize.ShloMosaic.sem_eq_zero_of_no_sems (by decide) r.2⟩) (Cert.Reference3Ideal.Value.run (F := Ideal) m ρ)

/-- The reference's result is the expert blocks of its arguments. -/
theorem res_eq (m : (ℓ : Loc Cert.Reference3Ideal.nD Cert.Reference3Ideal.τ Cert.Reference3Ideal.sig) → Buf (Elt Ideal) ℓ) (c : Dev Cert.Reference3Ideal.nD)
    (hb : ∀ s, s < 288 → (tabN (m ((c.tc : Thread Cert.Reference3Ideal.nD Cert.Reference3Ideal.τ).loc Cert.Reference3Ideal.main_arg1)) s).toNat < 32)
    (hnb : ((m ((c.tc : Thread Cert.Reference3Ideal.nD Cert.Reference3Ideal.τ).loc Cert.Reference3Ideal.main_arg2) : IVec Cert.Kernel3Ideal.S1 32) (ix1 0)).toNat ≤ 288) :
    Cert.Reference3Ideal.Value.res_main_v59 (F := Ideal) m c
      = o_ys (m ((c.tc : Thread Cert.Reference3Ideal.nD Cert.Reference3Ideal.τ).loc Cert.Reference3Ideal.main_arg0))
          (m ((c.tc : Thread Cert.Reference3Ideal.nD Cert.Reference3Ideal.τ).loc Cert.Reference3Ideal.main_arg1))
          (m ((c.tc : Thread Cert.Reference3Ideal.nD Cert.Reference3Ideal.τ).loc Cert.Reference3Ideal.main_arg2))
          (m ((c.tc : Thread Cert.Reference3Ideal.nD Cert.Reference3Ideal.τ).loc Cert.Reference3Ideal.main_arg4))
          (m ((c.tc : Thread Cert.Reference3Ideal.nD Cert.Reference3Ideal.τ).loc Cert.Reference3Ideal.main_arg5))
          (m ((c.tc : Thread Cert.Reference3Ideal.nD Cert.Reference3Ideal.τ).loc Cert.Reference3Ideal.main_arg6))
          (m ((c.tc : Thread Cert.Reference3Ideal.nD Cert.Reference3Ideal.τ).loc Cert.Reference3Ideal.main_arg7)) := by
  unfold Cert.Reference3Ideal.Value.res_main_v59
  exact ref_ys _ _ _ _ _ _ _ hb hnb

set_option maxHeartbeats 4000000 in
theorem value [hP : Cert.Pre_tables_ok.Facts] : Cert.algebraic_Kernel3Ideal_Reference3Ideal (hKernel3Ideal := Cert.Kernel3Ideal.Gen.facts)
    (hReference3Ideal := Cert.Reference3Ideal.Gen.facts) (hPre_tables_ok := hP) := by
  intro m ρ m' ρ' hpre hargs
  have hT := tok_of_pre m hpre
  have hO := ok_of m hT
  refine ⟨fun c => o_ys (aX m c) (aBe m c) (aNb m c) (aWG m c) (aBG m c) (aWD m c) (aBD m c), ?_, ?_⟩
  · have run := θ_run_and ((θ_run Cert.Kernel3Ideal.defs _ _).mono (fun _ h => h.1) (run_main m ρ hO hT)) (frame_run m ρ hO hT)
    refine (θ_run Cert.Kernel3Ideal.defs _ _).mono (fun r h c => ⟨?_, h.2.1 c⟩) run
    have e := ((h.1 c).1 3).trans (final m hO c hT)
    obtain rfl : c = 0 := Subsingleton.elim _ _
    rw [tbl0_eq m, tbl1_eq m] at e
    exact e
  · refine (θ_run Cert.Reference3Ideal.defs _ _).mono (fun r h c => ?_) (Cert.Reference3Ideal.Value.run (F := Ideal) m' ρ')
    obtain ⟨e0, e1, e2, e3, e4, e5, e6, e7⟩ := hargs c
    have E0 : m' ((c.tc : Thread Cert.Reference3Ideal.nD Cert.Reference3Ideal.τ).loc Cert.Reference3Ideal.main_arg0) = aX m c := e0
    have E1 : m' ((c.tc : Thread Cert.Reference3Ideal.nD Cert.Reference3Ideal.τ).loc Cert.Reference3Ideal.main_arg1) = aBe m c := e1
    have E2 : m' ((c.tc : Thread Cert.Reference3Ideal.nD Cert.Reference3Ideal.τ).loc Cert.Reference3Ideal.main_arg2) = aNb m c := e2
    have E4 : m' ((c.tc : Thread Cert.Reference3Ideal.nD Cert.Reference3Ideal.τ).loc Cert.Reference3Ideal.main_arg4) = aWG m c := e4
    have E5 : m' ((c.tc : Thread Cert.Reference3Ideal.nD Cert.Reference3Ideal.τ).loc Cert.Reference3Ideal.main_arg5) = aBG m c := e5
    have E6 : m' ((c.tc : Thread Cert.Reference3Ideal.nD Cert.Reference3Ideal.τ).loc Cert.Reference3Ideal.main_arg6) = aWD m c := e6
    have E7 : m' ((c.tc : Thread Cert.Reference3Ideal.nD Cert.Reference3Ideal.τ).loc Cert.Reference3Ideal.main_arg7) = aBD m c := e7
    have hbe : ∀ s, s < 288 → (tabN (aBe m c) s).toNat < 32 := by
      have h := hT.be_lt
      rw [tbl0_eq m] at h
      obtain rfl : c = 0 := Subsingleton.elim _ _
      exact h
    have hnb : ((aNb m c) (ix1 0)).toNat ≤ 288 := by
      have h := hT.le
      rw [tbl1_eq m] at h
      obtain rfl : c = 0 := Subsingleton.elim _ _
      exact h
    refine ⟨(h c).1.trans ?_, (h c).2⟩
    beta_reduce
    rw [← E0, ← E1, ← E2, ← E4, ← E5, ← E6, ← E7]
    exact res_eq m' c (by rw [E1]; exact hbe) (by rw [E2]; exact hnb)

end Cert.Proof.Ffn

end
-- ==== Proof.Oproj.Setup.lean ====
/-
  The output projection's call: the buffers as the pipelined region finds them, the blocks its windows fetch, and the
  kernel's body on the staging buffers.
-/
module

public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Oproj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: after the host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor
theorem fresh3 : (hostOps0_3 : List (HloOp τ sig (Elt F))).Forall fun op => op.fresh = ∅ := by
  simp only [List.Forall]; repeat' constructor
theorem fresh4 : (hostOps0_4 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨fresh0, fresh1, fresh2, fresh3, fresh4⟩) main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))
theorem V_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))
theorem V_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- The current staging buffer of each window at point `t`. -/
abbrev ms0 (t : Fin cfg0.N) : Memref sig .tc .vmem S1x512x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S2x1024x128 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S512x1024 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S4096x128 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S512x128 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S512x128 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S512x128 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S1x128 .f32 := win0_15.stage (cfg0.slots t 15)
abbrev hs15 (t : Fin cfg0.N) : (ms15 t).IsWhole := hstage0_15 ((cfg0.slots t 15).cast nbuf0_15)

/-- The kernel's body at point `t`. -/
abbrev bodyT (t : Fin cfg0.N) : Prog (TpuEff nD τ sig (Elt F) Λ₀ .tc) PUnit :=
  cc0_oproj (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t)

end Cert.Proof.Oproj

end
-- ==== Proof.Oproj.State.lean ====
/-
  What one point of the output projection's call leaves in the staging buffers of its first two results: the residual stream's 512
  rows, stored as two halves, and the normalised rows, stored as sixteen strided pieces of 128 columns.
-/
module

public import proofs.«01_k».proof.Proof.Oproj.Setup
public import Idealize.ShloMosaic.Lib.Pointwise
public import Idealize.ShloMosaic.Lib.Pipeline.ValueKit

@[expose] public section

set_option maxRecDepth 16384

noncomputable section

namespace Cert.Proof.Oproj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A block's part at a rectangle. -/
abbrev ld {s : Shape} {e : EltTy} (x : Vec F s e) (B : LoadRect s) : B.shape.Idx → Elt F e := fun y => x (B.idx y)

abbrev rRet0 : LoadRect S1x512x512 := (Rect.unit (s := S1x512x512) ![0, 0, 0] S1x256x512.size inb_S1x512x512_S1x256x512_0_0_0).toLoadRect
abbrev rRet1 : LoadRect S1x512x512 := (Rect.unit (s := S1x512x512) ![0, 256, 0] S1x256x512.size inb_S1x512x512_S1x256x512_0_256_0).toLoadRect
abbrev rAtt0 : LoadRect S1x512x512 := (Rect.unit (s := S1x512x512) ![0, 0, 0] S1x512x256.size inb_S1x512x512_S1x512x256_0_0_0).toLoadRect
abbrev rAtt1 : LoadRect S1x512x512 := (Rect.unit (s := S1x512x512) ![0, 0, 256] S1x512x256.size inb_S1x512x512_S1x512x256_0_0_256).toLoadRect
abbrev rX0 : LoadRect S1x512x1024 := (Rect.unit (s := S1x512x1024) ![0, 0, 0] S1x256x1024.size inb_S1x512x1024_S1x256x1024_0_0_0).toLoadRect
abbrev rX1 : LoadRect S1x512x1024 := (Rect.unit (s := S1x512x1024) ![0, 256, 0] S1x256x1024.size inb_S1x512x1024_S1x256x1024_0_256_0).toLoadRect
abbrev rWt : LoadRect S1024x1024 := (Rect.unit (s := S1024x1024) ![0, 0] S512x1024.size inb_S1024x1024_S512x1024_0_0).toLoadRect
abbrev rWb : LoadRect S1024x1024 := (Rect.unit (s := S1024x1024) ![512, 0] S512x1024.size inb_S1024x1024_S512x1024_512_0).toLoadRect

/-! ## The residual stream's block -/

abbrev oLo : Rect S512x1024 := Rect.unit (s := S512x1024) ![0, 0] S256x1024.size inb_S512x1024_S256x1024_0_0
abbrev oHi : Rect S512x1024 := Rect.unit (s := S512x1024) ![256, 0] S256x1024.size inb_S512x1024_S256x1024_256_0
/-- The two stores, last first. -/
abbrev xL (lo hi : FVec F S256x1024 .f32) : List (View.Piece (Elt F) S512x1024 .f32) := [⟨oHi, hi⟩, ⟨oLo, lo⟩]

theorem unit_mem {s : Shape} (B : Rect s) (x : B.shape.Idx) : B.toLoadRect.idx x ∈ B.set :=
  B.toLoadRect.image_idx_univ ▸ Finset.mem_image_of_mem _ (Finset.mem_univ x)

theorem xL_cover (lo hi : FVec F S256x1024 .f32) (y : S512x1024.Idx) : ∃ p ∈ xL lo hi, y ∈ p.1.set := by
  have h0 : (y 0).val < 512 := (y 0).isLt
  have h1 : (y 1).val < 1024 := (y 1).isLt
  by_cases h : (y 0).val < 256
  · refine ⟨⟨oLo, lo⟩, by simp only [xL, List.mem_cons, _root_.true_or, _root_.or_true], ?_⟩
    have e : oLo.toLoadRect.idx (ix2 (⟨(y 0).val, h⟩ : Fin 256) (⟨(y 1).val, h1⟩ : Fin 1024)) = y := funext fun a => Fin.ext (by
      match a with
      | ⟨0, _⟩ => show 0 + 1 * (y 0).val = (y 0).val; omega
      | ⟨1, _⟩ => show 0 + 1 * (y 1).val = (y 1).val; omega)
    exact e ▸ unit_mem oLo _
  · refine ⟨⟨oHi, hi⟩, by simp only [xL, List.mem_cons, _root_.true_or, _root_.or_true], ?_⟩
    have e : oHi.toLoadRect.idx (ix2 (⟨(y 0).val - 256, by omega⟩ : Fin 256) (⟨(y 1).val, h1⟩ : Fin 1024)) = y := funext fun a => Fin.ext (by
      match a with
      | ⟨0, _⟩ => show 256 + 1 * ((y 0).val - 256) = (y 0).val; omega
      | ⟨1, _⟩ => show 0 + 1 * (y 1).val = (y 1).val; omega)
    exact e ▸ unit_mem oHi _

/-! ## The normalised rows' block -/

abbrev lr0 : LoadRect S4096x128 := ⟨![0, 0], S256x128.size, ![8, 1], inb_S4096x128_S256x128_0_0_s_8_1⟩
abbrev lr1 : LoadRect S4096x128 := ⟨![1, 0], S256x128.size, ![8, 1], inb_S4096x128_S256x128_1_0_s_8_1⟩
abbrev lr2 : LoadRect S4096x128 := ⟨![2, 0], S256x128.size, ![8, 1], inb_S4096x128_S256x128_2_0_s_8_1⟩
abbrev lr3 : LoadRect S4096x128 := ⟨![3, 0], S256x128.size, ![8, 1], inb_S4096x128_S256x128_3_0_s_8_1⟩
abbrev lr4 : LoadRect S4096x128 := ⟨![4, 0], S256x128.size, ![8, 1], inb_S4096x128_S256x128_4_0_s_8_1⟩
abbrev lr5 : LoadRect S4096x128 := ⟨![5, 0], S256x128.size, ![8, 1], inb_S4096x128_S256x128_5_0_s_8_1⟩
abbrev lr6 : LoadRect S4096x128 := ⟨![6, 0], S256x128.size, ![8, 1], inb_S4096x128_S256x128_6_0_s_8_1⟩
abbrev lr7 : LoadRect S4096x128 := ⟨![7, 0], S256x128.size, ![8, 1], inb_S4096x128_S256x128_7_0_s_8_1⟩
abbrev lr2048 : LoadRect S4096x128 := ⟨![2048, 0], S256x128.size, ![8, 1], inb_S4096x128_S256x128_2048_0_s_8_1⟩
abbrev lr2049 : LoadRect S4096x128 := ⟨![2049, 0], S256x128.size, ![8, 1], inb_S4096x128_S256x128_2049_0_s_8_1⟩
abbrev lr2050 : LoadRect S4096x128 := ⟨![2050, 0], S256x128.size, ![8, 1], inb_S4096x128_S256x128_2050_0_s_8_1⟩
abbrev lr2051 : LoadRect S4096x128 := ⟨![2051, 0], S256x128.size, ![8, 1], inb_S4096x128_S256x128_2051_0_s_8_1⟩
abbrev lr2052 : LoadRect S4096x128 := ⟨![2052, 0], S256x128.size, ![8, 1], inb_S4096x128_S256x128_2052_0_s_8_1⟩
abbrev lr2053 : LoadRect S4096x128 := ⟨![2053, 0], S256x128.size, ![8, 1], inb_S4096x128_S256x128_2053_0_s_8_1⟩
abbrev lr2054 : LoadRect S4096x128 := ⟨![2054, 0], S256x128.size, ![8, 1], inb_S4096x128_S256x128_2054_0_s_8_1⟩
abbrev lr2055 : LoadRect S4096x128 := ⟨![2055, 0], S256x128.size, ![8, 1], inb_S4096x128_S256x128_2055_0_s_8_1⟩
/-- The sixteen strided stores, last first. -/
abbrev hL (p0 p1 p2 p3 p4 p5 p6 p7 q0 q1 q2 q3 q4 q5 q6 q7 : FVec F S256x128 .f32) : List (View.Piece (Elt F) S4096x128 .f32) :=
  [⟨⟨lr2055, spos_8_1⟩, q7⟩,
   ⟨⟨lr2054, spos_8_1⟩, q6⟩,
   ⟨⟨lr2053, spos_8_1⟩, q5⟩,
   ⟨⟨lr2052, spos_8_1⟩, q4⟩,
   ⟨⟨lr2051, spos_8_1⟩, q3⟩,
   ⟨⟨lr2050, spos_8_1⟩, q2⟩,
   ⟨⟨lr2049, spos_8_1⟩, q1⟩,
   ⟨⟨lr2048, spos_8_1⟩, q0⟩,
   ⟨⟨lr7, spos_8_1⟩, p7⟩,
   ⟨⟨lr6, spos_8_1⟩, p6⟩,
   ⟨⟨lr5, spos_8_1⟩, p5⟩,
   ⟨⟨lr4, spos_8_1⟩, p4⟩,
   ⟨⟨lr3, spos_8_1⟩, p3⟩,
   ⟨⟨lr2, spos_8_1⟩, p2⟩,
   ⟨⟨lr1, spos_8_1⟩, p1⟩,
   ⟨⟨lr0, spos_8_1⟩, p0⟩]

theorem stride_mem {y : S4096x128.Idx} {B : LoadRect S4096x128} (hs : ∀ a, 0 < B.stride a) (x : B.shape.Idx) (h : B.idx x = y) :
    y ∈ (⟨B, hs⟩ : Rect S4096x128).set := by
  subst h; exact B.image_idx_univ ▸ Finset.mem_image_of_mem B.idx (Finset.mem_univ x)

theorem hL_cover (p0 p1 p2 p3 p4 p5 p6 p7 q0 q1 q2 q3 q4 q5 q6 q7 : FVec F S256x128 .f32) (y : S4096x128.Idx) :
    ∃ p ∈ hL p0 p1 p2 p3 p4 p5 p6 p7 q0 q1 q2 q3 q4 q5 q6 q7, y ∈ p.1.set := by
  have h0 : (y 0).val < 4096 := (y 0).isLt
  have h1 : (y 1).val < 128 := (y 1).isLt
  have hj : (y 0).val % 8 < 8 := Nat.mod_lt _ (by decide)
  by_cases hb : (y 0).val < 2048
  · have hq : ((y 0).val - 0) / 8 < 256 := by omega
    have key : ∀ j : ℕ, (y 0).val % 8 = j → ∀ a : Fin 2, (![0 + j, 0] : Fin 2 → ℕ) a + (![8, 1] : Fin 2 → ℕ) a * ((ix2 (⟨((y 0).val - 0) / 8, hq⟩ : Fin 256) (⟨(y 1).val, h1⟩ : Fin 128) : S256x128.Idx) a).val = (y a).val := by
      intro j hj a
      match a with
      | ⟨0, _⟩ => show 0 + j + 8 * (((y 0).val - 0) / 8) = (y 0).val; omega
      | ⟨1, _⟩ => show 0 + 1 * (y 1).val = (y 1).val; omega
    match hm : (y 0).val % 8, hj with
    | 0, _ => exact ⟨⟨⟨lr0, spos_8_1⟩, p0⟩, by simp only [hL, List.mem_cons, _root_.true_or, _root_.or_true],
        stride_mem spos_8_1 (ix2 (⟨((y 0).val - 0) / 8, hq⟩ : Fin 256) (⟨(y 1).val, h1⟩ : Fin 128)) (funext fun a => Fin.ext (key 0 hm a))⟩
    | 1, _ => exact ⟨⟨⟨lr1, spos_8_1⟩, p1⟩, by simp only [hL, List.mem_cons, _root_.true_or, _root_.or_true],
        stride_mem spos_8_1 (ix2 (⟨((y 0).val - 0) / 8, hq⟩ : Fin 256) (⟨(y 1).val, h1⟩ : Fin 128)) (funext fun a => Fin.ext (key 1 hm a))⟩
    | 2, _ => exact ⟨⟨⟨lr2, spos_8_1⟩, p2⟩, by simp only [hL, List.mem_cons, _root_.true_or, _root_.or_true],
        stride_mem spos_8_1 (ix2 (⟨((y 0).val - 0) / 8, hq⟩ : Fin 256) (⟨(y 1).val, h1⟩ : Fin 128)) (funext fun a => Fin.ext (key 2 hm a))⟩
    | 3, _ => exact ⟨⟨⟨lr3, spos_8_1⟩, p3⟩, by simp only [hL, List.mem_cons, _root_.true_or, _root_.or_true],
        stride_mem spos_8_1 (ix2 (⟨((y 0).val - 0) / 8, hq⟩ : Fin 256) (⟨(y 1).val, h1⟩ : Fin 128)) (funext fun a => Fin.ext (key 3 hm a))⟩
    | 4, _ => exact ⟨⟨⟨lr4, spos_8_1⟩, p4⟩, by simp only [hL, List.mem_cons, _root_.true_or, _root_.or_true],
        stride_mem spos_8_1 (ix2 (⟨((y 0).val - 0) / 8, hq⟩ : Fin 256) (⟨(y 1).val, h1⟩ : Fin 128)) (funext fun a => Fin.ext (key 4 hm a))⟩
    | 5, _ => exact ⟨⟨⟨lr5, spos_8_1⟩, p5⟩, by simp only [hL, List.mem_cons, _root_.true_or, _root_.or_true],
        stride_mem spos_8_1 (ix2 (⟨((y 0).val - 0) / 8, hq⟩ : Fin 256) (⟨(y 1).val, h1⟩ : Fin 128)) (funext fun a => Fin.ext (key 5 hm a))⟩
    | 6, _ => exact ⟨⟨⟨lr6, spos_8_1⟩, p6⟩, by simp only [hL, List.mem_cons, _root_.true_or, _root_.or_true],
        stride_mem spos_8_1 (ix2 (⟨((y 0).val - 0) / 8, hq⟩ : Fin 256) (⟨(y 1).val, h1⟩ : Fin 128)) (funext fun a => Fin.ext (key 6 hm a))⟩
    | 7, _ => exact ⟨⟨⟨lr7, spos_8_1⟩, p7⟩, by simp only [hL, List.mem_cons, _root_.true_or, _root_.or_true],
        stride_mem spos_8_1 (ix2 (⟨((y 0).val - 0) / 8, hq⟩ : Fin 256) (⟨(y 1).val, h1⟩ : Fin 128)) (funext fun a => Fin.ext (key 7 hm a))⟩
    | n + 8, h => exact absurd h (by omega)
  · have hq : ((y 0).val - 2048) / 8 < 256 := by omega
    have key : ∀ j : ℕ, (y 0).val % 8 = j → ∀ a : Fin 2, (![2048 + j, 0] : Fin 2 → ℕ) a + (![8, 1] : Fin 2 → ℕ) a * ((ix2 (⟨((y 0).val - 2048) / 8, hq⟩ : Fin 256) (⟨(y 1).val, h1⟩ : Fin 128) : S256x128.Idx) a).val = (y a).val := by
      intro j hj a
      match a with
      | ⟨0, _⟩ => show 2048 + j + 8 * (((y 0).val - 2048) / 8) = (y 0).val; omega
      | ⟨1, _⟩ => show 0 + 1 * (y 1).val = (y 1).val; omega
    match hm : (y 0).val % 8, hj with
    | 0, _ => exact ⟨⟨⟨lr2048, spos_8_1⟩, q0⟩, by simp only [hL, List.mem_cons, _root_.true_or, _root_.or_true],
        stride_mem spos_8_1 (ix2 (⟨((y 0).val - 2048) / 8, hq⟩ : Fin 256) (⟨(y 1).val, h1⟩ : Fin 128)) (funext fun a => Fin.ext (key 0 hm a))⟩
    | 1, _ => exact ⟨⟨⟨lr2049, spos_8_1⟩, q1⟩, by simp only [hL, List.mem_cons, _root_.true_or, _root_.or_true],
        stride_mem spos_8_1 (ix2 (⟨((y 0).val - 2048) / 8, hq⟩ : Fin 256) (⟨(y 1).val, h1⟩ : Fin 128)) (funext fun a => Fin.ext (key 1 hm a))⟩
    | 2, _ => exact ⟨⟨⟨lr2050, spos_8_1⟩, q2⟩, by simp only [hL, List.mem_cons, _root_.true_or, _root_.or_true],
        stride_mem spos_8_1 (ix2 (⟨((y 0).val - 2048) / 8, hq⟩ : Fin 256) (⟨(y 1).val, h1⟩ : Fin 128)) (funext fun a => Fin.ext (key 2 hm a))⟩
    | 3, _ => exact ⟨⟨⟨lr2051, spos_8_1⟩, q3⟩, by simp only [hL, List.mem_cons, _root_.true_or, _root_.or_true],
        stride_mem spos_8_1 (ix2 (⟨((y 0).val - 2048) / 8, hq⟩ : Fin 256) (⟨(y 1).val, h1⟩ : Fin 128)) (funext fun a => Fin.ext (key 3 hm a))⟩
    | 4, _ => exact ⟨⟨⟨lr2052, spos_8_1⟩, q4⟩, by simp only [hL, List.mem_cons, _root_.true_or, _root_.or_true],
        stride_mem spos_8_1 (ix2 (⟨((y 0).val - 2048) / 8, hq⟩ : Fin 256) (⟨(y 1).val, h1⟩ : Fin 128)) (funext fun a => Fin.ext (key 4 hm a))⟩
    | 5, _ => exact ⟨⟨⟨lr2053, spos_8_1⟩, q5⟩, by simp only [hL, List.mem_cons, _root_.true_or, _root_.or_true],
        stride_mem spos_8_1 (ix2 (⟨((y 0).val - 2048) / 8, hq⟩ : Fin 256) (⟨(y 1).val, h1⟩ : Fin 128)) (funext fun a => Fin.ext (key 5 hm a))⟩
    | 6, _ => exact ⟨⟨⟨lr2054, spos_8_1⟩, q6⟩, by simp only [hL, List.mem_cons, _root_.true_or, _root_.or_true],
        stride_mem spos_8_1 (ix2 (⟨((y 0).val - 2048) / 8, hq⟩ : Fin 256) (⟨(y 1).val, h1⟩ : Fin 128)) (funext fun a => Fin.ext (key 6 hm a))⟩
    | 7, _ => exact ⟨⟨⟨lr2055, spos_8_1⟩, q7⟩, by simp only [hL, List.mem_cons, _root_.true_or, _root_.or_true],
        stride_mem spos_8_1 (ix2 (⟨((y 0).val - 2048) / 8, hq⟩ : Fin 256) (⟨(y 1).val, h1⟩ : Fin 128)) (funext fun a => Fin.ext (key 7 hm a))⟩
    | n + 8, h => exact absurd h (by omega)

/-! ## What the body stores there -/

section Vals
variable (x0 : Vec F S1x512x512 .bf16) (x1 : Vec F S1x512x512 .bf16) (x2 : Vec F S1x512x1024 .f32) (x3 : Vec F S1024x1024 .bf16) (x4 : Vec F S1x1x1024 .f32) (x5 : Vec F S1x1024 .f32) (x6 : Vec F S1x1x1024 .f32) (x7 : Vec F S1x1x1024 .f32)

/-- The first half's residual rows are `resLo + gateLo`; the second half's product before the gate is `prodHi`. -/
def resLo : FVec F S256x1024 .f32 := k0_pay5 (ld x2 rX0)
def gateLo : FVec F S256x1024 .f32 := k0_pay6 (ld x0 rRet0) (ld x3 rWt) (ld x1 rAtt0) (ld x3 rWb) x4
def prodHi : FVec F S256x1024 .f32 := k0_pay4 (ld x0 rRet1) (ld x3 rWt) (ld x1 rAtt1) (ld x3 rWb)
def xLo : FVec F S256x1024 .f32 := k0_pay7 (resLo x2) (gateLo x0 x1 x3 x4)
def xHi : FVec F S256x1024 .f32 := k0_pay17 (prodHi x0 x1 x3) (ld x2 rX1) x4
/-- The first half's normalised rows, and the second half's before scale and shift. -/
def nLo : FVec F S256x1024 .f32 := k0_pay8 (resLo x2) (gateLo x0 x1 x3 x4) x5 x6 x7
def nHi : FVec F S256x1024 .f32 := k0_pay18 (prodHi x0 x1 x3) (ld x2 rX1) x4 x5

def outX : Vec F S512x1024 .f32 := View.canon (xL (xLo x0 x1 x2 x3 x4) (xHi x0 x1 x2 x3 x4))
def outH : Vec F S4096x128 .f32 := View.canon (hL
    (k0_pay9 (resLo x2) (gateLo x0 x1 x3 x4) x5 x6 x7)
    (k0_pay10 (resLo x2) (gateLo x0 x1 x3 x4) x5 x6 x7)
    (k0_pay11 (resLo x2) (gateLo x0 x1 x3 x4) x5 x6 x7)
    (k0_pay12 (resLo x2) (gateLo x0 x1 x3 x4) x5 x6 x7)
    (k0_pay13 (nLo x0 x1 x2 x3 x4 x5 x6 x7))
    (k0_pay14 (nLo x0 x1 x2 x3 x4 x5 x6 x7))
    (k0_pay15 (nLo x0 x1 x2 x3 x4 x5 x6 x7))
    (k0_pay16 (nLo x0 x1 x2 x3 x4 x5 x6 x7))
    (k0_pay20 (nHi x0 x1 x2 x3 x4 x5) x6 x7)
    (k0_pay21 (nHi x0 x1 x2 x3 x4 x5) x6 x7)
    (k0_pay22 (nHi x0 x1 x2 x3 x4 x5) x6 x7)
    (k0_pay23 (nHi x0 x1 x2 x3 x4 x5) x6 x7)
    (k0_pay24 (nHi x0 x1 x2 x3 x4 x5) x6 x7)
    (k0_pay25 (nHi x0 x1 x2 x3 x4 x5) x6 x7)
    (k0_pay26 (nHi x0 x1 x2 x3 x4 x5) x6 x7)
    (k0_pay27 (nHi x0 x1 x2 x3 x4 x5) x6 x7))

end Vals

theorem read_outX {sp : Space} (v : View sig .tc sp S512x1024 .f32) (f : v.ty.Contents (Elt F)) (x0 : Vec F S1x512x512 .bf16) (x1 : Vec F S1x512x512 .bf16) (x2 : Vec F S1x512x1024 .f32) (x3 : Vec F S1024x1024 .bf16) (x4 : Vec F S1x1x1024 .f32)
    {a0 a1 : Vec F S1x256x512 .bf16} {b0 b1 : Vec F S1x512x256 .bf16} {wt wt' wb wb' : Vec F S512x1024 .bf16} {r0 r1 : Vec F S1x256x1024 .f32} {g g' : Vec F S1x1x1024 .f32}
    (ha0 : a0 = ld x0 rRet0) (ha1 : a1 = ld x0 rRet1) (hb0 : b0 = ld x1 rAtt0) (hb1 : b1 = ld x1 rAtt1) (hwt : wt = ld x3 rWt) (hwt' : wt' = ld x3 rWt) (hwb : wb = ld x3 rWb) (hwb' : wb' = ld x3 rWb) (hr0 : r0 = ld x2 rX0) (hr1 : r1 = ld x2 rX1) (hg : g = x4) (hg' : g' = x4) :
    v.read (Elt F) (v.writes (Elt F) f (xL (k0_pay7 (k0_pay5 r0) (k0_pay6 a0 wt b0 wb g)) (k0_pay17 (k0_pay4 a1 wt' b1 wb') r1 g'))) = outX x0 x1 x2 x3 x4 := by
  subst ha0 ha1 hb0 hb1 hwt hwt' hwb hwb' hr0 hr1 hg hg'
  unfold outX
  rw [← View.read_writes_junk_eq_canon v]
  exact View.read_writes_of_cover _ _ _ _ _ (xL_cover _ _)

theorem read_outH {sp : Space} (v : View sig .tc sp S4096x128 .f32) (f : v.ty.Contents (Elt F)) (x0 : Vec F S1x512x512 .bf16) (x1 : Vec F S1x512x512 .bf16) (x2 : Vec F S1x512x1024 .f32) (x3 : Vec F S1024x1024 .bf16) (x4 : Vec F S1x1x1024 .f32) (x5 : Vec F S1x1024 .f32) (x6 : Vec F S1x1x1024 .f32) (x7 : Vec F S1x1x1024 .f32)
    {a0 a1 : Vec F S1x256x512 .bf16} {b0 b1 : Vec F S1x512x256 .bf16} {wt wt' wb wb' : Vec F S512x1024 .bf16} {r0 r1 : Vec F S1x256x1024 .f32} {g g' : Vec F S1x1x1024 .f32} {n n' : Vec F S1x1024 .f32} {s s' h h' : Vec F S1x1x1024 .f32}
    (ha0 : a0 = ld x0 rRet0) (ha1 : a1 = ld x0 rRet1) (hb0 : b0 = ld x1 rAtt0) (hb1 : b1 = ld x1 rAtt1) (hwt : wt = ld x3 rWt) (hwt' : wt' = ld x3 rWt) (hwb : wb = ld x3 rWb) (hwb' : wb' = ld x3 rWb) (hr0 : r0 = ld x2 rX0) (hr1 : r1 = ld x2 rX1) (hg : g = x4) (hg' : g' = x4) (hn : n = x5) (hn' : n' = x5) (hs : s = x6) (hs' : s' = x6) (hh : h = x7) (hh' : h' = x7) :
    v.read (Elt F) (v.writes (Elt F) f (hL
      (k0_pay9 (k0_pay5 r0) (k0_pay6 a0 wt b0 wb g) n s h)
      (k0_pay10 (k0_pay5 r0) (k0_pay6 a0 wt b0 wb g) n s h)
      (k0_pay11 (k0_pay5 r0) (k0_pay6 a0 wt b0 wb g) n s h)
      (k0_pay12 (k0_pay5 r0) (k0_pay6 a0 wt b0 wb g) n s h)
      (k0_pay13 (k0_pay8 (k0_pay5 r0) (k0_pay6 a0 wt b0 wb g) n s h))
      (k0_pay14 (k0_pay8 (k0_pay5 r0) (k0_pay6 a0 wt b0 wb g) n s h))
      (k0_pay15 (k0_pay8 (k0_pay5 r0) (k0_pay6 a0 wt b0 wb g) n s h))
      (k0_pay16 (k0_pay8 (k0_pay5 r0) (k0_pay6 a0 wt b0 wb g) n s h))
      (k0_pay20 (k0_pay18 (k0_pay4 a1 wt' b1 wb') r1 g' n') s' h')
      (k0_pay21 (k0_pay18 (k0_pay4 a1 wt' b1 wb') r1 g' n') s' h')
      (k0_pay22 (k0_pay18 (k0_pay4 a1 wt' b1 wb') r1 g' n') s' h')
      (k0_pay23 (k0_pay18 (k0_pay4 a1 wt' b1 wb') r1 g' n') s' h')
      (k0_pay24 (k0_pay18 (k0_pay4 a1 wt' b1 wb') r1 g' n') s' h')
      (k0_pay25 (k0_pay18 (k0_pay4 a1 wt' b1 wb') r1 g' n') s' h')
      (k0_pay26 (k0_pay18 (k0_pay4 a1 wt' b1 wb') r1 g' n') s' h')
      (k0_pay27 (k0_pay18 (k0_pay4 a1 wt' b1 wb') r1 g' n') s' h'))) = outH x0 x1 x2 x3 x4 x5 x6 x7 := by
  subst ha0 ha1 hb0 hb1 hwt hwt' hwb hwb' hr0 hr1 hg hg' hn hn' hs hs' hh hh'
  unfold outH
  rw [← View.read_writes_junk_eq_canon v]
  exact View.read_writes_of_cover _ _ _ _ _ (hL_cover _ _ _ _ _ _ _ _ _ _ _ _ _ _ _ _)

end Cert.Proof.Oproj

end
-- ==== Proof.Oproj.Run.lean ====
/-
  The run of one point of the output projection's body, in its two cases: the first point, which zeroes the counts, and the others.
-/
module

public import proofs.«01_k».proof.Proof.Oproj.State
public import Idealize.ShloMosaic.Lib.WholeRead
public import Idealize.ShloMosaic.Lib.VecWindow

@[expose] public section

set_option maxRecDepth 16384

noncomputable section

namespace Cert.Proof.Oproj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S2x1024x128 .bf16) (harg10 : arg10.IsWhole) (arg11 : Memref sig .tc .vmem S1x128 .f32) (harg11 : arg11.IsWhole) (arg12 : Memref sig .tc .vmem S512x1024 .f32) (harg12 : arg12.IsWhole) (arg13 : Memref sig .tc .vmem S4096x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S1x128 .f32) (harg17 : arg17.IsWhole)
    (x0 : Vec F S1x512x512 .bf16) (x1 : Vec F S1x512x512 .bf16) (x2 : Vec F S1x512x1024 .f32) (x3 : Vec F S1024x1024 .bf16) (x4 : Vec F S1x1x1024 .f32) (x5 : Vec F S1x1024 .f32) (x6 : Vec F S1x1x1024 .f32) (x7 : Vec F S1x1x1024 .f32) (x8 : Vec F S2x1024x128 .bf16) (x9 : Vec F S1x128 .f32)

set_option maxHeartbeats 8000000 in
theorem run_first (hc : Scalar.cmpi .ne (Scalar.extui (Scalar.andi (Scalar.cmpi .eq (BitVec.ofNat 32 (i 0).val) 0#32) (Scalar.cmpi .eq (BitVec.ofNat 32 (i 1).val) 0#32)) : BitVec 32) 0#32 = 1#1) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (outX x0 x1 x2 x3 x4) ∗ owns (c : Thread nD τ) arg13 fullShare (outH x0 x1 x2 x3 x4 x5 x6 x7) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) Set.univ (cc0_oproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_oproj_eq_skeleton]; unfold cc0_oproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr
    swap; · iexact H10
    ipureintro
    dsimp only
    exact read_outX arg12.view _ x0 x1 x2 x3 x4 (funext fun y => harg2.readAt_unread x0 _ y) (funext fun y => harg2.readAt_unread x0 _ y) (funext fun y => harg3.readAt_unread x1 _ y) (funext fun y => harg3.readAt_unread x1 _ y) (funext fun y => harg5.readAt_unread x3 _ y) (funext fun y => harg5.readAt_unread x3 _ y) (funext fun y => harg5.readAt_unread x3 _ y) (funext fun y => harg5.readAt_unread x3 _ y) (funext fun y => harg4.readAt_unread x2 _ y) (funext fun y => harg4.readAt_unread x2 _ y) ((View.readAt_full arg6.view _ _).trans (harg6.read_unread x4)) ((View.readAt_full arg6.view _ _).trans (harg6.read_unread x4))
  isplitl [H11]
  · iexists _; isplitr
    swap; · iexact H11
    ipureintro
    dsimp only
    exact read_outH arg13.view _ x0 x1 x2 x3 x4 x5 x6 x7 (funext fun y => harg2.readAt_unread x0 _ y) (funext fun y => harg2.readAt_unread x0 _ y) (funext fun y => harg3.readAt_unread x1 _ y) (funext fun y => harg3.readAt_unread x1 _ y) (funext fun y => harg5.readAt_unread x3 _ y) (funext fun y => harg5.readAt_unread x3 _ y) (funext fun y => harg5.readAt_unread x3 _ y) (funext fun y => harg5.readAt_unread x3 _ y) (funext fun y => harg4.readAt_unread x2 _ y) (funext fun y => harg4.readAt_unread x2 _ y) ((View.readAt_full arg6.view _ _).trans (harg6.read_unread x4)) ((View.readAt_full arg6.view _ _).trans (harg6.read_unread x4)) ((View.readAt_full arg7.view _ _).trans (harg7.read_unread x5)) ((View.readAt_full arg7.view _ _).trans (harg7.read_unread x5)) ((View.readAt_full arg8.view _ _).trans (harg8.read_unread x6)) ((View.readAt_full arg8.view _ _).trans (harg8.read_unread x6)) ((View.readAt_full arg9.view _ _).trans (harg9.read_unread x7)) ((View.readAt_full arg9.view _ _).trans (harg9.read_unread x7))
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  iexists _; iexists _; isplitr; swap; · iexact H15
  ipureintro; rfl

set_option maxHeartbeats 8000000 in
theorem run_later (hc : ¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (outX x0 x1 x2 x3 x4) ∗ owns (c : Thread nD τ) arg13 fullShare (outH x0 x1 x2 x3 x4 x5 x6 x7) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) Set.univ (cc0_oproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_oproj_eq_skeleton]; unfold cc0_oproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr
    swap; · iexact H10
    ipureintro
    dsimp only
    exact read_outX arg12.view _ x0 x1 x2 x3 x4 (funext fun y => harg2.readAt_unread x0 _ y) (funext fun y => harg2.readAt_unread x0 _ y) (funext fun y => harg3.readAt_unread x1 _ y) (funext fun y => harg3.readAt_unread x1 _ y) (funext fun y => harg5.readAt_unread x3 _ y) (funext fun y => harg5.readAt_unread x3 _ y) (funext fun y => harg5.readAt_unread x3 _ y) (funext fun y => harg5.readAt_unread x3 _ y) (funext fun y => harg4.readAt_unread x2 _ y) (funext fun y => harg4.readAt_unread x2 _ y) ((View.readAt_full arg6.view _ _).trans (harg6.read_unread x4)) ((View.readAt_full arg6.view _ _).trans (harg6.read_unread x4))
  isplitl [H11]
  · iexists _; isplitr
    swap; · iexact H11
    ipureintro
    dsimp only
    exact read_outH arg13.view _ x0 x1 x2 x3 x4 x5 x6 x7 (funext fun y => harg2.readAt_unread x0 _ y) (funext fun y => harg2.readAt_unread x0 _ y) (funext fun y => harg3.readAt_unread x1 _ y) (funext fun y => harg3.readAt_unread x1 _ y) (funext fun y => harg5.readAt_unread x3 _ y) (funext fun y => harg5.readAt_unread x3 _ y) (funext fun y => harg5.readAt_unread x3 _ y) (funext fun y => harg5.readAt_unread x3 _ y) (funext fun y => harg4.readAt_unread x2 _ y) (funext fun y => harg4.readAt_unread x2 _ y) ((View.readAt_full arg6.view _ _).trans (harg6.read_unread x4)) ((View.readAt_full arg6.view _ _).trans (harg6.read_unread x4)) ((View.readAt_full arg7.view _ _).trans (harg7.read_unread x5)) ((View.readAt_full arg7.view _ _).trans (harg7.read_unread x5)) ((View.readAt_full arg8.view _ _).trans (harg8.read_unread x6)) ((View.readAt_full arg8.view _ _).trans (harg8.read_unread x6)) ((View.readAt_full arg9.view _ _).trans (harg9.read_unread x7)) ((View.readAt_full arg9.view _ _).trans (harg9.read_unread x7))
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  iexists _; iexists _; isplitr; swap; · iexact H15
  ipureintro; rfl

end Cert.Proof.Oproj

end
-- ==== Proof.Oproj.Launch.lean ====
/-
  The output projection's launch: the proof data of its pipeline, in which the four tables of the selection may end at anything, the
  body's obligation at every point, the run, and the frame.
-/
module

public import proofs.«01_k».proof.Proof.Oproj.Run

@[expose] public section

set_option maxRecDepth 16384

noncomputable section

namespace Cert.Proof.Oproj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows of which nothing is said: the selection, its index and gate tables, and the counts. -/
def fgt (w : Fin cfg0.W) : Bool := decide (12 ≤ w.val)

def outXAt (c : Dev nD) (t : Fin cfg0.N) : Vec F S512x1024 .f32 := outX (iblk m c 0 t) (iblk m c 1 t) (iblk m c 2 t) (iblk m c 3 t) (iblk m c 4 t)
def outHAt (c : Dev nD) (t : Fin cfg0.N) : Vec F S4096x128 .f32 := outH (iblk m c 0 t) (iblk m c 1 t) (iblk m c 2 t) (iblk m c 3 t) (iblk m c 4 t) (iblk m c 5 t) (iblk m c 6 t) (iblk m c 7 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outXAt m c t
    | ⟨11, _⟩ => outHAt m c t
    | ⟨12, _⟩ => (View.canon [] : Vec F S512x128 .f32)
    | ⟨13, _⟩ => (View.canon [] : Vec F S512x128 .f32)
    | ⟨14, _⟩ => (View.canon [] : Vec F S512x128 .f32)
    | ⟨15, _⟩ => (View.canon [] : Vec F S1x128 .f32)
    | ⟨n + 16, h⟩ => absurd h (Nat.not_lt.2 (Nat.le_add_left 16 n))
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]; try rfl
theorem after0_1 (c : Dev nD) (t : Fin cfg0.N) : (dats m 0 c).after 1 t = iblk m c 1 t := by dsimp only [dats]; try rfl
theorem after0_2 (c : Dev nD) (t : Fin cfg0.N) : (dats m 0 c).after 2 t = iblk m c 2 t := by dsimp only [dats]; try rfl
theorem after0_3 (c : Dev nD) (t : Fin cfg0.N) : (dats m 0 c).after 3 t = iblk m c 3 t := by dsimp only [dats]; try rfl
theorem after0_4 (c : Dev nD) (t : Fin cfg0.N) : (dats m 0 c).after 4 t = iblk m c 4 t := by dsimp only [dats]; try rfl
theorem after0_5 (c : Dev nD) (t : Fin cfg0.N) : (dats m 0 c).after 5 t = iblk m c 5 t := by dsimp only [dats]; try rfl
theorem after0_6 (c : Dev nD) (t : Fin cfg0.N) : (dats m 0 c).after 6 t = iblk m c 6 t := by dsimp only [dats]; try rfl
theorem after0_7 (c : Dev nD) (t : Fin cfg0.N) : (dats m 0 c).after 7 t = iblk m c 7 t := by dsimp only [dats]; try rfl
theorem after0_8 (c : Dev nD) (t : Fin cfg0.N) : (dats m 0 c).after 8 t = iblk m c 8 t := by dsimp only [dats]; try rfl
theorem after0_9 (c : Dev nD) (t : Fin cfg0.N) : (dats m 0 c).after 9 t = iblk m c 9 t := by dsimp only [dats]; try rfl
theorem after0_10 (c : Dev nD) (t : Fin cfg0.N) : (dats m 0 c).after 10 t = outXAt m c t := by dsimp only [dats]; try rfl
theorem after0_11 (c : Dev nD) (t : Fin cfg0.N) : (dats m 0 c).after 11 t = outHAt m c t := by dsimp only [dats]; try rfl
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ X, owns (c : Thread nD τ) (ms12 t) fullShare X)
    ∗ (∃ X, owns (c : Thread nD τ) (ms13 t) fullShare X)
    ∗ (∃ X, owns (c : Thread nD τ) (ms14 t) fullShare X)
    ∗ (∃ X, owns (c : Thread nD τ) (ms15 t) fullShare X))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ (∃ X, owns (c : Thread nD τ) (ms12 t) fullShare X)
    ∗ (∃ X, owns (c : Thread nD τ) (ms13 t) fullShare X)
    ∗ (∃ X, owns (c : Thread nD τ) (ms14 t) fullShare X)
    ∗ (∃ X, owns (c : Thread nD τ) (ms15 t) fullShare X))

/-- One point, in either case of the body. -/
theorem point (c : Dev nD) (t : Fin cfg0.N) (K : PUnit → sProp 𝕄) :
    iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t) ∗ owns (c : Thread nD τ) (ms9 t) fullShare (iblk m c 9 t) ∗ (∃ d, owns (c : Thread nD τ) (ms10 t) fullShare d) ∗ (∃ d, owns (c : Thread nD τ) (ms11 t) fullShare d) ∗ (∃ d, owns (c : Thread nD τ) (ms12 t) fullShare d) ∗ (∃ d, owns (c : Thread nD τ) (ms13 t) fullShare d) ∗ (∃ d, owns (c : Thread nD τ) (ms14 t) fullShare d) ∗ (∃ d, owns (c : Thread nD τ) (ms15 t) fullShare d)
        ∗ (iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t) ∗ owns (c : Thread nD τ) (ms9 t) fullShare (iblk m c 9 t) ∗ owns (c : Thread nD τ) (ms10 t) fullShare (outXAt m c t) ∗ owns (c : Thread nD τ) (ms11 t) fullShare (outHAt m c t) ∗ (∃ d, owns (c : Thread nD τ) (ms12 t) fullShare d) ∗ (∃ d, owns (c : Thread nD τ) (ms13 t) fullShare d) ∗ (∃ d, owns (c : Thread nD τ) (ms14 t) fullShare d) ∗ (∃ d, owns (c : Thread nD τ) (ms15 t) fullShare d)) -∗ K ⟨⟩))
      ⊢ wp frame (wpE (defs₀ (F := F)) Variants.none c none) Set.univ (bodyT t) K := by
  by_cases hc : Scalar.cmpi .ne (Scalar.extui (Scalar.andi (Scalar.cmpi .eq (BitVec.ofNat 32 ((grid0.coords t) 0).val) 0#32) (Scalar.cmpi .eq (BitVec.ofNat 32 ((grid0.coords t) 1).val) 0#32)) : BitVec 32) 0#32 = 1#1
  · exact run_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (iblk m c 0 t) (iblk m c 1 t) (iblk m c 2 t) (iblk m c 3 t) (iblk m c 4 t) (iblk m c 5 t) (iblk m c 6 t) (iblk m c 7 t) (iblk m c 8 t) (iblk m c 9 t) hc K
  · exact run_later c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (iblk m c 0 t) (iblk m c 1 t) (iblk m c 2 t) (iblk m c 3 t) (iblk m c 4 t) (iblk m c 5 t) (iblk m c 6 t) (iblk m c 7 t) (iblk m c 8 t) (iblk m c 9 t) hc K

set_option maxHeartbeats 1600000 in
theorem sound_body (c : Dev nD) (t : Fin cfg0.N) :
    bodyPre m c t ⊢ wp frame (wpE (defs₀ (F := F)) Variants.none c none) Set.univ (bodyT t) (fun _ => bodyPost m c t) := by
  unfold bodyPre bodyPost
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (point m c t _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem defs₀_row (t : Fin cfg0.N) :
    defs₀ (F := F) .tc cfg0.body (cfg0.bodyArgs t (cfg0.slots t)) = bodyT t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl) (hQ' := fun _ h => h)

/-- What a run leaves: the arguments as launched, the first two results as the points leave them. -/
theorem value_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_v15_0) = (dats m 0 c).arrAt 10 cfg0.N
      ∧ r.2.mem ((c.tc : Thread nD τ).loc main_v15_1) = (dats m 0 c).arrAt 11 cfg0.N)
      ∧ r.2.sem = fun _ => 0) := by
  refine (θ_run defs _ _).mono (fun r h => ⟨fun c => ?_, h.2⟩) (run_main m ρ)
  have hp := h.1
  refine ⟨?_, ?_, ?_, ?_, ?_, ?_, ?_, ?_, ?_, ?_, ?_, ?_⟩
  · exact (Pipeline.RDat.FramePost.arr_in hp c 0 rfl).trans ((A_eq m c 0).trans (V_arg0 m c))
  · exact (Pipeline.RDat.FramePost.arr_in hp c 1 rfl).trans ((A_eq m c 1).trans (V_arg1 m c))
  · exact (Pipeline.RDat.FramePost.arr_in hp c 2 rfl).trans ((A_eq m c 2).trans (V_arg2 m c))
  · exact ((hp c).2 main_arg3 (by decide)).trans (V_arg3 m c)
  · exact ((hp c).2 main_arg4 (by decide)).trans (V_arg4 m c)
  · exact ((hp c).2 main_arg5 (by decide)).trans (V_arg5 m c)
  · exact ((hp c).2 main_arg6 (by decide)).trans (V_arg6 m c)
  · exact ((hp c).2 main_arg7 (by decide)).trans (V_arg7 m c)
  · exact ((hp c).2 main_arg8 (by decide)).trans (V_arg8 m c)
  · exact ((hp c).2 main_arg9 (by decide)).trans (V_arg9 m c)
  · exact ((dats m 0 c).toRForget_arrAt_iff (show fgt 10 = false from rfl) _ _).mp ((hp c).1 10)
  · exact ((dats m 0 c).toRForget_arrAt_iff (show fgt 11 = false from rfl) _ _).mp ((hp c).1 11)

theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => by
    obtain ⟨h0, h1, h2, h3, h4, h5, h6, h7, h8, h9, -, -⟩ := h.1 c
    exact ⟨h0, h1, h2, h3, h4, h5, h6, h7, h8, h9⟩, h.2⟩) (value_run m ρ)

end Cert.Proof.Oproj

end
-- ==== Proof.Oproj.Bits.lean ====
/-
  The frames of the output projection's call: the program as it is printed is the ideal one's text, so the run proved of that text at
  any reading of the floats is its run too.
-/
module

public import proofs.«01_k».proof.Defs
public import proofs.«01_k».proof.Proof.Oproj.Launch
public import proofs.«01_k».proof.Proof.Gen.Kernel4

@[expose] public section

set_option maxRecDepth 16384
noncomputable section

namespace Cert.Proof.Oproj
open Idealize.ShloMosaic Idealize.ShloMosaic.TcCoe

theorem frame_ideal : Cert.quiescent_Kernel4Ideal (hKernel4Ideal := Cert.Kernel4Ideal.Gen.facts) := fun m ρ _ =>
  frame_run (F := Ideal) m ρ

theorem frame_bits : Cert.quiescent_Kernel4 (hKernel4 := Cert.Kernel4.Gen.facts) := by
  intro m ρ _
  have run := frame_run (F := Bits) m ρ
  refine Eq.mpr ?_ run
  sl_kernel_rfl
end Cert.Proof.Oproj
end
-- ==== Proof.Oproj.Spec.lean ====
/-
  The output projection's two results as functions of the arguments, and one point's blocks of them: the gated residual row, its
  root-mean-square norm with gain, scale and shift, and the two arrays in the layouts the call writes them in.
-/
module

public import proofs.«01_k».proof.Proof.Oproj.State
public import Idealize.ShloMosaic.Lib.Pointwise
public import Idealize.ShloMosaic.Lib.Pipeline.ValueKit
public import Idealize.ShloMosaic.Lib.Pipeline.ReadBack

@[expose] public section

set_option maxRecDepth 16384
noncomputable section

namespace Cert.Proof.Oproj

open Cert.Kernel4Ideal Cert.Kernel4Ideal.Gen
open Idealize.ShloMosaic Idealize.ShloMosaic.TcCoe

section
variable (RET : FVec Ideal S4x8192x512 .bf16) (ATT : FVec Ideal S4x512x8192 .bf16) (X : FVec Ideal S4x8192x1024 .f32)
    (G1 : FVec Ideal S4x1024 .f32) (N : FVec Ideal S1024 .f32) (SC SH : FVec Ideal S4x1024 .f32) (W : FVec Ideal S1024x1024 .f32)

/-- Row `(b, s)` of the mixers' outputs side by side: the retention's 512 channels, then the attention's. -/
def mixE (b : Fin 4) (s : Fin 8192) (k : Fin 1024) : EReal :=
  if h : k.val < 512 then RET (ix3 b s ⟨k.val, h⟩) else ATT (ix3 b ⟨k.val - 512, by have := k.isLt; omega⟩ s)
/-- The residual stream after the mixers. -/
def x1E (b : Fin 4) (s : Fin 8192) (d : Fin 1024) : EReal :=
  X (ix3 b s d) + G1 (ix2 b d) * ∑ k : Fin 1024, mixE RET ATT b s k * W (ix2 k d)
/-- Its norm, with gain, scale and shift. -/
def h2E (b : Fin 4) (s : Fin 8192) (d : Fin 1024) : EReal :=
  x1E RET ATT X G1 W b s d *
      Ideal.rsqrt (Ideal.div (∑ x : Fin 1024, x1E RET ATT X G1 W b s x * x1E RET ATT X G1 W b s x) (Ideal.ofBits FTy.f32 1149239296#32) +
        Ideal.ofBits FTy.f32 897988541#32) * N (ix1 d) * (1 + SC (ix2 b d)) + SH (ix2 b d)

def o_x1 : FVec Ideal S32768x1024 .f32 := fun j =>
  x1E RET ATT X G1 W ⟨(j 0).val / 8192, by have : (j 0).val < 32768 := (j 0).isLt; omega⟩ ⟨(j 0).val % 8192, Nat.mod_lt _ (by decide)⟩ (j 1)
def o_h2 : FVec Ideal S262144x128 .f32 := fun j =>
  h2E RET ATT X G1 N SC SH W ⟨(j 0).val / 65536, by have : (j 0).val < 262144 := (j 0).isLt; omega⟩ ⟨(j 0).val / 8 % 8192, Nat.mod_lt _ (by decide)⟩
    ⟨(j 0).val % 8 * 128 + (j 1).val, by have : (j 1).val < 128 := (j 1).isLt; omega⟩

/-- The sum over the mixers' channels is the retention's and the attention's. -/
theorem mix_sum (b : Fin 4) (s : Fin 8192) (d : Fin 1024) :
    ∑ k : Fin 1024, mixE RET ATT b s k * W (ix2 k d)
      = ∑ k : Fin 512, RET (ix3 b s k) * W (ix2 (⟨k.val, by omega⟩ : Fin 1024) d) + ∑ k : Fin 512, ATT (ix3 b k s) * W (ix2 (⟨512 + k.val, by omega⟩ : Fin 1024) d) := by
  refine (Fin.sum_univ_add (a := 512) (b := 512) (fun k : Fin (512 + 512) => mixE RET ATT b s k * W (ix2 (k : Fin 1024) d))).trans ?_
  refine congrArg₂ (· + ·) (Finset.sum_congr rfl fun k _ => ?_) (Finset.sum_congr rfl fun k _ => ?_)
  · refine congrArg₂ (· * ·) ?_ rfl
    unfold mixE
    exact dif_pos k.isLt
  · refine congrArg₂ (· * ·) ?_ rfl
    unfold mixE
    refine (dif_neg (by show ¬ 512 + k.val < 512; omega)).trans ?_
    exact congrArg (fun z : Fin 512 => ATT (ix3 b z s)) (Fin.ext (by show 512 + k.val - 512 = k.val; omega))

/-! ## The parts of a point's blocks -/

theorem ld_ret0 (x : Vec Ideal S1x512x512 .bf16) (r : Fin 256) (k : Fin 512) : ld (F := Ideal) (s := S1x512x512) (e := .bf16) x rRet0 (ix3 0 r k) = x (ix3 0 (⟨r.val, by omega⟩ : Fin 512) k) :=
  congrArg x (funext fun a => Fin.ext (by
    match a with
    | ⟨0, _⟩ => rfl
    | ⟨1, _⟩ => show 0 + 1 * r.val = r.val; omega
    | ⟨2, _⟩ => show 0 + 1 * k.val = k.val; omega))
theorem ld_ret1 (x : Vec Ideal S1x512x512 .bf16) (r : Fin 256) (k : Fin 512) : ld (F := Ideal) (s := S1x512x512) (e := .bf16) x rRet1 (ix3 0 r k) = x (ix3 0 (⟨256 + r.val, by omega⟩ : Fin 512) k) :=
  congrArg x (funext fun a => Fin.ext (by
    match a with
    | ⟨0, _⟩ => rfl
    | ⟨1, _⟩ => show 256 + 1 * r.val = 256 + r.val; omega
    | ⟨2, _⟩ => show 0 + 1 * k.val = k.val; omega))
theorem ld_att0 (x : Vec Ideal S1x512x512 .bf16) (k : Fin 512) (r : Fin 256) : ld (F := Ideal) (s := S1x512x512) (e := .bf16) x rAtt0 (ix3 0 k r) = x (ix3 0 k (⟨r.val, by omega⟩ : Fin 512)) :=
  congrArg x (funext fun a => Fin.ext (by
    match a with
    | ⟨0, _⟩ => rfl
    | ⟨1, _⟩ => show 0 + 1 * k.val = k.val; omega
    | ⟨2, _⟩ => show 0 + 1 * r.val = r.val; omega))
theorem ld_att1 (x : Vec Ideal S1x512x512 .bf16) (k : Fin 512) (r : Fin 256) : ld (F := Ideal) (s := S1x512x512) (e := .bf16) x rAtt1 (ix3 0 k r) = x (ix3 0 k (⟨256 + r.val, by omega⟩ : Fin 512)) :=
  congrArg x (funext fun a => Fin.ext (by
    match a with
    | ⟨0, _⟩ => rfl
    | ⟨1, _⟩ => show 0 + 1 * k.val = k.val; omega
    | ⟨2, _⟩ => show 256 + 1 * r.val = 256 + r.val; omega))
theorem ld_x0 (x : Vec Ideal S1x512x1024 .f32) (r : Fin 256) (d : Fin 1024) : ld (F := Ideal) (s := S1x512x1024) (e := .f32) x rX0 (ix3 0 r d) = x (ix3 0 (⟨r.val, by omega⟩ : Fin 512) d) :=
  congrArg x (funext fun a => Fin.ext (by
    match a with
    | ⟨0, _⟩ => rfl
    | ⟨1, _⟩ => show 0 + 1 * r.val = r.val; omega
    | ⟨2, _⟩ => show 0 + 1 * d.val = d.val; omega))
theorem ld_x1 (x : Vec Ideal S1x512x1024 .f32) (r : Fin 256) (d : Fin 1024) : ld (F := Ideal) (s := S1x512x1024) (e := .f32) x rX1 (ix3 0 r d) = x (ix3 0 (⟨256 + r.val, by omega⟩ : Fin 512) d) :=
  congrArg x (funext fun a => Fin.ext (by
    match a with
    | ⟨0, _⟩ => rfl
    | ⟨1, _⟩ => show 256 + 1 * r.val = 256 + r.val; omega
    | ⟨2, _⟩ => show 0 + 1 * d.val = d.val; omega))
theorem ld_wt (x : Vec Ideal S1024x1024 .bf16) (k : Fin 512) (d : Fin 1024) : ld (F := Ideal) (s := S1024x1024) (e := .bf16) x rWt (ix2 k d) = x (ix2 (⟨k.val, by omega⟩ : Fin 1024) d) :=
  congrArg x (funext fun a => Fin.ext (by
    match a with
    | ⟨0, _⟩ => show 0 + 1 * k.val = k.val; omega
    | ⟨1, _⟩ => show 0 + 1 * d.val = d.val; omega))
theorem ld_wb (x : Vec Ideal S1024x1024 .bf16) (k : Fin 512) (d : Fin 1024) : ld (F := Ideal) (s := S1024x1024) (e := .bf16) x rWb (ix2 k d) = x (ix2 (⟨512 + k.val, by omega⟩ : Fin 1024) d) :=
  congrArg x (funext fun a => Fin.ext (by
    match a with
    | ⟨0, _⟩ => show 512 + 1 * k.val = 512 + k.val; omega
    | ⟨1, _⟩ => show 0 + 1 * d.val = d.val; omega))

/-! ## One point's blocks -/

variable {RET ATT X G1 N SC SH W}
variable {x0 x1 : Vec Ideal S1x512x512 .bf16} {x2 : Vec Ideal S1x512x1024 .f32} {x3 : Vec Ideal S1024x1024 .bf16} {x4 : Vec Ideal S1x1x1024 .f32}
    {x5 : Vec Ideal S1x1024 .f32} {x6 x7 : Vec Ideal S1x1x1024 .f32} {b : Fin 4} {q : Fin 512 → Fin 8192}

theorem xLo_at (h0 : ∀ r k, x0 (ix3 0 r k) = RET (ix3 b (q r) k)) (h1 : ∀ k r, x1 (ix3 0 k r) = ATT (ix3 b k (q r))) (h2 : ∀ r d, x2 (ix3 0 r d) = X (ix3 b (q r) d))
    (h3 : ∀ k d, x3 (ix2 k d) = W (ix2 k d)) (h4 : ∀ d, x4 (ix3 0 0 d) = G1 (ix2 b d)) (r : Fin 256) (d : Fin 1024) :
    k0_pay7 (resLo x2) (gateLo x0 x1 x3 x4) (ix2 r d) = x1E RET ATT X G1 W b (q ⟨r.val, by omega⟩) d := by
  pointwise [k0_pay7, resLo, gateLo, k0_pay5, k0_pay6]
  unfold x1E
  rw [mix_sum]
  simp only [h4]
  exact congrArg₂ (· + ·) ((ld_x0 _ _ _).trans (h2 _ _)) (congrArg (G1 (ix2 b d) * ·) (congrArg₂ (· + ·)
    (Finset.sum_congr rfl fun k _ => congrArg₂ (· * ·) ((ld_ret0 _ _ _).trans (h0 _ _)) ((ld_wt _ _ _).trans (h3 _ _)))
    (Finset.sum_congr rfl fun k _ => congrArg₂ (· * ·) ((ld_att0 _ _ _).trans (h1 _ _)) ((ld_wb _ _ _).trans (h3 _ _)))))
theorem xHi_at (h0 : ∀ r k, x0 (ix3 0 r k) = RET (ix3 b (q r) k)) (h1 : ∀ k r, x1 (ix3 0 k r) = ATT (ix3 b k (q r))) (h2 : ∀ r d, x2 (ix3 0 r d) = X (ix3 b (q r) d))
    (h3 : ∀ k d, x3 (ix2 k d) = W (ix2 k d)) (h4 : ∀ d, x4 (ix3 0 0 d) = G1 (ix2 b d)) (r : Fin 256) (d : Fin 1024) :
    k0_pay17 (prodHi x0 x1 x3) (ld x2 rX1) x4 (ix2 r d) = x1E RET ATT X G1 W b (q ⟨256 + r.val, by omega⟩) d := by
  pointwise [k0_pay17, prodHi, k0_pay4]
  unfold x1E
  rw [mix_sum]
  simp only [h4]
  exact congrArg₂ (· + ·) ((ld_x1 _ _ _).trans (h2 _ _)) (congrArg (G1 (ix2 b d) * ·) (congrArg₂ (· + ·)
    (Finset.sum_congr rfl fun k _ => congrArg₂ (· * ·) ((ld_ret1 _ _ _).trans (h0 _ _)) ((ld_wt _ _ _).trans (h3 _ _)))
    (Finset.sum_congr rfl fun k _ => congrArg₂ (· * ·) ((ld_att1 _ _ _).trans (h1 _ _)) ((ld_wb _ _ _).trans (h3 _ _)))))

theorem nLo_at (h0 : ∀ r k, x0 (ix3 0 r k) = RET (ix3 b (q r) k)) (h1 : ∀ k r, x1 (ix3 0 k r) = ATT (ix3 b k (q r))) (h2 : ∀ r d, x2 (ix3 0 r d) = X (ix3 b (q r) d))
    (h3 : ∀ k d, x3 (ix2 k d) = W (ix2 k d)) (h4 : ∀ d, x4 (ix3 0 0 d) = G1 (ix2 b d)) (h5 : ∀ d, x5 (ix2 0 d) = N (ix1 d)) (h6 : ∀ d, x6 (ix3 0 0 d) = SC (ix2 b d))
    (h7 : ∀ d, x7 (ix3 0 0 d) = SH (ix2 b d)) (r : Fin 256) (d : Fin 1024) :
    k0_pay8 (resLo x2) (gateLo x0 x1 x3 x4) x5 x6 x7 (ix2 r d) = h2E RET ATT X G1 N SC SH W b (q ⟨r.val, by omega⟩) d := by
  have key := xLo_at (RET := RET) (ATT := ATT) (X := X) (G1 := G1) (W := W) h0 h1 h2 h3 h4 r
  generalize hz : k0_pay7 (resLo x2) (gateLo x0 x1 x3 x4) = z at key
  unfold k0_pay8
  rw [hz]
  pointwise
  simp only [key, h5, h6, h7, h2E]
theorem nHi_at (h0 : ∀ r k, x0 (ix3 0 r k) = RET (ix3 b (q r) k)) (h1 : ∀ k r, x1 (ix3 0 k r) = ATT (ix3 b k (q r))) (h2 : ∀ r d, x2 (ix3 0 r d) = X (ix3 b (q r) d))
    (h3 : ∀ k d, x3 (ix2 k d) = W (ix2 k d)) (h4 : ∀ d, x4 (ix3 0 0 d) = G1 (ix2 b d)) (h5 : ∀ d, x5 (ix2 0 d) = N (ix1 d)) (h6 : ∀ d, x6 (ix3 0 0 d) = SC (ix2 b d))
    (h7 : ∀ d, x7 (ix3 0 0 d) = SH (ix2 b d)) (r : Fin 256) (d : Fin 1024) :
    k0_pay19 (nHi x0 x1 x2 x3 x4 x5) x6 x7 (ix2 r d) = h2E RET ATT X G1 N SC SH W b (q ⟨256 + r.val, by omega⟩) d := by
  have key := xHi_at (RET := RET) (ATT := ATT) (X := X) (G1 := G1) (W := W) h0 h1 h2 h3 h4 r
  unfold nHi k0_pay18
  generalize hz : k0_pay17 (prodHi x0 x1 x3) (ld x2 rX1) x4 = z at key
  pointwise [k0_pay19]
  simp only [key, h5, h6, h7, h2E]

theorem canon_of_pieces {s : Shape} {e : EltTy} (G : s.Idx → Elt Ideal e) (L : List (View.Piece (Elt Ideal) s e)) (h : View.PiecesOf G L)
    (y : s.Idx) (hc : ∃ p ∈ L, y ∈ p.1.set) : View.canon L y = G y := by
  have := View.canon_append_of_piecesOf G [] L h y hc
  simpa using this

theorem outX_at (h0 : ∀ r k, x0 (ix3 0 r k) = RET (ix3 b (q r) k)) (h1 : ∀ k r, x1 (ix3 0 k r) = ATT (ix3 b k (q r))) (h2 : ∀ r d, x2 (ix3 0 r d) = X (ix3 b (q r) d))
    (h3 : ∀ k d, x3 (ix2 k d) = W (ix2 k d)) (h4 : ∀ d, x4 (ix3 0 0 d) = G1 (ix2 b d)) (y : S512x1024.Idx) :
    outX x0 x1 x2 x3 x4 y = x1E RET ATT X G1 W b (q (y 0)) (y 1) := by
  unfold outX
  refine canon_of_pieces (e := .f32) (s := S512x1024) (fun y => x1E RET ATT X G1 W b (q (y 0)) (y 1)) _ ?_ y (xL_cover _ _ y)
  refine ⟨?_, ?_, trivial⟩
  · intro z; change S256x1024.Idx at z; dsimp only
    obtain ⟨r, l, rfl⟩ : ∃ (r : Fin 256) (l : Fin 1024), z = ix2 r l := ⟨_, _, eq_ix2 (n0 := 256) (n1 := 1024) z⟩
    unfold xHi
    refine (xHi_at h0 h1 h2 h3 h4 r l).trans ?_
    exact congrArg₂ (fun (u : Fin 512) (v : Fin 1024) => x1E RET ATT X G1 W b (q u) v) (Fin.ext (by show 256 + r.val = 256 + 1 * r.val; omega)) (Fin.ext (by show l.val = 0 + 1 * l.val; omega))
  · intro z; change S256x1024.Idx at z; dsimp only
    obtain ⟨r, l, rfl⟩ : ∃ (r : Fin 256) (l : Fin 1024), z = ix2 r l := ⟨_, _, eq_ix2 (n0 := 256) (n1 := 1024) z⟩
    unfold xLo
    refine (xLo_at h0 h1 h2 h3 h4 r l).trans ?_
    exact congrArg₂ (fun (u : Fin 512) (v : Fin 1024) => x1E RET ATT X G1 W b (q u) v) (Fin.ext (by show r.val = 0 + 1 * r.val; omega)) (Fin.ext (by show l.val = 0 + 1 * l.val; omega))

theorem outH_at (h0 : ∀ r k, x0 (ix3 0 r k) = RET (ix3 b (q r) k)) (h1 : ∀ k r, x1 (ix3 0 k r) = ATT (ix3 b k (q r))) (h2 : ∀ r d, x2 (ix3 0 r d) = X (ix3 b (q r) d))
    (h3 : ∀ k d, x3 (ix2 k d) = W (ix2 k d)) (h4 : ∀ d, x4 (ix3 0 0 d) = G1 (ix2 b d)) (h5 : ∀ d, x5 (ix2 0 d) = N (ix1 d)) (h6 : ∀ d, x6 (ix3 0 0 d) = SC (ix2 b d))
    (h7 : ∀ d, x7 (ix3 0 0 d) = SH (ix2 b d)) (y : S4096x128.Idx) :
    outH x0 x1 x2 x3 x4 x5 x6 x7 y = h2E RET ATT X G1 N SC SH W b (q ⟨(y 0).val / 8, by have : (y 0).val < 4096 := (y 0).isLt; omega⟩)
      ⟨(y 0).val % 8 * 128 + (y 1).val, by have : (y 1).val < 128 := (y 1).isLt; omega⟩ := by
  have key0 : ∀ (r : Fin 256) (d : Fin 1024) (z : S4096x128.Idx), (z 0).val = 8 * r.val + d.val / 128 → (z 1).val = d.val % 128 →
      k0_pay8 (resLo x2) (gateLo x0 x1 x3 x4) x5 x6 x7 (ix2 r d) = h2E RET ATT X G1 N SC SH W b (q ⟨(z 0).val / 8, by have : (z 0).val < 4096 := (z 0).isLt; omega⟩)
        ⟨(z 0).val % 8 * 128 + (z 1).val, by have : (z 1).val < 128 := (z 1).isLt; omega⟩ := by
    intro r d z e0 e1
    have hr := r.isLt
    have hd := d.isLt
    rw [nLo_at h0 h1 h2 h3 h4 h5 h6 h7 r d]
    congr 1
    · exact congrArg q (Fin.ext (by show r.val = (z 0).val / 8; omega))
    · exact Fin.ext (by show d.val = (z 0).val % 8 * 128 + (z 1).val; omega)
  have key1 : ∀ (r : Fin 256) (d : Fin 1024) (z : S4096x128.Idx), (z 0).val = 2048 + 8 * r.val + d.val / 128 → (z 1).val = d.val % 128 →
      k0_pay19 (nHi x0 x1 x2 x3 x4 x5) x6 x7 (ix2 r d) = h2E RET ATT X G1 N SC SH W b (q ⟨(z 0).val / 8, by have : (z 0).val < 4096 := (z 0).isLt; omega⟩)
        ⟨(z 0).val % 8 * 128 + (z 1).val, by have : (z 1).val < 128 := (z 1).isLt; omega⟩ := by
    intro r d z e0 e1
    have hr := r.isLt
    have hd := d.isLt
    rw [nHi_at h0 h1 h2 h3 h4 h5 h6 h7 r d]
    congr 1
    · exact congrArg q (Fin.ext (by show 256 + r.val = (z 0).val / 8; omega))
    · exact Fin.ext (by show d.val = (z 0).val % 8 * 128 + (z 1).val; omega)
  unfold outH
  refine canon_of_pieces (e := .f32) (s := S4096x128) (fun y => h2E RET ATT X G1 N SC SH W b (q ⟨(y 0).val / 8, by have : (y 0).val < 4096 := (y 0).isLt; omega⟩)
      ⟨(y 0).val % 8 * 128 + (y 1).val, by have : (y 1).val < 128 := (y 1).isLt; omega⟩) _ ?_ y (hL_cover _ _ _ _ _ _ _ _ _ _ _ _ _ _ _ _ y)
  refine ⟨?_, ?_, ?_, ?_, ?_, ?_, ?_, ?_, ?_, ?_, ?_, ?_, ?_, ?_, ?_, ?_, trivial⟩
  · intro z; change S256x128.Idx at z; dsimp only
    obtain ⟨r, l, rfl⟩ : ∃ (r : Fin 256) (l : Fin 128), z = ix2 r l := ⟨_, _, eq_ix2 (n0 := 256) (n1 := 128) z⟩
    have hl := l.isLt
    pointwise [k0_pay27]
    exact key1 r ⟨896 + l.val, by omega⟩ _ (by show 2055 + 8 * r.val = 2048 + 8 * r.val + (896 + l.val) / 128; omega) (by show 0 + 1 * l.val = (896 + l.val) % 128; omega)
  · intro z; change S256x128.Idx at z; dsimp only
    obtain ⟨r, l, rfl⟩ : ∃ (r : Fin 256) (l : Fin 128), z = ix2 r l := ⟨_, _, eq_ix2 (n0 := 256) (n1 := 128) z⟩
    have hl := l.isLt
    pointwise [k0_pay26]
    exact key1 r ⟨768 + l.val, by omega⟩ _ (by show 2054 + 8 * r.val = 2048 + 8 * r.val + (768 + l.val) / 128; omega) (by show 0 + 1 * l.val = (768 + l.val) % 128; omega)
  · intro z; change S256x128.Idx at z; dsimp only
    obtain ⟨r, l, rfl⟩ : ∃ (r : Fin 256) (l : Fin 128), z = ix2 r l := ⟨_, _, eq_ix2 (n0 := 256) (n1 := 128) z⟩
    have hl := l.isLt
    pointwise [k0_pay25]
    exact key1 r ⟨640 + l.val, by omega⟩ _ (by show 2053 + 8 * r.val = 2048 + 8 * r.val + (640 + l.val) / 128; omega) (by show 0 + 1 * l.val = (640 + l.val) % 128; omega)
  · intro z; change S256x128.Idx at z; dsimp only
    obtain ⟨r, l, rfl⟩ : ∃ (r : Fin 256) (l : Fin 128), z = ix2 r l := ⟨_, _, eq_ix2 (n0 := 256) (n1 := 128) z⟩
    have hl := l.isLt
    pointwise [k0_pay24]
    exact key1 r ⟨512 + l.val, by omega⟩ _ (by show 2052 + 8 * r.val = 2048 + 8 * r.val + (512 + l.val) / 128; omega) (by show 0 + 1 * l.val = (512 + l.val) % 128; omega)
  · intro z; change S256x128.Idx at z; dsimp only
    obtain ⟨r, l, rfl⟩ : ∃ (r : Fin 256) (l : Fin 128), z = ix2 r l := ⟨_, _, eq_ix2 (n0 := 256) (n1 := 128) z⟩
    have hl := l.isLt
    pointwise [k0_pay23]
    exact key1 r ⟨384 + l.val, by omega⟩ _ (by show 2051 + 8 * r.val = 2048 + 8 * r.val + (384 + l.val) / 128; omega) (by show 0 + 1 * l.val = (384 + l.val) % 128; omega)
  · intro z; change S256x128.Idx at z; dsimp only
    obtain ⟨r, l, rfl⟩ : ∃ (r : Fin 256) (l : Fin 128), z = ix2 r l := ⟨_, _, eq_ix2 (n0 := 256) (n1 := 128) z⟩
    have hl := l.isLt
    pointwise [k0_pay22]
    exact key1 r ⟨256 + l.val, by omega⟩ _ (by show 2050 + 8 * r.val = 2048 + 8 * r.val + (256 + l.val) / 128; omega) (by show 0 + 1 * l.val = (256 + l.val) % 128; omega)
  · intro z; change S256x128.Idx at z; dsimp only
    obtain ⟨r, l, rfl⟩ : ∃ (r : Fin 256) (l : Fin 128), z = ix2 r l := ⟨_, _, eq_ix2 (n0 := 256) (n1 := 128) z⟩
    have hl := l.isLt
    pointwise [k0_pay21]
    exact key1 r ⟨128 + l.val, by omega⟩ _ (by show 2049 + 8 * r.val = 2048 + 8 * r.val + (128 + l.val) / 128; omega) (by show 0 + 1 * l.val = (128 + l.val) % 128; omega)
  · intro z; change S256x128.Idx at z; dsimp only
    obtain ⟨r, l, rfl⟩ : ∃ (r : Fin 256) (l : Fin 128), z = ix2 r l := ⟨_, _, eq_ix2 (n0 := 256) (n1 := 128) z⟩
    have hl := l.isLt
    pointwise [k0_pay20]
    exact key1 r ⟨l.val, by omega⟩ _ (by show 2048 + 8 * r.val = 2048 + 8 * r.val + (l.val) / 128; omega) (by show 0 + 1 * l.val = (l.val) % 128; omega)
  · intro z; change S256x128.Idx at z; dsimp only
    obtain ⟨r, l, rfl⟩ : ∃ (r : Fin 256) (l : Fin 128), z = ix2 r l := ⟨_, _, eq_ix2 (n0 := 256) (n1 := 128) z⟩
    have hl := l.isLt
    pointwise [k0_pay16, nLo]
    exact key0 r ⟨896 + l.val, by omega⟩ _ (by show 7 + 8 * r.val = 8 * r.val + (896 + l.val) / 128; omega) (by show 0 + 1 * l.val = (896 + l.val) % 128; omega)
  · intro z; change S256x128.Idx at z; dsimp only
    obtain ⟨r, l, rfl⟩ : ∃ (r : Fin 256) (l : Fin 128), z = ix2 r l := ⟨_, _, eq_ix2 (n0 := 256) (n1 := 128) z⟩
    have hl := l.isLt
    pointwise [k0_pay15, nLo]
    exact key0 r ⟨768 + l.val, by omega⟩ _ (by show 6 + 8 * r.val = 8 * r.val + (768 + l.val) / 128; omega) (by show 0 + 1 * l.val = (768 + l.val) % 128; omega)
  · intro z; change S256x128.Idx at z; dsimp only
    obtain ⟨r, l, rfl⟩ : ∃ (r : Fin 256) (l : Fin 128), z = ix2 r l := ⟨_, _, eq_ix2 (n0 := 256) (n1 := 128) z⟩
    have hl := l.isLt
    pointwise [k0_pay14, nLo]
    exact key0 r ⟨640 + l.val, by omega⟩ _ (by show 5 + 8 * r.val = 8 * r.val + (640 + l.val) / 128; omega) (by show 0 + 1 * l.val = (640 + l.val) % 128; omega)
  · intro z; change S256x128.Idx at z; dsimp only
    obtain ⟨r, l, rfl⟩ : ∃ (r : Fin 256) (l : Fin 128), z = ix2 r l := ⟨_, _, eq_ix2 (n0 := 256) (n1 := 128) z⟩
    have hl := l.isLt
    pointwise [k0_pay13, nLo]
    exact key0 r ⟨512 + l.val, by omega⟩ _ (by show 4 + 8 * r.val = 8 * r.val + (512 + l.val) / 128; omega) (by show 0 + 1 * l.val = (512 + l.val) % 128; omega)
  · intro z; change S256x128.Idx at z; dsimp only
    obtain ⟨r, l, rfl⟩ : ∃ (r : Fin 256) (l : Fin 128), z = ix2 r l := ⟨_, _, eq_ix2 (n0 := 256) (n1 := 128) z⟩
    have hl := l.isLt
    pointwise [k0_pay12]
    exact key0 r ⟨384 + l.val, by omega⟩ _ (by show 3 + 8 * r.val = 8 * r.val + (384 + l.val) / 128; omega) (by show 0 + 1 * l.val = (384 + l.val) % 128; omega)
  · intro z; change S256x128.Idx at z; dsimp only
    obtain ⟨r, l, rfl⟩ : ∃ (r : Fin 256) (l : Fin 128), z = ix2 r l := ⟨_, _, eq_ix2 (n0 := 256) (n1 := 128) z⟩
    have hl := l.isLt
    pointwise [k0_pay11]
    exact key0 r ⟨256 + l.val, by omega⟩ _ (by show 2 + 8 * r.val = 8 * r.val + (256 + l.val) / 128; omega) (by show 0 + 1 * l.val = (256 + l.val) % 128; omega)
  · intro z; change S256x128.Idx at z; dsimp only
    obtain ⟨r, l, rfl⟩ : ∃ (r : Fin 256) (l : Fin 128), z = ix2 r l := ⟨_, _, eq_ix2 (n0 := 256) (n1 := 128) z⟩
    have hl := l.isLt
    pointwise [k0_pay10]
    exact key0 r ⟨128 + l.val, by omega⟩ _ (by show 1 + 8 * r.val = 8 * r.val + (128 + l.val) / 128; omega) (by show 0 + 1 * l.val = (128 + l.val) % 128; omega)
  · intro z; change S256x128.Idx at z; dsimp only
    obtain ⟨r, l, rfl⟩ : ∃ (r : Fin 256) (l : Fin 128), z = ix2 r l := ⟨_, _, eq_ix2 (n0 := 256) (n1 := 128) z⟩
    have hl := l.isLt
    pointwise [k0_pay9]
    exact key0 r ⟨l.val, by omega⟩ _ (by show 0 + 8 * r.val = 8 * r.val + (l.val) / 128; omega) (by show 0 + 1 * l.val = (l.val) % 128; omega)
end

end Cert.Proof.Oproj

end
-- ==== Proof.Oproj.Value.lean ====
/-
  What the output projection's call leaves in its first two results' arrays: the blocks read off the arguments, then every block's
  element.
-/
module

public import proofs.«01_k».proof.Proof.Oproj.Spec
public import proofs.«01_k».proof.Proof.Oproj.Launch

@[expose] public section

set_option maxRecDepth 16384
noncomputable section

namespace Cert.Proof.Oproj

open Cert.Kernel4Ideal Cert.Kernel4Ideal.Gen
open Idealize.ShloMosaic Idealize.ShloMosaic.TcCoe

variable (m : (ℓ : Loc nD τ sig) → Buf (Elt Ideal) ℓ)

/-- The argument arrays of a memory. -/
abbrev aRet (c : Dev nD) : FVec Ideal S4x8192x512 .bf16 := m ((c : Thread nD τ).loc main_arg0)
abbrev aAtt (c : Dev nD) : FVec Ideal S4x512x8192 .bf16 := m ((c : Thread nD τ).loc main_arg1)
abbrev aX (c : Dev nD) : FVec Ideal S4x8192x1024 .f32 := m ((c : Thread nD τ).loc main_arg2)
abbrev aG (c : Dev nD) : FVec Ideal S4x1024 .f32 := m ((c : Thread nD τ).loc main_arg3)
abbrev aN (c : Dev nD) : FVec Ideal S1024 .f32 := m ((c : Thread nD τ).loc main_arg4)
abbrev aSC (c : Dev nD) : FVec Ideal S4x1024 .f32 := m ((c : Thread nD τ).loc main_arg5)
abbrev aSH (c : Dev nD) : FVec Ideal S4x1024 .f32 := m ((c : Thread nD τ).loc main_arg6)
abbrev aW (c : Dev nD) : FVec Ideal S1024x1024 .f32 := m ((c : Thread nD τ).loc main_arg7)

theorem V_w (c : Dev nD) : V m c main_v10 = truncf .bf16 (aW m c) bitsLt_bf16_f32 := by
  unfold V; simp only [hostOps0, hostOps0_1, hostOps0_2, hostOps0_3, hostOps0_4, List.flatten_cons, List.flatten_nil, List.append_nil, List.cons_append, List.nil_append]
  after_results_simp
theorem V_g (c : Dev nD) : V m c main_v11 = broadcastInDim S4x1x1024 ![0, 2] bcast_S4x1024_S4x1x1024_0_2 (aG m c) := by
  unfold V; simp only [hostOps0, hostOps0_1, hostOps0_2, hostOps0_3, hostOps0_4, List.flatten_cons, List.flatten_nil, List.append_nil, List.cons_append, List.nil_append]
  after_results_simp
theorem V_sc (c : Dev nD) : V m c main_v12 = broadcastInDim S4x1x1024 ![0, 2] bcast_S4x1024_S4x1x1024_0_2 (aSC m c) := by
  unfold V; simp only [hostOps0, hostOps0_1, hostOps0_2, hostOps0_3, hostOps0_4, List.flatten_cons, List.flatten_nil, List.append_nil, List.cons_append, List.nil_append]
  after_results_simp
theorem V_sh (c : Dev nD) : V m c main_v13 = broadcastInDim S4x1x1024 ![0, 2] bcast_S4x1024_S4x1x1024_0_2 (aSH m c) := by
  unfold V; simp only [hostOps0, hostOps0_1, hostOps0_2, hostOps0_3, hostOps0_4, List.flatten_cons, List.flatten_nil, List.append_nil, List.cons_append, List.nil_append]
  after_results_simp
theorem V_n (c : Dev nD) : V m c main_v14 = shapeCast S1x1024 (aN m c) shapeCasts_S1024_S1x1024 := by
  unfold V; simp only [hostOps0, hostOps0_1, hostOps0_2, hostOps0_3, hostOps0_4, List.flatten_cons, List.flatten_nil, List.append_nil, List.cons_append, List.nil_append]
  after_results_simp
  rfl

/-- The batch and the row of the array that row `r` of point `t`'s block is. -/
def bT (t : Fin cfg0.N) : Fin 4 := ⟨t.val / 16, by have : t.val < 64 := t.isLt; omega⟩
def rowT (t : Fin cfg0.N) (r : Fin 512) : Fin 8192 := ⟨t.val % 16 * 512 + r.val, by have := r.isLt; omega⟩

theorem e0 : ∀ t : Fin cfg0.N, win0_0.index t = ![t.val / 16, t.val % 16, 0] := (by decide +kernel : ∀ t : Fin grid0.N, _)
theorem e1 : ∀ t : Fin cfg0.N, win0_1.index t = ![t.val / 16, 0, t.val % 16] := (by decide +kernel : ∀ t : Fin grid0.N, _)
theorem e2 : ∀ t : Fin cfg0.N, win0_2.index t = ![t.val / 16, t.val % 16, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val / 16, 0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![t.val / 16, 0, 0] := (by decide +kernel : ∀ t : Fin grid0.N, _)
theorem e7 : ∀ t : Fin cfg0.N, win0_7.index t = ![t.val / 16, 0, 0] := (by decide +kernel : ∀ t : Fin grid0.N, _)
theorem e10 : ∀ t : Fin cfg0.N, win0_10.index t = ![t.val, 0] := (by decide +kernel : ∀ t : Fin grid0.N, _)
theorem e11 : ∀ t : Fin cfg0.N, win0_11.index t = ![t.val, 0] := (by decide +kernel : ∀ t : Fin grid0.N, _)

theorem blkRet (c : Dev nD) (t : Fin cfg0.N) (r : Fin 512) (k : Fin 512) :
    (iblk m c 0 t : FVec Ideal S1x512x512 .bf16) (ix3 0 r k) = aRet m c (ix3 (bT t) (rowT t r) k) := by
  have h : (iblk m c 0 t : FVec Ideal S1x512x512 .bf16) (ix3 0 r k) = (V m c main_arg0 : FVec Ideal S4x8192x512 .bf16) (ix3 (bT t) (rowT t r) k) := by
    blk_simp [iblk]
    refine congrArg (V m c main_arg0) ?_
    blk_ext [e0, bT, rowT]
  rw [h, V_arg0]
theorem blkAtt (c : Dev nD) (t : Fin cfg0.N) (k : Fin 512) (r : Fin 512) :
    (iblk m c 1 t : FVec Ideal S1x512x512 .bf16) (ix3 0 k r) = aAtt m c (ix3 (bT t) k (rowT t r)) := by
  have h : (iblk m c 1 t : FVec Ideal S1x512x512 .bf16) (ix3 0 k r) = (V m c main_arg1 : FVec Ideal S4x512x8192 .bf16) (ix3 (bT t) k (rowT t r)) := by
    blk_simp [iblk]
    refine congrArg (V m c main_arg1) ?_
    blk_ext [e1, bT, rowT]
  rw [h, V_arg1]
theorem blkX (c : Dev nD) (t : Fin cfg0.N) (r : Fin 512) (d : Fin 1024) :
    (iblk m c 2 t : FVec Ideal S1x512x1024 .f32) (ix3 0 r d) = aX m c (ix3 (bT t) (rowT t r) d) := by
  have h : (iblk m c 2 t : FVec Ideal S1x512x1024 .f32) (ix3 0 r d) = (V m c main_arg2 : FVec Ideal S4x8192x1024 .f32) (ix3 (bT t) (rowT t r) d) := by
    blk_simp [iblk]
    refine congrArg (V m c main_arg2) ?_
    blk_ext [e2, bT, rowT]
  rw [h, V_arg2]
theorem blkW (c : Dev nD) (t : Fin cfg0.N) (k : Fin 1024) (d : Fin 1024) :
    (iblk m c 3 t : FVec Ideal S1024x1024 .bf16) (ix2 k d) = aW m c (ix2 k d) := by
  have h : (iblk m c 3 t : FVec Ideal S1024x1024 .bf16) (ix2 k d) = (V m c main_v10 : FVec Ideal S1024x1024 .bf16) (ix2 k d) := by
    blk_simp [iblk]
    refine congrArg (V m c main_v10) ?_
    blk_ext [e3]
  rw [h, V_w]
  pointwise
theorem blkG (c : Dev nD) (t : Fin cfg0.N) (d : Fin 1024) :
    (iblk m c 4 t : FVec Ideal S1x1x1024 .f32) (ix3 0 0 d) = aG m c (ix2 (bT t) d) := by
  have h : (iblk m c 4 t : FVec Ideal S1x1x1024 .f32) (ix3 0 0 d) = (V m c main_v11 : FVec Ideal S4x1x1024 .f32) (ix3 (bT t) 0 d) := by
    blk_simp [iblk]
    refine congrArg (V m c main_v11) ?_
    blk_ext [e4, bT]
  rw [h, V_g]
  pointwise
theorem blkN (c : Dev nD) (t : Fin cfg0.N) (d : Fin 1024) :
    (iblk m c 5 t : FVec Ideal S1x1024 .f32) (ix2 0 d) = aN m c (ix1 d) := by
  have h : (iblk m c 5 t : FVec Ideal S1x1024 .f32) (ix2 0 d) = (V m c main_v14 : FVec Ideal S1x1024 .f32) (ix2 0 d) := by
    blk_simp [iblk]
    refine congrArg (V m c main_v14) ?_
    blk_ext [e5]
  rw [h, V_n]
  pointwise
theorem blkSC (c : Dev nD) (t : Fin cfg0.N) (d : Fin 1024) :
    (iblk m c 6 t : FVec Ideal S1x1x1024 .f32) (ix3 0 0 d) = aSC m c (ix2 (bT t) d) := by
  have h : (iblk m c 6 t : FVec Ideal S1x1x1024 .f32) (ix3 0 0 d) = (V m c main_v12 : FVec Ideal S4x1x1024 .f32) (ix3 (bT t) 0 d) := by
    blk_simp [iblk]
    refine congrArg (V m c main_v12) ?_
    blk_ext [e6, bT]
  rw [h, V_sc]
  pointwise
theorem blkSH (c : Dev nD) (t : Fin cfg0.N) (d : Fin 1024) :
    (iblk m c 7 t : FVec Ideal S1x1x1024 .f32) (ix3 0 0 d) = aSH m c (ix2 (bT t) d) := by
  have h : (iblk m c 7 t : FVec Ideal S1x1x1024 .f32) (ix3 0 0 d) = (V m c main_v13 : FVec Ideal S4x1x1024 .f32) (ix3 (bT t) 0 d) := by
    blk_simp [iblk]
    refine congrArg (V m c main_v13) ?_
    blk_ext [e7, bT]
  rw [h, V_sh]
  pointwise

theorem flush10 : ∀ t : Fin cfg0.N, (cfg0.win 10).flush t = true := (by decide +kernel : ∀ t : Fin grid0.N, win0_10.flush t = true)
theorem flush11 : ∀ t : Fin cfg0.N, (cfg0.win 11).flush t = true := (by decide +kernel : ∀ t : Fin grid0.N, win0_11.flush t = true)

theorem covers10 : (cfg0.win 10).Covers := by
  refine ⟨fun a => ?_, fun β => ?_⟩
  · match a with
    | ⟨0, _⟩ => exact (by decide : 0 < 512)
    | ⟨1, _⟩ => exact (by decide : 0 < 1024)
  · let γ : Fin 2 → ℕ := fun a => match a with | ⟨0, _⟩ => (β ⟨0, Nat.two_pos⟩).val | ⟨1, _⟩ => (β ⟨1, Nat.one_lt_two⟩).val
    have b0 : γ 0 < 64 := lt_of_lt_of_eq (β ⟨0, Nat.two_pos⟩).isLt (by show (32768 + 512 - 1) / 512 = 64; norm_num)
    have b1 : γ 1 < 1 := lt_of_lt_of_eq (β ⟨1, Nat.one_lt_two⟩).isLt (by show (1024 + 1024 - 1) / 1024 = 1; norm_num)
    refine ⟨(⟨γ 0, b0⟩ : Fin grid0.N), flush10 _, fun a => ⟨?_, Or.inl ?_⟩⟩
    · match a with
      | ⟨0, _⟩ => exact congrFun (e10 ⟨γ 0, b0⟩) 0
      | ⟨1, _⟩ => exact (congrFun (e10 ⟨γ 0, b0⟩) 1).trans (by show 0 = γ 1; omega)
    · match a with
      | ⟨0, _⟩ => rfl
      | ⟨1, _⟩ => rfl
theorem covers11 : (cfg0.win 11).Covers := by
  refine ⟨fun a => ?_, fun β => ?_⟩
  · match a with
    | ⟨0, _⟩ => exact (by decide : 0 < 4096)
    | ⟨1, _⟩ => exact (by decide : 0 < 128)
  · let γ : Fin 2 → ℕ := fun a => match a with | ⟨0, _⟩ => (β ⟨0, Nat.two_pos⟩).val | ⟨1, _⟩ => (β ⟨1, Nat.one_lt_two⟩).val
    have b0 : γ 0 < 64 := lt_of_lt_of_eq (β ⟨0, Nat.two_pos⟩).isLt (by show (262144 + 4096 - 1) / 4096 = 64; norm_num)
    have b1 : γ 1 < 1 := lt_of_lt_of_eq (β ⟨1, Nat.one_lt_two⟩).isLt (by show (128 + 128 - 1) / 128 = 1; norm_num)
    refine ⟨(⟨γ 0, b0⟩ : Fin grid0.N), flush11 _, fun a => ⟨?_, Or.inl ?_⟩⟩
    · match a with
      | ⟨0, _⟩ => exact congrFun (e11 ⟨γ 0, b0⟩) 0
      | ⟨1, _⟩ => exact (congrFun (e11 ⟨γ 0, b0⟩) 1).trans (by show 0 = γ 1; omega)
    · match a with
      | ⟨0, _⟩ => rfl
      | ⟨1, _⟩ => rfl

variable (c : Dev nD)

theorem o_x1_at (RET : FVec Ideal S4x8192x512 .bf16) (ATT : FVec Ideal S4x512x8192 .bf16) (X : FVec Ideal S4x8192x1024 .f32)
    (G1 : FVec Ideal S4x1024 .f32) (W : FVec Ideal S1024x1024 .f32) (b : Fin 4) (s : Fin 8192) (d : Fin 1024) (j : S32768x1024.Idx)
    (hj0 : (j 0).val = b.val * 8192 + s.val) (hj1 : (j 1).val = d.val) : o_x1 RET ATT X G1 W j = x1E RET ATT X G1 W b s d := by
  unfold o_x1
  have hb : (⟨(j 0).val / 8192, by have : (j 0).val < 32768 := (j 0).isLt; omega⟩ : Fin 4) = b := Fin.ext (by show (j 0).val / 8192 = b.val; have := s.isLt; omega)
  have hs : (⟨(j 0).val % 8192, Nat.mod_lt _ (by decide)⟩ : Fin 8192) = s := Fin.ext (by show (j 0).val % 8192 = s.val; have := s.isLt; omega)
  have hd : (j 1 : Fin 1024) = d := Fin.ext hj1
  exact (congrArg (fun z => x1E RET ATT X G1 W z _ _) hb).trans ((congrArg (fun z => x1E RET ATT X G1 W b z _) hs).trans (congrArg (x1E RET ATT X G1 W b s) hd))

theorem o_h2_at (RET : FVec Ideal S4x8192x512 .bf16) (ATT : FVec Ideal S4x512x8192 .bf16) (X : FVec Ideal S4x8192x1024 .f32)
    (G1 : FVec Ideal S4x1024 .f32) (N : FVec Ideal S1024 .f32) (SC SH : FVec Ideal S4x1024 .f32) (W : FVec Ideal S1024x1024 .f32)
    (b : Fin 4) (s : Fin 8192) (d : Fin 1024) (j : S262144x128.Idx) (hj0 : (j 0).val = b.val * 65536 + s.val * 8 + d.val / 128)
    (hj1 : (j 1).val = d.val % 128) : o_h2 RET ATT X G1 N SC SH W j = h2E RET ATT X G1 N SC SH W b s d := by
  unfold o_h2
  have hsl := s.isLt
  have hdl := d.isLt
  have j1 : (j 1).val < 128 := (j 1).isLt
  have hb : (⟨(j 0).val / 65536, by have : (j 0).val < 262144 := (j 0).isLt; omega⟩ : Fin 4) = b := Fin.ext (by show (j 0).val / 65536 = b.val; omega)
  have hs : (⟨(j 0).val / 8 % 8192, Nat.mod_lt _ (by decide)⟩ : Fin 8192) = s := Fin.ext (by show (j 0).val / 8 % 8192 = s.val; omega)
  have hd : (⟨(j 0).val % 8 * 128 + (j 1).val, by omega⟩ : Fin 1024) = d := Fin.ext (by show (j 0).val % 8 * 128 + (j 1).val = d.val; omega)
  exact (congrArg (fun z => h2E RET ATT X G1 N SC SH W z _ _) hb).trans ((congrArg (fun z => h2E RET ATT X G1 N SC SH W b z _) hs).trans (congrArg (h2E RET ATT X G1 N SC SH W b s) hd))

theorem final_x1 : (dats m 0 c).arrAt 10 cfg0.N = o_x1 (aRet m c) (aAtt m c) (aX m c) (aG m c) (aW m c) := by
  refine (dats m 0 c).arrAt_eq_of_covers 10 _ covers10 fun t hf y => ?_
  blk_simp
  rw [after0_10]
  change S512x1024.Idx at y
  have y0 : (y 0).val < 512 := (y 0).isLt
  have y1 : (y 1).val < 1024 := (y 1).isLt
  have ht : t.val < 64 := t.isLt
  refine Eq.trans ?_ (o_x1_at (aRet m c) (aAtt m c) (aX m c) (aG m c) (aW m c) (bT t) (rowT t (y 0)) (y 1) _ ?_ ?_).symm
  · exact outX_at (q := rowT t) (blkRet m c t) (blkAtt m c t) (blkX m c t) (blkW m c t) (blkG m c t) y
  · show win0_10.index t 0 * 512 + 1 * (y 0).val = t.val / 16 * 8192 + (t.val % 16 * 512 + (y 0).val)
    rw [e10]; show t.val * 512 + 1 * (y 0).val = _; omega
  · show win0_10.index t 1 * 1024 + 1 * (y 1).val = (y 1).val
    rw [e10]; show 0 * 1024 + 1 * (y 1).val = _; omega

theorem final_h2 : (dats m 0 c).arrAt 11 cfg0.N = o_h2 (aRet m c) (aAtt m c) (aX m c) (aG m c) (aN m c) (aSC m c) (aSH m c) (aW m c) := by
  refine (dats m 0 c).arrAt_eq_of_covers 11 _ covers11 fun t hf y => ?_
  blk_simp
  rw [after0_11]
  change S4096x128.Idx at y
  have y0 : (y 0).val < 4096 := (y 0).isLt
  have y1 : (y 1).val < 128 := (y 1).isLt
  have ht : t.val < 64 := t.isLt
  refine Eq.trans ?_ (o_h2_at (aRet m c) (aAtt m c) (aX m c) (aG m c) (aN m c) (aSC m c) (aSH m c) (aW m c) (bT t) (rowT t ⟨(y 0).val / 8, by omega⟩)
    ⟨(y 0).val % 8 * 128 + (y 1).val, by omega⟩ _ ?_ ?_).symm
  · exact outH_at (q := rowT t) (blkRet m c t) (blkAtt m c t) (blkX m c t) (blkW m c t) (blkG m c t) (blkN m c t) (blkSC m c t) (blkSH m c t) y
  · show win0_11.index t 0 * 4096 + 1 * (y 0).val = t.val / 16 * 65536 + (t.val % 16 * 512 + (y 0).val / 8) * 8 + ((y 0).val % 8 * 128 + (y 1).val) / 128
    rw [e11]; show t.val * 4096 + 1 * (y 0).val = _; omega
  · show win0_11.index t 1 * 128 + 1 * (y 1).val = ((y 0).val % 8 * 128 + (y 1).val) % 128
    rw [e11]; show 0 * 128 + 1 * (y 1).val = _; omega

end Cert.Proof.Oproj

end
-- ==== Proof.Oproj.Ref.lean ====
/-
  The results of the reference of the output projection, as functions of its arguments.
-/
module

public import proofs.«01_k».proof.Proof.Oproj.Spec
public import proofs.«01_k».proof.Proof.Gen.Reference4Ideal.Run
public import Idealize.ShloMosaic.Lib.Pointwise

@[expose] public section

set_option maxRecDepth 16384
noncomputable section

namespace Cert.Proof.Oproj

open Cert.Reference4Ideal Cert.Reference4Ideal.Gen
open Idealize.ShloMosaic Idealize.ShloMosaic.TcCoe

variable (RET : FVec Ideal S4x8192x512 .bf16) (ATT : FVec Ideal S4x512x8192 .bf16) (X : FVec Ideal S4x8192x1024 .f32)
    (G1 : FVec Ideal S4x1024 .f32) (N : FVec Ideal S1024 .f32) (SC SH : FVec Ideal S4x1024 .f32) (W : FVec Ideal S1024x1024 .f32)

/-- The mixers' outputs side by side. -/
def rmix : FVec Ideal S4x8192x1024 .bf16 :=
  concatenate S4x8192x1024 2 [⟨S4x8192x512, RET⟩, ⟨S4x8192x512, (transpose S4x8192x512 [0, 2, 1] ATT transposes_S4x512x8192_S4x8192x512_0_2_1)⟩] concatenates_S4x8192x512_S4x8192x512_S4x8192x1024_d2

theorem rmix_at (b : Fin 4) (s : Fin 8192) (k : Fin 1024) : rmix RET ATT (ix3 b s k) = mixE RET ATT b s k := by
  unfold rmix mixE
  pointwise

/-- The residual stream after the mixers. -/
def rx1 : FVec Ideal S4x8192x1024 .f32 :=
  addf (F := Ideal) X (mulf (broadcastInDim S4x8192x1024 ![0, 1, 2] bcast_S4x1x1024_S4x8192x1024_0_1_2 (broadcastInDim S4x1x1024 ![0, 2] bcast_S4x1024_S4x1x1024_0_2 G1)) (Host.dotGeneral dot_S4x8192x1024_S1024x1024_S4x8192x1024_2_0_01_1_n_n none (extf .f32 (rmix RET ATT) bitsLt_bf16_f32) W))

theorem rx1_at (b : Fin 4) (s : Fin 8192) (d : Fin 1024) : rx1 RET ATT X G1 W (ix3 b s d) = x1E RET ATT X G1 W b s d := by
  unfold rx1
  pointwise [rmix_at]
  unfold x1E
  rfl

/-- Its norm, with gain, scale and shift. -/
def rh2 : FVec Ideal S4x8192x1024 .f32 :=
  addf (F := Ideal) (mulf (mulf (mulf (rx1 RET ATT X G1 W) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (rx1 RET ATT X G1 W) (rx1 RET ATT X G1 W)) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 N))) (broadcastInDim S4x8192x1024 ![0, 1, 2] bcast_S4x1x1024_S4x8192x1024_0_1_2 (addf (broadcastInDim S4x1x1024 ![] bcast_S_S4x1x1024 (constant S_ .f32 0x3F800000#32)) (broadcastInDim S4x1x1024 ![0, 2] bcast_S4x1024_S4x1x1024_0_2 SC)))) (broadcastInDim S4x8192x1024 ![0, 1, 2] bcast_S4x1x1024_S4x8192x1024_0_1_2 (broadcastInDim S4x1x1024 ![0, 2] bcast_S4x1024_S4x1x1024_0_2 SH))

theorem rh2_at (b : Fin 4) (s : Fin 8192) (d : Fin 1024) : rh2 RET ATT X G1 N SC SH W (ix3 b s d) = h2E RET ATT X G1 N SC SH W b s d := by
  unfold rh2
  pointwise [rx1_at]
  unfold h2E
  rfl

theorem ref_x1 : shapeCast S32768x1024 (rx1 RET ATT X G1 W) shapeCasts_S4x8192x1024_S32768x1024 = o_x1 RET ATT X G1 W := by
  funext j
  obtain ⟨a, d, rfl⟩ : ∃ (a : Fin 32768) (d : Fin 1024), j = ix2 a d := ⟨_, _, eq_ix2 (n0 := 32768) (n1 := 1024) j⟩
  pointwise [rx1_at]
  unfold o_x1
  rfl

theorem ref_h2 : shapeCast S262144x128 (rh2 RET ATT X G1 N SC SH W) shapeCasts_S4x8192x1024_S262144x128 = o_h2 RET ATT X G1 N SC SH W := by
  funext j
  obtain ⟨a, d, rfl⟩ : ∃ (a : Fin 262144) (d : Fin 128), j = ix2 a d := ⟨_, _, eq_ix2 (n0 := 262144) (n1 := 128) j⟩
  pointwise [rh2_at]
  unfold o_h2
  rfl

end Cert.Proof.Oproj

end
-- ==== Proof.Oproj.Claim.lean ====
/-
  The claims of the output projection's call beside its frames: the reference's frame, and the residual stream and its norm against the
  reference's.
-/
module

public import proofs.«01_k».proof.Defs
public import proofs.«01_k».proof.Proof.Oproj.Value
public import proofs.«01_k».proof.Proof.Oproj.Ref
public import Idealize.ShloMosaic.Lib.Quiescent

@[expose] public section

set_option maxRecDepth 16384
noncomputable section

namespace Cert.Proof.Oproj

open Idealize.ShloMosaic Idealize.ShloMosaic.TcCoe

theorem frame_ref : Cert.quiescent_Reference4Ideal (hReference4Ideal := Cert.Reference4Ideal.Gen.facts) := fun m ρ _ =>
  (θ_run Cert.Reference4Ideal.defs _ _).mono (fun r h => ⟨fun c => (h c).2.2,
    Idealize.ShloMosaic.sem_eq_zero_of_no_sems (by decide) r.2⟩) (Cert.Reference4Ideal.Value.run (F := Ideal) m ρ)

set_option maxHeartbeats 4000000 in
theorem value : Cert.algebraic_Kernel4Ideal_Reference4Ideal (hKernel4Ideal := Cert.Kernel4Ideal.Gen.facts)
    (hReference4Ideal := Cert.Reference4Ideal.Gen.facts) := by
  intro m ρ m' ρ' _ hargs
  refine ⟨fun c => o_x1 (aRet m c) (aAtt m c) (aX m c) (aG m c) (aW m c),
    fun c => o_h2 (aRet m c) (aAtt m c) (aX m c) (aG m c) (aN m c) (aSC m c) (aSH m c) (aW m c), ?_, ?_⟩
  · refine (θ_run Cert.Kernel4Ideal.defs _ _).mono (fun r h c => ?_) (value_run (F := Ideal) m ρ)
    obtain ⟨k0, k1, k2, k3, k4, k5, k6, k7, k8, k9, h0, h1⟩ := h.1 c
    exact ⟨h0.trans (final_x1 m c), h1.trans (final_h2 m c), k0, k1, k2, k3, k4, k5, k6, k7, k8, k9⟩
  · refine (θ_run Cert.Reference4Ideal.defs _ _).mono (fun r h c => ?_) (Cert.Reference4Ideal.Value.run (F := Ideal) m' ρ')
    obtain ⟨e0, e1, e2, e3, e4, e5, e6, e7, _, _⟩ := hargs c
    have E0 : m' ((c.tc : Thread Cert.Reference4Ideal.nD Cert.Reference4Ideal.τ).loc Cert.Reference4Ideal.main_arg0) = aRet m c := e0
    have E1 : m' ((c.tc : Thread Cert.Reference4Ideal.nD Cert.Reference4Ideal.τ).loc Cert.Reference4Ideal.main_arg1) = aAtt m c := e1
    have E2 : m' ((c.tc : Thread Cert.Reference4Ideal.nD Cert.Reference4Ideal.τ).loc Cert.Reference4Ideal.main_arg2) = aX m c := e2
    have E3 : m' ((c.tc : Thread Cert.Reference4Ideal.nD Cert.Reference4Ideal.τ).loc Cert.Reference4Ideal.main_arg3) = aG m c := e3
    have E4 : m' ((c.tc : Thread Cert.Reference4Ideal.nD Cert.Reference4Ideal.τ).loc Cert.Reference4Ideal.main_arg4) = aN m c := e4
    have E5 : m' ((c.tc : Thread Cert.Reference4Ideal.nD Cert.Reference4Ideal.τ).loc Cert.Reference4Ideal.main_arg5) = aSC m c := e5
    have E6 : m' ((c.tc : Thread Cert.Reference4Ideal.nD Cert.Reference4Ideal.τ).loc Cert.Reference4Ideal.main_arg6) = aSH m c := e6
    have E7 : m' ((c.tc : Thread Cert.Reference4Ideal.nD Cert.Reference4Ideal.τ).loc Cert.Reference4Ideal.main_arg7) = aW m c := e7
    obtain ⟨h0, h1, hk⟩ := h c
    beta_reduce
    rw [← E0, ← E1, ← E2, ← E3, ← E4, ← E5, ← E6, ← E7]
    exact ⟨h0.trans (ref_x1 ..), h1.trans (ref_h2 ..), hk⟩

end Cert.Proof.Oproj

end
-- ==== Proof.Modu.Value.lean ====
/-
  The modulation call: the arrays the region finds, the projection of the activated conditioning, and what the call leaves in its
  result, as functions of the arguments.
-/
module

public import proofs.«01_k».proof.Proof.Gen.Kernel5Ideal.Frame
public import Idealize.ShloMosaic.Lib.Pointwise
public import Idealize.ShloMosaic.Lib.Pipeline.ValueKit
public import Idealize.ShloMosaic.Lib.Routing.OpsOne

@[expose] public section

set_option maxRecDepth 16384
noncomputable section

namespace Cert.Proof.Modu

open Cert.Kernel5Ideal Cert.Kernel5Ideal.Gen
open Idealize.ShloMosaic Idealize.ShloMosaic.TcCoe Idealize.ShloMosaic.Routing

/-- A conditioning times its sigmoid. -/
def sil (x : EReal) : EReal := x * Ideal.div 1 (1 + Ideal.exp (-x))
/-- Column `n` of the modulation of row `b`. -/
def o_mod (C : FVec Ideal S4x1024 .f32) (W : FVec Ideal S1024x6144 .f32) (B : FVec Ideal S6144 .f32) : FVec Ideal S4x6144 .f32 := fun j =>
  ∑ k : Fin 1024, sil (C (ix2 (j 0) k)) * W (ix2 k (j 1)) + B (ix1 (j 1))
/-- The same with the conditioning on eight rows. -/
def o_mod8 (C : FVec Ideal S8x1024 .f32) (W : FVec Ideal S1024x6144 .f32) (B : FVec Ideal S6144 .f32) : FVec Ideal S8x6144 .f32 := fun j =>
  ∑ k : Fin 1024, sil (C (ix2 (j 0) k)) * W (ix2 k (j 1)) + B (ix1 (j 1))

/-! ## The rows set into the array of eight -/

theorem lands (idx : IVec S1 32) (hidx : (idx (ix1 0)).toInt = 0) (b : Fin 4) (k : Fin 1024) (b' : Fin 8) (k' : Fin 1024) :
    scatter_S8x1024_S1_S4x1024_01_n_0_0.resultIdx? (ix2 b k) idx = some (ix2 b' k') ↔ b.val = b'.val ∧ k = k' := by
  have hw0 : scatter_S8x1024_S1_S4x1024_01_n_0_0.window (ix2 b k) 0 = b.val := rfl
  have hw1 : scatter_S8x1024_S1_S4x1024_01_n_0_0.window (ix2 b k) 1 = k.val := rfl
  have hs1 : scatter_S8x1024_S1_S4x1024_01_n_0_0.start (ix2 b k) idx 1 = 0 := rfl
  have hs0 : scatter_S8x1024_S1_S4x1024_01_n_0_0.start (ix2 b k) idx 0 = 0 := by
    refine Eq.trans ?_ hidx
    unfold ScatterDims.start
    rw [dif_pos (by exact List.mem_singleton.2 rfl)]
    refine congrArg (fun z => (idx z).toInt) ?_
    funext a
    match a with
    | ⟨0, _⟩ => exact Subsingleton.elim (α := Fin 1) _ _
  refine (resultIdx?_ix2 (R := 8) (C := 1024) scatter_S8x1024_S1_S4x1024_01_n_0_0 (ix2 b k) idx b' k').trans ?_
  rw [hs0, hw0, hs1, hw1, Fin.ext_iff]
  omega

theorem set_at (x : FVec Ideal S8x1024 .f32) (idx : IVec S1 32) (hidx : (idx (ix1 0)).toInt = 0) (C : FVec Ideal S4x1024 .f32) (b : Fin 4) (b' : Fin 8)
    (hb : b.val = b'.val) (k : Fin 1024) :
    Host.scatter scatter_S8x1024_S1_S4x1024_01_n_0_0 (fun _ b => b) x idx C (ix2 b' k) = C (ix2 b k) := by
  refine scatter_set_hit _ x idx C _ _ (fun j hj => ?_) (ix2 b k) ((lands idx hidx b k b' k).2 ⟨hb, rfl⟩)
  rw [eq_ix2 (n0 := 4) (n1 := 1024) j] at hj ⊢
  obtain ⟨h0, h1⟩ := (lands idx hidx (j 0) (j 1) b' k).1 hj
  have e0 : j 0 = b := Fin.ext (h0.trans hb.symm)
  rw [e0, h1]

variable (m : (ℓ : Loc nD τ sig) → Buf (Elt Ideal) ℓ)

/-- The argument arrays of a memory. -/
abbrev aC (c : Dev nD) : FVec Ideal S4x1024 .f32 := m ((c : Thread nD τ).loc main_arg0)
abbrev aW (c : Dev nD) : FVec Ideal S1024x6144 .f32 := m ((c : Thread nD τ).loc main_arg1)
abbrev aB (c : Dev nD) : FVec Ideal S6144 .f32 := m ((c : Thread nD τ).loc main_arg2)

theorem V_c (c : Dev nD) : V m c main_v2 = Host.scatter scatter_S8x1024_S1_S4x1024_01_n_0_0 (fun _ b => b)
    (broadcastInDim S8x1024 ![] bcast_S_S8x1024 (constant S_ .f32 0x00000000#32 : FVec Ideal S_ .f32)) (broadcastInDim S1 ![] bcast_S_S1 (constantI S_ 32 0#32)) (aC m c) := by
  unfold V V0; simp only [hostOps0, List.flatten_cons, List.flatten_nil, List.append_nil, List.cons_append, List.nil_append]
  after_results_simp
theorem V_b (c : Dev nD) : V m c main_v3 = shapeCast S1x6144 (aB m c) shapeCasts_S6144_S1x6144 := by
  unfold V V0; simp only [hostOps0, List.flatten_cons, List.flatten_nil, List.append_nil, List.cons_append, List.nil_append]
  after_results_simp
  rfl

theorem rows_at (c : Dev nD) (b : Fin 4) (b' : Fin 8) (hb : b.val = b'.val) (k : Fin 1024) :
    (V m c main_v2 : FVec Ideal S8x1024 .f32) (ix2 b' k) = aC m c (ix2 b k) := by
  rw [V_c]
  exact set_at _ _ (by pointwise; rfl) (aC m c) b b' hb k

/-! ## The blocks -/

theorem e0 : ∀ t : Fin cfg0.N, win0_0.index t = ![0, 0] := (by decide +kernel : ∀ t : Fin grid0.N, _)
theorem e1 : ∀ t : Fin cfg0.N, win0_1.index t = ![0, t.val] := (by decide +kernel : ∀ t : Fin grid0.N, _)
theorem e2 : ∀ t : Fin cfg0.N, win0_2.index t = ![0, t.val] := (by decide +kernel : ∀ t : Fin grid0.N, _)
theorem e3 : ∀ t : Fin cfg0.N, win0_3.index t = ![0, t.val] := (by decide +kernel : ∀ t : Fin grid0.N, _)

/-- The column of the array that column `n` of point `t`'s block is. -/
def colT (t : Fin cfg0.N) (n : Fin 1024) : Fin 6144 := ⟨t.val * 1024 + n.val, by have : t.val < 6 := t.isLt; have := n.isLt; omega⟩

theorem blkC (c : Dev nD) (t : Fin cfg0.N) (r : Fin 8) (k : Fin 1024) :
    (iblk m c 0 t : FVec Ideal S8x1024 .f32) (ix2 r k) = (V m c main_v2 : FVec Ideal S8x1024 .f32) (ix2 r k) := by
  blk_simp [iblk]
  refine congrArg (V m c main_v2) ?_
  blk_ext [e0]
theorem blkW (c : Dev nD) (t : Fin cfg0.N) (k : Fin 1024) (n : Fin 1024) :
    (iblk m c 1 t : FVec Ideal S1024x1024 .f32) (ix2 k n) = aW m c (ix2 k (colT t n)) := by
  have h : (iblk m c 1 t : FVec Ideal S1024x1024 .f32) (ix2 k n) = (V m c main_arg1 : FVec Ideal S1024x6144 .f32) (ix2 k (colT t n)) := by
    blk_simp [iblk]
    refine congrArg (V m c main_arg1) ?_
    blk_ext [e1, colT]
  rw [h, V_main_arg1]
theorem blkB (c : Dev nD) (t : Fin cfg0.N) (n : Fin 1024) :
    (iblk m c 2 t : FVec Ideal S1x1024 .f32) (ix2 0 n) = aB m c (ix1 (colT t n)) := by
  have h : (iblk m c 2 t : FVec Ideal S1x1024 .f32) (ix2 0 n) = (V m c main_v3 : FVec Ideal S1x6144 .f32) (ix2 0 (colT t n)) := by
    blk_simp [iblk]
    refine congrArg (V m c main_v3) ?_
    blk_ext [e2, colT]
  rw [h, V_b]
  pointwise

theorem pay_at (x0 : Vec Ideal S8x1024 .f32) (x1 : Vec Ideal S1024x1024 .f32) (x2 : Vec Ideal S1x1024 .f32) (r : Fin 8) (n : Fin 1024) :
    k0_pay1 (F := Ideal) x0 x1 x2 (ix2 r n) = ∑ k : Fin 1024, sil (x0 (ix2 r k)) * x1 (ix2 k n) + x2 (ix2 0 n) := by
  pointwise [k0_pay1]
  unfold sil
  simp only [zero_sub]

theorem final (c : Dev nD) : (dats m 0 c).arrAt 3 cfg0.N = o_mod8 (V m c main_v2) (aW m c) (aB m c) := by
  refine (dats m 0 c).arrAt_eq_of_covers 3 _ (by decide +kernel) fun t hf y => ?_
  blk_simp
  rw [after0_3]; frame_out
  change S8x1024.Idx at y
  obtain ⟨r, n, rfl⟩ : ∃ (r : Fin 8) (n : Fin 1024), y = ix2 r n := ⟨_, _, eq_ix2 (n0 := 8) (n1 := 1024) y⟩
  refine (pay_at _ _ _ r n).trans ?_
  simp only [blkC, blkW, blkB]
  unfold o_mod8
  refine congrArg₂ (fun (a : Fin 8) (b : Fin 6144) => ∑ k : Fin 1024, sil ((V m c main_v2 : FVec Ideal S8x1024 .f32) (ix2 a k)) * aW m c (ix2 k b) + aB m c (ix1 b)) ?_ ?_
  · refine Fin.ext ?_
    show r.val = win0_3.index t 0 * 8 + 1 * r.val
    rw [e3]; show r.val = 0 * 8 + 1 * r.val; omega
  · refine Fin.ext ?_
    show t.val * 1024 + n.val = win0_3.index t 1 * 1024 + 1 * n.val
    rw [e3]; show _ = t.val * 1024 + 1 * n.val; omega

/-- What the call returns: the first four rows. -/
theorem res (c : Dev nD) : Pipeline.afterTail₀ cfgs (dats m) 0 (V0 m) [hostOps1] c main_v5 = o_mod (aC m c) (aW m c) (aB m c) := by
  have h : Pipeline.afterTail₀ cfgs (dats m) 0 (V0 m) [hostOps1] c main_v5
      = extractStridedSlice S4x6144 ![0, 0] (Pipeline.withArrays (cfgs 0).spec c (V0 m c) (fun w => (dats m 0 c).arrAt w (cfgs 0).N) (Proc.devRef .tc (Pipeline.arrRef spec0 3)) : FVec Ideal S8x6144 .f32) slices_S8x6144_S4x6144_0_0 := by
    unfold Pipeline.afterTail₀
    simp only [hostOps1, List.flatten_cons, List.flatten_nil, List.append_nil]
    after_results_simp
  rw [h]
  have e : (Pipeline.withArrays (cfgs 0).spec c (V0 m c) (fun w => (dats m 0 c).arrAt w (cfgs 0).N) (Proc.devRef .tc (Pipeline.arrRef spec0 3)) : FVec Ideal S8x6144 .f32)
      = o_mod8 (V m c main_v2) (aW m c) (aB m c) :=
    (Pipeline.withArrays_arr spec0 (by decide) c (V0 m c) (fun w => (dats m 0 c).arrAt w (cfgs 0).N) 3).trans (final m c)
  rw [e]
  funext j
  obtain ⟨b, n, rfl⟩ : ∃ (b : Fin 4) (n : Fin 6144), j = ix2 b n := ⟨_, _, eq_ix2 (n0 := 4) (n1 := 6144) j⟩
  pointwise
  unfold o_mod8 o_mod
  refine congrArg₂ (· + ·) (Finset.sum_congr rfl fun k _ => congrArg₂ (· * ·) (congrArg sil (rows_at m c b _ (by simp) k)) ?_) ?_
  · simp
  · simp

end Cert.Proof.Modu

end
-- ==== Proof.Modu.Claim.lean ====
/-
  The claims of the modulation's call: its frames, and the result against the reference's.
-/
module

public import proofs.«01_k».proof.Defs
public import proofs.«01_k».proof.Proof.Gen.Kernel5.Frame
public import proofs.«01_k».proof.Proof.Gen.Reference5Ideal.Run
public import proofs.«01_k».proof.Proof.Modu.Value
public import Idealize.ShloMosaic.Lib.Quiescent

@[expose] public section

set_option maxRecDepth 16384
noncomputable section

namespace Cert.Proof.Modu

open Idealize.ShloMosaic Idealize.ShloMosaic.TcCoe

theorem frame_bits : Cert.quiescent_Kernel5 (hKernel5 := Cert.Kernel5.Gen.facts) := fun m ρ _ =>
  Cert.Kernel5.Gen.frame (F := Bits) m ρ

theorem frame_ideal : Cert.quiescent_Kernel5Ideal (hKernel5Ideal := Cert.Kernel5Ideal.Gen.facts) := fun m ρ _ =>
  Cert.Kernel5Ideal.Gen.frame (F := Ideal) m ρ

theorem frame_ref : Cert.quiescent_Reference5Ideal (hReference5Ideal := Cert.Reference5Ideal.Gen.facts) := fun m ρ _ =>
  (θ_run Cert.Reference5Ideal.defs _ _).mono (fun r h => ⟨fun c => (h c).2,
    Idealize.ShloMosaic.sem_eq_zero_of_no_sems (by decide) r.2⟩) (Cert.Reference5Ideal.Value.run (F := Ideal) m ρ)

section
open Cert.Reference5Ideal Cert.Reference5Ideal.Gen
theorem ref_mod (C : FVec Ideal S4x1024 .f32) (W : FVec Ideal S1024x6144 .f32) (B : FVec Ideal S6144 .f32) :
    addf (F := Ideal) (Host.dotGeneral dot_S4x1024_S1024x6144_S4x6144_1_0_0_1_n_n none (mulf C (Host.divf (broadcastInDim S4x1024 ![] bcast_S_S4x1024 (constant S_ .f32 0x3F800000#32)) (addf (broadcastInDim S4x1024 ![] bcast_S_S4x1024 (constant S_ .f32 0x3F800000#32)) (Host.exp (Host.negf C))))) W) (broadcastInDim S4x6144 ![0, 1] bcast_S1x6144_S4x6144_0_1 (broadcastInDim S1x6144 ![1] bcast_S6144_S1x6144_1 B)) = o_mod C W B := by
  funext j
  obtain ⟨b, n, rfl⟩ : ∃ (b : Fin 4) (n : Fin 6144), j = ix2 b n := ⟨_, _, eq_ix2 (n0 := 4) (n1 := 6144) j⟩
  pointwise
  unfold o_mod sil
  rfl
end

theorem value : Cert.algebraic_Kernel5Ideal_Reference5Ideal (hKernel5Ideal := Cert.Kernel5Ideal.Gen.facts)
    (hReference5Ideal := Cert.Reference5Ideal.Gen.facts) := by
  intro m ρ m' ρ' _ hargs
  refine ⟨fun c => o_mod (aC m c) (aW m c) (aB m c), ?_, ?_⟩
  · refine (θ_run Cert.Kernel5Ideal.defs _ _).mono (fun r h c => ?_)
      (θ_run_and (Cert.Kernel5Ideal.Gen.run_main (F := Ideal) m ρ) (Cert.Kernel5Ideal.Gen.frame (F := Ideal) m ρ))
    exact ⟨((h.1 c).2 Cert.Kernel5Ideal.main_v5 (Pipeline.mem_restRefs_of Cert.Kernel5Ideal.main_v5 (by decide) (by decide))).trans (res m c), h.2.1 c⟩
  · refine (θ_run Cert.Reference5Ideal.defs _ _).mono (fun r h c => ?_) (Cert.Reference5Ideal.Value.run (F := Ideal) m' ρ')
    obtain ⟨e0, e1, e2⟩ := hargs c
    have E0 : m' ((c.tc : Thread Cert.Reference5Ideal.nD Cert.Reference5Ideal.τ).loc Cert.Reference5Ideal.main_arg0) = aC m c := e0
    have E1 : m' ((c.tc : Thread Cert.Reference5Ideal.nD Cert.Reference5Ideal.τ).loc Cert.Reference5Ideal.main_arg1) = aW m c := e1
    have E2 : m' ((c.tc : Thread Cert.Reference5Ideal.nD Cert.Reference5Ideal.τ).loc Cert.Reference5Ideal.main_arg2) = aB m c := e2
    obtain ⟨h0, hk⟩ := h c
    beta_reduce
    rw [← E0, ← E1, ← E2]
    exact ⟨h0.trans (ref_mod ..), hk⟩

end Cert.Proof.Modu

end
-- ==== Proof.lean ====
module

public import proofs.«01_k».proof.Defs
public import proofs.«01_k».proof.Proof.Frame
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Pre_tables_ok
public import proofs.«01_k».proof.Proof.Inproj.Claim
public import proofs.«01_k».proof.Proof.Gen.Reference3Ideal.Run
public import proofs.«01_k».proof.Proof.Gen.Kernel4.Launch
public import proofs.«01_k».proof.Proof.Gen.Kernel4.Skeleton
public import proofs.«01_k».proof.Proof.Gen.Kernel4Ideal.Skeleton
public import proofs.«01_k».proof.Proof.Gen.Kernel4Ideal.Launch
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Ffn.Bits
public import proofs.«01_k».proof.Proof.Ffn.Claim
public import proofs.«01_k».proof.Proof.Oproj.Bits
public import proofs.«01_k».proof.Proof.Oproj.Claim
public import proofs.«01_k».proof.Proof.Modu.Claim

@[expose] public section

namespace Cert.Proof

theorem claim : Cert.Claim := ⟨Cert.Kernel.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_tables_ok.Gen.facts,
  Cert.Proof.Kernel.frame_kernel (hK := Cert.Kernel.Gen.facts),
  Cert.Proof.Inproj.frame_bits, Cert.Proof.Inproj.frame_ideal, Cert.Proof.Inproj.frame_ref,
  Cert.Proof.Ffn.frame_bits (hP := Cert.Pre_tables_ok.Gen.facts), Cert.Proof.Ffn.frame_ideal (hP := Cert.Pre_tables_ok.Gen.facts),
  Cert.Proof.Ffn.frame_ref, Cert.Proof.Ffn.frame_ref_pre (hP := Cert.Pre_tables_ok.Gen.facts),
  Cert.Proof.Oproj.frame_bits, Cert.Proof.Oproj.frame_ideal, Cert.Proof.Oproj.frame_ref,
  Cert.Proof.Modu.frame_bits, Cert.Proof.Modu.frame_ideal, Cert.Proof.Modu.frame_ref,
  trivial, Cert.Proof.Inproj.value, trivial, Cert.Proof.Ffn.value (hP := Cert.Pre_tables_ok.Gen.facts),
  trivial, Cert.Proof.Oproj.value,
  trivial, Cert.Proof.Modu.value⟩

end Cert.Proof

end
